-- ==== Defs.lean ====
def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_RefScoresIdeal (m : (ℓ : Loc Cert.RefScoresIdeal.nD Cert.RefScoresIdeal.τ Cert.RefScoresIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_RefOutputIdeal (m : (ℓ : Loc Cert.RefOutputIdeal.nD Cert.RefOutputIdeal.τ Cert.RefOutputIdeal.sig) → Buf (Elt Ideal) ℓ) : Prop :=
  True

def Pre_Hist [hPre_codes_and_lengths : Cert.Pre_codes_and_lengths.Facts] (m : (ℓ : Loc Cert.Hist.nD Cert.Hist.τ Cert.Hist.sig) → Buf (Elt Bits) ℓ) : Prop :=
  ∀ c : Dev Cert.Hist.nD,
    (Cert.Pre_codes_and_lengths.fn (F := Bits) (m ((c.tc : Thread Cert.Hist.nD Cert.Hist.τ).loc Cert.Hist.main_arg0)) (m ((c.tc : Thread Cert.Hist.nD Cert.Hist.τ).loc Cert.Hist.main_arg1)) (m ((c.tc : Thread Cert.Hist.nD Cert.Hist.τ).loc Cert.Hist.main_arg2))) = (fun _ => 1#1)

def Pre_HistIdeal [hPre_codes_and_lengths : Cert.Pre_codes_and_lengths.Facts] (m : (ℓ : Loc Cert.HistIdeal.nD Cert.HistIdeal.τ Cert.HistIdeal.sig) → Buf (Elt Ideal) ℓ) : Prop :=
  ∀ c : Dev Cert.HistIdeal.nD,
    (Cert.Pre_codes_and_lengths.fn (F := Ideal) (m ((c.tc : Thread Cert.HistIdeal.nD Cert.HistIdeal.τ).loc Cert.HistIdeal.main_arg0)) (m ((c.tc : Thread Cert.HistIdeal.nD Cert.HistIdeal.τ).loc Cert.HistIdeal.main_arg1)) (m ((c.tc : Thread Cert.HistIdeal.nD Cert.HistIdeal.τ).loc Cert.HistIdeal.main_arg2))) = (fun _ => 1#1)

def Pre_HistIdeal_weights_of_cache [hPre_weights_of_cache : Cert.Pre_weights_of_cache.Facts] (m : (ℓ : Loc Cert.HistIdeal.nD Cert.HistIdeal.τ Cert.HistIdeal.sig) → Buf (Elt Ideal) ℓ) : Prop :=
  ∀ c : Dev Cert.HistIdeal.nD,
    (Cert.Pre_weights_of_cache.fn (F := Ideal) (m ((c.tc : Thread Cert.HistIdeal.nD Cert.HistIdeal.τ).loc Cert.HistIdeal.main_arg0)) (m ((c.tc : Thread Cert.HistIdeal.nD Cert.HistIdeal.τ).loc Cert.HistIdeal.main_arg1)) (m ((c.tc : Thread Cert.HistIdeal.nD Cert.HistIdeal.τ).loc Cert.HistIdeal.main_arg2))) = (fun _ => 1#1)

def Pre_RefBinsIdeal (m : (ℓ : Loc Cert.RefBinsIdeal.nD Cert.RefBinsIdeal.τ Cert.RefBinsIdeal.sig) → Buf (Elt Ideal) ℓ) : Prop :=
  True

def Pre_RefBinsIdeal_weights_of_cache [hPre_weights_of_cache : Cert.Pre_weights_of_cache.Facts] (m : (ℓ : Loc Cert.RefBinsIdeal.nD Cert.RefBinsIdeal.τ Cert.RefBinsIdeal.sig) → Buf (Elt Ideal) ℓ) : Prop :=
  ∀ c : Dev Cert.RefBinsIdeal.nD,
    (Cert.Pre_weights_of_cache.fn (F := Ideal) (m ((c.tc : Thread Cert.RefBinsIdeal.nD Cert.RefBinsIdeal.τ).loc Cert.RefBinsIdeal.main_arg0)) (m ((c.tc : Thread Cert.RefBinsIdeal.nD Cert.RefBinsIdeal.τ).loc Cert.RefBinsIdeal.main_arg1)) (m ((c.tc : Thread Cert.RefBinsIdeal.nD Cert.RefBinsIdeal.τ).loc Cert.RefBinsIdeal.main_arg2))) = (fun _ => 1#1)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4)
      ∧ r.2.mem ((c.tc : Thread Cert.Scores.nD Cert.Scores.τ).loc Cert.Scores.main_arg5) = m ((c.tc : Thread Cert.Scores.nD Cert.Scores.τ).loc Cert.Scores.main_arg5))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
      ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5))
      ∧ r.2.sem = fun _ => 0)

def quiescent_RefScoresIdeal [hRefScoresIdeal : Cert.RefScoresIdeal.Facts] : Prop :=
  ∀ (m : (ℓ : Loc Cert.RefScoresIdeal.nD Cert.RefScoresIdeal.τ Cert.RefScoresIdeal.sig) → Buf (Elt Ideal) ℓ) (g : Dev Cert.RefScoresIdeal.nD → PrngReg), Pre_RefScoresIdeal m →
    θ_run (Cert.RefScoresIdeal.defs (F := Ideal)) (onTc (τ := Cert.RefScoresIdeal.τ) (Cert.RefScoresIdeal.main (F := Ideal))) ⟨m, fun _ => 0, g⟩ (fun r => (∀ c : Dev Cert.RefScoresIdeal.nD,
      r.2.mem ((c.tc : Thread Cert.RefScoresIdeal.nD Cert.RefScoresIdeal.τ).loc Cert.RefScoresIdeal.main_arg0) = m ((c.tc : Thread Cert.RefScoresIdeal.nD Cert.RefScoresIdeal.τ).loc Cert.RefScoresIdeal.main_arg0)
      ∧ r.2.mem ((c.tc : Thread Cert.RefScoresIdeal.nD Cert.RefScoresIdeal.τ).loc Cert.RefScoresIdeal.main_arg1) = m ((c.tc : Thread Cert.RefScoresIdeal.nD Cert.RefScoresIdeal.τ).loc Cert.RefScoresIdeal.main_arg1)
      ∧ r.2.mem ((c.tc : Thread Cert.RefScoresIdeal.nD Cert.RefScoresIdeal.τ).loc Cert.RefScoresIdeal.main_arg2) = m ((c.tc : Thread Cert.RefScoresIdeal.nD Cert.RefScoresIdeal.τ).loc Cert.RefScoresIdeal.main_arg2)
      ∧ r.2.mem ((c.tc : Thread Cert.RefScoresIdeal.nD Cert.RefScoresIdeal.τ).loc Cert.RefScoresIdeal.main_arg3) = m ((c.tc : Thread Cert.RefScoresIdeal.nD Cert.RefScoresIdeal.τ).loc Cert.RefScoresIdeal.main_arg3)
      ∧ r.2.mem ((c.tc : Thread Cert.RefScoresIdeal.nD Cert.RefScoresIdeal.τ).loc Cert.RefScoresIdeal.main_arg4) = m ((c.tc : Thread Cert.RefScoresIdeal.nD Cert.RefScoresIdeal.τ).loc Cert.RefScoresIdeal.main_arg4)
      ∧ r.2.mem ((c.tc : Thread Cert.RefScoresIdeal.nD Cert.RefScoresIdeal.τ).loc Cert.RefScoresIdeal.main_arg5) = m ((c.tc : Thread Cert.RefScoresIdeal.nD Cert.RefScoresIdeal.τ).loc Cert.RefScoresIdeal.main_arg5))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2))
      ∧ r.2.sem = fun _ => 0)

def quiescent_RefOutputIdeal [hRefOutputIdeal : Cert.RefOutputIdeal.Facts] : Prop :=
  ∀ (m : (ℓ : Loc Cert.RefOutputIdeal.nD Cert.RefOutputIdeal.τ Cert.RefOutputIdeal.sig) → Buf (Elt Ideal) ℓ) (g : Dev Cert.RefOutputIdeal.nD → PrngReg), Pre_RefOutputIdeal m →
    θ_run (Cert.RefOutputIdeal.defs (F := Ideal)) (onTc (τ := Cert.RefOutputIdeal.τ) (Cert.RefOutputIdeal.main (F := Ideal))) ⟨m, fun _ => 0, g⟩ (fun r => (∀ c : Dev Cert.RefOutputIdeal.nD,
      r.2.mem ((c.tc : Thread Cert.RefOutputIdeal.nD Cert.RefOutputIdeal.τ).loc Cert.RefOutputIdeal.main_arg0) = m ((c.tc : Thread Cert.RefOutputIdeal.nD Cert.RefOutputIdeal.τ).loc Cert.RefOutputIdeal.main_arg0)
      ∧ r.2.mem ((c.tc : Thread Cert.RefOutputIdeal.nD Cert.RefOutputIdeal.τ).loc Cert.RefOutputIdeal.main_arg1) = m ((c.tc : Thread Cert.RefOutputIdeal.nD Cert.RefOutputIdeal.τ).loc Cert.RefOutputIdeal.main_arg1)
      ∧ r.2.mem ((c.tc : Thread Cert.RefOutputIdeal.nD Cert.RefOutputIdeal.τ).loc Cert.RefOutputIdeal.main_arg2) = m ((c.tc : Thread Cert.RefOutputIdeal.nD Cert.RefOutputIdeal.τ).loc Cert.RefOutputIdeal.main_arg2))
      ∧ r.2.sem = fun _ => 0)

def quiescent_Hist [hHist : Cert.Hist.Facts] [hPre_codes_and_lengths : Cert.Pre_codes_and_lengths.Facts] : Prop :=
  ∀ (m : (ℓ : Loc Cert.Hist.nD Cert.Hist.τ Cert.Hist.sig) → Buf (Elt Bits) ℓ) (g : Dev Cert.Hist.nD → PrngReg), Pre_Hist m →
    θ_run (Cert.Hist.defs (F := Bits)) (Cert.Hist.threads (F := Bits)) ⟨m, fun _ => 0, g⟩ (fun r => (∀ c : Dev Cert.Hist.nD,
      r.2.mem ((c.tc : Thread Cert.Hist.nD Cert.Hist.τ).loc Cert.Hist.main_arg0) = m ((c.tc : Thread Cert.Hist.nD Cert.Hist.τ).loc Cert.Hist.main_arg0)
      ∧ r.2.mem ((c.tc : Thread Cert.Hist.nD Cert.Hist.τ).loc Cert.Hist.main_arg1) = m ((c.tc : Thread Cert.Hist.nD Cert.Hist.τ).loc Cert.Hist.main_arg1)
      ∧ r.2.mem ((c.tc : Thread Cert.Hist.nD Cert.Hist.τ).loc Cert.Hist.main_arg2) = m ((c.tc : Thread Cert.Hist.nD Cert.Hist.τ).loc Cert.Hist.main_arg2))
      ∧ r.2.sem = fun _ => 0)

def quiescent_HistIdeal [hHistIdeal : Cert.HistIdeal.Facts] [hPre_codes_and_lengths : Cert.Pre_codes_and_lengths.Facts] : Prop :=
  ∀ (m : (ℓ : Loc Cert.HistIdeal.nD Cert.HistIdeal.τ Cert.HistIdeal.sig) → Buf (Elt Ideal) ℓ) (g : Dev Cert.HistIdeal.nD → PrngReg), Pre_HistIdeal m →
    θ_run (Cert.HistIdeal.defs (F := Ideal)) (Cert.HistIdeal.threads (F := Ideal)) ⟨m, fun _ => 0, g⟩ (fun r => (∀ c : Dev Cert.HistIdeal.nD,
      r.2.mem ((c.tc : Thread Cert.HistIdeal.nD Cert.HistIdeal.τ).loc Cert.HistIdeal.main_arg0) = m ((c.tc : Thread Cert.HistIdeal.nD Cert.HistIdeal.τ).loc Cert.HistIdeal.main_arg0)
      ∧ r.2.mem ((c.tc : Thread Cert.HistIdeal.nD Cert.HistIdeal.τ).loc Cert.HistIdeal.main_arg1) = m ((c.tc : Thread Cert.HistIdeal.nD Cert.HistIdeal.τ).loc Cert.HistIdeal.main_arg1)
      ∧ r.2.mem ((c.tc : Thread Cert.HistIdeal.nD Cert.HistIdeal.τ).loc Cert.HistIdeal.main_arg2) = m ((c.tc : Thread Cert.HistIdeal.nD Cert.HistIdeal.τ).loc Cert.HistIdeal.main_arg2))
      ∧ r.2.sem = fun _ => 0)

def quiescent_HistIdeal_pre_weights_of_cache [hHistIdeal : Cert.HistIdeal.Facts] [hPre_weights_of_cache : Cert.Pre_weights_of_cache.Facts] : Prop :=
  ∀ (m : (ℓ : Loc Cert.HistIdeal.nD Cert.HistIdeal.τ Cert.HistIdeal.sig) → Buf (Elt Ideal) ℓ) (g : Dev Cert.HistIdeal.nD → PrngReg), Pre_HistIdeal_weights_of_cache m →
    θ_run (Cert.HistIdeal.defs (F := Ideal)) (Cert.HistIdeal.threads (F := Ideal)) ⟨m, fun _ => 0, g⟩ (fun r => (∀ c : Dev Cert.HistIdeal.nD,
      r.2.mem ((c.tc : Thread Cert.HistIdeal.nD Cert.HistIdeal.τ).loc Cert.HistIdeal.main_arg0) = m ((c.tc : Thread Cert.HistIdeal.nD Cert.HistIdeal.τ).loc Cert.HistIdeal.main_arg0)
      ∧ r.2.mem ((c.tc : Thread Cert.HistIdeal.nD Cert.HistIdeal.τ).loc Cert.HistIdeal.main_arg1) = m ((c.tc : Thread Cert.HistIdeal.nD Cert.HistIdeal.τ).loc Cert.HistIdeal.main_arg1)
      ∧ r.2.mem ((c.tc : Thread Cert.HistIdeal.nD Cert.HistIdeal.τ).loc Cert.HistIdeal.main_arg2) = m ((c.tc : Thread Cert.HistIdeal.nD Cert.HistIdeal.τ).loc Cert.HistIdeal.main_arg2))
      ∧ r.2.sem = fun _ => 0)

def quiescent_RefBinsIdeal [hRefBinsIdeal : Cert.RefBinsIdeal.Facts] : Prop :=
  ∀ (m : (ℓ : Loc Cert.RefBinsIdeal.nD Cert.RefBinsIdeal.τ Cert.RefBinsIdeal.sig) → Buf (Elt Ideal) ℓ) (g : Dev Cert.RefBinsIdeal.nD → PrngReg), Pre_RefBinsIdeal m →
    θ_run (Cert.RefBinsIdeal.defs (F := Ideal)) (onTc (τ := Cert.RefBinsIdeal.τ) (Cert.RefBinsIdeal.main (F := Ideal))) ⟨m, fun _ => 0, g⟩ (fun r => (∀ c : Dev Cert.RefBinsIdeal.nD,
      r.2.mem ((c.tc : Thread Cert.RefBinsIdeal.nD Cert.RefBinsIdeal.τ).loc Cert.RefBinsIdeal.main_arg0) = m ((c.tc : Thread Cert.RefBinsIdeal.nD Cert.RefBinsIdeal.τ).loc Cert.RefBinsIdeal.main_arg0)
      ∧ r.2.mem ((c.tc : Thread Cert.RefBinsIdeal.nD Cert.RefBinsIdeal.τ).loc Cert.RefBinsIdeal.main_arg1) = m ((c.tc : Thread Cert.RefBinsIdeal.nD Cert.RefBinsIdeal.τ).loc Cert.RefBinsIdeal.main_arg1)
      ∧ r.2.mem ((c.tc : Thread Cert.RefBinsIdeal.nD Cert.RefBinsIdeal.τ).loc Cert.RefBinsIdeal.main_arg2) = m ((c.tc : Thread Cert.RefBinsIdeal.nD Cert.RefBinsIdeal.τ).loc Cert.RefBinsIdeal.main_arg2))
      ∧ r.2.sem = fun _ => 0)

def quiescent_RefBinsIdeal_pre_weights_of_cache [hRefBinsIdeal : Cert.RefBinsIdeal.Facts] [hPre_weights_of_cache : Cert.Pre_weights_of_cache.Facts] : Prop :=
  ∀ (m : (ℓ : Loc Cert.RefBinsIdeal.nD Cert.RefBinsIdeal.τ Cert.RefBinsIdeal.sig) → Buf (Elt Ideal) ℓ) (g : Dev Cert.RefBinsIdeal.nD → PrngReg), Pre_RefBinsIdeal_weights_of_cache m →
    θ_run (Cert.RefBinsIdeal.defs (F := Ideal)) (onTc (τ := Cert.RefBinsIdeal.τ) (Cert.RefBinsIdeal.main (F := Ideal))) ⟨m, fun _ => 0, g⟩ (fun r => (∀ c : Dev Cert.RefBinsIdeal.nD,
      r.2.mem ((c.tc : Thread Cert.RefBinsIdeal.nD Cert.RefBinsIdeal.τ).loc Cert.RefBinsIdeal.main_arg0) = m ((c.tc : Thread Cert.RefBinsIdeal.nD Cert.RefBinsIdeal.τ).loc Cert.RefBinsIdeal.main_arg0)
      ∧ r.2.mem ((c.tc : Thread Cert.RefBinsIdeal.nD Cert.RefBinsIdeal.τ).loc Cert.RefBinsIdeal.main_arg1) = m ((c.tc : Thread Cert.RefBinsIdeal.nD Cert.RefBinsIdeal.τ).loc Cert.RefBinsIdeal.main_arg1)
      ∧ r.2.mem ((c.tc : Thread Cert.RefBinsIdeal.nD Cert.RefBinsIdeal.τ).loc Cert.RefBinsIdeal.main_arg2) = m ((c.tc : Thread Cert.RefBinsIdeal.nD Cert.RefBinsIdeal.τ).loc Cert.RefBinsIdeal.main_arg2))
      ∧ r.2.sem = fun _ => 0)

def preserves_Scores_ScoresIdeal : Prop :=
  True

def algebraic_ScoresIdeal_RefScoresIdeal [hScoresIdeal : Cert.ScoresIdeal.Facts] [hRefScoresIdeal : Cert.RefScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.RefScoresIdeal.nD Cert.RefScoresIdeal.τ Cert.RefScoresIdeal.sig) → Buf (Elt Ideal) ℓ) (g' : Dev Cert.RefScoresIdeal.nD → PrngReg), Pre_ScoresIdeal m →
    (∀ c : Dev Cert.ScoresIdeal.nD,
      m' ((c.tc : Thread Cert.RefScoresIdeal.nD Cert.RefScoresIdeal.τ).loc Cert.RefScoresIdeal.main_arg0) = m ((c.tc : Thread Cert.ScoresIdeal.nD Cert.ScoresIdeal.τ).loc Cert.ScoresIdeal.main_arg0)
      ∧ m' ((c.tc : Thread Cert.RefScoresIdeal.nD Cert.RefScoresIdeal.τ).loc Cert.RefScoresIdeal.main_arg1) = m ((c.tc : Thread Cert.ScoresIdeal.nD Cert.ScoresIdeal.τ).loc Cert.ScoresIdeal.main_arg1)
      ∧ m' ((c.tc : Thread Cert.RefScoresIdeal.nD Cert.RefScoresIdeal.τ).loc Cert.RefScoresIdeal.main_arg2) = m ((c.tc : Thread Cert.ScoresIdeal.nD Cert.ScoresIdeal.τ).loc Cert.ScoresIdeal.main_arg2)
      ∧ m' ((c.tc : Thread Cert.RefScoresIdeal.nD Cert.RefScoresIdeal.τ).loc Cert.RefScoresIdeal.main_arg3) = m ((c.tc : Thread Cert.ScoresIdeal.nD Cert.ScoresIdeal.τ).loc Cert.ScoresIdeal.main_arg3)
      ∧ m' ((c.tc : Thread Cert.RefScoresIdeal.nD Cert.RefScoresIdeal.τ).loc Cert.RefScoresIdeal.main_arg4) = m ((c.tc : Thread Cert.ScoresIdeal.nD Cert.ScoresIdeal.τ).loc Cert.ScoresIdeal.main_arg4)
      ∧ m' ((c.tc : Thread Cert.RefScoresIdeal.nD Cert.RefScoresIdeal.τ).loc Cert.RefScoresIdeal.main_arg5) = m ((c.tc : Thread Cert.ScoresIdeal.nD Cert.ScoresIdeal.τ).loc Cert.ScoresIdeal.main_arg5)) →
    ∃ (v0 : (c : Dev Cert.ScoresIdeal.nD) → Buf (Elt Ideal) ((c.tc : Thread Cert.ScoresIdeal.nD Cert.ScoresIdeal.τ).loc Cert.ScoresIdeal.main_v3_0)) (v1 : (c : Dev Cert.ScoresIdeal.nD) → Buf (Elt Ideal) ((c.tc : Thread Cert.ScoresIdeal.nD Cert.ScoresIdeal.τ).loc Cert.ScoresIdeal.main_v3_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v3_0) = v0 c
          ∧ r.2.mem ((c.tc : Thread Cert.ScoresIdeal.nD Cert.ScoresIdeal.τ).loc Cert.ScoresIdeal.main_v3_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
          ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5))
      ∧ θ_run (Cert.RefScoresIdeal.defs (F := Ideal)) (onTc (τ := Cert.RefScoresIdeal.τ) (Cert.RefScoresIdeal.main (F := Ideal))) ⟨m', fun _ => 0, g'⟩ (fun r => ∀ c : Dev Cert.RefScoresIdeal.nD,
          r.2.mem ((c.tc : Thread Cert.RefScoresIdeal.nD Cert.RefScoresIdeal.τ).loc Cert.RefScoresIdeal.main_v42) = v0 c
          ∧ r.2.mem ((c.tc : Thread Cert.RefScoresIdeal.nD Cert.RefScoresIdeal.τ).loc Cert.RefScoresIdeal.main_v43) = v1 c
          ∧ r.2.mem ((c.tc : Thread Cert.RefScoresIdeal.nD Cert.RefScoresIdeal.τ).loc Cert.RefScoresIdeal.main_arg0) = m' ((c.tc : Thread Cert.RefScoresIdeal.nD Cert.RefScoresIdeal.τ).loc Cert.RefScoresIdeal.main_arg0)
          ∧ r.2.mem ((c.tc : Thread Cert.RefScoresIdeal.nD Cert.RefScoresIdeal.τ).loc Cert.RefScoresIdeal.main_arg1) = m' ((c.tc : Thread Cert.RefScoresIdeal.nD Cert.RefScoresIdeal.τ).loc Cert.RefScoresIdeal.main_arg1)
          ∧ r.2.mem ((c.tc : Thread Cert.RefScoresIdeal.nD Cert.RefScoresIdeal.τ).loc Cert.RefScoresIdeal.main_arg2) = m' ((c.tc : Thread Cert.RefScoresIdeal.nD Cert.RefScoresIdeal.τ).loc Cert.RefScoresIdeal.main_arg2)
          ∧ r.2.mem ((c.tc : Thread Cert.RefScoresIdeal.nD Cert.RefScoresIdeal.τ).loc Cert.RefScoresIdeal.main_arg3) = m' ((c.tc : Thread Cert.RefScoresIdeal.nD Cert.RefScoresIdeal.τ).loc Cert.RefScoresIdeal.main_arg3)
          ∧ r.2.mem ((c.tc : Thread Cert.RefScoresIdeal.nD Cert.RefScoresIdeal.τ).loc Cert.RefScoresIdeal.main_arg4) = m' ((c.tc : Thread Cert.RefScoresIdeal.nD Cert.RefScoresIdeal.τ).loc Cert.RefScoresIdeal.main_arg4)
          ∧ r.2.mem ((c.tc : Thread Cert.RefScoresIdeal.nD Cert.RefScoresIdeal.τ).loc Cert.RefScoresIdeal.main_arg5) = m' ((c.tc : Thread Cert.RefScoresIdeal.nD Cert.RefScoresIdeal.τ).loc Cert.RefScoresIdeal.main_arg5))

def preserves_Output_OutputIdeal : Prop :=
  True

def algebraic_OutputIdeal_RefOutputIdeal [hOutputIdeal : Cert.OutputIdeal.Facts] [hRefOutputIdeal : Cert.RefOutputIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.RefOutputIdeal.nD Cert.RefOutputIdeal.τ Cert.RefOutputIdeal.sig) → Buf (Elt Ideal) ℓ) (g' : Dev Cert.RefOutputIdeal.nD → PrngReg), Pre_OutputIdeal m →
    (∀ c : Dev Cert.OutputIdeal.nD,
      m' ((c.tc : Thread Cert.RefOutputIdeal.nD Cert.RefOutputIdeal.τ).loc Cert.RefOutputIdeal.main_arg0) = m ((c.tc : Thread Cert.OutputIdeal.nD Cert.OutputIdeal.τ).loc Cert.OutputIdeal.main_arg0)
      ∧ m' ((c.tc : Thread Cert.RefOutputIdeal.nD Cert.RefOutputIdeal.τ).loc Cert.RefOutputIdeal.main_arg1) = m ((c.tc : Thread Cert.OutputIdeal.nD Cert.OutputIdeal.τ).loc Cert.OutputIdeal.main_arg1)
      ∧ m' ((c.tc : Thread Cert.RefOutputIdeal.nD Cert.RefOutputIdeal.τ).loc Cert.RefOutputIdeal.main_arg2) = m ((c.tc : Thread Cert.OutputIdeal.nD Cert.OutputIdeal.τ).loc Cert.OutputIdeal.main_arg2)) →
    ∃ (v0 : (c : Dev Cert.OutputIdeal.nD) → Buf (Elt Ideal) ((c.tc : Thread Cert.OutputIdeal.nD Cert.OutputIdeal.τ).loc Cert.OutputIdeal.main_v0)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v0) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2))
      ∧ θ_run (Cert.RefOutputIdeal.defs (F := Ideal)) (onTc (τ := Cert.RefOutputIdeal.τ) (Cert.RefOutputIdeal.main (F := Ideal))) ⟨m', fun _ => 0, g'⟩ (fun r => ∀ c : Dev Cert.RefOutputIdeal.nD,
          r.2.mem ((c.tc : Thread Cert.RefOutputIdeal.nD Cert.RefOutputIdeal.τ).loc Cert.RefOutputIdeal.main_v7) = v0 c
          ∧ r.2.mem ((c.tc : Thread Cert.RefOutputIdeal.nD Cert.RefOutputIdeal.τ).loc Cert.RefOutputIdeal.main_arg0) = m' ((c.tc : Thread Cert.RefOutputIdeal.nD Cert.RefOutputIdeal.τ).loc Cert.RefOutputIdeal.main_arg0)
          ∧ r.2.mem ((c.tc : Thread Cert.RefOutputIdeal.nD Cert.RefOutputIdeal.τ).loc Cert.RefOutputIdeal.main_arg1) = m' ((c.tc : Thread Cert.RefOutputIdeal.nD Cert.RefOutputIdeal.τ).loc Cert.RefOutputIdeal.main_arg1)
          ∧ r.2.mem ((c.tc : Thread Cert.RefOutputIdeal.nD Cert.RefOutputIdeal.τ).loc Cert.RefOutputIdeal.main_arg2) = m' ((c.tc : Thread Cert.RefOutputIdeal.nD Cert.RefOutputIdeal.τ).loc Cert.RefOutputIdeal.main_arg2))

def preserves_Hist_HistIdeal : Prop :=
  True

def algebraic_HistIdeal_RefBinsIdeal_pre_weights_of_cache [hHistIdeal : Cert.HistIdeal.Facts] [hRefBinsIdeal : Cert.RefBinsIdeal.Facts] [hPre_weights_of_cache : Cert.Pre_weights_of_cache.Facts] : Prop :=
  ∀ (m : (ℓ : Loc Cert.HistIdeal.nD Cert.HistIdeal.τ Cert.HistIdeal.sig) → Buf (Elt Ideal) ℓ) (g : Dev Cert.HistIdeal.nD → PrngReg)
    (m' : (ℓ : Loc Cert.RefBinsIdeal.nD Cert.RefBinsIdeal.τ Cert.RefBinsIdeal.sig) → Buf (Elt Ideal) ℓ) (g' : Dev Cert.RefBinsIdeal.nD → PrngReg), Pre_HistIdeal_weights_of_cache m →
    (∀ c : Dev Cert.HistIdeal.nD,
      m' ((c.tc : Thread Cert.RefBinsIdeal.nD Cert.RefBinsIdeal.τ).loc Cert.RefBinsIdeal.main_arg0) = m ((c.tc : Thread Cert.HistIdeal.nD Cert.HistIdeal.τ).loc Cert.HistIdeal.main_arg0)
      ∧ m' ((c.tc : Thread Cert.RefBinsIdeal.nD Cert.RefBinsIdeal.τ).loc Cert.RefBinsIdeal.main_arg1) = m ((c.tc : Thread Cert.HistIdeal.nD Cert.HistIdeal.τ).loc Cert.HistIdeal.main_arg1)
      ∧ m' ((c.tc : Thread Cert.RefBinsIdeal.nD Cert.RefBinsIdeal.τ).loc Cert.RefBinsIdeal.main_arg2) = m ((c.tc : Thread Cert.HistIdeal.nD Cert.HistIdeal.τ).loc Cert.HistIdeal.main_arg2)) →
    ∃ (v0 : (c : Dev Cert.HistIdeal.nD) → Buf (Elt Ideal) ((c.tc : Thread Cert.HistIdeal.nD Cert.HistIdeal.τ).loc Cert.HistIdeal.main_v0)),
      θ_run (Cert.HistIdeal.defs (F := Ideal)) (Cert.HistIdeal.threads (F := Ideal)) ⟨m, fun _ => 0, g⟩ (fun r => ∀ c : Dev Cert.HistIdeal.nD,
          r.2.mem ((c.tc : Thread Cert.HistIdeal.nD Cert.HistIdeal.τ).loc Cert.HistIdeal.main_v0) = v0 c
          ∧ r.2.mem ((c.tc : Thread Cert.HistIdeal.nD Cert.HistIdeal.τ).loc Cert.HistIdeal.main_arg0) = m ((c.tc : Thread Cert.HistIdeal.nD Cert.HistIdeal.τ).loc Cert.HistIdeal.main_arg0)
          ∧ r.2.mem ((c.tc : Thread Cert.HistIdeal.nD Cert.HistIdeal.τ).loc Cert.HistIdeal.main_arg1) = m ((c.tc : Thread Cert.HistIdeal.nD Cert.HistIdeal.τ).loc Cert.HistIdeal.main_arg1)
          ∧ r.2.mem ((c.tc : Thread Cert.HistIdeal.nD Cert.HistIdeal.τ).loc Cert.HistIdeal.main_arg2) = m ((c.tc : Thread Cert.HistIdeal.nD Cert.HistIdeal.τ).loc Cert.HistIdeal.main_arg2))
      ∧ θ_run (Cert.RefBinsIdeal.defs (F := Ideal)) (onTc (τ := Cert.RefBinsIdeal.τ) (Cert.RefBinsIdeal.main (F := Ideal))) ⟨m', fun _ => 0, g'⟩ (fun r => ∀ c : Dev Cert.RefBinsIdeal.nD,
          r.2.mem ((c.tc : Thread Cert.RefBinsIdeal.nD Cert.RefBinsIdeal.τ).loc Cert.RefBinsIdeal.main_v39) = v0 c
          ∧ r.2.mem ((c.tc : Thread Cert.RefBinsIdeal.nD Cert.RefBinsIdeal.τ).loc Cert.RefBinsIdeal.main_arg0) = m' ((c.tc : Thread Cert.RefBinsIdeal.nD Cert.RefBinsIdeal.τ).loc Cert.RefBinsIdeal.main_arg0)
          ∧ r.2.mem ((c.tc : Thread Cert.RefBinsIdeal.nD Cert.RefBinsIdeal.τ).loc Cert.RefBinsIdeal.main_arg1) = m' ((c.tc : Thread Cert.RefBinsIdeal.nD Cert.RefBinsIdeal.τ).loc Cert.RefBinsIdeal.main_arg1)
          ∧ r.2.mem ((c.tc : Thread Cert.RefBinsIdeal.nD Cert.RefBinsIdeal.τ).loc Cert.RefBinsIdeal.main_arg2) = m' ((c.tc : Thread Cert.RefBinsIdeal.nD Cert.RefBinsIdeal.τ).loc Cert.RefBinsIdeal.main_arg2))

def Claim : Prop :=
  ∃ (hScores : Cert.Scores.Facts) (hScoresIdeal : Cert.ScoresIdeal.Facts) (hRefScoresIdeal : Cert.RefScoresIdeal.Facts) (hOutput : Cert.Output.Facts) (hOutputIdeal : Cert.OutputIdeal.Facts) (hRefOutputIdeal : Cert.RefOutputIdeal.Facts) (hHist : Cert.Hist.Facts) (hHistIdeal : Cert.HistIdeal.Facts) (hRefBinsIdeal : Cert.RefBinsIdeal.Facts) (hPre_codes_and_lengths : Cert.Pre_codes_and_lengths.Facts) (hPre_weights_of_cache : Cert.Pre_weights_of_cache.Facts),
    quiescent_Scores (hScores := hScores)
    ∧ quiescent_ScoresIdeal (hScoresIdeal := hScoresIdeal)
    ∧ quiescent_RefScoresIdeal (hRefScoresIdeal := hRefScoresIdeal)
    ∧ quiescent_Output (hOutput := hOutput)
    ∧ quiescent_OutputIdeal (hOutputIdeal := hOutputIdeal)
    ∧ quiescent_RefOutputIdeal (hRefOutputIdeal := hRefOutputIdeal)
    ∧ quiescent_Hist (hHist := hHist) (hPre_codes_and_lengths := hPre_codes_and_lengths)
    ∧ quiescent_HistIdeal (hHistIdeal := hHistIdeal) (hPre_codes_and_lengths := hPre_codes_and_lengths)
    ∧ quiescent_HistIdeal_pre_weights_of_cache (hHistIdeal := hHistIdeal) (hPre_weights_of_cache := hPre_weights_of_cache)
    ∧ quiescent_RefBinsIdeal (hRefBinsIdeal := hRefBinsIdeal)
    ∧ quiescent_RefBinsIdeal_pre_weights_of_cache (hRefBinsIdeal := hRefBinsIdeal) (hPre_weights_of_cache := hPre_weights_of_cache)
    ∧ preserves_Scores_ScoresIdeal
    ∧ algebraic_ScoresIdeal_RefScoresIdeal (hScoresIdeal := hScoresIdeal) (hRefScoresIdeal := hRefScoresIdeal)
    ∧ preserves_Output_OutputIdeal
    ∧ algebraic_OutputIdeal_RefOutputIdeal (hOutputIdeal := hOutputIdeal) (hRefOutputIdeal := hRefOutputIdeal)
    ∧ preserves_Hist_HistIdeal
    ∧ algebraic_HistIdeal_RefBinsIdeal_pre_weights_of_cache (hHistIdeal := hHistIdeal) (hRefBinsIdeal := hRefBinsIdeal) (hPre_weights_of_cache := hPre_weights_of_cache)
-- ==== Pre_codes_and_lengths.lean ====
abbrev S112x20x1280 : Shape := ⟨3, ![112, 20, 1280]⟩
abbrev S112x4x1280 : Shape := ⟨3, ![112, 4, 1280]⟩
abbrev S112 : Shape := ⟨1, ![112]⟩
abbrev S_ : Shape := ⟨0, ![]⟩
abbrev S112x4x5x1280 : Shape := ⟨4, ![112, 4, 5, 1280]⟩
abbrev S112x1x1 : Shape := ⟨3, ![112, 1, 1]⟩

class Facts : Prop where
  bcast_S_S112x4x1280 : S_.BroadcastsInDim S112x4x1280 (![] : Fin 0 → Fin S112x4x1280.rank)
  bcast_S112x4x1280_S112x4x5x1280_0_1_3 : S112x4x1280.BroadcastsInDim S112x4x5x1280 (![0, 1, 3] : Fin 3 → Fin S112x4x5x1280.rank)
  shapeCasts_S112x4x5x1280_S112x20x1280 : S112x4x5x1280.ShapeCasts S112x20x1280
  bcast_S_S112 : S_.BroadcastsInDim S112 (![] : Fin 0 → Fin S112.rank)
  bcast_S112_S112x1x1_0 : S112.BroadcastsInDim S112x1x1 (![0] : Fin 1 → Fin S112x1x1.rank)
  bcast_S112x1x1_S112x20x1280_0_1_2 : S112x1x1.BroadcastsInDim S112x20x1280 (![0, 1, 2] : Fin 3 → Fin S112x20x1280.rank)

variable [Facts]

def fn {F : FTy → Type} [FloatOps F] (main_arg0 : FVec F S112x20x1280 .f32) (main_arg1 : IVec S112x4x1280 32) (main_arg2 : IVec S112 32) : IVec S112x20x1280 1 :=
  let main_c : IVec S_ 32 := constantI S_ 32 0#32
  let main_v0 : IVec S112x4x1280 32 := broadcastInDim S112x4x1280 ![] bcast_S_S112x4x1280 main_c
  let main_v1 : IVec S112x4x1280 1 := cmpi .sge main_arg1 main_v0
  let main_c_0 : IVec S_ 32 := constantI S_ 32 4096#32
  let main_v2 : IVec S112x4x1280 32 := broadcastInDim S112x4x1280 ![] bcast_S_S112x4x1280 main_c_0
  let main_v3 : IVec S112x4x1280 1 := cmpi .slt main_arg1 main_v2
  let main_v4 : IVec S112x4x1280 1 := andi main_v1 main_v3
  let main_v5 : IVec S112x4x5x1280 1 := broadcastInDim S112x4x5x1280 ![0, 1, 3] bcast_S112x4x1280_S112x4x5x1280_0_1_3 main_v4
  let main_v6 : IVec S112x20x1280 1 := shapeCast S112x20x1280 main_v5 shapeCasts_S112x4x5x1280_S112x20x1280
  let main_c_1 : IVec S_ 32 := constantI S_ 32 1280#32
  let main_v7 : IVec S112 32 := broadcastInDim S112 ![] bcast_S_S112 main_c_1
  let main_v8 : IVec S112 1 := cmpi .sle main_arg2 main_v7
  let main_v9 : IVec S112x1x1 1 := broadcastInDim S112x1x1 ![0] bcast_S112_S112x1x1_0 main_v8
  let main_v10 : IVec S112x20x1280 1 := broadcastInDim S112x20x1280 ![0, 1, 2] bcast_S112x1x1_S112x20x1280_0_1_2 main_v9
  let main_v11 : IVec S112x20x1280 1 := andi main_v6 main_v10
  main_v11
-- ==== Pre_weights_of_cache.lean ====
abbrev S112x20x1280 : Shape := ⟨3, ![112, 20, 1280]⟩
abbrev S112x4x1280 : Shape := ⟨3, ![112, 4, 1280]⟩
abbrev S112 : Shape := ⟨1, ![112]⟩
abbrev S_ : Shape := ⟨0, ![]⟩
abbrev S112x4x5x1280 : Shape := ⟨4, ![112, 4, 5, 1280]⟩
abbrev S112x1x1 : Shape := ⟨3, ![112, 1, 1]⟩

class Facts : Prop where
  bcast_S_S112x4x1280 : S_.BroadcastsInDim S112x4x1280 (![] : Fin 0 → Fin S112x4x1280.rank)
  bcast_S112x4x1280_S112x4x5x1280_0_1_3 : S112x4x1280.BroadcastsInDim S112x4x5x1280 (![0, 1, 3] : Fin 3 → Fin S112x4x5x1280.rank)
  shapeCasts_S112x4x5x1280_S112x20x1280 : S112x4x5x1280.ShapeCasts S112x20x1280
  bcast_S_S112 : S_.BroadcastsInDim S112 (![] : Fin 0 → Fin S112.rank)
  bcast_S112_S112x1x1_0 : S112.BroadcastsInDim S112x1x1 (![0] : Fin 1 → Fin S112x1x1.rank)
  bcast_S_S112x20x1280 : S_.BroadcastsInDim S112x20x1280 (![] : Fin 0 → Fin S112x20x1280.rank)
  bcast_S112x1x1_S112x20x1280_0_1_2 : S112x1x1.BroadcastsInDim S112x20x1280 (![0, 1, 2] : Fin 3 → Fin S112x20x1280.rank)

variable [Facts]

def fn_where {F : FTy → Type} [FloatOps F] (arg0 : IVec S112x20x1280 1) (arg1 : IVec S112x20x1280 1) (arg2 : IVec S_ 1) : IVec S112x20x1280 1 :=
  let v0 : IVec S112x20x1280 1 := broadcastInDim S112x20x1280 ![] bcast_S_S112x20x1280 arg2
  let v1 : IVec S112x20x1280 1 := select arg0 arg1 v0
  v1

def fn_part1 {F : FTy → Type} [FloatOps F] (main_arg0 : FVec F S112x20x1280 .f32) (main_v15 : IVec S112x20x1280 1) (main_v17 : IVec S112x20x1280 1) (main_v18 : FVec F S112x20x1280 .f32) : IVec S112x20x1280 1 :=
  let main_v19 : IVec S112x20x1280 1 := cmpf .oeq main_arg0 main_v18
  let main_c_3 : IVec S_ 1 := constantI S_ 1 1#1
  let main_v20 : IVec S112x20x1280 1 := fn_where (F := F) main_v15 main_v19 main_c_3
  let main_v21 : IVec S112x20x1280 1 := andi main_v17 main_v20
  main_v21

def fn {F : FTy → Type} [FloatOps F] (main_arg0 : FVec F S112x20x1280 .f32) (main_arg1 : IVec S112x4x1280 32) (main_arg2 : IVec S112 32) : IVec S112x20x1280 1 :=
  let main_c : IVec S_ 32 := constantI S_ 32 0#32
  let main_v0 : IVec S112x4x1280 32 := broadcastInDim S112x4x1280 ![] bcast_S_S112x4x1280 main_c
  let main_v1 : IVec S112x4x1280 1 := cmpi .sge main_arg1 main_v0
  let main_c_0 : IVec S_ 32 := constantI S_ 32 4096#32
  let main_v2 : IVec S112x4x1280 32 := broadcastInDim S112x4x1280 ![] bcast_S_S112x4x1280 main_c_0
  let main_v3 : IVec S112x4x1280 1 := cmpi .slt main_arg1 main_v2
  let main_v4 : IVec S112x4x1280 1 := andi main_v1 main_v3
  let main_v5 : IVec S112x4x5x1280 1 := broadcastInDim S112x4x5x1280 ![0, 1, 3] bcast_S112x4x1280_S112x4x5x1280_0_1_3 main_v4
  let main_v6 : IVec S112x20x1280 1 := shapeCast S112x20x1280 main_v5 shapeCasts_S112x4x5x1280_S112x20x1280
  let main_c_1 : IVec S_ 32 := constantI S_ 32 1280#32
  let main_v7 : IVec S112 32 := broadcastInDim S112 ![] bcast_S_S112 main_c_1
  let main_v8 : IVec S112 1 := cmpi .sle main_arg2 main_v7
  let main_v9 : IVec S112x1x1 1 := broadcastInDim S112x1x1 ![0] bcast_S112_S112x1x1_0 main_v8
  let main_v10 : IVec S112x20x1280 32 := iotaInDim S112x20x1280 32 2
  let main_c_2 : IVec S_ 32 := constantI S_ 32 4294967280#32
  let main_v11 : IVec S112x20x1280 32 := broadcastInDim S112x20x1280 ![] bcast_S_S112x20x1280 main_c_2
  let main_v12 : IVec S112x20x1280 32 := andi main_v10 main_v11
  let main_v13 : IVec S112x1x1 32 := broadcastInDim S112x1x1 ![0] bcast_S112_S112x1x1_0 main_arg2
  let main_v14 : IVec S112x20x1280 32 := broadcastInDim S112x20x1280 ![0, 1, 2] bcast_S112x1x1_S112x20x1280_0_1_2 main_v13
  let main_v15 : IVec S112x20x1280 1 := cmpi .sge main_v12 main_v14
  let main_v16 : IVec S112x20x1280 1 := broadcastInDim S112x20x1280 ![0, 1, 2] bcast_S112x1x1_S112x20x1280_0_1_2 main_v9
  let main_v17 : IVec S112x20x1280 1 := andi main_v6 main_v16
  let main_cst : FVec F S_ .f32 := constant S_ .f32 0x00000000#32
  let main_v18 : FVec F S112x20x1280 .f32 := broadcastInDim S112x20x1280 ![] bcast_S_S112x20x1280 main_cst
  fn_part1 (F := F) main_arg0 main_v15 main_v17 main_v18
-- ==== Scores.lean ====
abbrev S112x1x2560 : Shape := ⟨3, ![112, 1, 2560]⟩
abbrev S112x1x4x128 : Shape := ⟨4, ![112, 1, 4, 128]⟩
abbrev S112x4x1280x128 : Shape := ⟨4, ![112, 4, 1280, 128]⟩
abbrev S112x4x1280 : Shape := ⟨3, ![112, 4, 1280]⟩
abbrev S112 : Shape := ⟨1, ![112]⟩
abbrev S112x20x128 : Shape := ⟨3, ![112, 20, 128]⟩
abbrev S112x4x128 : Shape := ⟨3, ![112, 4, 128]⟩
abbrev S112x20x1280 : Shape := ⟨3, ![112, 20, 1280]⟩
abbrev S1x20x128 : Shape := ⟨3, ![1, 20, 128]⟩
abbrev S1x4x1280x128 : Shape := ⟨4, ![1, 4, 1280, 128]⟩
abbrev S1x4x1280 : Shape := ⟨3, ![1, 4, 1280]⟩
abbrev S1x4x128 : Shape := ⟨3, ![1, 4, 128]⟩
abbrev S1x20x1280 : Shape := ⟨3, ![1, 20, 1280]⟩
abbrev S20x128 : Shape := ⟨2, ![20, 128]⟩
abbrev S20x1280 : Shape := ⟨2, ![20, 1280]⟩
abbrev S1x1x1280x128 : Shape := ⟨4, ![1, 1, 1280, 128]⟩
abbrev S1280x128 : Shape := ⟨2, ![1280, 128]⟩
abbrev S1x1x1280 : Shape := ⟨3, ![1, 1, 1280]⟩
abbrev S1x1280 : Shape := ⟨2, ![1, 1280]⟩
abbrev S1 : Shape := ⟨1, ![1]⟩
abbrev S4x128 : Shape := ⟨2, ![4, 128]⟩
abbrev S1x128 : Shape := ⟨2, ![1, 128]⟩
abbrev S20 : Shape := ⟨1, ![20]⟩
abbrev S20x1 : Shape := ⟨2, ![20, 1]⟩

abbrev nBuf : Space → Nat
  | .hbm => 10
  | .vmem => 14
  | .smem => 1
  | _ => 0

abbrev bufTy : (tb : Table) → Fin (tcTables nBuf tb) → BufTy
  | .hbm, ⟨0, _⟩ => ⟨S112x1x2560, .bf16⟩
  | .hbm, ⟨1, _⟩ => ⟨S112x1x4x128, .bf16⟩
  | .hbm, ⟨2, _⟩ => ⟨S112x1x4x128, .bf16⟩
  | .hbm, ⟨3, _⟩ => ⟨S112x4x1280x128, .fp8e4m3⟩
  | .hbm, ⟨4, _⟩ => ⟨S112x4x1280, .f32⟩
  | .hbm, ⟨5, _⟩ => ⟨S112x20x128, .bf16⟩
  | .hbm, ⟨6, _⟩ => ⟨S112x4x128, .bf16⟩
  | .hbm, ⟨7, _⟩ => ⟨S112x4x128, .bf16⟩
  | .hbm, ⟨8, _⟩ => ⟨S112x20x1280, .f32⟩
  | .hbm, ⟨9, _⟩ => ⟨S112x20x128, .f32⟩
  | .local _ .vmem, ⟨0, _⟩ => ⟨S1x20x128, .bf16⟩
  | .local _ .vmem, ⟨1, _⟩ => ⟨S1x20x128, .bf16⟩
  | .local _ .vmem, ⟨2, _⟩ => ⟨S1x4x1280x128, .fp8e4m3⟩
  | .local _ .vmem, ⟨3, _⟩ => ⟨S1x4x1280x128, .fp8e4m3⟩
  | .local _ .vmem, ⟨4, _⟩ => ⟨S1x4x1280, .f32⟩
  | .local _ .vmem, ⟨5, _⟩ => ⟨S1x4x1280, .f32⟩
  | .local _ .vmem, ⟨6, _⟩ => ⟨S1x4x128, .bf16⟩
  | .local _ .vmem, ⟨7, _⟩ => ⟨S1x4x128, .bf16⟩
  | .local _ .vmem, ⟨8, _⟩ => ⟨S1x4x128, .bf16⟩
  | .local _ .vmem, ⟨9, _⟩ => ⟨S1x4x128, .bf16⟩
  | .local _ .vmem, ⟨10, _⟩ => ⟨S1x20x1280, .f32⟩
  | .local _ .vmem, ⟨11, _⟩ => ⟨S1x20x1280, .f32⟩
  | .local _ .vmem, ⟨12, _⟩ => ⟨S1x20x128, .f32⟩
  | .local _ .vmem, ⟨13, _⟩ => ⟨S1x20x128, .f32⟩
  | .local _ .smem, ⟨0, _⟩ => ⟨S112, .i32⟩
  | _, _ => ⟨S112x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![112], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v77 : Index := Scalar.indexCast arg0
  ![v77.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1280x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x20x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x20x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefScoresIdeal.lean ====
abbrev S112x1x2560 : Shape := ⟨3, ![112, 1, 2560]⟩
abbrev S112x1x4x128 : Shape := ⟨4, ![112, 1, 4, 128]⟩
abbrev S112x4x1280x128 : Shape := ⟨4, ![112, 4, 1280, 128]⟩
abbrev S112x4x1280 : Shape := ⟨3, ![112, 4, 1280]⟩
abbrev S112 : Shape := ⟨1, ![112]⟩
abbrev S112x4x5x128 : Shape := ⟨4, ![112, 4, 5, 128]⟩
abbrev S112x4x5x1280 : Shape := ⟨4, ![112, 4, 5, 1280]⟩
abbrev S112x4x1x1280 : Shape := ⟨4, ![112, 4, 1, 1280]⟩
abbrev S_ : Shape := ⟨0, ![]⟩
abbrev S1280 : Shape := ⟨1, ![1280]⟩
abbrev S1x1x1x1280 : Shape := ⟨4, ![1, 1, 1, 1280]⟩
abbrev S112x1x1x1 : Shape := ⟨4, ![112, 1, 1, 1]⟩
abbrev S112x1x1x1280 : Shape := ⟨4, ![112, 1, 1, 1280]⟩
abbrev S112x4x128 : Shape := ⟨3, ![112, 4, 128]⟩
abbrev S112x4x5 : Shape := ⟨3, ![112, 4, 5]⟩
abbrev S112x4x5x1 : Shape := ⟨4, ![112, 4, 5, 1]⟩
abbrev S112x4x1x128 : Shape := ⟨4, ![112, 4, 1, 128]⟩
abbrev S112x20x1280 : Shape := ⟨3, ![112, 20, 1280]⟩
abbrev S112x20x128 : Shape := ⟨3, ![112, 20, 128]⟩

abbrev nBuf : Space → Nat
  | .hbm => 59
  | .vmem => 2
  | .smem => 0
  | _ => 0

abbrev bufTy : (tb : Table) → Fin (tcTables nBuf tb) → BufTy
  | .hbm, ⟨0, _⟩ => ⟨S112x1x2560, .bf16⟩
  | .hbm, ⟨1, _⟩ => ⟨S112x1x4x128, .bf16⟩
  | .hbm, ⟨2, _⟩ => ⟨S112x1x4x128, .bf16⟩
  | .hbm, ⟨3, _⟩ => ⟨S112x4x1280x128, .fp8e4m3⟩
  | .hbm, ⟨4, _⟩ => ⟨S112x4x1280, .f32⟩
  | .hbm, ⟨5, _⟩ => ⟨S112, .i32⟩
  | .hbm, ⟨6, _⟩ => ⟨S112x4x5x128, .bf16⟩
  | .hbm, ⟨7, _⟩ => ⟨S112x4x1280x128, .bf16⟩
  | .hbm, ⟨8, _⟩ => ⟨S112x4x5x1280, .f32⟩
  | .hbm, ⟨9, _⟩ => ⟨S112x4x1x1280, .f32⟩
  | .hbm, ⟨10, _⟩ => ⟨S112x4x5x1280, .f32⟩
  | .hbm, ⟨11, _⟩ => ⟨S112x4x5x1280, .f32⟩
  | .hbm, ⟨12, _⟩ => ⟨S_, .f32⟩
  | .hbm, ⟨13, _⟩ => ⟨S112x4x5x1280, .f32⟩
  | .hbm, ⟨14, _⟩ => ⟨S112x4x5x1280, .f32⟩
  | .hbm, ⟨15, _⟩ => ⟨S1280, .i32⟩
  | .hbm, ⟨16, _⟩ => ⟨S1x1x1x1280, .i32⟩
  | .hbm, ⟨17, _⟩ => ⟨S112x1x1x1, .i32⟩
  | .hbm, ⟨18, _⟩ => ⟨S112x1x1x1280, .i32⟩
  | .hbm, ⟨19, _⟩ => ⟨S112x1x1x1280, .i32⟩
  | .hbm, ⟨20, _⟩ => ⟨S112x1x1x1280, .i1⟩
  | .hbm, ⟨21, _⟩ => ⟨S_, .f32⟩
  | .hbm, ⟨22, _⟩ => ⟨S_, .f32⟩
  | .hbm, ⟨23, _⟩ => ⟨S112x4x5x1280, .i1⟩
  | .hbm, ⟨24, _⟩ => ⟨S112x4x5x1280, .f32⟩
  | .hbm, ⟨25, _⟩ => ⟨S112x4x5x1280, .f32⟩
  | .hbm, ⟨26, _⟩ => ⟨S112x4x128, .bf16⟩
  | .hbm, ⟨27, _⟩ => ⟨S112x4x5, .f32⟩
  | .hbm, ⟨28, _⟩ => ⟨S_, .f32⟩
  | .hbm, ⟨29, _⟩ => ⟨S112x4x5, .f32⟩
  | .hbm, ⟨30, _⟩ => ⟨S112x4x5, .f32⟩
  | .hbm, ⟨31, _⟩ => ⟨S_, .f32⟩
  | .hbm, ⟨32, _⟩ => ⟨S112x4x5, .f32⟩
  | .hbm, ⟨33, _⟩ => ⟨S112x4x5, .f32⟩
  | .hbm, ⟨34, _⟩ => ⟨S112x4x5x1, .f32⟩
  | .hbm, ⟨35, _⟩ => ⟨S112x4x5x1280, .f32⟩
  | .hbm, ⟨36, _⟩ => ⟨S112x4x5x1280, .f32⟩
  | .hbm, ⟨37, _⟩ => ⟨S112x4x5x1280, .f32⟩
  | .hbm, ⟨38, _⟩ => ⟨S112x4x5, .f32⟩
  | .hbm, ⟨39, _⟩ => ⟨S112x4x5, .f32⟩
  | .hbm, ⟨40, _⟩ => ⟨S_, .f32⟩
  | .hbm, ⟨41, _⟩ => ⟨S112x4x5, .f32⟩
  | .hbm, ⟨42, _⟩ => ⟨S112x4x5, .f32⟩
  | .hbm, ⟨43, _⟩ => ⟨S_, .f32⟩
  | .hbm, ⟨44, _⟩ => ⟨S112x4x5, .f32⟩
  | .hbm, ⟨45, _⟩ => ⟨S112x4x5, .f32⟩
  | .hbm, ⟨46, _⟩ => ⟨S112x4x5x1, .f32⟩
  | .hbm, ⟨47, _⟩ => ⟨S112x4x5x1280, .f32⟩
  | .hbm, ⟨48, _⟩ => ⟨S112x4x5x1280, .f32⟩
  | .hbm, ⟨49, _⟩ => ⟨S112x4x5, .f32⟩
  | .hbm, ⟨50, _⟩ => ⟨S112x4x5x1, .f32⟩
  | .hbm, ⟨51, _⟩ => ⟨S112x4x128, .bf16⟩
  | .hbm, ⟨52, _⟩ => ⟨S112x4x1x128, .bf16⟩
  | .hbm, ⟨53, _⟩ => ⟨S112x4x1x128, .f32⟩
  | .hbm, ⟨54, _⟩ => ⟨S112x4x5x128, .f32⟩
  | .hbm, ⟨55, _⟩ => ⟨S112x4x5x128, .f32⟩
  | .hbm, ⟨56, _⟩ => ⟨S112x4x5x128, .f32⟩
  | .hbm, ⟨57, _⟩ => ⟨S112x20x1280, .f32⟩
  | .hbm, ⟨58, _⟩ => ⟨S112x20x128, .f32⟩
  | .local _ .vmem, ⟨0, _⟩ => ⟨S112x4x1280x128, .fp8e4m3⟩
  | .local _ .vmem, ⟨1, _⟩ => ⟨S112x4x1280x128, .bf16⟩
  | _, _ => ⟨S112x1x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S112x4x1280x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x4x1280x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Output.lean ====
abbrev S112x20x4096 : Shape := ⟨3, ![112, 20, 4096]⟩
abbrev S4x4096x128 : Shape := ⟨3, ![4, 4096, 128]⟩
abbrev S112x20x128 : Shape := ⟨3, ![112, 20, 128]⟩
abbrev S8x20x4096 : Shape := ⟨3, ![8, 20, 4096]⟩
abbrev S8x20x128 : Shape := ⟨3, ![8, 20, 128]⟩
abbrev S20x128 : Shape := ⟨2, ![20, 128]⟩
abbrev S1x20x4096 : Shape := ⟨3, ![1, 20, 4096]⟩
abbrev S20x4096 : Shape := ⟨2, ![20, 4096]⟩
abbrev S1x4096x128 : Shape := ⟨3, ![1, 4096, 128]⟩
abbrev S4096x128 : Shape := ⟨2, ![4096, 128]⟩
abbrev S1x20x128 : Shape := ⟨3, ![1, 20, 128]⟩

abbrev nBuf : Space → Nat
  | .hbm => 4
  | .vmem => 7
  | .smem => 0
  | _ => 0

abbrev bufTy : (tb : Table) → Fin (tcTables nBuf tb) → BufTy
  | .hbm, ⟨0, _⟩ => ⟨S112x20x4096, .f32⟩
  | .hbm, ⟨1, _⟩ => ⟨S4x4096x128, .bf16⟩
  | .hbm, ⟨2, _⟩ => ⟨S112x20x128, .f32⟩
  | .hbm, ⟨3, _⟩ => ⟨S112x20x128, .bf16⟩
  | .local _ .vmem, ⟨0, _⟩ => ⟨S8x20x4096, .f32⟩
  | .local _ .vmem, ⟨1, _⟩ => ⟨S8x20x4096, .f32⟩
  | .local _ .vmem, ⟨2, _⟩ => ⟨S4x4096x128, .bf16⟩
  | .local _ .vmem, ⟨3, _⟩ => ⟨S8x20x128, .f32⟩
  | .local _ .vmem, ⟨4, _⟩ => ⟨S8x20x128, .f32⟩
  | .local _ .vmem, ⟨5, _⟩ => ⟨S8x20x128, .bf16⟩
  | .local _ .vmem, ⟨6, _⟩ => ⟨S8x20x128, .bf16⟩
  | _, _ => ⟨S112x20x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x20x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x20x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x20x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefOutputIdeal.lean ====
abbrev S112x20x4096 : Shape := ⟨3, ![112, 20, 4096]⟩
abbrev S4x4096x128 : Shape := ⟨3, ![4, 4096, 128]⟩
abbrev S112x20x128 : Shape := ⟨3, ![112, 20, 128]⟩
abbrev S112x4x5x4096 : Shape := ⟨4, ![112, 4, 5, 4096]⟩
abbrev S4x128x112x5 : Shape := ⟨4, ![4, 128, 112, 5]⟩
abbrev S112x4x5x128 : Shape := ⟨4, ![112, 4, 5, 128]⟩

abbrev nBuf : Space → Nat
  | .hbm => 11
  | .vmem => 0
  | .smem => 0
  | _ => 0

abbrev bufTy : (tb : Table) → Fin (tcTables nBuf tb) → BufTy
  | .hbm, ⟨0, _⟩ => ⟨S112x20x4096, .f32⟩
  | .hbm, ⟨1, _⟩ => ⟨S4x4096x128, .bf16⟩
  | .hbm, ⟨2, _⟩ => ⟨S112x20x128, .f32⟩
  | .hbm, ⟨3, _⟩ => ⟨S112x4x5x4096, .f32⟩
  | .hbm, ⟨4, _⟩ => ⟨S112x4x5x4096, .bf16⟩
  | .hbm, ⟨5, _⟩ => ⟨S4x128x112x5, .f32⟩
  | .hbm, ⟨6, _⟩ => ⟨S112x4x5x128, .f32⟩
  | .hbm, ⟨7, _⟩ => ⟨S112x4x5x128, .f32⟩
  | .hbm, ⟨8, _⟩ => ⟨S112x4x5x128, .f32⟩
  | .hbm, ⟨9, _⟩ => ⟨S112x20x128, .f32⟩
  | .hbm, ⟨10, _⟩ => ⟨S112x20x128, .bf16⟩
  | _, _ => ⟨S112x20x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Hist.lean ====
abbrev S112x20x1280 : Shape := ⟨3, ![112, 20, 1280]⟩
abbrev S112x4x1280 : Shape := ⟨3, ![112, 4, 1280]⟩
abbrev S112 : Shape := ⟨1, ![112]⟩
abbrev S112x20x4096 : Shape := ⟨3, ![112, 20, 4096]⟩
abbrev S128 : Shape := ⟨1, ![128]⟩
abbrev S1280 : Shape := ⟨1, ![1280]⟩
abbrev S4096 : Shape := ⟨1, ![4096]⟩
abbrev S_ : Shape := ⟨0, ![]⟩
abbrev S16 : Shape := ⟨1, ![16]⟩
abbrev S1 : Shape := ⟨1, ![1]⟩
abbrev S1x1x1280 : Shape := ⟨3, ![1, 1, 1280]⟩
abbrev S1x1x4096 : Shape := ⟨3, ![1, 1, 4096]⟩

abbrev nBuf : Table → Nat
  | .hbm => 4
  | .local .scVector .vmem => 12
  | _ => 0

abbrev bufTy : (tb : Table) → Fin (nBuf tb) → BufTy
  | .hbm, ⟨0, _⟩ => ⟨S112x20x1280, .f32⟩
  | .hbm, ⟨1, _⟩ => ⟨S112x4x1280, .i32⟩
  | .hbm, ⟨2, _⟩ => ⟨S112, .i32⟩
  | .hbm, ⟨3, _⟩ => ⟨S112x20x4096, .f32⟩
  | .local .scVector .vmem, ⟨0, _⟩ => ⟨S128, .i32⟩
  | .local .scVector .vmem, ⟨1, _⟩ => ⟨S1280, .i32⟩
  | .local .scVector .vmem, ⟨2, _⟩ => ⟨S1280, .f32⟩
  | .local .scVector .vmem, ⟨3, _⟩ => ⟨S1280, .f32⟩
  | .local .scVector .vmem, ⟨4, _⟩ => ⟨S1280, .f32⟩
  | .local .scVector .vmem, ⟨5, _⟩ => ⟨S1280, .f32⟩
  | .local .scVector .vmem, ⟨6, _⟩ => ⟨S1280, .f32⟩
  | .local .scVector .vmem, ⟨7, _⟩ => ⟨S4096, .f32⟩
  | .local .scVector .vmem, ⟨8, _⟩ => ⟨S4096, .f32⟩
  | .local .scVector .vmem, ⟨9, _⟩ => ⟨S4096, .f32⟩
  | .local .scVector .vmem, ⟨10, _⟩ => ⟨S4096, .f32⟩
  | .local .scVector .vmem, ⟨11, _⟩ => ⟨S4096, .f32⟩
  | _, _ => ⟨S112x20x1280, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_10 : BitVec 32 := 0#32
  let c256_i32 : BitVec 32 := 256#32
  let v30 : BitVec 32 := Scalar.addi c0_i32_10 c256_i32
  let c1_i32_11 : BitVec 32 := 1#32
  ⟨c0_i32_10, v30, c1_i32_11⟩
def k0_off1 (k0_t1 : Fin k0_t1_loop.trips) : Fin 1 → Nat :=
  let c0_i32_32 : BitVec 32 := 0#32
  let c0_i32_10 : BitVec 32 := 0#32
  let c1_i32_11 : BitVec 32 := 1#32
  let arg20 : BitVec 32 := Scf.iv c0_i32_10 c1_i32_11 k0_t1
  let c16_i32 : BitVec 32 := 16#32
  let v36 : BitVec 32 := Scalar.muli arg20 c16_i32
  let v37 : BitVec 32 := Scalar.addi c0_i32_32 v36
  let v38 : Index := Scalar.indexCast v37
  ![v38.toNat]
@[reducible] def k0_t2_loop : Scf.Loop 32 :=
  let c0_i32_13 : BitVec 32 := 0#32
  let c256_i32_14 : BitVec 32 := 256#32
  let v31 : BitVec 32 := Scalar.addi c0_i32_13 c256_i32_14
  let c1_i32_15 : BitVec 32 := 1#32
  ⟨c0_i32_13, v31, c1_i32_15⟩
def k0_off2 (k0_t2 : Fin k0_t2_loop.trips) : Fin 1 → Nat :=
  let c0_i32_32 : BitVec 32 := 0#32
  let c0_i32_13 : BitVec 32 := 0#32
  let c1_i32_15 : BitVec 32 := 1#32
  let arg20 : BitVec 32 := Scf.iv c0_i32_13 c1_i32_15 k0_t2
  let c16_i32 : BitVec 32 := 16#32
  let v36 : BitVec 32 := Scalar.muli arg20 c16_i32
  let v37 : BitVec 32 := Scalar.addi c0_i32_32 v36
  let v38 : Index := Scalar.indexCast v37
  ![v38.toNat]
@[reducible] def k0_t3_loop : Scf.Loop 32 :=
  let c0_i32_17 : BitVec 32 := 0#32
  let c256_i32_18 : BitVec 32 := 256#32
  let v32 : BitVec 32 := Scalar.addi c0_i32_17 c256_i32_18
  let c1_i32_19 : BitVec 32 := 1#32
  ⟨c0_i32_17, v32, c1_i32_19⟩
def k0_off3 (k0_t3 : Fin k0_t3_loop.trips) : Fin 1 → Nat :=
  let c0_i32_32 : BitVec 32 := 0#32
  let c0_i32_17 : BitVec 32 := 0#32
  let c1_i32_19 : BitVec 32 := 1#32
  let arg20 : BitVec 32 := Scf.iv c0_i32_17 c1_i32_19 k0_t3
  let c16_i32 : BitVec 32 := 16#32
  let v36 : BitVec 32 := Scalar.muli arg20 c16_i32
  let v37 : BitVec 32 := Scalar.addi c0_i32_32 v36
  let v38 : Index := Scalar.indexCast v37
  ![v38.toNat]
@[reducible] def k0_t4_loop : Scf.Loop 32 :=
  let c0_i32_21 : BitVec 32 := 0#32
  let c256_i32_22 : BitVec 32 := 256#32
  let v33 : BitVec 32 := Scalar.addi c0_i32_21 c256_i32_22
  let c1_i32_23 : BitVec 32 := 1#32
  ⟨c0_i32_21, v33, c1_i32_23⟩
def k0_off4 (k0_t4 : Fin k0_t4_loop.trips) : Fin 1 → Nat :=
  let c0_i32_32 : BitVec 32 := 0#32
  let c0_i32_21 : BitVec 32 := 0#32
  let c1_i32_23 : BitVec 32 := 1#32
  let arg20 : BitVec 32 := Scf.iv c0_i32_21 c1_i32_23 k0_t4
  let c16_i32 : BitVec 32 := 16#32
  let v36 : BitVec 32 := Scalar.muli arg20 c16_i32
  let v37 : BitVec 32 := Scalar.addi c0_i32_32 v36
  let v38 : Index := Scalar.indexCast v37
  ![v38.toNat]
@[reducible] def k0_t5_loop : Scf.Loop 32 :=
  let c0_i32_25 : BitVec 32 := 0#32
  let c256_i32_26 : BitVec 32 := 256#32
  let v34 : BitVec 32 := Scalar.addi c0_i32_25 c256_i32_26
  let c1_i32_27 : BitVec 32 := 1#32
  ⟨c0_i32_25, v34, c1_i32_27⟩
def k0_off5 (k0_t5 : Fin k0_t5_loop.trips) : Fin 1 → Nat :=
  let c0_i32_32 : BitVec 32 := 0#32
  let c0_i32_25 : BitVec 32 := 0#32
  let c1_i32_27 : BitVec 32 := 1#32
  let arg20 : BitVec 32 := Scf.iv c0_i32_25 c1_i32_27 k0_t5
  let c16_i32 : BitVec 32 := 16#32
  let v36 : BitVec 32 := Scalar.muli arg20 c16_i32
  let v37 : BitVec 32 := Scalar.addi c0_i32_32 v36
  let v38 : Index := Scalar.indexCast v37
  ![v38.toNat]
@[reducible] def k0_t6_loop : Scf.Loop 32 :=
  let c0_i32_29 : BitVec 32 := 0#32
  let c14_i32 : BitVec 32 := 14#32
  let v35 : BitVec 32 := Scalar.addi c0_i32_29 c14_i32
  let c1_i32_30 : BitVec 32 := 1#32
  ⟨c0_i32_29, v35, c1_i32_30⟩
def k0_off6 (i : grid0.Coords) (k0_t6 : Fin k0_t6_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_33 : BitVec 32 := 0#32
  let c0_i32_29 : BitVec 32 := 0#32
  let c1_i32_30 : BitVec 32 := 1#32
  let arg20 : BitVec 32 := Scf.iv c0_i32_29 c1_i32_30 k0_t6
  let c1_i32_32 : BitVec 32 := 1#32
  let v36 : BitVec 32 := Scalar.muli arg20 c1_i32_32
  let v37 : BitVec 32 := Scalar.addi c0_i32_33 v36
  let c8_i32 : BitVec 32 := 8#32
  let v38 : BitVec 32 := Scalar.muli v37 c8_i32
  let v39 : BitVec 32 := Scalar.addi v28 v38
  let v40 : Index := Scalar.indexCast v39
  ![v40.toNat]
def k0_off7 (i : grid0.Coords) (k0_t6 : Fin k0_t6_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_33 : BitVec 32 := 0#32
  let c0_i32_29 : BitVec 32 := 0#32
  let c1_i32_30 : BitVec 32 := 1#32
  let arg20 : BitVec 32 := Scf.iv c0_i32_29 c1_i32_30 k0_t6
  let c1_i32_32 : BitVec 32 := 1#32
  let v36 : BitVec 32 := Scalar.muli arg20 c1_i32_32
  let v37 : BitVec 32 := Scalar.addi c0_i32_33 v36
  let c8_i32 : BitVec 32 := 8#32
  let v38 : BitVec 32 := Scalar.muli v37 c8_i32
  let v39 : BitVec 32 := Scalar.addi v28 v38
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_50 : BitVec 32 := 0#32
  ![v39.toNat, v11.toNat, 0]
def k0_off8 (i : grid0.Coords) (k0_t6 : Fin k0_t6_loop.trips) (c0_i32_42 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_33 : BitVec 32 := 0#32
  let c0_i32_29 : BitVec 32 := 0#32
  let c1_i32_30 : BitVec 32 := 1#32
  let arg20 : BitVec 32 := Scf.iv c0_i32_29 c1_i32_30 k0_t6
  let c1_i32_32 : BitVec 32 := 1#32
  let v36 : BitVec 32 := Scalar.muli arg20 c1_i32_32
  let v37 : BitVec 32 := Scalar.addi c0_i32_33 v36
  let c8_i32 : BitVec 32 := 8#32
  let v38 : BitVec 32 := Scalar.muli v37 c8_i32
  let v39 : BitVec 32 := Scalar.addi v28 v38
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c5_i32 : BitVec 32 := 5#32
  let v63 : BitVec 32 := Scalar.muli v11 c5_i32
  let v64 : BitVec 32 := Scalar.addi v63 c0_i32_42
  let c0_i32_52 : BitVec 32 := 0#32
  ![v39.toNat, v64.toNat, 0]
@[reducible] def k0_t7_loop (v43 : BitVec 32) : Scf.Loop 32 :=
  let c0_i32_80 : BitVec 32 := 0#32
  let c16_i32 : BitVec 32 := 16#32
  let v44 : BitVec 32 := Scalar.addi v43 c16_i32
  let c1_i32_34 : BitVec 32 := 1#32
  let v45 : BitVec 32 := Scalar.subi v44 c1_i32_34
  let c0_i32_36 : BitVec 32 := 0#32
  let v47 : BitVec 1 := Scalar.cmpi .sgt v45 c0_i32_36
  let v48 : BitVec 32 := Scalar.extui v47
  let c0_i32_37 : BitVec 32 := 0#32
  let v49 : BitVec 1 := Scalar.cmpi .slt v45 c0_i32_37
  let v50 : BitVec 32 := Scalar.extui v49
  let v51 : BitVec 32 := Scalar.subi v48 v50
  let c16_i32_35 : BitVec 32 := 16#32
  let c0_i32_38 : BitVec 32 := 0#32
  let v52 : BitVec 1 := Scalar.cmpi .sgt c16_i32_35 c0_i32_38
  let v53 : BitVec 32 := Scalar.extui v52
  let c0_i32_39 : BitVec 32 := 0#32
  let v54 : BitVec 1 := Scalar.cmpi .slt c16_i32_35 c0_i32_39
  let v55 : BitVec 32 := Scalar.extui v54
  let v56 : BitVec 32 := Scalar.subi v53 v55
  let v57 : BitVec 1 := Scalar.cmpi .ne v51 v56
  let v58 : BitVec 32 := Scalar.remsi v45 c16_i32_35
  let c0_i32_40 : BitVec 32 := 0#32
  let v59 : BitVec 1 := Scalar.cmpi .ne v58 c0_i32_40
  let v60 : BitVec 1 := Scalar.andi v57 v59
  let v46 : BitVec 32 := Scalar.divsi v45 c16_i32_35
  let c1_i32_41 : BitVec 32 := 1#32
  let v61 : BitVec 32 := Scalar.subi v46 c1_i32_41
  let v62 : BitVec 32 := Scalar.select v60 v61 v46
  let c0_i32_74 : BitVec 32 := 0#32
  let v121 : BitVec 32 := Scalar.subi v62 c0_i32_74
  let c1_i32_75 : BitVec 32 := 1#32
  let c1_i32_76 : BitVec 32 := 1#32
  let v122 : BitVec 32 := Scalar.subi c1_i32_75 c1_i32_76
  let v123 : BitVec 32 := Scalar.addi v121 v122
  let c1_i32_77 : BitVec 32 := 1#32
  let v124 : BitVec 32 := Scalar.divsi v123 c1_i32_77
  let v125 : BitVec 32 := Scalar.subi v124 c0_i32_80
  let c1_i32_81 : BitVec 32 := 1#32
  let v127 : BitVec 32 := Scalar.divsi v125 c1_i32_81
  let v128 : BitVec 32 := Scalar.muli v127 c1_i32_81
  let v129 : BitVec 32 := Scalar.addi c0_i32_80 v128
  let c1_i32_82 : BitVec 32 := 1#32
  ⟨c0_i32_80, v129, c1_i32_82⟩

def k0_off9 (v43 : BitVec 32) (k0_t7 : Fin (k0_t7_loop v43).trips) : Fin 1 → Nat :=
  let c0_i32_79 : BitVec 32 := 0#32
  let c0_i32_80 : BitVec 32 := 0#32
  let c1_i32_82 : BitVec 32 := 1#32
  let arg21 : BitVec 32 := Scf.iv c0_i32_80 c1_i32_82 k0_t7
  let c1_i32_78 : BitVec 32 := 1#32
  let v189 : BitVec 32 := Scalar.muli arg21 c1_i32_78
  let v190 : BitVec 32 := Scalar.addi c0_i32_79 v189
  let c16_i32_124 : BitVec 32 := 16#32
  let v191 : BitVec 32 := Scalar.muli v190 c16_i32_124
  let v192 : Index := Scalar.indexCast v191
  ![v192.toNat]
def k0_off10 (v43 : BitVec 32) (k0_t7 : Fin (k0_t7_loop v43).trips) : Fin 1 → Nat :=
  let c0_i32_79 : BitVec 32 := 0#32
  let c0_i32_80 : BitVec 32 := 0#32
  let c1_i32_82 : BitVec 32 := 1#32
  let arg21 : BitVec 32 := Scf.iv c0_i32_80 c1_i32_82 k0_t7
  let c1_i32_78 : BitVec 32 := 1#32
  let v189 : BitVec 32 := Scalar.muli arg21 c1_i32_78
  let v190 : BitVec 32 := Scalar.addi c0_i32_79 v189
  let c16_i32_124 : BitVec 32 := 16#32
  let v191 : BitVec 32 := Scalar.muli v190 c16_i32_124
  let v196 : Index := Scalar.indexCast v191
  ![v196.toNat]

def k0_chk2 (v193 : IVec S16 32) : Prop :=
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a)
theorem k0_idx1_inb : ∀ (v193 : IVec S16 32) (k0_hw2 : k0_chk2 v193), ∀ a x, ((![v193] : Fin 1 → IVec S16 32) a x).toNat < S4096.size a := fun v193 k0_hw2 => k0_hw2.1
theorem k0_idx2_inb : ∀ (v193 : IVec S16 32) (k0_hw2 : k0_chk2 v193), ∀ a x, ((![v193] : Fin 1 → IVec S16 32) a x).toNat < S4096.size a := fun v193 k0_hw2 => k0_hw2.2.1
theorem k0_idx3_inb : ∀ (v193 : IVec S16 32) (k0_hw2 : k0_chk2 v193), ∀ a x, ((![v193] : Fin 1 → IVec S16 32) a x).toNat < S4096.size a := fun v193 k0_hw2 => k0_hw2.2.2.1
theorem k0_idx4_inb : ∀ (v193 : IVec S16 32) (k0_hw2 : k0_chk2 v193), ∀ a x, ((![v193] : Fin 1 → IVec S16 32) a x).toNat < S4096.size a := fun v193 k0_hw2 => k0_hw2.2.2.2.1
theorem k0_idx5_inb : ∀ (v193 : IVec S16 32) (k0_hw2 : k0_chk2 v193), ∀ a x, ((![v193] : Fin 1 → IVec S16 32) a x).toNat < S4096.size a := fun v193 k0_hw2 => k0_hw2.2.2.2.2
@[reducible] def k0_t8_loop (v43 : BitVec 32) : Scf.Loop 32 :=
  let c0_i32_80 : BitVec 32 := 0#32
  let c16_i32 : BitVec 32 := 16#32
  let v44 : BitVec 32 := Scalar.addi v43 c16_i32
  let c1_i32_34 : BitVec 32 := 1#32
  let v45 : BitVec 32 := Scalar.subi v44 c1_i32_34
  let c0_i32_36 : BitVec 32 := 0#32
  let v47 : BitVec 1 := Scalar.cmpi .sgt v45 c0_i32_36
  let v48 : BitVec 32 := Scalar.extui v47
  let c0_i32_37 : BitVec 32 := 0#32
  let v49 : BitVec 1 := Scalar.cmpi .slt v45 c0_i32_37
  let v50 : BitVec 32 := Scalar.extui v49
  let v51 : BitVec 32 := Scalar.subi v48 v50
  let c16_i32_35 : BitVec 32 := 16#32
  let c0_i32_38 : BitVec 32 := 0#32
  let v52 : BitVec 1 := Scalar.cmpi .sgt c16_i32_35 c0_i32_38
  let v53 : BitVec 32 := Scalar.extui v52
  let c0_i32_39 : BitVec 32 := 0#32
  let v54 : BitVec 1 := Scalar.cmpi .slt c16_i32_35 c0_i32_39
  let v55 : BitVec 32 := Scalar.extui v54
  let v56 : BitVec 32 := Scalar.subi v53 v55
  let v57 : BitVec 1 := Scalar.cmpi .ne v51 v56
  let v58 : BitVec 32 := Scalar.remsi v45 c16_i32_35
  let c0_i32_40 : BitVec 32 := 0#32
  let v59 : BitVec 1 := Scalar.cmpi .ne v58 c0_i32_40
  let v60 : BitVec 1 := Scalar.andi v57 v59
  let v46 : BitVec 32 := Scalar.divsi v45 c16_i32_35
  let c1_i32_41 : BitVec 32 := 1#32
  let v61 : BitVec 32 := Scalar.subi v46 c1_i32_41
  let v62 : BitVec 32 := Scalar.select v60 v61 v46
  let c0_i32_74 : BitVec 32 := 0#32
  let v121 : BitVec 32 := Scalar.subi v62 c0_i32_74
  let c1_i32_75 : BitVec 32 := 1#32
  let c1_i32_76 : BitVec 32 := 1#32
  let v122 : BitVec 32 := Scalar.subi c1_i32_75 c1_i32_76
  let v123 : BitVec 32 := Scalar.addi v121 v122
  let c1_i32_77 : BitVec 32 := 1#32
  let v124 : BitVec 32 := Scalar.divsi v123 c1_i32_77
  let v125 : BitVec 32 := Scalar.subi v124 c0_i32_80
  let c1_i32_81 : BitVec 32 := 1#32
  let v127 : BitVec 32 := Scalar.divsi v125 c1_i32_81
  let v128 : BitVec 32 := Scalar.muli v127 c1_i32_81
  let v129 : BitVec 32 := Scalar.addi c0_i32_80 v128
  let v126 : BitVec 32 := Scalar.addi c0_i32_80 v125
  let c1_i32_83 : BitVec 32 := 1#32
  ⟨v129, v126, c1_i32_83⟩
def k0_off11 (v43 : BitVec 32) (k0_t8 : Fin (k0_t8_loop v43).trips) : Fin 1 → Nat :=
  let c0_i32_79 : BitVec 32 := 0#32
  let c0_i32_80 : BitVec 32 := 0#32
  let c16_i32 : BitVec 32 := 16#32
  let v44 : BitVec 32 := Scalar.addi v43 c16_i32
  let c1_i32_34 : BitVec 32 := 1#32
  let v45 : BitVec 32 := Scalar.subi v44 c1_i32_34
  let c0_i32_36 : BitVec 32 := 0#32
  let v47 : BitVec 1 := Scalar.cmpi .sgt v45 c0_i32_36
  let v48 : BitVec 32 := Scalar.extui v47
  let c0_i32_37 : BitVec 32 := 0#32
  let v49 : BitVec 1 := Scalar.cmpi .slt v45 c0_i32_37
  let v50 : BitVec 32 := Scalar.extui v49
  let v51 : BitVec 32 := Scalar.subi v48 v50
  let c16_i32_35 : BitVec 32 := 16#32
  let c0_i32_38 : BitVec 32 := 0#32
  let v52 : BitVec 1 := Scalar.cmpi .sgt c16_i32_35 c0_i32_38
  let v53 : BitVec 32 := Scalar.extui v52
  let c0_i32_39 : BitVec 32 := 0#32
  let v54 : BitVec 1 := Scalar.cmpi .slt c16_i32_35 c0_i32_39
  let v55 : BitVec 32 := Scalar.extui v54
  let v56 : BitVec 32 := Scalar.subi v53 v55
  let v57 : BitVec 1 := Scalar.cmpi .ne v51 v56
  let v58 : BitVec 32 := Scalar.remsi v45 c16_i32_35
  let c0_i32_40 : BitVec 32 := 0#32
  let v59 : BitVec 1 := Scalar.cmpi .ne v58 c0_i32_40
  let v60 : BitVec 1 := Scalar.andi v57 v59
  let v46 : BitVec 32 := Scalar.divsi v45 c16_i32_35
  let c1_i32_41 : BitVec 32 := 1#32
  let v61 : BitVec 32 := Scalar.subi v46 c1_i32_41
  let v62 : BitVec 32 := Scalar.select v60 v61 v46
  let c0_i32_74 : BitVec 32 := 0#32
  let v121 : BitVec 32 := Scalar.subi v62 c0_i32_74
  let c1_i32_75 : BitVec 32 := 1#32
  let c1_i32_76 : BitVec 32 := 1#32
  let v122 : BitVec 32 := Scalar.subi c1_i32_75 c1_i32_76
  let v123 : BitVec 32 := Scalar.addi v121 v122
  let c1_i32_77 : BitVec 32 := 1#32
  let v124 : BitVec 32 := Scalar.divsi v123 c1_i32_77
  let v125 : BitVec 32 := Scalar.subi v124 c0_i32_80
  let c1_i32_81 : BitVec 32 := 1#32
  let v127 : BitVec 32 := Scalar.divsi v125 c1_i32_81
  let v128 : BitVec 32 := Scalar.muli v127 c1_i32_81
  let v129 : BitVec 32 := Scalar.addi c0_i32_80 v128
  let c1_i32_83 : BitVec 32 := 1#32
  let arg21 : BitVec 32 := Scf.iv v129 c1_i32_83 k0_t8
  let c1_i32_78 : BitVec 32 := 1#32
  let v189 : BitVec 32 := Scalar.muli arg21 c1_i32_78
  let v190 : BitVec 32 := Scalar.addi c0_i32_79 v189
  let c16_i32_124 : BitVec 32 := 16#32
  let v191 : BitVec 32 := Scalar.muli v190 c16_i32_124
  let v192 : Index := Scalar.indexCast v191
  ![v192.toNat]
def k0_off12 (v43 : BitVec 32) (k0_t8 : Fin (k0_t8_loop v43).trips) : Fin 1 → Nat :=
  let c0_i32_79 : BitVec 32 := 0#32
  let c0_i32_80 : BitVec 32 := 0#32
  let c16_i32 : BitVec 32 := 16#32
  let v44 : BitVec 32 := Scalar.addi v43 c16_i32
  let c1_i32_34 : BitVec 32 := 1#32
  let v45 : BitVec 32 := Scalar.subi v44 c1_i32_34
  let c0_i32_36 : BitVec 32 := 0#32
  let v47 : BitVec 1 := Scalar.cmpi .sgt v45 c0_i32_36
  let v48 : BitVec 32 := Scalar.extui v47
  let c0_i32_37 : BitVec 32 := 0#32
  let v49 : BitVec 1 := Scalar.cmpi .slt v45 c0_i32_37
  let v50 : BitVec 32 := Scalar.extui v49
  let v51 : BitVec 32 := Scalar.subi v48 v50
  let c16_i32_35 : BitVec 32 := 16#32
  let c0_i32_38 : BitVec 32 := 0#32
  let v52 : BitVec 1 := Scalar.cmpi .sgt c16_i32_35 c0_i32_38
  let v53 : BitVec 32 := Scalar.extui v52
  let c0_i32_39 : BitVec 32 := 0#32
  let v54 : BitVec 1 := Scalar.cmpi .slt c16_i32_35 c0_i32_39
  let v55 : BitVec 32 := Scalar.extui v54
  let v56 : BitVec 32 := Scalar.subi v53 v55
  let v57 : BitVec 1 := Scalar.cmpi .ne v51 v56
  let v58 : BitVec 32 := Scalar.remsi v45 c16_i32_35
  let c0_i32_40 : BitVec 32 := 0#32
  let v59 : BitVec 1 := Scalar.cmpi .ne v58 c0_i32_40
  let v60 : BitVec 1 := Scalar.andi v57 v59
  let v46 : BitVec 32 := Scalar.divsi v45 c16_i32_35
  let c1_i32_41 : BitVec 32 := 1#32
  let v61 : BitVec 32 := Scalar.subi v46 c1_i32_41
  let v62 : BitVec 32 := Scalar.select v60 v61 v46
  let c0_i32_74 : BitVec 32 := 0#32
  let v121 : BitVec 32 := Scalar.subi v62 c0_i32_74
  let c1_i32_75 : BitVec 32 := 1#32
  let c1_i32_76 : BitVec 32 := 1#32
  let v122 : BitVec 32 := Scalar.subi c1_i32_75 c1_i32_76
  let v123 : BitVec 32 := Scalar.addi v121 v122
  let c1_i32_77 : BitVec 32 := 1#32
  let v124 : BitVec 32 := Scalar.divsi v123 c1_i32_77
  let v125 : BitVec 32 := Scalar.subi v124 c0_i32_80
  let c1_i32_81 : BitVec 32 := 1#32
  let v127 : BitVec 32 := Scalar.divsi v125 c1_i32_81
  let v128 : BitVec 32 := Scalar.muli v127 c1_i32_81
  let v129 : BitVec 32 := Scalar.addi c0_i32_80 v128
  let c1_i32_83 : BitVec 32 := 1#32
  let arg21 : BitVec 32 := Scf.iv v129 c1_i32_83 k0_t8
  let c1_i32_78 : BitVec 32 := 1#32
  let v189 : BitVec 32 := Scalar.muli arg21 c1_i32_78
  let v190 : BitVec 32 := Scalar.addi c0_i32_79 v189
  let c16_i32_124 : BitVec 32 := 16#32
  let v191 : BitVec 32 := Scalar.muli v190 c16_i32_124
  let v196 : Index := Scalar.indexCast v191
  ![v196.toNat]

def k0_chk3 (v193 : IVec S16 32) : Prop :=
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a)
theorem k0_idx6_inb : ∀ (v193 : IVec S16 32) (k0_hw3 : k0_chk3 v193), ∀ a x, ((![v193] : Fin 1 → IVec S16 32) a x).toNat < S4096.size a := fun v193 k0_hw3 => k0_hw3.1
theorem k0_idx7_inb : ∀ (v193 : IVec S16 32) (k0_hw3 : k0_chk3 v193), ∀ a x, ((![v193] : Fin 1 → IVec S16 32) a x).toNat < S4096.size a := fun v193 k0_hw3 => k0_hw3.2.1
theorem k0_idx8_inb : ∀ (v193 : IVec S16 32) (k0_hw3 : k0_chk3 v193), ∀ a x, ((![v193] : Fin 1 → IVec S16 32) a x).toNat < S4096.size a := fun v193 k0_hw3 => k0_hw3.2.2.1
theorem k0_idx9_inb : ∀ (v193 : IVec S16 32) (k0_hw3 : k0_chk3 v193), ∀ a x, ((![v193] : Fin 1 → IVec S16 32) a x).toNat < S4096.size a := fun v193 k0_hw3 => k0_hw3.2.2.2.1
theorem k0_idx10_inb : ∀ (v193 : IVec S16 32) (k0_hw3 : k0_chk3 v193), ∀ a x, ((![v193] : Fin 1 → IVec S16 32) a x).toNat < S4096.size a := fun v193 k0_hw3 => k0_hw3.2.2.2.2
def k0_off13 (i : grid0.Coords) (k0_t6 : Fin k0_t6_loop.trips) (c0_i32_85 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c4_i32_3 : BitVec 32 := 4#32
  let c0_i32_6 : BitVec 32 := 0#32
  let v18 : BitVec 1 := Scalar.cmpi .sgt c4_i32_3 c0_i32_6
  let v19 : BitVec 32 := Scalar.extui v18
  let c0_i32_7 : BitVec 32 := 0#32
  let v20 : BitVec 1 := Scalar.cmpi .slt c4_i32_3 c0_i32_7
  let v21 : BitVec 32 := Scalar.extui v20
  let v22 : BitVec 32 := Scalar.subi v19 v21
  let v23 : BitVec 1 := Scalar.cmpi .ne v17 v22
  let v24 : BitVec 32 := Scalar.remsi v1 c4_i32_3
  let c0_i32_8 : BitVec 32 := 0#32
  let v25 : BitVec 1 := Scalar.cmpi .ne v24 c0_i32_8
  let v26 : BitVec 1 := Scalar.andi v23 v25
  let v12 : BitVec 32 := Scalar.divsi v1 c4_i32_3
  let c1_i32_9 : BitVec 32 := 1#32
  let v27 : BitVec 32 := Scalar.subi v12 c1_i32_9
  let v28 : BitVec 32 := Scalar.select v26 v27 v12
  let c0_i32_33 : BitVec 32 := 0#32
  let c0_i32_29 : BitVec 32 := 0#32
  let c1_i32_30 : BitVec 32 := 1#32
  let arg20 : BitVec 32 := Scf.iv c0_i32_29 c1_i32_30 k0_t6
  let c1_i32_32 : BitVec 32 := 1#32
  let v36 : BitVec 32 := Scalar.muli arg20 c1_i32_32
  let v37 : BitVec 32 := Scalar.addi c0_i32_33 v36
  let c8_i32 : BitVec 32 := 8#32
  let v38 : BitVec 32 := Scalar.muli v37 c8_i32
  let v39 : BitVec 32 := Scalar.addi v28 v38
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c5_i32_84 : BitVec 32 := 5#32
  let v130 : BitVec 32 := Scalar.muli v11 c5_i32_84
  let v131 : BitVec 32 := Scalar.addi v130 c0_i32_85
  let c0_i32_94 : BitVec 32 := 0#32
  ![v39.toNat, v131.toNat, 0]
@[reducible] def k0_t9_loop (v43 : BitVec 32) : Scf.Loop 32 :=
  let c0_i32_120 : BitVec 32 := 0#32
  let c16_i32 : BitVec 32 := 16#32
  let v44 : BitVec 32 := Scalar.addi v43 c16_i32
  let c1_i32_34 : BitVec 32 := 1#32
  let v45 : BitVec 32 := Scalar.subi v44 c1_i32_34
  let c0_i32_36 : BitVec 32 := 0#32
  let v47 : BitVec 1 := Scalar.cmpi .sgt v45 c0_i32_36
  let v48 : BitVec 32 := Scalar.extui v47
  let c0_i32_37 : BitVec 32 := 0#32
  let v49 : BitVec 1 := Scalar.cmpi .slt v45 c0_i32_37
  let v50 : BitVec 32 := Scalar.extui v49
  let v51 : BitVec 32 := Scalar.subi v48 v50
  let c16_i32_35 : BitVec 32 := 16#32
  let c0_i32_38 : BitVec 32 := 0#32
  let v52 : BitVec 1 := Scalar.cmpi .sgt c16_i32_35 c0_i32_38
  let v53 : BitVec 32 := Scalar.extui v52
  let c0_i32_39 : BitVec 32 := 0#32
  let v54 : BitVec 1 := Scalar.cmpi .slt c16_i32_35 c0_i32_39
  let v55 : BitVec 32 := Scalar.extui v54
  let v56 : BitVec 32 := Scalar.subi v53 v55
  let v57 : BitVec 1 := Scalar.cmpi .ne v51 v56
  let v58 : BitVec 32 := Scalar.remsi v45 c16_i32_35
  let c0_i32_40 : BitVec 32 := 0#32
  let v59 : BitVec 1 := Scalar.cmpi .ne v58 c0_i32_40
  let v60 : BitVec 1 := Scalar.andi v57 v59
  let v46 : BitVec 32 := Scalar.divsi v45 c16_i32_35
  let c1_i32_41 : BitVec 32 := 1#32
  let v61 : BitVec 32 := Scalar.subi v46 c1_i32_41
  let v62 : BitVec 32 := Scalar.select v60 v61 v46
  let c0_i32_114 : BitVec 32 := 0#32
  let v180 : BitVec 32 := Scalar.subi v62 c0_i32_114
  let c1_i32_115 : BitVec 32 := 1#32
  let c1_i32_116 : BitVec 32 := 1#32
  let v181 : BitVec 32 := Scalar.subi c1_i32_115 c1_i32_116
  let v182 : BitVec 32 := Scalar.addi v180 v181
  let c1_i32_117 : BitVec 32 := 1#32
  let v183 : BitVec 32 := Scalar.divsi v182 c1_i32_117
  let v184 : BitVec 32 := Scalar.subi v183 c0_i32_120
  let c1_i32_121 : BitVec 32 := 1#32
  let v186 : BitVec 32 := Scalar.divsi v184 c1_i32_121
  let v187 : BitVec 32 := Scalar.muli v186 c1_i32_121
  let v188 : BitVec 32 := Scalar.addi c0_i32_120 v187
  let c1_i32_122 : BitVec 32 := 1#32
  ⟨c0_i32_120, v188, c1_i32_122⟩
def k0_off14 (v43 : BitVec 32) (k0_t9 : Fin (k0_t9_loop v43).trips) : Fin 1 → Nat :=
  let c0_i32_119 : BitVec 32 := 0#32
  let c0_i32_120 : BitVec 32 := 0#32
  let c1_i32_122 : BitVec 32 := 1#32
  let arg21 : BitVec 32 := Scf.iv c0_i32_120 c1_i32_122 k0_t9
  let c1_i32_118 : BitVec 32 := 1#32
  let v189 : BitVec 32 := Scalar.muli arg21 c1_i32_118
  let v190 : BitVec 32 := Scalar.addi c0_i32_119 v189
  let c16_i32_124 : BitVec 32 := 16#32
  let v191 : BitVec 32 := Scalar.muli v190 c16_i32_124
  let v192 : Index := Scalar.indexCast v191
  ![v192.toNat]

def k0_chk4 (v193 : IVec S16 32) : Prop :=
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a)
theorem k0_idx11_inb : ∀ (v193 : IVec S16 32) (k0_hw4 : k0_chk4 v193), ∀ a x, ((![v193] : Fin 1 → IVec S16 32) a x).toNat < S4096.size a := fun v193 k0_hw4 => k0_hw4.1
theorem k0_idx12_inb : ∀ (v193 : IVec S16 32) (k0_hw4 : k0_chk4 v193), ∀ a x, ((![v193] : Fin 1 → IVec S16 32) a x).toNat < S4096.size a := fun v193 k0_hw4 => k0_hw4.2.1
theorem k0_idx13_inb : ∀ (v193 : IVec S16 32) (k0_hw4 : k0_chk4 v193), ∀ a x, ((![v193] : Fin 1 → IVec S16 32) a x).toNat < S4096.size a := fun v193 k0_hw4 => k0_hw4.2.2.1
theorem k0_idx14_inb : ∀ (v193 : IVec S16 32) (k0_hw4 : k0_chk4 v193), ∀ a x, ((![v193] : Fin 1 → IVec S16 32) a x).toNat < S4096.size a := fun v193 k0_hw4 => k0_hw4.2.2.2.1
theorem k0_idx15_inb : ∀ (v193 : IVec S16 32) (k0_hw4 : k0_chk4 v193), ∀ a x, ((![v193] : Fin 1 → IVec S16 32) a x).toNat < S4096.size a := fun v193 k0_hw4 => k0_hw4.2.2.2.2
@[reducible] def k0_t10_loop (v43 : BitVec 32) : Scf.Loop 32 :=
  let c0_i32_120 : BitVec 32 := 0#32
  let c16_i32 : BitVec 32 := 16#32
  let v44 : BitVec 32 := Scalar.addi v43 c16_i32
  let c1_i32_34 : BitVec 32 := 1#32
  let v45 : BitVec 32 := Scalar.subi v44 c1_i32_34
  let c0_i32_36 : BitVec 32 := 0#32
  let v47 : BitVec 1 := Scalar.cmpi .sgt v45 c0_i32_36
  let v48 : BitVec 32 := Scalar.extui v47
  let c0_i32_37 : BitVec 32 := 0#32
  let v49 : BitVec 1 := Scalar.cmpi .slt v45 c0_i32_37
  let v50 : BitVec 32 := Scalar.extui v49
  let v51 : BitVec 32 := Scalar.subi v48 v50
  let c16_i32_35 : BitVec 32 := 16#32
  let c0_i32_38 : BitVec 32 := 0#32
  let v52 : BitVec 1 := Scalar.cmpi .sgt c16_i32_35 c0_i32_38
  let v53 : BitVec 32 := Scalar.extui v52
  let c0_i32_39 : BitVec 32 := 0#32
  let v54 : BitVec 1 := Scalar.cmpi .slt c16_i32_35 c0_i32_39
  let v55 : BitVec 32 := Scalar.extui v54
  let v56 : BitVec 32 := Scalar.subi v53 v55
  let v57 : BitVec 1 := Scalar.cmpi .ne v51 v56
  let v58 : BitVec 32 := Scalar.remsi v45 c16_i32_35
  let c0_i32_40 : BitVec 32 := 0#32
  let v59 : BitVec 1 := Scalar.cmpi .ne v58 c0_i32_40
  let v60 : BitVec 1 := Scalar.andi v57 v59
  let v46 : BitVec 32 := Scalar.divsi v45 c16_i32_35
  let c1_i32_41 : BitVec 32 := 1#32
  let v61 : BitVec 32 := Scalar.subi v46 c1_i32_41
  let v62 : BitVec 32 := Scalar.select v60 v61 v46
  let c0_i32_114 : BitVec 32 := 0#32
  let v180 : BitVec 32 := Scalar.subi v62 c0_i32_114
  let c1_i32_115 : BitVec 32 := 1#32
  let c1_i32_116 : BitVec 32 := 1#32
  let v181 : BitVec 32 := Scalar.subi c1_i32_115 c1_i32_116
  let v182 : BitVec 32 := Scalar.addi v180 v181
  let c1_i32_117 : BitVec 32 := 1#32
  let v183 : BitVec 32 := Scalar.divsi v182 c1_i32_117
  let v184 : BitVec 32 := Scalar.subi v183 c0_i32_120
  let c1_i32_121 : BitVec 32 := 1#32
  let v186 : BitVec 32 := Scalar.divsi v184 c1_i32_121
  let v187 : BitVec 32 := Scalar.muli v186 c1_i32_121
  let v188 : BitVec 32 := Scalar.addi c0_i32_120 v187
  let v185 : BitVec 32 := Scalar.addi c0_i32_120 v184
  let c1_i32_123 : BitVec 32 := 1#32
  ⟨v188, v185, c1_i32_123⟩
def k0_off15 (v43 : BitVec 32) (k0_t10 : Fin (k0_t10_loop v43).trips) : Fin 1 → Nat :=
  let c0_i32_119 : BitVec 32 := 0#32
  let c0_i32_120 : BitVec 32 := 0#32
  let c16_i32 : BitVec 32 := 16#32
  let v44 : BitVec 32 := Scalar.addi v43 c16_i32
  let c1_i32_34 : BitVec 32 := 1#32
  let v45 : BitVec 32 := Scalar.subi v44 c1_i32_34
  let c0_i32_36 : BitVec 32 := 0#32
  let v47 : BitVec 1 := Scalar.cmpi .sgt v45 c0_i32_36
  let v48 : BitVec 32 := Scalar.extui v47
  let c0_i32_37 : BitVec 32 := 0#32
  let v49 : BitVec 1 := Scalar.cmpi .slt v45 c0_i32_37
  let v50 : BitVec 32 := Scalar.extui v49
  let v51 : BitVec 32 := Scalar.subi v48 v50
  let c16_i32_35 : BitVec 32 := 16#32
  let c0_i32_38 : BitVec 32 := 0#32
  let v52 : BitVec 1 := Scalar.cmpi .sgt c16_i32_35 c0_i32_38
  let v53 : BitVec 32 := Scalar.extui v52
  let c0_i32_39 : BitVec 32 := 0#32
  let v54 : BitVec 1 := Scalar.cmpi .slt c16_i32_35 c0_i32_39
  let v55 : BitVec 32 := Scalar.extui v54
  let v56 : BitVec 32 := Scalar.subi v53 v55
  let v57 : BitVec 1 := Scalar.cmpi .ne v51 v56
  let v58 : BitVec 32 := Scalar.remsi v45 c16_i32_35
  let c0_i32_40 : BitVec 32 := 0#32
  let v59 : BitVec 1 := Scalar.cmpi .ne v58 c0_i32_40
  let v60 : BitVec 1 := Scalar.andi v57 v59
  let v46 : BitVec 32 := Scalar.divsi v45 c16_i32_35
  let c1_i32_41 : BitVec 32 := 1#32
  let v61 : BitVec 32 := Scalar.subi v46 c1_i32_41
  let v62 : BitVec 32 := Scalar.select v60 v61 v46
  let c0_i32_114 : BitVec 32 := 0#32
  let v180 : BitVec 32 := Scalar.subi v62 c0_i32_114
  let c1_i32_115 : BitVec 32 := 1#32
  let c1_i32_116 : BitVec 32 := 1#32
  let v181 : BitVec 32 := Scalar.subi c1_i32_115 c1_i32_116
  let v182 : BitVec 32 := Scalar.addi v180 v181
  let c1_i32_117 : BitVec 32 := 1#32
  let v183 : BitVec 32 := Scalar.divsi v182 c1_i32_117
  let v184 : BitVec 32 := Scalar.subi v183 c0_i32_120
  let c1_i32_121 : BitVec 32 := 1#32
  let v186 : BitVec 32 := Scalar.divsi v184 c1_i32_121
  let v187 : BitVec 32 := Scalar.muli v186 c1_i32_121
  let v188 : BitVec 32 := Scalar.addi c0_i32_120 v187
  let c1_i32_123 : BitVec 32 := 1#32
  let arg21 : BitVec 32 := Scf.iv v188 c1_i32_123 k0_t10
  let c1_i32_118 : BitVec 32 := 1#32
  let v189 : BitVec 32 := Scalar.muli arg21 c1_i32_118
  let v190 : BitVec 32 := Scalar.addi c0_i32_119 v189
  let c16_i32_124 : BitVec 32 := 16#32
  let v191 : BitVec 32 := Scalar.muli v190 c16_i32_124
  let v192 : Index := Scalar.indexCast v191
  ![v192.toNat]

def k0_chk1 (v43 : BitVec 32) : Prop :=
  ((k0_t7_loop v43).OK) ∧
  (∀ k0_t7 : Fin (k0_t7_loop v43).trips, ∀ a, (k0_off9 v43 k0_t7) a + S16.size a ≤ S1280.size a) ∧
  (∀ k0_t7 : Fin (k0_t7_loop v43).trips, ∀ a, (k0_off10 v43 k0_t7) a + S16.size a ≤ S1280.size a) ∧
  ((k0_t8_loop v43).OK) ∧
  (∀ k0_t8 : Fin (k0_t8_loop v43).trips, ∀ a, (k0_off11 v43 k0_t8) a + S16.size a ≤ S1280.size a) ∧
  (∀ k0_t8 : Fin (k0_t8_loop v43).trips, ∀ a, (k0_off12 v43 k0_t8) a + S16.size a ≤ S1280.size a) ∧
  ((k0_t9_loop v43).OK) ∧
  (∀ k0_t9 : Fin (k0_t9_loop v43).trips, ∀ a, (k0_off14 v43 k0_t9) a + S16.size a ≤ S1280.size a) ∧
  ((k0_t10_loop v43).OK) ∧
  (∀ k0_t10 : Fin (k0_t10_loop v43).trips, ∀ a, (k0_off15 v43 k0_t10) a + S16.size a ≤ S1280.size a)
theorem k0_t7_ok : ∀ (v43 : BitVec 32) (k0_hw1 : k0_chk1 v43), (k0_t7_loop v43).OK := fun v43 k0_hw1 => k0_hw1.1
theorem k0_off9_inb : ∀ (v43 : BitVec 32) (k0_hw1 : k0_chk1 v43) (k0_t7 : Fin (k0_t7_loop v43).trips), ∀ a, (k0_off9 v43 k0_t7) a + S16.size a ≤ S1280.size a := fun v43 k0_hw1 k0_t7 => k0_hw1.2.1 k0_t7
theorem k0_off10_inb : ∀ (v43 : BitVec 32) (k0_hw1 : k0_chk1 v43) (k0_t7 : Fin (k0_t7_loop v43).trips), ∀ a, (k0_off10 v43 k0_t7) a + S16.size a ≤ S1280.size a := fun v43 k0_hw1 k0_t7 => k0_hw1.2.2.1 k0_t7
theorem k0_t8_ok : ∀ (v43 : BitVec 32) (k0_hw1 : k0_chk1 v43), (k0_t8_loop v43).OK := fun v43 k0_hw1 => k0_hw1.2.2.2.1
theorem k0_off11_inb : ∀ (v43 : BitVec 32) (k0_hw1 : k0_chk1 v43) (k0_t8 : Fin (k0_t8_loop v43).trips), ∀ a, (k0_off11 v43 k0_t8) a + S16.size a ≤ S1280.size a := fun v43 k0_hw1 k0_t8 => k0_hw1.2.2.2.2.1 k0_t8
theorem k0_off12_inb : ∀ (v43 : BitVec 32) (k0_hw1 : k0_chk1 v43) (k0_t8 : Fin (k0_t8_loop v43).trips), ∀ a, (k0_off12 v43 k0_t8) a + S16.size a ≤ S1280.size a := fun v43 k0_hw1 k0_t8 => k0_hw1.2.2.2.2.2.1 k0_t8
theorem k0_t9_ok : ∀ (v43 : BitVec 32) (k0_hw1 : k0_chk1 v43), (k0_t9_loop v43).OK := fun v43 k0_hw1 => k0_hw1.2.2.2.2.2.2.1
theorem k0_off14_inb : ∀ (v43 : BitVec 32) (k0_hw1 : k0_chk1 v43) (k0_t9 : Fin (k0_t9_loop v43).trips), ∀ a, (k0_off14 v43 k0_t9) a + S16.size a ≤ S1280.size a := fun v43 k0_hw1 k0_t9 => k0_hw1.2.2.2.2.2.2.2.1 k0_t9
theorem k0_t10_ok : ∀ (v43 : BitVec 32) (k0_hw1 : k0_chk1 v43), (k0_t10_loop v43).OK := fun v43 k0_hw1 => k0_hw1.2.2.2.2.2.2.2.2.1
theorem k0_off15_inb : ∀ (v43 : BitVec 32) (k0_hw1 : k0_chk1 v43) (k0_t10 : Fin (k0_t10_loop v43).trips), ∀ a, (k0_off15 v43 k0_t10) a + S16.size a ≤ S1280.size a := fun v43 k0_hw1 k0_t10 => k0_hw1.2.2.2.2.2.2.2.2.2 k0_t10

def k0_chk5 (v193 : IVec S16 32) : Prop :=
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a) ∧
  (∀ a x, ((![v193] : Fin 1 → IVec S16 32) a x).toNat < S4096.size a)
theorem k0_idx16_inb : ∀ (v193 : IVec S16 32) (k0_hw5 : k0_chk5 v193), ∀ a x, ((![v193] : Fin 1 → IVec S16 32) a x).toNat < S4096.size a := fun v193 k0_hw5 => k0_hw5.1
theorem k0_idx17_inb : ∀ (v193 : IVec S16 32) (k0_hw5 : k0_chk5 v193), ∀ a x, ((![v193] : Fin 1 → IVec S16 32) a x).toNat < S4096.size a := fun v193 k0_hw5 => k0_hw5.2.1
theorem k0_idx18_inb : ∀ (v193 : IVec S16 32) (k0_hw5 : k0_chk5 v193), ∀ a x, ((![v193] : Fin 1 → IVec S16 32) a x).toNat < S4096.size a := fun v193 k0_hw5 => k0_hw5.2.2.1
theorem k0_idx19_inb : ∀ (v193 : IVec S16 32) (k0_hw5 : k0_chk5 v193), ∀ a x, ((![v193] : Fin 1 → IVec S16 32) a x).toNat < S4096.size a := fun v193 k0_hw5 => k0_hw5.2.2.2.1
theorem k0_idx20_inb : ∀ (v193 : IVec S16 32) (k0_hw5 : k0_chk5 v193), ∀ a x, ((![v193] : Fin 1 → IVec S16 32) a x).toNat < S4096.size a := fun v193 k0_hw5 => k0_hw5.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RefBinsIdeal.lean ====
abbrev S112x20x1280 : Shape := ⟨3, ![112, 20, 1280]⟩
abbrev S112x4x1280 : Shape := ⟨3, ![112, 4, 1280]⟩
abbrev S112 : Shape := ⟨1, ![112]⟩
abbrev S112x1x1x1 : Shape := ⟨4, ![112, 1, 1, 1]⟩
abbrev S4 : Shape := ⟨1, ![4]⟩
abbrev S1x4x1x1 : Shape := ⟨4, ![1, 4, 1, 1]⟩
abbrev S5 : Shape := ⟨1, ![5]⟩
abbrev S1x1x5x1 : Shape := ⟨4, ![1, 1, 5, 1]⟩
abbrev S112x4x1x1280 : Shape := ⟨4, ![112, 4, 1, 1280]⟩
abbrev S_ : Shape := ⟨0, ![]⟩
abbrev S112x4x5x4096 : Shape := ⟨4, ![112, 4, 5, 4096]⟩
abbrev S112x4x5x1280 : Shape := ⟨4, ![112, 4, 5, 1280]⟩
abbrev S112x4x5x1280x1 : Shape := ⟨5, ![112, 4, 5, 1280, 1]⟩
abbrev S112x4x5x1280x4 : Shape := ⟨5, ![112, 4, 5, 1280, 4]⟩
abbrev S112x20x4096 : Shape := ⟨3, ![112, 20, 4096]⟩

abbrev nBuf : Space → Nat
  | .hbm => 52
  | .vmem => 0
  | .smem => 0
  | _ => 0

abbrev bufTy : (tb : Table) → Fin (tcTables nBuf tb) → BufTy
  | .hbm, ⟨0, _⟩ => ⟨S112x20x1280, .f32⟩
  | .hbm, ⟨1, _⟩ => ⟨S112x4x1280, .i32⟩
  | .hbm, ⟨2, _⟩ => ⟨S112, .i32⟩
  | .hbm, ⟨3, _⟩ => ⟨S112, .i32⟩
  | .hbm, ⟨4, _⟩ => ⟨S112x1x1x1, .i32⟩
  | .hbm, ⟨5, _⟩ => ⟨S4, .i32⟩
  | .hbm, ⟨6, _⟩ => ⟨S1x4x1x1, .i32⟩
  | .hbm, ⟨7, _⟩ => ⟨S5, .i32⟩
  | .hbm, ⟨8, _⟩ => ⟨S1x1x5x1, .i32⟩
  | .hbm, ⟨9, _⟩ => ⟨S112x4x1x1280, .i32⟩
  | .hbm, ⟨10, _⟩ => ⟨S_, .f32⟩
  | .hbm, ⟨11, _⟩ => ⟨S112x4x5x4096, .f32⟩
  | .hbm, ⟨12, _⟩ => ⟨S112x4x5x1280, .f32⟩
  | .hbm, ⟨13, _⟩ => ⟨S_, .i32⟩
  | .hbm, ⟨14, _⟩ => ⟨S112x1x1x1, .i32⟩
  | .hbm, ⟨15, _⟩ => ⟨S112x1x1x1, .i1⟩
  | .hbm, ⟨16, _⟩ => ⟨S_, .i32⟩
  | .hbm, ⟨17, _⟩ => ⟨S112x1x1x1, .i32⟩
  | .hbm, ⟨18, _⟩ => ⟨S112x1x1x1, .i32⟩
  | .hbm, ⟨19, _⟩ => ⟨S112x1x1x1, .i32⟩
  | .hbm, ⟨20, _⟩ => ⟨S_, .i32⟩
  | .hbm, ⟨21, _⟩ => ⟨S1x4x1x1, .i32⟩
  | .hbm, ⟨22, _⟩ => ⟨S1x4x1x1, .i1⟩
  | .hbm, ⟨23, _⟩ => ⟨S_, .i32⟩
  | .hbm, ⟨24, _⟩ => ⟨S1x4x1x1, .i32⟩
  | .hbm, ⟨25, _⟩ => ⟨S1x4x1x1, .i32⟩
  | .hbm, ⟨26, _⟩ => ⟨S1x4x1x1, .i32⟩
  | .hbm, ⟨27, _⟩ => ⟨S_, .i32⟩
  | .hbm, ⟨28, _⟩ => ⟨S1x1x5x1, .i32⟩
  | .hbm, ⟨29, _⟩ => ⟨S1x1x5x1, .i1⟩
  | .hbm, ⟨30, _⟩ => ⟨S_, .i32⟩
  | .hbm, ⟨31, _⟩ => ⟨S1x1x5x1, .i32⟩
  | .hbm, ⟨32, _⟩ => ⟨S1x1x5x1, .i32⟩
  | .hbm, ⟨33, _⟩ => ⟨S1x1x5x1, .i32⟩
  | .hbm, ⟨34, _⟩ => ⟨S_, .i32⟩
  | .hbm, ⟨35, _⟩ => ⟨S112x4x1x1280, .i32⟩
  | .hbm, ⟨36, _⟩ => ⟨S112x4x1x1280, .i1⟩
  | .hbm, ⟨37, _⟩ => ⟨S_, .i32⟩
  | .hbm, ⟨38, _⟩ => ⟨S112x4x1x1280, .i32⟩
  | .hbm, ⟨39, _⟩ => ⟨S112x4x1x1280, .i32⟩
  | .hbm, ⟨40, _⟩ => ⟨S112x4x1x1280, .i32⟩
  | .hbm, ⟨41, _⟩ => ⟨S112x4x5x1280, .i32⟩
  | .hbm, ⟨42, _⟩ => ⟨S112x4x5x1280, .i32⟩
  | .hbm, ⟨43, _⟩ => ⟨S112x4x5x1280, .i32⟩
  | .hbm, ⟨44, _⟩ => ⟨S112x4x5x1280, .i32⟩
  | .hbm, ⟨45, _⟩ => ⟨S112x4x5x1280x1, .i32⟩
  | .hbm, ⟨46, _⟩ => ⟨S112x4x5x1280x1, .i32⟩
  | .hbm, ⟨47, _⟩ => ⟨S112x4x5x1280x1, .i32⟩
  | .hbm, ⟨48, _⟩ => ⟨S112x4x5x1280x1, .i32⟩
  | .hbm, ⟨49, _⟩ => ⟨S112x4x5x1280x4, .i32⟩
  | .hbm, ⟨50, _⟩ => ⟨S112x4x5x4096, .f32⟩
  | .hbm, ⟨51, _⟩ => ⟨S112x20x4096, .f32⟩
  | _, _ => ⟨S112x20x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.Pick.lean ====
/- The selection of one of four groups by the row of a 20-row block: row `h` belongs to group `h / 5`, which the
   kernels compute as a word (a floored division of the row number) and compare with 1, 2 and 3. -/
module

public import Idealize.ShloMosaic.Lib.Pointwise
public import Idealize.ShloMosaic.Lib.Pipeline.ValueKit

@[expose] public section

set_option maxRecDepth 16384

noncomputable section

namespace Cert.Pick

open Idealize.ShloMosaic

/-- The group of row `h`. -/
def grp (h : Fin 20) : Fin 4 := ⟨h / 5, by omega⟩

/-- The chain of three selections by the group's number is the function at that number. -/
theorem pick {α : Type} (f : Fin 4 → α) (g : Fin 4) :
    Scalar.select (IntOp.cmpi .eq (BitVec.ofNat 32 g) 3#32) (f 3)
      (Scalar.select (IntOp.cmpi .eq (BitVec.ofNat 32 g) 2#32) (f 2)
        (Scalar.select (IntOp.cmpi .eq (BitVec.ofNat 32 g) 1#32) (f 1) (f 0))) = f g := by
  fin_cases g <;> rfl

/-- What the output kernel computes: a row of bins times its group's codebook, plus the new token's share. -/
def outF (b : FVec Ideal ⟨3, ![112, 20, 4096]⟩ .f32) (cb : FVec Ideal ⟨3, ![4, 4096, 128]⟩ .bf16)
    (o : FVec Ideal ⟨3, ![112, 20, 128]⟩ .f32) (i : Fin 112) (h : Fin 20) (d : Fin 128) : EReal :=
  (∑ c : Fin 4096, b (ix3 i h c) * cb (ix3 (grp h) c d)) + o (ix3 i h d)

end Cert.Pick

end
-- ==== Proof.OutputValue.lean ====
/- The output call's value. At a grid point the kernel multiplies eight rows of bins by the four groups' codebooks and keeps,
   for each head, its own group's product (`core`, `block`); the reference is one batched product over the groups (`ref`).
   `final` says the kernel's result array is `ref` of its arguments. -/
module

public import proofs.«01_k».proof.Proof.Gen.OutputIdeal.Value
public import proofs.«01_k».proof.Proof.Gen.RefOutputIdeal.Run
public import proofs.«01_k».proof.Proof.Pick
public import Idealize.ShloMosaic.Lib.Pipeline.ValueKit

@[expose] public section

set_option maxRecDepth 16384

noncomputable section

namespace Cert.OutputIdeal.RefValue

open Idealize.ShloMosaic Idealize.ShloMosaic.TcCoe Idealize.SL.Sem
open Idealize.ShloMosaic.Pipeline (Dat)
open Cert.OutputIdeal Cert.OutputIdeal.Gen Cert.Pick

/-- The kernel's group word of row `h`. -/
theorem grp_word (x0 : FVec Ideal S8x20x4096 .f32) (x1 : FVec Ideal S4x4096x128 .bf16) (x2 : FVec Ideal S8x20x128 .f32)
    (h : Fin 20) (d : Fin 128) : k0_pay42 (F := Ideal) x0 x1 x2 (ix2 h d) = BitVec.ofNat 32 (grp h) := by
  unfold k0_pay42
  pointwise [k0_pay2, grp]
  revert h; decide +kernel

/-- One row of bins: the kernel's payload over loads `b`, `c0` … `c3`, `o` that hold row block `k` of the blocks. -/
theorem core (x0 : FVec Ideal S8x20x4096 .f32) (x1 : FVec Ideal S4x4096x128 .bf16) (x2 : FVec Ideal S8x20x128 .f32) (k : Fin 8)
    (w : IVec S20x128 32) (b : FVec Ideal S1x20x4096 .f32) (c0 c1 c2 c3 : FVec Ideal S1x4096x128 .bf16) (o : FVec Ideal S1x20x128 .f32)
    (h : Fin 20) (d : Fin 128) (hw : w (ix2 h d) = BitVec.ofNat 32 (grp h))
    (hb : ∀ c : Fin 4096, b (ix3 0 h c) = x0 (ix3 k h c)) (h0 : ∀ c : Fin 4096, c0 (ix3 0 c d) = x1 (ix3 0 c d))
    (h1 : ∀ c : Fin 4096, c1 (ix3 0 c d) = x1 (ix3 1 c d)) (h2 : ∀ c : Fin 4096, c2 (ix3 0 c d) = x1 (ix3 2 c d))
    (h3 : ∀ c : Fin 4096, c3 (ix3 0 c d) = x1 (ix3 3 c d)) (ho : o (ix3 0 h d) = x2 (ix3 k h d)) :
    k0_pay1 (F := Ideal) w (k0_pay38 b) (k0_pay39 b c0) (k0_pay40 b c1) (k0_pay41 b c2) c3 o (ix3 0 h d)
     = (∑ c : Fin 4096, x0 (ix3 k h c) * x1 (ix3 (grp h) c d)) + x2 (ix3 k h d) := by
  rw [← pick (fun g => ∑ c : Fin 4096, x0 (ix3 k h c) * x1 (ix3 g c d)) (grp h), ← hw, ← ho]
  simp only [← hb, ← h0, ← h1, ← h2, ← h3]
  pointwise [k0_pay1, k0_pay38, k0_pay39, k0_pay40, k0_pay41]

variable (m : (ℓ : Loc nD τ sig) → Buf (Elt Ideal) ℓ)

theorem idx_val : ∀ t : Fin cfg0.N, win0_0.index t = ![t.val, 0, 0] ∧ win0_1.index t = ![0, 0, 0] ∧ win0_2.index t = ![t.val, 0, 0]
    ∧ win0_3.index t = ![t.val, 0, 0] :=
  (by decide +kernel : ∀ t : Fin grid0.N, _)

/-- The block a grid point leaves, read at an index. -/
theorem block (X0 : FVec Ideal S8x20x4096 .f32) (X1 : FVec Ideal S4x4096x128 .bf16) (X2 : FVec Ideal S8x20x128 .f32)
    (k : Fin 8) (h : Fin 20) (d : Fin 128) :
    out0_3 (F := Ideal) X0 X1 X2 (ix3 k h d) = (∑ c : Fin 4096, X0 (ix3 k h c) * X1 (ix3 (grp h) c d)) + X2 (ix3 k h d) := by
  unfold out0_3
  canon_tiles x hx
  all_goals
    idx_vars x
    obtain rfl : h = x1 := Fin.ext hx1
    obtain rfl : d = x2 := Fin.ext hx2
    obtain rfl : x0 = 0 := Subsingleton.elim _ _
    refine core X0 X1 X2 k _ _ _ _ _ _ _ _ _ (grp_word X0 X1 X2 h d) ?_ ?_ ?_ ?_ ?_ ?_ <;> intros <;>
      pointwise [r0_0, r0_1, r0_2, r0_3, r0_4, r0_5, r0_6, r0_7, r0_8, r0_9, r0_10, r0_11, r0_12, r0_13, r0_14, r0_15,
        r0_16, r0_17, r0_18, r0_19] <;> blk_ext

/-- The reference's composed term. -/
def ref (b : FVec Ideal Cert.RefOutputIdeal.S112x20x4096 .f32) (cb : FVec Ideal Cert.RefOutputIdeal.S4x4096x128 .bf16)
    (o : FVec Ideal Cert.RefOutputIdeal.S112x20x128 .f32) : FVec Ideal Cert.RefOutputIdeal.S112x20x128 .bf16 :=
  truncf .bf16 (shapeCast _ (addf
    (transpose RefOutputIdeal.S112x4x5x128 [2, 0, 3, 1]
      (Host.dotGeneral RefOutputIdeal.dot_S4x4096x128_S112x4x5x4096_S4x128x112x5_1_3_2_02_0_1 none cb
        (truncf .bf16 (shapeCast _ b RefOutputIdeal.Gen.shapeCasts_S112x20x4096_S112x4x5x4096) RefOutputIdeal.Gen.bitsLt_bf16_f32))
      RefOutputIdeal.Gen.transposes_S4x128x112x5_S112x4x5x128_2_0_3_1)
    (shapeCast _ o RefOutputIdeal.Gen.shapeCasts_S112x20x128_S112x4x5x128))
    RefOutputIdeal.Gen.shapeCasts_S112x4x5x128_S112x20x128) RefOutputIdeal.Gen.bitsLt_bf16_f32

theorem ref_apply (b : FVec Ideal Cert.RefOutputIdeal.S112x20x4096 .f32) (cb : FVec Ideal Cert.RefOutputIdeal.S4x4096x128 .bf16)
    (o : FVec Ideal Cert.RefOutputIdeal.S112x20x128 .f32) (i : Fin 112) (h : Fin 20) (d : Fin 128) :
    ref b cb o (ix3 i h d) = outF b cb o i h d := by
  pointwise [ref, outF]
  exact congrArg (· + _) (Finset.sum_congr rfl fun _ _ => mul_comm _ _)

/-- The result array after the kernel's run. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  rw [block]
  have e : (win0_3.blk t).view.emb (ix3 y0 y1 y2) = (ix3 ⟨8 * t + y0, by have := t.isLt; have := N_0; idx_bounds; omega⟩ y1 y2 : RefOutputIdeal.S112x20x128.Idx) := by
    blk_ext [idx_val t]
  rw [e, ref_apply]
  unfold outF
  blk_point [iblk, V, idx_val t]

end Cert.OutputIdeal.RefValue
end
-- ==== Proof.Formula.lean ====
/- What the two TensorCore calls compute, written as sums over plain indices: the decode attention's probabilities of
   one batch row over its cached keys and its new key, and the weighted codebook sum. Extended reals throughout. -/
module

public import Idealize.ShloMosaic.Lib.Pointwise
public import proofs.«01_k».proof.Proof.Pick

@[expose] public section

set_option maxRecDepth 16384

noncomputable section

namespace Cert.Formula

open Idealize.ShloMosaic Cert.Pick

/-- The constant 1/√128 as an extended real. -/
abbrev scale : EReal := Ideal.ofBits .f32 0x3DB504F3#32
/-- The constant −∞ as an extended real. -/
abbrev ninf : EReal := Ideal.ofBits .f32 0xFF800000#32

variable (q : Fin 20 → Fin 128 → EReal) (kc : Fin 4 → Fin 1280 → Fin 128 → EReal) (ks : Fin 4 → Fin 1280 → EReal)
  (kn vn : Fin 4 → Fin 128 → EReal) (n : BitVec 32)

/-- The masked score of cached position `t`. -/
def s (h : Fin 20) (t : Fin 1280) : EReal :=
  Scalar.select (IntOp.cmpi .slt (BitVec.ofNat 32 t) n) (((∑ d : Fin 128, q h d * kc (grp h) t d) * ks (grp h) t) * scale) ninf
/-- The new token's score. -/
def sNew (h : Fin 20) : EReal := (∑ d : Fin 128, q h d * kn (grp h) d) * scale
/-- The row's maximum. -/
def mx (h : Fin 20) : EReal := max (Finset.univ.fold max ninf fun t : Fin 1280 => s q kc ks n h t) (sNew q kn h)
/-- The exponential of a cached position's score. -/
def e (h : Fin 20) (t : Fin 1280) : EReal := Ideal.exp (s q kc ks n h t - mx q kc ks kn n h)
/-- The exponential of the new token's score. -/
def eNew (h : Fin 20) : EReal := Ideal.exp (sNew q kn h - mx q kc ks kn n h)
/-- The reciprocal of the row's denominator. -/
def inv (h : Fin 20) : EReal := Ideal.div 1 ((∑ t : Fin 1280, e q kc ks kn n h t) + eNew q kc ks kn n h)
/-- The probability of a cached position. -/
def p (h : Fin 20) (t : Fin 1280) : EReal := e q kc ks kn n h t * inv q kc ks kn n h
/-- The new token's share of the output. -/
def oNew (h : Fin 20) (d : Fin 128) : EReal := (eNew q kc ks kn n h * inv q kc ks kn n h) * vn (grp h) d

/-- The maximum of two arrays, at an index. -/
theorem max_at {s : Shape} (a b : FVec Ideal s .f32) (i : s.Idx) : maximumf a b i = max (a i) (b i) := rfl

/-- A host maximum over the last axis of a rank-4 array, at an index. -/
theorem hostMax {n0 n1 n2 n3 : Nat} {u : Shape} (x : FVec Ideal ⟨4, ![n0, n1, n2, n3]⟩ .f32) (init : FVec Ideal u .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel) (i : Fin n0) (g : Fin n1) (j : Fin n2) :
    Host.reduce FloatOps.maximumf x init h' hu (ix3 i g j)
      = Finset.univ.fold max (init (Shape.Idx.first hu)) fun t : Fin n3 => x (ix4 i g j t) := by
  rw [Host.reduce_eq_fold, Shape.ReducesTo.drop_eq_drop h' h, Shape.Reduces.fold_fiber_r4_a3]
  rfl

/-- A kernel's maximum along the rows of a matrix, at an index. -/
theorem rowMax {n0 n1 : Nat} (x : FVec Ideal ⟨2, ![n0, n1]⟩ .f32) (acc : BitVec 32)
    (h : (⟨2, ![n0, n1]⟩ : Shape).Reduces [1] ⟨1, ![n0]⟩) (hφ : FKind.Formats .f32) (hacc : acc = FKind.maximumf.neutral .f32 hφ) (i : Fin n0) :
    multiReduction .maximumf [1] ⟨1, ![n0]⟩ x acc h hφ hacc (ix1 i)
      = Finset.univ.fold max (Ideal.ofBits .f32 acc) fun t : Fin n1 => x (ix2 i t) := by
  rw [multiReduction_maximumf_eq_fold, Shape.Reduces.fold_fiber_r2_a1]
  rfl

end Cert.Formula

end
-- ==== Proof.RefScoresValue.lean ====
/- The scores reference, element by element: its two results are `Formula.p` and `Formula.oNew` of the arguments
   (`resP_at`, `resO_at`), and `run` says that its program ends with them. -/
module

public import proofs.«01_k».proof.Proof.Gen.RefScoresIdeal.Frame
public import proofs.«01_k».proof.Proof.Formula
public import Idealize.ShloMosaic.Lib.Pipeline.ValueKit

@[expose] public section

set_option maxRecDepth 16384

noncomputable section

namespace Cert.RefScoresIdeal.RefValue

open Idealize.ShloMosaic Idealize.ShloMosaic.TcCoe Idealize.SL.Sem
open Idealize.ShloMosaic.Pipeline (Dat)
open Cert.RefScoresIdeal Cert.RefScoresIdeal.Gen Cert.Pick

/-! ## The reference's terms -/

def rq (X : FVec Ideal S112x1x2560 .bf16) : FVec Ideal S112x4x5x128 .bf16 := shapeCast _ X shapeCasts_S112x1x2560_S112x4x5x128

def rs (X : FVec Ideal S112x1x2560 .bf16) (KC : FVec Ideal S112x4x1280x128 .bf16) (KS : FVec Ideal S112x4x1280 .f32) (L : IVec S112 32) :
    FVec Ideal S112x4x5x1280 .f32 :=
  select
    (broadcastInDim S112x4x5x1280 ![0, 1, 2, 3] bcast_S112x1x1x1280_S112x4x5x1280_0_1_2_3
      (cmpi .slt
        (broadcastInDim S112x1x1x1280 ![0, 1, 2, 3] bcast_S1x1x1x1280_S112x1x1x1280_0_1_2_3
          (broadcastInDim S1x1x1x1280 ![3] bcast_S1280_S1x1x1x1280_3 (iotaInDim S1280 32 0)))
        (broadcastInDim S112x1x1x1280 ![0, 1, 2, 3] bcast_S112x1x1x1_S112x1x1x1280_0_1_2_3
          (broadcastInDim S112x1x1x1 ![0] bcast_S112_S112x1x1x1_0 L))))
    (mulf
      (mulf (Host.dotGeneral dot_S112x4x5x128_S112x4x1280x128_S112x4x5x1280_3_3_2_2_01_01 none (rq X) KC)
        (broadcastInDim S112x4x5x1280 ![0, 1, 2, 3] bcast_S112x4x1x1280_S112x4x5x1280_0_1_2_3
          (broadcastInDim S112x4x1x1280 ![0, 1, 3] bcast_S112x4x1280_S112x4x1x1280_0_1_3 KS)))
      (broadcastInDim S112x4x5x1280 ![] bcast_S_S112x4x5x1280 (constant S_ .f32 0x3DB504F3#32)))
    (broadcastInDim S112x4x5x1280 ![] bcast_S_S112x4x5x1280 (id (constant (F := Ideal) S_ .f32 0xFF800000#32)))

def rsn (X : FVec Ideal S112x1x2560 .bf16) (KN : FVec Ideal S112x1x4x128 .bf16) : FVec Ideal S112x4x5 .f32 :=
  mulf (Host.dotGeneral dot_S112x4x5x128_S112x4x128_S112x4x5_3_2_2_n_01_01 none (rq X) (shapeCast _ KN shapeCasts_S112x1x4x128_S112x4x128))
    (broadcastInDim S112x4x5 ![] bcast_S_S112x4x5 (constant S_ .f32 0x3DB504F3#32))

def rm (s : FVec Ideal S112x4x5x1280 .f32) (sn : FVec Ideal S112x4x5 .f32) : FVec Ideal S112x4x5 .f32 :=
  maximumf (Host.reduce FloatOps.maximumf s (constant S_ .f32 0xFF800000#32) reducesTo_S112x4x5x1280_S112x4x5_d3 h_S_) sn

def re (s : FVec Ideal S112x4x5x1280 .f32) (mx : FVec Ideal S112x4x5 .f32) : FVec Ideal S112x4x5x1280 .f32 :=
  Host.exp (subf s (broadcastInDim S112x4x5x1280 ![0, 1, 2, 3] bcast_S112x4x5x1_S112x4x5x1280_0_1_2_3
    (broadcastInDim S112x4x5x1 ![0, 1, 2] bcast_S112x4x5_S112x4x5x1_0_1_2 mx)))

def rinv (e : FVec Ideal S112x4x5x1280 .f32) (en : FVec Ideal S112x4x5 .f32) : FVec Ideal S112x4x5 .f32 :=
  Host.divf (broadcastInDim S112x4x5 ![] bcast_S_S112x4x5 (constant S_ .f32 0x3F800000#32))
    (addf (Host.reduceAdd e (constant S_ .f32 0x00000000#32) reducesTo_S112x4x5x1280_S112x4x5_d3 h_S_) en)

def rp (e : FVec Ideal S112x4x5x1280 .f32) (inv : FVec Ideal S112x4x5 .f32) : FVec Ideal S112x20x1280 .f32 :=
  shapeCast _ (mulf e (broadcastInDim S112x4x5x1280 ![0, 1, 2, 3] bcast_S112x4x5x1_S112x4x5x1280_0_1_2_3
    (broadcastInDim S112x4x5x1 ![0, 1, 2] bcast_S112x4x5_S112x4x5x1_0_1_2 inv))) shapeCasts_S112x4x5x1280_S112x20x1280

def ro (pn : FVec Ideal S112x4x5 .f32) (VN : FVec Ideal S112x1x4x128 .bf16) : FVec Ideal S112x20x128 .f32 :=
  shapeCast _ (mulf
    (broadcastInDim S112x4x5x128 ![0, 1, 2, 3] bcast_S112x4x5x1_S112x4x5x128_0_1_2_3
      (broadcastInDim S112x4x5x1 ![0, 1, 2] bcast_S112x4x5_S112x4x5x1_0_1_2 pn))
    (broadcastInDim S112x4x5x128 ![0, 1, 2, 3] bcast_S112x4x1x128_S112x4x5x128_0_1_2_3
      (extf .f32 (broadcastInDim S112x4x1x128 ![0, 1, 3] bcast_S112x4x128_S112x4x1x128_0_1_3
        (shapeCast _ VN shapeCasts_S112x1x4x128_S112x4x128)) bitsLt_bf16_f32))) shapeCasts_S112x4x5x128_S112x20x128

/-! ## At an index -/

/-- A head of group `g`. -/
def hd (g : Fin 4) (j : Fin 5) : Fin 20 := ⟨5 * g + j, by omega⟩
theorem grp_hd (g : Fin 4) (j : Fin 5) : grp (hd g j) = g := Fin.ext (by simp only [grp, hd]; omega)
theorem hd_div (g : Fin 4) (j : Fin 5) (hl : (hd g j : Fin 20).val / 5 < 4) : (⟨(hd g j).val / 5, hl⟩ : Fin 4) = g :=
  Fin.ext (by simp only [hd]; omega)
theorem hd_mod (g : Fin 4) (j : Fin 5) (hl : (hd g j : Fin 20).val % 5 < 5) : (⟨(hd g j).val % 5, hl⟩ : Fin 5) = j :=
  Fin.ext (by simp only [hd]; omega)
theorem hd_col (g : Fin 4) (j : Fin 5) (d : Fin 128) (hl : g.val * 640 + j.val * 128 + d.val < 2560) :
    (⟨g.val * 640 + j.val * 128 + d.val, hl⟩ : Fin 2560) = ⟨128 * (hd g j).val + d.val, by omega⟩ :=
  Fin.ext (by simp only [hd]; omega)

section
variable (X : FVec Ideal S112x1x2560 .bf16) (KN VN : FVec Ideal S112x1x4x128 .bf16) (KC : FVec Ideal S112x4x1280x128 .bf16)
  (KS : FVec Ideal S112x4x1280 .f32) (L : IVec S112 32) (i : Fin 112)

abbrev fq (h : Fin 20) (d : Fin 128) : EReal := X (ix3 i 0 ⟨128 * h + d, by omega⟩)
abbrev fkc (g : Fin 4) (t : Fin 1280) (d : Fin 128) : EReal := KC (ix4 i g t d)
abbrev fks (g : Fin 4) (t : Fin 1280) : EReal := KS (ix3 i g t)
abbrev fkn (g : Fin 4) (d : Fin 128) : EReal := KN (ix4 i 0 g d)

theorem rs_at (g : Fin 4) (j : Fin 5) (t : Fin 1280) :
    rs X KC KS L (ix4 i g j t) = Formula.s (fq X i) (fkc KC i) (fks KS i) (L (ix1 i)) (hd g j) t := by
  unfold Formula.s
  rw [grp_hd]
  pointwise [rs, rq]
  simp only [fq, fkc, fks, hd_col]
  rfl

theorem rsn_at (g : Fin 4) (j : Fin 5) :
    rsn X KN (ix3 i g j) = Formula.sNew (fq X i) (fkn KN i) (hd g j) := by
  unfold Formula.sNew
  rw [grp_hd]
  pointwise [rsn, rq]
  simp only [fq, fkn, hd_col]

theorem red : S112x4x5x1280.Reduces [3] S112x4x5 := by decide

theorem row_max (s : FVec Ideal S112x4x5x1280 .f32) (g : Fin 4) (j : Fin 5) :
    Host.reduce FloatOps.maximumf s (constant S_ .f32 0xFF800000#32) reducesTo_S112x4x5x1280_S112x4x5_d3 h_S_ (ix3 i g j)
      = Finset.univ.fold max Formula.ninf fun t : Fin 1280 => s (ix4 i g j t) :=
  Formula.hostMax s _ _ red _ i g j

theorem rm_at (s : FVec Ideal S112x4x5x1280 .f32) (sn : FVec Ideal S112x4x5 .f32) (g : Fin 4) (j : Fin 5) :
    rm s sn (ix3 i g j) = max (Finset.univ.fold max Formula.ninf fun t : Fin 1280 => s (ix4 i g j t)) (sn (ix3 i g j)) := by
  rw [rm, Formula.max_at, row_max]

theorem re_at (s : FVec Ideal S112x4x5x1280 .f32) (mx : FVec Ideal S112x4x5 .f32) (g : Fin 4) (j : Fin 5) (t : Fin 1280) :
    re s mx (ix4 i g j t) = Ideal.exp (s (ix4 i g j t) - mx (ix3 i g j)) := by
  pointwise [re]

theorem rinv_at (e : FVec Ideal S112x4x5x1280 .f32) (en : FVec Ideal S112x4x5 .f32) (g : Fin 4) (j : Fin 5) :
    rinv e en (ix3 i g j) = Ideal.div 1 ((∑ t : Fin 1280, e (ix4 i g j t)) + en (ix3 i g j)) := by
  pointwise [rinv]

theorem rp_at (e : FVec Ideal S112x4x5x1280 .f32) (inv : FVec Ideal S112x4x5 .f32) (g : Fin 4) (j : Fin 5) (t : Fin 1280) :
    rp e inv (ix3 i (hd g j) t) = e (ix4 i g j t) * inv (ix3 i g j) := by
  pointwise [rp]
  simp only [hd_div, hd_mod]

theorem ro_at (pn : FVec Ideal S112x4x5 .f32) (g : Fin 4) (j : Fin 5) (d : Fin 128) :
    ro pn VN (ix3 i (hd g j) d) = pn (ix3 i g j) * fkn VN i g d := by
  pointwise [ro]
  simp only [hd_div, hd_mod]
end

/-! ## The reference's two results -/

section
variable (X : FVec Ideal S112x1x2560 .bf16) (KN VN : FVec Ideal S112x1x4x128 .bf16) (KC : FVec Ideal S112x4x1280x128 .bf16)
  (KS : FVec Ideal S112x4x1280 .f32) (L : IVec S112 32)

def re' := re (rs X KC KS L) (rm (rs X KC KS L) (rsn X KN))
def ren' : FVec Ideal S112x4x5 .f32 := Host.exp (subf (rsn X KN) (rm (rs X KC KS L) (rsn X KN)))
def resP := rp (re' X KN KC KS L) (rinv (re' X KN KC KS L) (ren' X KN KC KS L))
def resO := ro (mulf (ren' X KN KC KS L) (rinv (re' X KN KC KS L) (ren' X KN KC KS L))) VN

theorem rmx_at (i : Fin 112) (g : Fin 4) (j : Fin 5) :
    rm (rs X KC KS L) (rsn X KN) (ix3 i g j) = Formula.mx (fq X i) (fkc KC i) (fks KS i) (fkn KN i) (L (ix1 i)) (hd g j) := by
  rw [rm_at, rsn_at]; simp only [rs_at]; rfl

theorem re'_at (i : Fin 112) (g : Fin 4) (j : Fin 5) (t : Fin 1280) :
    re' X KN KC KS L (ix4 i g j t) = Formula.e (fq X i) (fkc KC i) (fks KS i) (fkn KN i) (L (ix1 i)) (hd g j) t := by
  unfold re'; rw [re_at, rmx_at, rs_at]; rfl

theorem ren'_at (i : Fin 112) (g : Fin 4) (j : Fin 5) :
    ren' X KN KC KS L (ix3 i g j) = Formula.eNew (fq X i) (fkc KC i) (fks KS i) (fkn KN i) (L (ix1 i)) (hd g j) := by
  show Ideal.exp (rsn X KN (ix3 i g j) - rm (rs X KC KS L) (rsn X KN) (ix3 i g j)) = _
  rw [rmx_at, rsn_at]; rfl

theorem rinv'_at (i : Fin 112) (g : Fin 4) (j : Fin 5) :
    rinv (re' X KN KC KS L) (ren' X KN KC KS L) (ix3 i g j) = Formula.inv (fq X i) (fkc KC i) (fks KS i) (fkn KN i) (L (ix1 i)) (hd g j) := by
  rw [rinv_at, ren'_at]; simp only [re'_at]; rfl

theorem hd_surj (h : Fin 20) : ∃ g j, h = hd g j := ⟨⟨h / 5, by omega⟩, ⟨h % 5, by omega⟩, Fin.ext (by simp only [hd]; omega)⟩

theorem resP_at (i : Fin 112) (h : Fin 20) (t : Fin 1280) :
    resP X KN KC KS L (ix3 i h t) = Formula.p (fq X i) (fkc KC i) (fks KS i) (fkn KN i) (L (ix1 i)) h t := by
  obtain ⟨g, j, rfl⟩ := hd_surj h
  unfold resP; rw [rp_at, re'_at, rinv'_at]; rfl

theorem resO_at (i : Fin 112) (h : Fin 20) (d : Fin 128) :
    resO X KN VN KC KS L (ix3 i h d) = Formula.oNew (fq X i) (fkc KC i) (fks KS i) (fkn KN i) (fkn VN i) (L (ix1 i)) h d := by
  obtain ⟨g, j, rfl⟩ := hd_surj h
  unfold resO; rw [ro_at]
  show (ren' X KN KC KS L (ix3 i g j) * rinv _ _ (ix3 i g j)) * _ = _
  rw [ren'_at, rinv'_at]; unfold Formula.oNew; rw [grp_hd]
end

/-! ## The run -/

variable (m : (ℓ : Loc nD τ sig) → Buf (Elt Ideal) ℓ) (ρ : Dev nD → PrngReg)

theorem idx_val0 (t : Fin cfg0.N) : ∀ a, win0_0.index t a = 0 := by
  revert t; decide +kernel
theorem idx_val1 (t : Fin cfg0.N) : ∀ a, win0_1.index t a = 0 := by
  revert t; decide +kernel

/-- What the cast's region leaves in its result array. -/
theorem cast_arr (c : Dev nD) :
    (dats m 0 c).arrAt 1 cfg0.N = (m ((c.tc : Thread nD τ).loc main_arg3) : FVec Ideal S112x4x1280x128 .bf16) := by
  refine (dats m 0 c).arrAt_eq_of_covers 1 _ (by decide +kernel) fun t _ y => ?_
  blk_simp
  rw [after0_1]
  idx_vars y
  unfold out0_1
  have hx : ∀ x : Vec Ideal S112x4x1280x128 .fp8e4m3,
      (View.canon [⟨r0_0, k0_pay1 (View.ld x r0_0)⟩] : Vec Ideal S112x4x1280x128 .bf16) (ix4 y0 y1 y2 y3) = x (ix4 y0 y1 y2 y3) := by
    intro x
    canon_tiles y hy
    have e : y = ix4 y0 y1 y2 y3 := by
      funext b
      match b with
      | ⟨0, _⟩ => exact Fin.ext hy0.symm
      | ⟨1, _⟩ => exact Fin.ext hy1.symm
      | ⟨2, _⟩ => exact Fin.ext hy2.symm
      | ⟨3, _⟩ => exact Fin.ext hy3.symm
    subst e
    pointwise [k0_pay1, r0_0]
  rw [hx]
  have e : ((View.whole main_v1).slice (win0_1.rect t)).emb (ix4 y0 y1 y2 y3) = ix4 y0 y1 y2 y3 := by
    blk_ext [idx_val1 t]
  rw [e]
  blk_point [iblk, V, idx_val0 t]

theorem tail_P (W : Valuation τ sig (Elt Ideal)) (X : FVec Ideal S112x1x2560 .bf16) (hX : W (Proc.devRef .tc main_v0) = rq X) :
    StableHlo.after (List.flatten [hostOps1, hostOps1_1, hostOps1_2]) W (Proc.devRef .tc main_v42)
      = resP X (W (Proc.devRef .tc main_arg1)) (W (Proc.devRef .tc main_v1)) (W (Proc.devRef .tc main_arg4)) (W (Proc.devRef .tc main_arg5)) := by
  simp only [hostOps1, hostOps1_1, hostOps1_2, List.flatten_cons, List.flatten_nil, List.append_nil, List.cons_append, List.nil_append]
  after_results
  rw [hX]
  rfl

theorem tail_O (W : Valuation τ sig (Elt Ideal)) (X : FVec Ideal S112x1x2560 .bf16) (hX : W (Proc.devRef .tc main_v0) = rq X) :
    StableHlo.after (List.flatten [hostOps1, hostOps1_1, hostOps1_2]) W (Proc.devRef .tc main_v43)
      = resO X (W (Proc.devRef .tc main_arg1)) (W (Proc.devRef .tc main_arg2)) (W (Proc.devRef .tc main_v1)) (W (Proc.devRef .tc main_arg4)) (W (Proc.devRef .tc main_arg5)) := by
  simp only [hostOps1, hostOps1_1, hostOps1_2, List.flatten_cons, List.flatten_nil, List.append_nil, List.cons_append, List.nil_append]
  after_results
  rw [hX]
  rfl

/-- The TensorCore's buffers when the tail begins. -/
abbrev W0 (c : Dev nD) : Valuation τ sig (Elt Ideal) := Pipeline.withArrays (cfgs 0).spec c (V0 m c) fun w => (dats m 0 c).arrAt w (cfgs 0).N

theorem W0_v1 (c : Dev nD) : W0 m c (Proc.devRef .tc main_v1) = (m ((c.tc : Thread nD τ).loc main_arg3) : FVec Ideal S112x4x1280x128 .bf16) :=
  (Pipeline.withArrays_arr spec0 (by decide) c _ _ 1).trans (cast_arr m c)
theorem W0_v0 (c : Dev nD) : W0 m c (Proc.devRef .tc main_v0) = rq (m ((c.tc : Thread nD τ).loc main_arg0)) := by
  refine (Pipeline.withArrays_of_ne _ c (V0 m c) _ main_v0 (by exact (by decide : ∀ w, Pipeline.arrRef spec0 w ≠ main_v0))).trans ?_
  unfold V0
  simp only [hostOps0, List.flatten_cons, List.flatten_nil, List.append_nil]
  after_results
  rfl
theorem W0_arg1 (c : Dev nD) : W0 m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem W0_arg2 (c : Dev nD) : W0 m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem W0_arg4 (c : Dev nD) : W0 m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem W0_arg5 (c : Dev nD) : W0 m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)

/-- The reference's run: its two results and its arguments' contents at the end. -/
theorem run : θ_run defs (onTc (τ := τ) (main (F := Ideal))) ⟨m, fun _ => 0, ρ⟩ (fun r => ∀ c : Dev nD,
      r.2.mem ((c.tc : Thread nD τ).loc main_v42) = resP (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
      ∧ r.2.mem ((c.tc : Thread nD τ).loc main_v43) = resO (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v42 (Pipeline.mem_restRefs_of main_v42 (by decide) (by decide))).trans
        ((tail_P (W0 m c) _ (W0_v0 m c)).trans (by rw [W0_v1, W0_arg1, W0_arg4, W0_arg5])),
      ((h c).2 main_v43 (Pipeline.mem_restRefs_of main_v43 (by decide) (by decide))).trans
        ((tail_O (W0 m c) _ (W0_v0 m c)).trans (by rw [W0_v1, W0_arg1, W0_arg2, W0_arg4, W0_arg5])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩) (run_main m ρ)

end Cert.RefScoresIdeal.RefValue
end
-- ==== Proof.ScoresPoint.lean ====
/- The scores kernel at one grid point: what its two stores write, element by element, is `Formula.p` and `Formula.oNew` of
   the blocks (`pK_at`, `oK_at`), and each block is the batch row of its argument that the grid point names (`blk0` to `blk4`,
   `len_at`). -/
module

public import proofs.«01_k».proof.Proof.Gen.ScoresIdeal.Frame
public import proofs.«01_k».proof.Proof.RefScoresValue

@[expose] public section

set_option maxRecDepth 16384

noncomputable section

namespace Cert.ScoresIdeal.RefValue

open Idealize.ShloMosaic Idealize.ShloMosaic.TcCoe Idealize.SL.Sem
open Idealize.ShloMosaic.Pipeline (Dat)
open Cert.ScoresIdeal Cert.ScoresIdeal.Gen Cert.Pick

/-! ## One grid point's computation, from its blocks -/

/-- The kernel's group word of row `h`, over the cached positions. -/
theorem word_t (h : Fin 20) (t : Fin 1280) : k0_pay7 (ix2 h t) = BitVec.ofNat 32 (grp h) := by
  pointwise [k0_pay7]
  revert h; decide +kernel
/-- The kernel's group word of row `h`, over the head's width. -/
theorem word_d (h : Fin 20) (d : Fin 128) : k0_pay16 (ix2 h d) = BitVec.ofNat 32 (grp h) := by
  pointwise [k0_pay16]
  revert h; decide +kernel

section
variable (x0 : FVec Ideal S1x20x128 .bf16) (x1 : Vec Ideal S1x4x1280x128 .fp8e4m3) (x2 : Vec Ideal S1x4x1280 .f32)
  (x3 x4 : FVec Ideal S1x4x128 .bf16) (n : BitVec 32)

/-- The block of scores. -/
def sK : FVec Ideal S20x1280 .f32 :=
  k0_pay15
    (k0_pay11 (k0_pay6 x0) k0_pay7
      (k0_pay8 x0 (View.ld x1 (Rect.unit ![0, 0, 0, 0] ![1, 1, 1280, 128] inb_S1x4x1280x128_S1x1x1280x128_0_0_0_0)))
      (k0_pay9 x0 (View.ld x1 (Rect.unit ![0, 1, 0, 0] ![1, 1, 1280, 128] inb_S1x4x1280x128_S1x1x1280x128_0_1_0_0)))
      (k0_pay10 (View.ld x1 (Rect.unit ![0, 2, 0, 0] ![1, 1, 1280, 128] inb_S1x4x1280x128_S1x1x1280x128_0_2_0_0)))
      (View.ld x1 (Rect.unit ![0, 3, 0, 0] ![1, 1, 1280, 128] inb_S1x4x1280x128_S1x1x1280x128_0_3_0_0)))
    (k0_pay12 k0_pay7
      (View.ld x2 (Rect.unit ![0, 0, 0] ![1, 1, 1280] inb_S1x4x1280_S1x1x1280_0_0_0))
      (View.ld x2 (Rect.unit ![0, 1, 0] ![1, 1, 1280] inb_S1x4x1280_S1x1x1280_0_1_0))
      (View.ld x2 (Rect.unit ![0, 2, 0] ![1, 1, 1280] inb_S1x4x1280_S1x1x1280_0_2_0)))
    (k0_pay13 k0_pay7)
    (k0_pay14 (F := Ideal) (View.ld x2 (Rect.unit ![0, 3, 0] ![1, 1, 1280] inb_S1x4x1280_S1x1x1280_0_3_0))) n
/-- The block of new scores. -/
def snK : FVec Ideal S20x1 .f32 := k0_pay22 (k0_pay6 x0) k0_pay16 (k0_pay17 x3) (k0_pay19 x3) (k0_pay20 x3)
/-- The block of maxima. -/
def mK : FVec Ideal S20x1 .f32 := k0_pay23 (k0_pay6 x0) (sK x0 x1 x2 n) k0_pay16 (k0_pay17 x3) (k0_pay19 x3) (k0_pay20 x3)
/-- The block of scores less their maxima. -/
def dK : FVec Ideal S20x1280 .f32 := k0_pay24 (k0_pay6 x0) (sK x0 x1 x2 n) k0_pay16 (k0_pay17 x3) (k0_pay19 x3) (k0_pay20 x3)
/-- The block of probabilities. -/
def pK : FVec Ideal S1x20x1280 .f32 := k0_pay4 (snK x0 x3) (mK x0 x1 x2 x3 n) (dK x0 x1 x2 x3 n)
/-- The block of the new token's output. -/
def oK : FVec Ideal S1x20x128 .f32 := k0_pay5 (k0_pay21 k0_pay16 (k0_pay18 x4)) (snK x0 x3) (mK x0 x1 x2 x3 n) (dK x0 x1 x2 x3 n)

/- The blocks' entries by head, group and position. -/
abbrev gq (h : Fin 20) (d : Fin 128) : EReal := x0 (ix3 0 h d)
abbrev gkc (g : Fin 4) (t : Fin 1280) (d : Fin 128) : EReal := x1 (ix4 0 g t d)
abbrev gks (g : Fin 4) (t : Fin 1280) : EReal := x2 (ix3 0 g t)
abbrev gkn (g : Fin 4) (d : Fin 128) : EReal := x3 (ix3 0 g d)

theorem sK_at (h : Fin 20) (t : Fin 1280) : sK x0 x1 x2 n (ix2 h t) = Formula.s (gq x0) (gkc x1) (gks x2) n h t := by
  unfold Formula.s
  rw [← pick (fun g => ∑ d : Fin 128, gq x0 h d * gkc x1 g t d) (grp h), ← pick (fun g => gks x2 g t) (grp h), ← word_t h t]
  generalize hw : (k0_pay7 : IVec S20x1280 32) = w
  pointwise [sK, k0_pay6, k0_pay8, k0_pay9, k0_pay10, k0_pay11, k0_pay12, k0_pay13, k0_pay14, k0_pay15, hw]

theorem snK_at (h : Fin 20) : snK x0 x3 (ix2 h 0) = Formula.sNew (gq x0) (gkn x3) h := by
  have e : ∀ d, gkn x3 (grp h) d = Scalar.select (IntOp.cmpi .eq (k0_pay16 (ix2 h d)) 3#32) (gkn x3 3 d)
      (Scalar.select (IntOp.cmpi .eq (k0_pay16 (ix2 h d)) 2#32) (gkn x3 2 d)
        (Scalar.select (IntOp.cmpi .eq (k0_pay16 (ix2 h d)) 1#32) (gkn x3 1 d) (gkn x3 0 d))) := fun d => by
    rw [word_d, ← pick (fun g => gkn x3 g d) (grp h)]
  unfold Formula.sNew
  simp only [e]
  generalize hw : (k0_pay16 : IVec S20x128 32) = w
  pointwise [snK, k0_pay6, k0_pay17, k0_pay19, k0_pay20, k0_pay22, hw]

theorem rowMax (s : FVec Ideal S20x1280 .f32) (h : Fin 20) :
    multiReduction .maximumf [1] S20 s 0xFF800000#32 reduces_S20x1280_S20 (.inl rfl) rfl (ix1 h)
      = Finset.univ.fold max Formula.ninf fun t : Fin 1280 => s (ix2 h t) :=
  Formula.rowMax s _ _ _ _ h

theorem max2 (a b : EReal) : FloatOps.maximumf (F := Ideal) (φ := .f32) a b = max a b := rfl

theorem mK_at (h : Fin 20) : mK x0 x1 x2 x3 n (ix2 h 0) = Formula.mx (gq x0) (gkc x1) (gks x2) (gkn x3) n h := by
  have e : mK x0 x1 x2 x3 n (ix2 h 0) = FloatOps.maximumf
      (multiReduction .maximumf [1] S20 (sK x0 x1 x2 n) 0xFF800000#32 reduces_S20x1280_S20 (.inl rfl) rfl (ix1 h)) (snK x0 x3 (ix2 h 0)) := by
    generalize hs : sK x0 x1 x2 n = s
    generalize hr : multiReduction .maximumf [1] S20 s 0xFF800000#32 reduces_S20x1280_S20 (.inl rfl) rfl = r
    generalize hq : snK x0 x3 = q
    unfold mK k0_pay23
    rw [hs]
    dsimp only
    rw [hr]
    unfold snK at hq
    rw [hq]
    pointwise []
  rw [e, rowMax, snK_at, max2]
  simp only [sK_at]
  rfl

theorem dK_at (h : Fin 20) (t : Fin 1280) : dK x0 x1 x2 x3 n (ix2 h t)
    = Formula.s (gq x0) (gkc x1) (gks x2) n h t - Formula.mx (gq x0) (gkc x1) (gks x2) (gkn x3) n h := by
  rw [← sK_at, ← mK_at]
  have e : dK x0 x1 x2 x3 n = subf (sK x0 x1 x2 n) (broadcastTo S20x1280 (mK x0 x1 x2 x3 n) broadcasts_S20x1_S20x1280) := rfl
  rw [e]
  generalize sK x0 x1 x2 n = s
  generalize mK x0 x1 x2 x3 n = r
  pointwise []

theorem pay4_at (a b : FVec Ideal S20x1 .f32) (d : FVec Ideal S20x1280 .f32) (h : Fin 20) (t : Fin 1280) :
    k0_pay4 a b d (ix3 0 h t) = Ideal.exp (d (ix2 h t))
      * Ideal.div 1 ((∑ t : Fin 1280, Ideal.exp (d (ix2 h t))) + Ideal.exp (a (ix2 h 0) - b (ix2 h 0))) := by
  pointwise [k0_pay4, k0_pay1, k0_pay2, k0_pay3]

theorem pay5_at (v : FVec Ideal S20x128 .f32) (a b : FVec Ideal S20x1 .f32) (d : FVec Ideal S20x1280 .f32) (h : Fin 20) (j : Fin 128) :
    k0_pay5 v a b d (ix3 0 h j) = (Ideal.exp (a (ix2 h 0) - b (ix2 h 0))
      * Ideal.div 1 ((∑ t : Fin 1280, Ideal.exp (d (ix2 h t))) + Ideal.exp (a (ix2 h 0) - b (ix2 h 0)))) * v (ix2 h j) := by
  pointwise [k0_pay5, k0_pay1, k0_pay2, k0_pay3]

theorem vrow_at (h : Fin 20) (d : Fin 128) : k0_pay21 (F := Ideal) k0_pay16 (k0_pay18 x4) (ix2 h d) = gkn x4 (grp h) d := by
  rw [← pick (fun g => gkn x4 g d) (grp h), ← word_d h d]
  generalize hw : (k0_pay16 : IVec S20x128 32) = w
  pointwise [k0_pay18, k0_pay21, hw]

theorem pK_at (h : Fin 20) (t : Fin 1280) : pK x0 x1 x2 x3 n (ix3 0 h t) = Formula.p (gq x0) (gkc x1) (gks x2) (gkn x3) n h t := by
  unfold pK
  rw [pay4_at, snK_at, mK_at]
  simp only [dK_at]
  rfl

theorem oK_at (h : Fin 20) (d : Fin 128) :
    oK x0 x1 x2 x3 x4 n (ix3 0 h d) = Formula.oNew (gq x0) (gkc x1) (gks x2) (gkn x3) (gkn x4) n h d := by
  unfold oK
  rw [pay5_at, snK_at, mK_at, vrow_at]
  simp only [dK_at]
  rfl
end

variable (m : (ℓ : Loc nD τ sig) → Buf (Elt Ideal) ℓ)

/-- The length a grid point reads from the table. -/
def lenOf (x : IVec S112 32) (i : grid0.Coords) : BitVec 32 := x (ix1 ⟨(i 0).val, (i 0).isLt⟩)

theorem off (i : grid0.Coords) : ∀ a, k0_off1 i a = (i 0).val := by
  revert i; decide +kernel

theorem len_read (c : Dev nD) (i : grid0.Coords) (x : TbBuf0 (F := Ideal) c tbM0_0) (y : _) :
    View.ld (View.read (Elt Ideal) (View.whole main_arg5) x) (Rect.unit (s := S112) (k0_off1 i) S1.size (k0_off1_inb i)) y
      = lenOf x i := by
  refine congrArg x (funext fun a => ?_)
  match a with
  | ⟨0, _⟩ =>
    apply Fin.ext
    have := off i 0
    have hy : (y 0).val < 1 := (y 0).isLt
    show k0_off1 i 0 + 1 * (y 0).val = (i 0).val
    omega

theorem out5 (c : Dev nD) (i : grid0.Coords) (arg2 : Memref sig .tc .vmem S1x20x128 .bf16) (harg2 : arg2.IsWhole) (arg3 : Memref sig .tc .vmem S1x4x1280x128 .fp8e4m3) (harg3 : arg3.IsWhole) (arg4 : Memref sig .tc .vmem S1x4x1280 .f32) (harg4 : arg4.IsWhole) (arg5 : Memref sig .tc .vmem S1x4x128 .bf16) (harg5 : arg5.IsWhole) (arg6 : Memref sig .tc .vmem S1x4x128 .bf16) (harg6 : arg6.IsWhole) (arg7 : Memref sig .tc .vmem S1x20x1280 .f32) (harg7 : arg7.IsWhole) (arg8 : Memref sig .tc .vmem S1x20x128 .f32) (harg8 : arg8.IsWhole)
    (x0 : Vec Ideal S1x20x128 .bf16) (x1 : Vec Ideal S1x4x1280x128 .fp8e4m3) (x2 : Vec Ideal S1x4x1280 .f32) (x3 : Vec Ideal S1x4x128 .bf16) (x4 : Vec Ideal S1x4x128 .bf16) (xt0 : TbBuf0 (F := Ideal) c tbM0_0) :
    out0_A_5 c i arg2 harg2 arg3 harg3 arg4 harg4 arg5 harg5 arg6 harg6 arg7 harg7 arg8 harg8 x0 x1 x2 x3 x4 xt0 = pK x0 x1 x2 x3 (lenOf xt0 i) := by
  unfold out0_A_5
  frame_out
  rw [len_read]
  rfl

theorem out6 (c : Dev nD) (i : grid0.Coords) (arg2 : Memref sig .tc .vmem S1x20x128 .bf16) (harg2 : arg2.IsWhole) (arg3 : Memref sig .tc .vmem S1x4x1280x128 .fp8e4m3) (harg3 : arg3.IsWhole) (arg4 : Memref sig .tc .vmem S1x4x1280 .f32) (harg4 : arg4.IsWhole) (arg5 : Memref sig .tc .vmem S1x4x128 .bf16) (harg5 : arg5.IsWhole) (arg6 : Memref sig .tc .vmem S1x4x128 .bf16) (harg6 : arg6.IsWhole) (arg7 : Memref sig .tc .vmem S1x20x1280 .f32) (harg7 : arg7.IsWhole) (arg8 : Memref sig .tc .vmem S1x20x128 .f32) (harg8 : arg8.IsWhole)
    (x0 : Vec Ideal S1x20x128 .bf16) (x1 : Vec Ideal S1x4x1280x128 .fp8e4m3) (x2 : Vec Ideal S1x4x1280 .f32) (x3 : Vec Ideal S1x4x128 .bf16) (x4 : Vec Ideal S1x4x128 .bf16) (xt0 : TbBuf0 (F := Ideal) c tbM0_0) :
    out0_A_6 c i arg2 harg2 arg3 harg3 arg4 harg4 arg5 harg5 arg6 harg6 arg7 harg7 arg8 harg8 x0 x1 x2 x3 x4 xt0 = oK x0 x1 x2 x3 x4 (lenOf xt0 i) := by
  unfold out0_A_6
  frame_out
  rw [len_read]
  rfl

/-! ## The blocks, from the arrays -/

theorem V_v0 (c : Dev nD) : V m c main_v0 = (shapeCast S112x20x128 (m ((c.tc : Thread nD τ).loc main_arg0) : FVec Ideal S112x1x2560 .bf16) shapeCasts_S112x1x2560_S112x20x128 : FVec Ideal S112x20x128 .bf16) := by
  unfold V
  simp only [hostOps0, List.flatten_cons, List.flatten_nil, List.append_nil]
  after_results
  rfl
theorem V_v1 (c : Dev nD) : V m c main_v1 = shapeCast S112x4x128 (m ((c.tc : Thread nD τ).loc main_arg1) : FVec Ideal S112x1x4x128 .bf16) shapeCasts_S112x1x4x128_S112x4x128 := by
  unfold V
  simp only [hostOps0, List.flatten_cons, List.flatten_nil, List.append_nil]
  after_results
  rfl
theorem V_v2 (c : Dev nD) : V m c main_v2 = shapeCast S112x4x128 (m ((c.tc : Thread nD τ).loc main_arg2) : FVec Ideal S112x1x4x128 .bf16) shapeCasts_S112x1x4x128_S112x4x128 := by
  unfold V
  simp only [hostOps0, List.flatten_cons, List.flatten_nil, List.append_nil]
  after_results
  rfl

theorem coord (t : Fin grid0.N) : (grid0.coords t 0).val = t.val := by
  revert t; decide +kernel

theorem idx0 (t : Fin grid0.N) : ∀ a, cc0_transform_0 (grid0.coords t) a = (![t.val, 0, 0] : Fin 3 → ℕ) a := by
  revert t; decide +kernel
theorem idx1 (t : Fin grid0.N) : ∀ a, cc0_transform_1 (grid0.coords t) a = (![t.val, 0, 0, 0] : Fin 4 → ℕ) a := by
  revert t; decide +kernel
theorem idx2 (t : Fin grid0.N) : ∀ a, cc0_transform_2 (grid0.coords t) a = (![t.val, 0, 0] : Fin 3 → ℕ) a := by
  revert t; decide +kernel
theorem idx3 (t : Fin grid0.N) : ∀ a, cc0_transform_3 (grid0.coords t) a = (![t.val, 0, 0] : Fin 3 → ℕ) a := by
  revert t; decide +kernel
theorem idx4 (t : Fin grid0.N) : ∀ a, cc0_transform_4 (grid0.coords t) a = (![t.val, 0, 0] : Fin 3 → ℕ) a := by
  revert t; decide +kernel
theorem idx5 (t : Fin grid0.N) : ∀ a, cc0_transform_5 (grid0.coords t) a = (![t.val, 0, 0] : Fin 3 → ℕ) a := by
  revert t; decide +kernel
theorem idx6 (t : Fin grid0.N) : ∀ a, cc0_transform_6 (grid0.coords t) a = (![t.val, 0, 0] : Fin 3 → ℕ) a := by
  revert t; decide +kernel

theorem emb0 (hO : Ok m) (t : Fin (cfgM m hO).N) (i : Fin 112) (hi : i.val = t.val) (h : Fin 20) (d : Fin 128) :
    (((cfgM m hO).win 0).blk t).view.emb (ix3 0 h d : S1x20x128.Idx) = (ix3 i h d : S112x20x128.Idx) := by
  refine funext fun a => Fin.ext ((Pipeline.Window.rect_emb_val ((cfgM m hO).win 0) t (ix3 0 h d : S1x20x128.Idx) a rfl).trans ?_)
  match a with
  | ⟨0, _⟩ =>
    have := idx0 t 0
    show cc0_transform_0 (grid0.coords t) 0 * 1 + 0 = i.val
    rw [this]; show t.val * 1 + 0 = i.val; omega
  | ⟨1, _⟩ =>
    have := idx0 t 1
    show cc0_transform_0 (grid0.coords t) 1 * 20 + h.val = h.val
    rw [this]; show 0 * 20 + h.val = h.val; omega
  | ⟨2, _⟩ =>
    have := idx0 t 2
    show cc0_transform_0 (grid0.coords t) 2 * 128 + d.val = d.val
    rw [this]; show 0 * 128 + d.val = d.val; omega

theorem emb1 (hO : Ok m) (t : Fin (cfgM m hO).N) (i : Fin 112) (hi : i.val = t.val) (g : Fin 4) (t' : Fin 1280) (d : Fin 128) :
    (((cfgM m hO).win 1).blk t).view.emb (ix4 0 g t' d : S1x4x1280x128.Idx) = (ix4 i g t' d : S112x4x1280x128.Idx) := by
  refine funext fun a => Fin.ext ((Pipeline.Window.rect_emb_val ((cfgM m hO).win 1) t (ix4 0 g t' d : S1x4x1280x128.Idx) a rfl).trans ?_)
  match a with
  | ⟨0, _⟩ =>
    have := idx1 t 0
    show cc0_transform_1 (grid0.coords t) 0 * 1 + 0 = i.val
    rw [this]; show t.val * 1 + 0 = i.val; omega
  | ⟨1, _⟩ =>
    have := idx1 t 1
    show cc0_transform_1 (grid0.coords t) 1 * 4 + g.val = g.val
    rw [this]; show 0 * 4 + g.val = g.val; omega
  | ⟨2, _⟩ =>
    have := idx1 t 2
    show cc0_transform_1 (grid0.coords t) 2 * 1280 + t'.val = t'.val
    rw [this]; show 0 * 1280 + t'.val = t'.val; omega
  | ⟨3, _⟩ =>
    have := idx1 t 3
    show cc0_transform_1 (grid0.coords t) 3 * 128 + d.val = d.val
    rw [this]; show 0 * 128 + d.val = d.val; omega

theorem emb2 (hO : Ok m) (t : Fin (cfgM m hO).N) (i : Fin 112) (hi : i.val = t.val) (g : Fin 4) (t' : Fin 1280) :
    (((cfgM m hO).win 2).blk t).view.emb (ix3 0 g t' : S1x4x1280.Idx) = (ix3 i g t' : S112x4x1280.Idx) := by
  refine funext fun a => Fin.ext ((Pipeline.Window.rect_emb_val ((cfgM m hO).win 2) t (ix3 0 g t' : S1x4x1280.Idx) a rfl).trans ?_)
  match a with
  | ⟨0, _⟩ =>
    have := idx2 t 0
    show cc0_transform_2 (grid0.coords t) 0 * 1 + 0 = i.val
    rw [this]; show t.val * 1 + 0 = i.val; omega
  | ⟨1, _⟩ =>
    have := idx2 t 1
    show cc0_transform_2 (grid0.coords t) 1 * 4 + g.val = g.val
    rw [this]; show 0 * 4 + g.val = g.val; omega
  | ⟨2, _⟩ =>
    have := idx2 t 2
    show cc0_transform_2 (grid0.coords t) 2 * 1280 + t'.val = t'.val
    rw [this]; show 0 * 1280 + t'.val = t'.val; omega

theorem emb3 (hO : Ok m) (t : Fin (cfgM m hO).N) (i : Fin 112) (hi : i.val = t.val) (g : Fin 4) (d : Fin 128) :
    (((cfgM m hO).win 3).blk t).view.emb (ix3 0 g d : S1x4x128.Idx) = (ix3 i g d : S112x4x128.Idx) := by
  refine funext fun a => Fin.ext ((Pipeline.Window.rect_emb_val ((cfgM m hO).win 3) t (ix3 0 g d : S1x4x128.Idx) a rfl).trans ?_)
  match a with
  | ⟨0, _⟩ =>
    have := idx3 t 0
    show cc0_transform_3 (grid0.coords t) 0 * 1 + 0 = i.val
    rw [this]; show t.val * 1 + 0 = i.val; omega
  | ⟨1, _⟩ =>
    have := idx3 t 1
    show cc0_transform_3 (grid0.coords t) 1 * 4 + g.val = g.val
    rw [this]; show 0 * 4 + g.val = g.val; omega
  | ⟨2, _⟩ =>
    have := idx3 t 2
    show cc0_transform_3 (grid0.coords t) 2 * 128 + d.val = d.val
    rw [this]; show 0 * 128 + d.val = d.val; omega

theorem emb4 (hO : Ok m) (t : Fin (cfgM m hO).N) (i : Fin 112) (hi : i.val = t.val) (g : Fin 4) (d : Fin 128) :
    (((cfgM m hO).win 4).blk t).view.emb (ix3 0 g d : S1x4x128.Idx) = (ix3 i g d : S112x4x128.Idx) := by
  refine funext fun a => Fin.ext ((Pipeline.Window.rect_emb_val ((cfgM m hO).win 4) t (ix3 0 g d : S1x4x128.Idx) a rfl).trans ?_)
  match a with
  | ⟨0, _⟩ =>
    have := idx4 t 0
    show cc0_transform_4 (grid0.coords t) 0 * 1 + 0 = i.val
    rw [this]; show t.val * 1 + 0 = i.val; omega
  | ⟨1, _⟩ =>
    have := idx4 t 1
    show cc0_transform_4 (grid0.coords t) 1 * 4 + g.val = g.val
    rw [this]; show 0 * 4 + g.val = g.val; omega
  | ⟨2, _⟩ =>
    have := idx4 t 2
    show cc0_transform_4 (grid0.coords t) 2 * 128 + d.val = d.val
    rw [this]; show 0 * 128 + d.val = d.val; omega

theorem emb5 (hO : Ok m) (t : Fin (cfgM m hO).N) (i : Fin 112) (hi : i.val = t.val) (h : Fin 20) (t' : Fin 1280) :
    (((cfgM m hO).win 5).blk t).view.emb (ix3 0 h t' : S1x20x1280.Idx) = (ix3 i h t' : S112x20x1280.Idx) := by
  refine funext fun a => Fin.ext ((Pipeline.Window.rect_emb_val ((cfgM m hO).win 5) t (ix3 0 h t' : S1x20x1280.Idx) a rfl).trans ?_)
  match a with
  | ⟨0, _⟩ =>
    have := idx5 t 0
    show cc0_transform_5 (grid0.coords t) 0 * 1 + 0 = i.val
    rw [this]; show t.val * 1 + 0 = i.val; omega
  | ⟨1, _⟩ =>
    have := idx5 t 1
    show cc0_transform_5 (grid0.coords t) 1 * 20 + h.val = h.val
    rw [this]; show 0 * 20 + h.val = h.val; omega
  | ⟨2, _⟩ =>
    have := idx5 t 2
    show cc0_transform_5 (grid0.coords t) 2 * 1280 + t'.val = t'.val
    rw [this]; show 0 * 1280 + t'.val = t'.val; omega

theorem emb6 (hO : Ok m) (t : Fin (cfgM m hO).N) (i : Fin 112) (hi : i.val = t.val) (h : Fin 20) (d : Fin 128) :
    (((cfgM m hO).win 6).blk t).view.emb (ix3 0 h d : S1x20x128.Idx) = (ix3 i h d : S112x20x128.Idx) := by
  refine funext fun a => Fin.ext ((Pipeline.Window.rect_emb_val ((cfgM m hO).win 6) t (ix3 0 h d : S1x20x128.Idx) a rfl).trans ?_)
  match a with
  | ⟨0, _⟩ =>
    have := idx6 t 0
    show cc0_transform_6 (grid0.coords t) 0 * 1 + 0 = i.val
    rw [this]; show t.val * 1 + 0 = i.val; omega
  | ⟨1, _⟩ =>
    have := idx6 t 1
    show cc0_transform_6 (grid0.coords t) 1 * 20 + h.val = h.val
    rw [this]; show 0 * 20 + h.val = h.val; omega
  | ⟨2, _⟩ =>
    have := idx6 t 2
    show cc0_transform_6 (grid0.coords t) 2 * 128 + d.val = d.val
    rw [this]; show 0 * 128 + d.val = d.val; omega

theorem q_at (X : FVec Ideal S112x1x2560 .bf16) (i : Fin 112) (h : Fin 20) (d : Fin 128) :
    (shapeCast S112x20x128 X shapeCasts_S112x1x2560_S112x20x128 : FVec Ideal S112x20x128 .bf16) (ix3 i h d) = RefScoresIdeal.RefValue.fq X i h d := by
  pointwise []
  exact congrArg X (congrArg (ix3 i 0) (Fin.ext (by show h.val * 128 + d.val = 128 * h.val + d.val; omega)))
theorem kn_at (X : FVec Ideal S112x1x4x128 .bf16) (i : Fin 112) (g : Fin 4) (d : Fin 128) :
    (shapeCast S112x4x128 X shapeCasts_S112x1x4x128_S112x4x128 : FVec Ideal S112x4x128 .bf16) (ix3 i g d) = RefScoresIdeal.RefValue.fkn X i g d := by
  pointwise []

section
variable (hO : Ok m) (c : Dev nD) (t : Fin (cfgM m hO).N) (i : Fin 112) (hi : i.val = t.val)
include hi
theorem blk0 : gq (iblk m hO c 0 t) = RefScoresIdeal.RefValue.fq (m ((c.tc : Thread nD τ).loc main_arg0)) i :=
  funext fun h => funext fun d => (congrArg (V m c main_v0) (emb0 m hO t i hi h d)).trans
    ((congrFun (V_v0 m c) _).trans (q_at _ i h d))
theorem blk1 : gkc (iblk m hO c 1 t) = RefScoresIdeal.RefValue.fkc (m ((c.tc : Thread nD τ).loc main_arg3)) i :=
  funext fun g => funext fun t' => funext fun d => (congrArg (V m c main_arg3) (emb1 m hO t i hi g t' d)).trans
    (congrFun (V_main_arg3 m c) _)
theorem blk2 : gks (iblk m hO c 2 t) = RefScoresIdeal.RefValue.fks (m ((c.tc : Thread nD τ).loc main_arg4)) i :=
  funext fun g => funext fun t' => (congrArg (V m c main_arg4) (emb2 m hO t i hi g t')).trans (congrFun (V_main_arg4 m c) _)
theorem blk3 : gkn (iblk m hO c 3 t) = RefScoresIdeal.RefValue.fkn (m ((c.tc : Thread nD τ).loc main_arg1)) i :=
  funext fun g => funext fun d => (congrArg (V m c main_v1) (emb3 m hO t i hi g d)).trans
    ((congrFun (V_v1 m c) _).trans (kn_at _ i g d))
theorem blk4 : gkn (iblk m hO c 4 t) = RefScoresIdeal.RefValue.fkn (m ((c.tc : Thread nD τ).loc main_arg2)) i :=
  funext fun g => funext fun d => (congrArg (V m c main_v2) (emb4 m hO t i hi g d)).trans
    ((congrFun (V_v2 m c) _).trans (kn_at _ i g d))
theorem len_at : lenOf (tbl m 0) (grid0.coords t) = (m ((c.tc : Thread nD τ).loc main_arg5) : IVec S112 32) (ix1 i) := by
  obtain rfl : c = 0 := Subsingleton.elim _ _
  refine (congrFun (V_main_arg5 m 0) _).trans (congrArg _ ?_)
  exact congrArg ix1 (Fin.ext ((coord t).trans hi.symm))
end

end Cert.ScoresIdeal.RefValue
end
-- ==== Proof.ScoresValue.lean ====
/- The scores call's value: its two result arrays are the reference's (`final5`, `final6`), and `run` says that its program
   ends with them. -/
module

public import proofs.«01_k».proof.Proof.ScoresPoint

@[expose] public section

set_option maxRecDepth 16384

noncomputable section

namespace Cert.ScoresIdeal.RefValue

open Idealize.ShloMosaic Idealize.ShloMosaic.TcCoe Idealize.SL.Sem
open Idealize.ShloMosaic.Pipeline (Dat)
open Cert.ScoresIdeal Cert.ScoresIdeal.Gen Cert.Pick

variable (m : (ℓ : Loc nD τ sig) → Buf (Elt Ideal) ℓ)

/-! ## The result arrays -/

theorem nblk5 (hO : Ok m) : ((cfgM m hO).win 5).nblk (0 : Fin 3) = 112 ∧ ((cfgM m hO).win 5).nblk (1 : Fin 3) = 1
    ∧ ((cfgM m hO).win 5).nblk (2 : Fin 3) = 1 :=
  (by decide : (S112x20x1280.size 0 + S1x20x1280.size 0 - 1) / S1x20x1280.size 0 = 112 ∧ (S112x20x1280.size 1 + S1x20x1280.size 1 - 1) / S1x20x1280.size 1 = 1
    ∧ (S112x20x1280.size 2 + S1x20x1280.size 2 - 1) / S1x20x1280.size 2 = 1)

/-- The blocks of result 0 cover its array. -/
theorem covers5 (hO : Ok m) : ((cfgM m hO).win 5).Covers :=
  ⟨(by decide : ∀ a : Fin 3, 0 < S1x20x1280.size a), fun β => by
    have h0 : (β (0 : Fin 3)).val < 112 := lt_of_lt_of_eq (β (0 : Fin 3)).isLt (nblk5 m hO).1
    have h1 : (β (1 : Fin 3)).val < 1 := lt_of_lt_of_eq (β (1 : Fin 3)).isLt (nblk5 m hO).2.1
    have h2 : (β (2 : Fin 3)).val < 1 := lt_of_lt_of_eq (β (2 : Fin 3)).isLt (nblk5 m hO).2.2
    refine ⟨⟨(β (0 : Fin 3)).val, lt_of_lt_of_eq h0 N_0.symm⟩, flush0_5 _ _, fun a => ⟨?_, .inl rfl⟩⟩
    refine (idx5 ⟨(β (0 : Fin 3)).val, lt_of_lt_of_eq h0 N_0.symm⟩ a).trans ?_
    match a with
    | ⟨0, _⟩ => rfl
    | ⟨1, _⟩ => exact (Nat.lt_one_iff.mp h1).symm
    | ⟨2, _⟩ => exact (Nat.lt_one_iff.mp h2).symm⟩

theorem nblk6 (hO : Ok m) : ((cfgM m hO).win 6).nblk (0 : Fin 3) = 112 ∧ ((cfgM m hO).win 6).nblk (1 : Fin 3) = 1
    ∧ ((cfgM m hO).win 6).nblk (2 : Fin 3) = 1 :=
  (by decide : (S112x20x128.size 0 + S1x20x128.size 0 - 1) / S1x20x128.size 0 = 112 ∧ (S112x20x128.size 1 + S1x20x128.size 1 - 1) / S1x20x128.size 1 = 1
    ∧ (S112x20x128.size 2 + S1x20x128.size 2 - 1) / S1x20x128.size 2 = 1)

/-- The blocks of result 1 cover its array. -/
theorem covers6 (hO : Ok m) : ((cfgM m hO).win 6).Covers :=
  ⟨(by decide : ∀ a : Fin 3, 0 < S1x20x128.size a), fun β => by
    have h0 : (β (0 : Fin 3)).val < 112 := lt_of_lt_of_eq (β (0 : Fin 3)).isLt (nblk6 m hO).1
    have h1 : (β (1 : Fin 3)).val < 1 := lt_of_lt_of_eq (β (1 : Fin 3)).isLt (nblk6 m hO).2.1
    have h2 : (β (2 : Fin 3)).val < 1 := lt_of_lt_of_eq (β (2 : Fin 3)).isLt (nblk6 m hO).2.2
    refine ⟨⟨(β (0 : Fin 3)).val, lt_of_lt_of_eq h0 N_0.symm⟩, flush0_6 _ _, fun a => ⟨?_, .inl rfl⟩⟩
    refine (idx6 ⟨(β (0 : Fin 3)).val, lt_of_lt_of_eq h0 N_0.symm⟩ a).trans ?_
    match a with
    | ⟨0, _⟩ => rfl
    | ⟨1, _⟩ => exact (Nat.lt_one_iff.mp h1).symm
    | ⟨2, _⟩ => exact (Nat.lt_one_iff.mp h2).symm⟩

theorem at5 (hO : Ok m) (c : Dev nD) (t : Fin (cfgM m hO).N) :
    (outsAt0 m hO c t).1 = pK (iblk m hO c 0 t) (iblk m hO c 1 t) (iblk m hO c 2 t) (iblk m hO c 3 t) (lenOf (tbl m 0) (grid0.coords t)) := by
  unfold outsAt0
  dsimp only
  generalize iblk m hO c 0 t = x0
  generalize iblk m hO c 1 t = x1
  generalize iblk m hO c 2 t = x2
  generalize iblk m hO c 3 t = x3
  generalize iblk m hO c 4 t = x4
  generalize tbl m 0 = xt
  exact out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) _ _ _ _ _ _

theorem point5 (hO : Ok m) (c : Dev nD) (t : Fin (cfgM m hO).N) (hlt : t.val < 112) (h : Fin 20) (u : Fin 1280) :
    ((dats m hO 0 c).after 5 t : FVec Ideal S1x20x1280 .f32) (ix3 0 h u) = RefScoresIdeal.RefValue.resP (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix3 ⟨t, hlt⟩ h u) := by
  refine (congrFun (after0_5 m hO c t) _).trans ((congrFun (at5 m hO c t) _).trans ?_)
  refine (pK_at _ _ _ _ _ _ _).trans (Eq.trans ?_ (RefScoresIdeal.RefValue.resP_at _ _ _ _ _ _ _ _).symm)
  rw [blk0 m hO c t ⟨t, hlt⟩ rfl, blk1 m hO c t ⟨t, hlt⟩ rfl, blk2 m hO c t ⟨t, hlt⟩ rfl, blk3 m hO c t ⟨t, hlt⟩ rfl,
    len_at m hO c t ⟨t, hlt⟩ rfl]

theorem final5 (hO : Ok m) (c : Dev nD) : (dats m hO 0 c).arrAt 5 (cfgM m hO).N
    = RefScoresIdeal.RefValue.resP (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (dats m hO 0 c).arrAt_eq_of_covers 5 _ (covers5 m hO) fun t _ y => ?_
  have hlt : t.val < 112 := lt_of_lt_of_eq t.isLt N_0
  obtain ⟨h, u, rfl⟩ : ∃ (h : Fin 20) (u : Fin 1280), y = (ix3 0 h u : S1x20x1280.Idx) := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine Eq.trans ?_ (congrArg _ (emb5 m hO t ⟨t, hlt⟩ rfl h u).symm)
  exact point5 m hO c t hlt h u

theorem at6 (hO : Ok m) (c : Dev nD) (t : Fin (cfgM m hO).N) :
    (outsAt0 m hO c t).2 = oK (iblk m hO c 0 t) (iblk m hO c 1 t) (iblk m hO c 2 t) (iblk m hO c 3 t) (iblk m hO c 4 t) (lenOf (tbl m 0) (grid0.coords t)) := by
  unfold outsAt0
  dsimp only
  generalize iblk m hO c 0 t = x0
  generalize iblk m hO c 1 t = x1
  generalize iblk m hO c 2 t = x2
  generalize iblk m hO c 3 t = x3
  generalize iblk m hO c 4 t = x4
  generalize tbl m 0 = xt
  exact out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) _ _ _ _ _ _

theorem point6 (hO : Ok m) (c : Dev nD) (t : Fin (cfgM m hO).N) (hlt : t.val < 112) (h : Fin 20) (d : Fin 128) :
    ((dats m hO 0 c).after 6 t : FVec Ideal S1x20x128 .f32) (ix3 0 h d) = RefScoresIdeal.RefValue.resO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 ⟨t, hlt⟩ h d) := by
  refine (congrFun (after0_6 m hO c t) _).trans ((congrFun (at6 m hO c t) _).trans ?_)
  refine (oK_at _ _ _ _ _ _ _ _).trans (Eq.trans ?_ (RefScoresIdeal.RefValue.resO_at _ _ _ _ _ _ _ _ _).symm)
  rw [blk0 m hO c t ⟨t, hlt⟩ rfl, blk1 m hO c t ⟨t, hlt⟩ rfl, blk2 m hO c t ⟨t, hlt⟩ rfl, blk3 m hO c t ⟨t, hlt⟩ rfl, blk4 m hO c t ⟨t, hlt⟩ rfl,
    len_at m hO c t ⟨t, hlt⟩ rfl]

theorem final6 (hO : Ok m) (c : Dev nD) : (dats m hO 0 c).arrAt 6 (cfgM m hO).N
    = RefScoresIdeal.RefValue.resO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m hO 0 c).arrAt_eq_of_covers 6 _ (covers6 m hO) fun t _ y => ?_
  have hlt : t.val < 112 := lt_of_lt_of_eq t.isLt N_0
  obtain ⟨h, d, rfl⟩ : ∃ (h : Fin 20) (d : Fin 128), y = (ix3 0 h d : S1x20x128.Idx) := ⟨y (1 : Fin 3), y (2 : Fin 3), funext fun a => by
    match a with
    | ⟨0, _⟩ => exact Fin.ext (Nat.lt_one_iff.mp (y (0 : Fin 3)).isLt)
    | ⟨1, _⟩ => rfl
    | ⟨2, _⟩ => rfl⟩
  refine Eq.trans ?_ (congrArg _ (emb6 m hO t ⟨t, hlt⟩ rfl h d).symm)
  exact point6 m hO c t hlt h d

/-- The kernel's run: its two results and its arguments' contents at the end. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v3_0) = RefScoresIdeal.RefValue.resP (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
      ∧ r.2.mem ((c.tc : Thread nD τ).loc main_v3_1) = RefScoresIdeal.RefValue.resO (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 5).trans (final5 m hO c),
      ((h c).1 6).trans (final6 m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats m hO 0 c).arrAt_in 1 rfl _).trans ((A_eq m hO c 1).trans (V_main_arg3 m c))),
      ((h c).1 2).trans (((dats m hO 0 c).arrAt_in 2 rfl _).trans ((A_eq m hO c 2).trans (V_main_arg4 m c))),
      ((h c).2 main_arg5 (by decide : main_arg5 ∈ Pipeline.restRefs sig spec0)).trans (V_main_arg5 m c)⟩) (run_main m ρ hO)

end Cert.ScoresIdeal.RefValue
end
-- ==== Proof.HistRow.lean ====
/-
  One result row of the histogram, as a function: sixteen codes and sixteen weights at a time, the weights are added to
  the places which the codes name; clearing the same places again leaves the row of zeros.
-/
module

public import proofs.«01_k».proof.Defs
public import proofs.«01_k».proof.Proof.Gen.Hist
public import Idealize.ShloMosaic.Lib.Tactic

@[expose] public section

noncomputable section

namespace Cert.Proof.Hist

open Cert.Hist Cert.Hist.Gen
open Idealize.ShloMosaic

variable {F : FTy → Type} [FloatOps F]

/-- The row of zeros. -/
def zrow : Vec F S4096 .f32 := fun _ => Scalar.ofBits .f32 0x00000000#32

/-- Sixteen consecutive elements, from `16 t` on. -/
def chunk {α : Type} (u : S1280.Idx → α) (t : ℕ) : S16.Idx → α :=
  fun x => u (fun a => ⟨(16 * t + (x 0).val) % 1280, by
    have : S1280.size a = 1280 := by fin_cases a; rfl
    rw [this]; exact Nat.mod_lt _ (by decide)⟩)

/-- Every code names a place of the row. -/
abbrev InRow (v : IVec S16 32) : Prop := ∀ (a : Fin 1) x, ((![v] : Fin 1 → IVec S16 32) a x).toNat < S4096.size a

/-- The row after the first `t` chunks have been added. -/
def rowV (cs : Vec F S1280 .i32) (ps : Vec F S1280 .f32) : ℕ → Vec F S4096 .f32
  | 0 => zrow
  | t + 1 => if h : InRow (chunk cs t) then storeIdx (rowV cs ps t) ![chunk cs t] (chunk ps t) (fun _ => 1#1) true h else rowV cs ps t

/-- The row after the places of the first `t` chunks have been cleared. -/
def clrV (cs : Vec F S1280 .i32) (f : Vec F S4096 .f32) : ℕ → Vec F S4096 .f32
  | 0 => f
  | t + 1 => if h : InRow (chunk cs t) then storeIdx (clrV cs f t) ![chunk cs t] (broadcast S16 (Scalar.ofBits .f32 0x00000000#32)) (fun _ => 1#1) false h else clrV cs f t

/-- Some lane of the chunk names place `j`. -/
def Hits (v : IVec S16 32) (h : InRow v) (j : S4096.Idx) : Prop :=
  ∃ k : Fin 16, ∀ a, (j a).val = (idxAt (s := S4096) (![v] : Fin 1 → IVec S16 32) h (Shape.ofLane (d := ![16]) k) a).val

theorem foldl_miss {X J α : Type} (op : (J → α) → X → J → α) (P : X → Prop) (j : J) (hm : ∀ g k, ¬ P k → op g k j = g j) :
    ∀ (l : List X) (f : J → α), (¬ ∃ k ∈ l, P k) → l.foldl op f j = f j
  | [], _, _ => rfl
  | k :: l, f, hn => by
    rw [List.foldl_cons, foldl_miss op P j hm l _ fun ⟨k', hk', h⟩ => hn ⟨k', List.mem_cons_of_mem _ hk', h⟩]
    exact hm f k fun h => hn ⟨k, List.mem_cons_self, h⟩

theorem foldl_hit {X J α : Type} (op : (J → α) → X → J → α) (P : X → Prop) (j : J) (z : α) (hm : ∀ g k, ¬ P k → op g k j = g j)
    (hh : ∀ g k, P k → op g k j = z) :
    ∀ (l : List X) (f : J → α), ((∃ k ∈ l, P k) ∨ f j = z) → l.foldl op f j = z
  | [], _, h => h.elim (fun ⟨_, hk, _⟩ => absurd hk (List.not_mem_nil)) id
  | k :: l, f, h => by
    rw [List.foldl_cons]
    refine foldl_hit op P j z hm hh l _ ?_
    by_cases e : P k
    · exact .inr (hh f k e)
    · rcases h with ⟨k', hk', h⟩ | h
      · rcases List.mem_cons.mp hk' with rfl | hk'
        · exact absurd h e
        · exact .inl ⟨k', hk', h⟩
      · exact .inr ((hm f k e).trans h)

theorem storeIdx_untouched (f : Vec F S4096 .f32) (v : IVec S16 32) (w : Vec F S16 .f32) (add : Bool) (h : InRow v) (j : S4096.Idx)
    (hn : ¬ Hits v h j) : storeIdx f ![v] w (fun _ => 1#1) add h j = f j := by
  unfold storeIdx
  refine foldl_miss _ (fun k : Fin 16 => ∀ a, (j a).val = (idxAt (s := S4096) (![v] : Fin 1 → IVec S16 32) h (Shape.ofLane (d := ![16]) k) a).val) j ?_ _ f
    fun ⟨k, _, hk⟩ => hn ⟨k, hk⟩
  intro g k hk
  simp only [if_true]
  exact if_neg hk

theorem storeIdx_cleared (f : Vec F S4096 .f32) (v : IVec S16 32) (z : F .f32) (h : InRow v) (j : S4096.Idx)
    (hn : Hits v h j ∨ f j = z) : storeIdx f ![v] (broadcast S16 z) (fun _ => 1#1) false h j = z := by
  unfold storeIdx
  refine foldl_hit _ (fun k : Fin 16 => ∀ a, (j a).val = (idxAt (s := S4096) (![v] : Fin 1 → IVec S16 32) h (Shape.ofLane (d := ![16]) k) a).val) j z ?_ ?_ _ f
    (hn.imp_left fun ⟨k, hk⟩ => ⟨k, List.mem_finRange _, hk⟩)
  · intro g k hk
    simp only [if_true]
    exact if_neg hk
  · intro g k hk
    simp only [if_true]
    exact if_pos hk

theorem rowV_or (cs : Vec F S1280 .i32) (ps : Vec F S1280 .f32) (j : S4096.Idx) :
    ∀ T, rowV cs ps T j = zrow j ∨ ∃ t < T, ∃ h : InRow (chunk cs t), Hits (chunk cs t) h j := by
  intro T
  induction T with
  | zero => exact .inl rfl
  | succ t ih =>
    rcases ih with ih | ⟨t', ht', H⟩
    · by_cases h : InRow (chunk cs t)
      · by_cases hh : Hits (chunk cs t) h j
        · exact .inr ⟨t, Nat.lt_succ_self t, h, hh⟩
        · left; unfold rowV; rw [dif_pos h, storeIdx_untouched _ _ _ _ _ _ hh, ih]
      · left; unfold rowV; rw [dif_neg h, ih]
    · exact .inr ⟨t', Nat.lt_succ_of_lt ht', H⟩

theorem clrV_zero (cs : Vec F S1280 .i32) (f : Vec F S4096 .f32) (j : S4096.Idx) :
    ∀ T, (f j = zrow j ∨ ∃ t < T, ∃ h : InRow (chunk cs t), Hits (chunk cs t) h j) → clrV cs f T j = zrow j := by
  intro T
  induction T with
  | zero => rintro (h | ⟨t, ht, -⟩); · exact h
            · exact absurd ht (Nat.not_lt_zero t)
  | succ t ih =>
    intro H
    unfold clrV
    by_cases h : InRow (chunk cs t)
    · rw [dif_pos h]
      refine storeIdx_cleared _ _ _ h j ?_
      by_cases hh : Hits (chunk cs t) h j
      · exact .inl hh
      · right
        refine ih ?_
        rcases H with H | ⟨t', ht', h', hit⟩
        · exact .inl H
        · rcases Nat.lt_succ_iff_lt_or_eq.mp ht' with ht' | rfl
          · exact .inr ⟨t', ht', h', hit⟩
          · exact absurd hit hh
    · rw [dif_neg h]
      refine ih ?_
      rcases H with H | ⟨t', ht', h', hit⟩
      · exact .inl H
      · rcases Nat.lt_succ_iff_lt_or_eq.mp ht' with ht' | rfl
        · exact .inr ⟨t', ht', h', hit⟩
        · exact absurd h' h

/-- The row, cleared by the same chunks, is the row of zeros again. -/
theorem clrV_rowV (cs : Vec F S1280 .i32) (ps : Vec F S1280 .f32) (T : ℕ) : clrV cs (rowV cs ps T) T = zrow :=
  funext fun j => clrV_zero cs _ j T (rowV_or cs ps j T)

end Cert.Proof.Hist
-- ==== Proof.HistWords.lean ====
/-
  The words that the histogram's kernel computes, as numbers: how many chunks of sixteen a length asks for, and which row
  a trip of a subcore works at.
-/
module

public import proofs.«01_k».proof.Defs
public import proofs.«01_k».proof.Proof.Gen.Hist
public import Idealize.ShloMosaic.Lib.LoopRemainder
public import Idealize.ShloMosaic.Lib.Tactic

@[expose] public section

namespace Cert.Proof.Hist

open Cert.Hist Cert.Hist.Gen
open Idealize.ShloMosaic

theorem ub_pos : ∀ n : Fin 1281, (k0_t7_loop (BitVec.ofNat 32 n.val)).ub.toInt = ((n.val + 15) / 16 : ℕ)
    ∧ (k0_t9_loop (BitVec.ofNat 32 n.val)).ub.toInt = ((n.val + 15) / 16 : ℕ) := by
  decide +kernel

theorem off6_val : ∀ (a : Fin 2) (b : Fin 16) (t : Fin k0_t6_loop.trips),
    k0_off6 (fun | 0 => a | 1 => b | ⟨_ + 2, h⟩ => absurd h (Nat.not_lt.2 (Nat.le_add_left _ _))) t 0 = 8 * t.val + (2 * b.val + a.val) / 4 := by
  decide +kernel

theorem off7_val : ∀ (a : Fin 2) (b : Fin 16) (t : Fin k0_t6_loop.trips),
    k0_off7 (fun | 0 => a | 1 => b | ⟨_ + 2, h⟩ => absurd h (Nat.not_lt.2 (Nat.le_add_left _ _))) t = ![8 * t.val + (2 * b.val + a.val) / 4, (2 * b.val + a.val) % 4, 0] := by
  decide +kernel

theorem off8_val : ∀ (a : Fin 2) (b : Fin 16) (t : Fin k0_t6_loop.trips) (j : Fin 5),
    k0_off8 (fun | 0 => a | 1 => b | ⟨_ + 2, h⟩ => absurd h (Nat.not_lt.2 (Nat.le_add_left _ _))) t (BitVec.ofNat 32 j.val)
      = ![8 * t.val + (2 * b.val + a.val) / 4, 5 * ((2 * b.val + a.val) % 4) + j.val, 0] := by
  decide +kernel

theorem off13_val : ∀ (a : Fin 2) (b : Fin 16) (t : Fin k0_t6_loop.trips) (j : Fin 5),
    k0_off13 (fun | 0 => a | 1 => b | ⟨_ + 2, h⟩ => absurd h (Nat.not_lt.2 (Nat.le_add_left _ _))) t (BitVec.ofNat 32 j.val)
      = ![8 * t.val + (2 * b.val + a.val) / 4, 5 * ((2 * b.val + a.val) % 4) + j.val, 0] := by
  decide +kernel

theorem divsi_one (x : BitVec 32) : Scalar.divsi x 1#32 = x := by
  have h := Scalar.muli_divsi_one x
  unfold Scalar.muli IntOp.muli at h
  rwa [BitVec.mul_one] at h

theorem ub9_eq (v : BitVec 32) : (k0_t9_loop v).ub = (k0_t7_loop v).ub := rfl

theorem tdiv_16 (a : Int) : (0 ≤ a ∧ a.tdiv 16 = a / 16) ∨ (a < 0 ∧ a.tdiv 16 = -(-a / 16)) := by
  rcases Int.lt_or_le a 0 with h | h
  · right
    refine ⟨h, ?_⟩
    have : a = -(-a) := by omega
    rw [this, Int.neg_tdiv, Int.tdiv_eq_ediv_of_nonneg (by omega)]
    omega
  · exact .inl ⟨h, Int.tdiv_eq_ediv_of_nonneg h⟩

theorem divsi_16 (x : BitVec 32) : (Scalar.divsi x 16#32).toInt = x.toInt.tdiv 16 := by
  have hx := BitVec.toInt_lt (x := x)
  have hx' := BitVec.le_toInt (x := x)
  have h : ¬ IntOp.SDivCorner x 16#32 := by
    unfold IntOp.SDivCorner
    rintro (h | ⟨-, h⟩) <;> revert h <;> decide
  show (IntOp.divsi _ x 16#32).toInt = _
  unfold IntOp.divsi
  rw [if_neg h, BitVec.toInt_sdiv]
  have h16 : (16#32 : BitVec 32).toInt = 16 := by decide
  rw [h16]
  simp only [show ((32 : ℕ) - 1) = 31 from rfl] at hx hx'
  rcases tdiv_16 x.toInt with ⟨h0, h⟩ | ⟨h0, h⟩ <;> rw [h] <;> apply Int.bmod_eq_of_le <;> omega

theorem e_word (x : BitVec 32) : Scalar.addi 0#32 (Scalar.subi (Scalar.addi (Scalar.subi x 0#32) (Scalar.subi 1#32 1#32)) 0#32) = x := by
  show 0#32 + (((x - 0#32) + (1#32 - 1#32)) - 0#32) = x
  simp

theorem ub_eq (v : BitVec 32) : ∃ c : BitVec 1, (k0_t7_loop v).ub
    = Scalar.select c (Scalar.subi (Scalar.divsi (Scalar.subi (Scalar.addi v 16#32) 1#32) 16#32) 1#32) (Scalar.divsi (Scalar.subi (Scalar.addi v 16#32) 1#32) 16#32) := by
  refine ⟨Scalar.andi (Scalar.cmpi .ne (Scalar.subi (Scalar.extui (Scalar.cmpi .sgt (Scalar.subi (Scalar.addi v 16#32) 1#32) 0#32)) (Scalar.extui (Scalar.cmpi .slt (Scalar.subi (Scalar.addi v 16#32) 1#32) 0#32)))
    (Scalar.subi (Scalar.extui (Scalar.cmpi .sgt 16#32 0#32)) (Scalar.extui (Scalar.cmpi .slt 16#32 0#32)))) (Scalar.cmpi .ne (Scalar.remsi (Scalar.subi (Scalar.addi v 16#32) 1#32) 16#32) 0#32), ?_⟩
  unfold k0_t7_loop
  dsimp only
  rw [Scalar.muli_divsi_one, divsi_one]
  exact e_word _

/-- A length that is not positive asks for no chunk. -/
theorem ub_neg (v : BitVec 32) (hv : v.toInt ≤ 0) : (k0_t7_loop v).ub.toInt ≤ 0 := by
  obtain ⟨c, hc⟩ := ub_eq v
  rw [hc]
  have hx' := BitVec.le_toInt (x := v)
  simp only [show ((32 : ℕ) - 1) = 31 from rfl] at hx'
  have h16 : (16#32 : BitVec 32).toInt = 16 := by decide
  have h1 : (1#32 : BitVec 32).toInt = 1 := by decide
  have h45 : (Scalar.subi (Scalar.addi v 16#32) 1#32).toInt = v.toInt + 15 := by
    show ((v + 16#32) - 1#32).toInt = _
    rw [BitVec.toInt_sub, BitVec.toInt_add, h16, h1, Int.bmod_sub_bmod]
    rw [Int.bmod_eq_of_le] <;> omega
  have hd := divsi_16 (Scalar.subi (Scalar.addi v 16#32) 1#32)
  rw [h45] at hd
  generalize Scalar.divsi (Scalar.subi (Scalar.addi v 16#32) 1#32) 16#32 = q at hd
  have ht := tdiv_16 (v.toInt + 15)
  have hq0 : q.toInt ≤ 0 := by rw [hd]; omega
  have hq1 : -(2 ^ 27 : Int) - 1 ≤ q.toInt := by rw [hd]; omega
  unfold Scalar.select
  split
  · show (q - 1#32).toInt ≤ 0
    rw [BitVec.toInt_sub, h1, Int.bmod_eq_of_le] <;> omega
  · exact hq0

theorem trips7_eq (v : BitVec 32) : (k0_t7_loop v).trips = (k0_t7_loop v).ub.toInt.toNat := by
  show ((_ - (0#32 : BitVec 32).toInt + (1#32 : BitVec 32).toInt - 1) / (1#32 : BitVec 32).toInt).toNat = _
  have h1 : (1#32 : BitVec 32).toInt = 1 := by decide
  have h0 : (0#32 : BitVec 32).toInt = 0 := by decide
  rw [h0, h1]
  congr 1
  omega

theorem trips9_eq (v : BitVec 32) : (k0_t9_loop v).trips = (k0_t7_loop v).trips := rfl

/-- How many chunks a length at most 1280 asks for. -/
theorem trips_val (v : BitVec 32) (hv : v.toInt ≤ 1280) : (k0_t7_loop v).ub.toInt ≤ 80 ∧ v.toInt ≤ 16 * (k0_t7_loop v).trips ∧ (k0_t7_loop v).trips ≤ 80 := by
  rw [trips7_eq]
  rcases Int.lt_or_le 0 v.toInt with h | h
  · have hn : v.toNat < 1281 := by
      have := BitVec.toInt_eq_toNat_cond v
      have hl := v.isLt
      split at this <;> omega
    have hi : v.toInt = v.toNat := by
      have := BitVec.toInt_eq_toNat_cond v
      have hl := v.isLt
      split at this <;> omega
    have hb : (k0_t7_loop v).ub.toInt = ((v.toNat + 15) / 16 : ℕ) := by
      have hb := (ub_pos ⟨v.toNat, hn⟩).1
      rw [show BitVec.ofNat 32 (⟨v.toNat, hn⟩ : Fin 1281).val = v from by show BitVec.ofNat 32 v.toNat = v; rw [BitVec.ofNat_toNat, BitVec.setWidth_eq]] at hb
      exact hb
    rw [hb]
    omega
  · have := ub_neg v h
    omega

theorem ok7 (v : BitVec 32) (hv : v.toInt ≤ 1280) : (k0_t7_loop v).OK := by
  have := (trips_val v hv).1
  have h0 : (k0_t7_loop v).lb.toInt = 0 := by show (0#32 : BitVec 32).toInt = 0; decide
  exact Affine.ok (Affine.word _) (Affine.word _) (Affine.ofNat 1 ⟨rfl, by decide⟩) ⟨by decide, by omega⟩

theorem off_val (n : ℕ) (hn : n < 80) :
    (Scalar.indexCast (Scalar.muli (Scalar.addi 0#32 (Scalar.muli (Scf.iv 0#32 1#32 n) 1#32)) 16#32)).toNat = 16 * n := by
  have : ∀ n : Fin 80, (Scalar.indexCast (Scalar.muli (Scalar.addi 0#32 (Scalar.muli (Scf.iv 0#32 1#32 n.val) 1#32)) 16#32)).toNat = 16 * n.val := by
    decide +kernel
  exact this ⟨n, hn⟩

theorem off9_eq (v : BitVec 32) (hv : v.toInt ≤ 1280) (k : Fin (k0_t7_loop v).trips) : k0_off9 v k 0 = 16 * k.val :=
  off_val k.val (lt_of_lt_of_le k.isLt (trips_val v hv).2.2)
theorem off10_eq (v : BitVec 32) (hv : v.toInt ≤ 1280) (k : Fin (k0_t7_loop v).trips) : k0_off10 v k 0 = 16 * k.val :=
  off_val k.val (lt_of_lt_of_le k.isLt (trips_val v hv).2.2)
theorem off14_eq (v : BitVec 32) (hv : v.toInt ≤ 1280) (k : Fin (k0_t9_loop v).trips) : k0_off14 v k 0 = 16 * k.val :=
  off_val k.val (lt_of_lt_of_le k.isLt (trips_val v hv).2.2)

/-- What the kernel assumes of a length it has read holds of every length at most 1280. -/
theorem chk1_of (v : BitVec 32) (hv : v.toInt ≤ 1280) : k0_chk1 v := by
  have ht := (trips_val v hv).2.2
  refine ⟨ok7 v hv, ?_, ?_, Scf.rem_ok _ _, ?_, ?_, ok7 v hv, ?_, Scf.rem_ok _ _, ?_⟩
  · intro k a
    obtain rfl : a = 0 := Subsingleton.elim _ _
    have := k.isLt
    rw [off9_eq v hv k]
    show 16 * k.val + 16 ≤ 1280
    omega
  · intro k a
    obtain rfl : a = 0 := Subsingleton.elim _ _
    have := k.isLt
    rw [off10_eq v hv k]
    show 16 * k.val + 16 ≤ 1280
    omega
  · intro k; exact (Scf.rem_no_trip _ _ k).elim
  · intro k; exact (Scf.rem_no_trip _ _ k).elim
  · intro k a
    obtain rfl : a = 0 := Subsingleton.elim _ _
    have := k.isLt
    rw [off14_eq v hv k]
    show 16 * k.val + 16 ≤ 1280
    have h9 := trips9_eq v
    omega
  · intro k; exact (Scf.rem_no_trip _ _ k).elim

/-! ## The rows, by the subcore's coordinates -/

theorem coords_eta (L : grid0.Coords) : L = (fun | 0 => L 0 | 1 => L 1 | ⟨_ + 2, h⟩ => absurd h (Nat.not_lt.2 (Nat.le_add_left _ _))) := by
  funext a
  match a with
  | 0 => rfl
  | 1 => rfl

/-- The batch row and the group of a subcore's trip. -/
def bOf (L : grid0.Coords) (t : Fin k0_t6_loop.trips) : ℕ := 8 * t.val + (2 * (L 1).val + (L 0).val) / 4
def gOf (L : grid0.Coords) : ℕ := (2 * (L 1).val + (L 0).val) % 4

theorem off6_eq (L : grid0.Coords) (t : Fin k0_t6_loop.trips) : k0_off6 L t 0 = bOf L t := by
  have h := off6_val (L 0) (L 1) t
  rw [← coords_eta L] at h; exact h
theorem off7_eq (L : grid0.Coords) (t : Fin k0_t6_loop.trips) : k0_off7 L t = ![bOf L t, gOf L, 0] := by
  have h := off7_val (L 0) (L 1) t
  rw [← coords_eta L] at h; exact h
theorem off8_eq (L : grid0.Coords) (t : Fin k0_t6_loop.trips) (j : Fin 5) : k0_off8 L t (BitVec.ofNat 32 j.val) = ![bOf L t, 5 * gOf L + j.val, 0] := by
  have h := off8_val (L 0) (L 1) t j
  rw [← coords_eta L] at h; exact h
theorem off13_eq (L : grid0.Coords) (t : Fin k0_t6_loop.trips) (j : Fin 5) : k0_off13 L t (BitVec.ofNat 32 j.val) = ![bOf L t, 5 * gOf L + j.val, 0] := by
  have h := off13_val (L 0) (L 1) t j
  rw [← coords_eta L] at h; exact h

end Cert.Proof.Hist
-- ==== Proof.HistTile.lean ====
/-
  One vector subcore's task of the histogram call: the scratch rows are cleared, and in fourteen trips a row of codes and
  five rows of weights are copied in, added up by code, copied out, and the rows cleared again.
-/
module

public import proofs.«01_k».proof.Proof.HistRow
public import proofs.«01_k».proof.Proof.HistWords
public import proofs.«01_k».proof.Proof.Gen.Hist.Skeleton
public import Idealize.ShloMosaic.Lib.SparseCore.Quiescent
public import Idealize.ShloMosaic.Lib.SparseCore.Ops
public import Idealize.ShloMosaic.Lib.SparseCore.Threads
public import Idealize.ShloMosaic.Lib.StableHlo.Run
public import Idealize.ShloMosaic.Lib.LoopRemainder
public import Idealize.ShloMosaic.Lib.Batch
public import Idealize.ShloMosaic.Lib.Tactic

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

/-! ## The buffers -/

variable [FloatOps F]

abbrev aP : Memref sig .scVector .hbm S112x20x1280 .f32 := Memref.whole main_arg0_scv
abbrev aC : Memref sig .scVector .hbm S112x4x1280 .i32 := Memref.whole main_arg1_scv
abbrev aN : Memref sig .scVector .hbm S112 .i32 := Memref.whole main_arg2_scv
abbrev aO : Memref sig .scVector .hbm S112x20x4096 .f32 := Memref.whole main_v0_scv
abbrev sN : Memref sig .scVector .vmem S128 .i32 := Memref.whole cc0_scratch0
abbrev sC : Memref sig .scVector .vmem S1280 .i32 := Memref.whole cc0_scratch1
abbrev sP0 : Memref sig .scVector .vmem S1280 .f32 := Memref.whole cc0_scratch2
abbrev sP1 : Memref sig .scVector .vmem S1280 .f32 := Memref.whole cc0_scratch3
abbrev sP2 : Memref sig .scVector .vmem S1280 .f32 := Memref.whole cc0_scratch4
abbrev sP3 : Memref sig .scVector .vmem S1280 .f32 := Memref.whole cc0_scratch5
abbrev sP4 : Memref sig .scVector .vmem S1280 .f32 := Memref.whole cc0_scratch6
abbrev sB0 : Memref sig .scVector .vmem S4096 .f32 := Memref.whole cc0_scratch7
abbrev sB1 : Memref sig .scVector .vmem S4096 .f32 := Memref.whole cc0_scratch8
abbrev sB2 : Memref sig .scVector .vmem S4096 .f32 := Memref.whole cc0_scratch9
abbrev sB3 : Memref sig .scVector .vmem S4096 .f32 := Memref.whole cc0_scratch10
abbrev sB4 : Memref sig .scVector .vmem S4096 .f32 := Memref.whole cc0_scratch11

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A scratch array held whole. -/
abbrev own {s : Shape} {e : EltTy} (M : Memref sig .scVector .vmem s e) (f : Buf (Elt F) (M.view.loc (thr d L))) : sProp 𝕄 :=
  M.view.loc (thr d L) ↦{fullShare} f

/-! ## One step at a time -/

theorem vs_step {base : Memref sig .scVector .vmem S4096 .f32} (f g : Buf (Elt F) (base.view.loc (thr d L))) (w' : Vec F S4096 .f32 → Buf (Elt F) (base.view.loc (thr d L))) {v : IVec S16 32} {w : Vec F S16 .f32}
    {add : Bool} {h : InRow v} {hs : (base.access (.whole S4096)).Stores Finset.univ}
    {k : PUnit → Prog (TpuEff nD τ sig (Elt F) Λ₀ (.scVector (cV L) (jV L))) PUnit} {Q : PUnit → sProp 𝕄}
    (hset : (base.access (.whole S4096)).set = Finset.univ)
    (u : Vec F S4096 .f32) (hr : (base.access (.whole S4096)).read (Elt F) f = u) (hw : ∀ w, (base.access (.whole S4096)).write (Elt F) f w Finset.univ = w' w)
    (hg : w' (storeIdx u ![v] w (fun _ => 1#1) add h) = g) :
    own d L base f
      ⊢ iprop((own d L base g -∗ wp frame (wpE (defs₀ (F := F)) 𝒱₀ (thr d L) none) Set.univ (k ⟨⟩) Q)
        -∗ wp frame (wpE (defs₀ (F := F)) 𝒱₀ (thr d L) none) Set.univ
          (SparseCore.vectorStoreIdx (p := .scVector (cV L) (jV L)) base ![v] w (fun _ => 1#1) add h hs >>= k) Q) := by
  have H := SparseCore.wp_vectorStoreIdx (defs := defs₀ (F := F)) 𝒱₀ (thr d L) none Set.univ (Q := Q) (base := base) (idxs := ![v]) (v := w) (mask := fun _ => 1#1)
    (add := add) (h := h) (hs := hs) (k := k) (f := f) (Name := ℕ) (U := UU) (Lvl := ℕ) (Ix := HIx 1)
  rw [hset, hr, hw, hg] at H
  exact H

theorem ld_step {s : Shape} {e : EltTy} {M : Memref sig .scVector .vmem s e} {r : LoadRect s} {hl : M.view.LoadsAt r}
    {k : (r.shape.Idx → Elt F e) → Prog (TpuEff nD τ sig (Elt F) Λ₀ (.scVector (cV L) (jV L))) PUnit} {Q : PUnit → sProp 𝕄}
    (f : Buf (Elt F) (M.view.loc (thr d L))) (g : r.shape.Idx → Elt F e) (hg : M.view.readAt (Elt F) r f = g) :
    own d L M f
      ⊢ iprop((own d L M f -∗ wp frame (wpE (defs₀ (F := F)) 𝒱₀ (thr d L) none) Set.univ (k g) Q)
        -∗ wp frame (wpE (defs₀ (F := F)) 𝒱₀ (thr d L) none) Set.univ (.op (.load M r hl) k) Q) := by
  subst hg
  exact wp_load 𝒱₀ (thr d L) none Set.univ (m := M) (S := Finset.univ) (Finset.subset_univ _)

/-! ## The loop that adds -/

theorem ld_chunk {α : Type} (u : S1280.Idx → α) (o : Fin 1 → ℕ) (hi : ∀ a, o a + S16.size a ≤ S1280.size a) (t : ℕ) (ho : o 0 = 16 * t) :
    (fun x => u ((Rect.unit (s := S1280) o S16.size hi).emb x)) = chunk u t := by
  funext x
  unfold chunk
  congr 1
  funext a
  apply Fin.ext
  have ha : a = 0 := Subsingleton.elim _ _
  subst ha
  have h16 := (x 0).isLt
  have h1 := hi 0
  have e1 : S16.size 0 = 16 := rfl
  have e2 : S1280.size 0 = 1280 := rfl
  have e : (((Rect.unit (s := S1280) o S16.size hi).emb x) 0 : ℕ) = o 0 + 1 * (x 0).val := rfl
  have h16' : (x 0).val < 16 := h16
  show (((Rect.unit (s := S1280) o S16.size hi).emb x) 0 : ℕ) = (16 * t + (x 0).val) % 1280
  rw [e]
  omega

theorem rowV_succ (cs : Vec F S1280 .i32) (ps : Vec F S1280 .f32) (t : ℕ) (h : InRow (chunk cs t)) :
    rowV cs ps (t + 1) = storeIdx (rowV cs ps t) ![chunk cs t] (chunk ps t) (fun _ => 1#1) true h := dif_pos h

theorem clrV_succ (cs : Vec F S1280 .i32) (f : Vec F S4096 .f32) (t : ℕ) (h : InRow (chunk cs t)) :
    clrV cs f (t + 1) = storeIdx (clrV cs f t) ![chunk cs t] (broadcast S16 (Scalar.ofBits .f32 0x00000000#32)) (fun _ => 1#1) false h := dif_pos h

theorem t7_step (v11 : BitVec 32) (t6 : Fin k0_t6_loop.trips) (v43 : BitVec 32) (h1 : k0_chk1 v43) (hv : v43.toInt ≤ 1280) (v62 : BitVec 32) (k : Fin (k0_t7_loop v43).trips)
    (cs : Vec F S1280 .i32) (p0 p1 p2 p3 p4 : Vec F S1280 .f32) (hc : ∀ t, InRow (chunk cs t)) :
    iprop(own d L sC cs ∗ own d L sP0 p0 ∗ own d L sP1 p1 ∗ own d L sP2 p2 ∗ own d L sP3 p3 ∗ own d L sP4 p4
        ∗ own d L sB0 (rowV cs p0 k.val) ∗ own d L sB1 (rowV cs p1 k.val) ∗ own d L sB2 (rowV cs p2 k.val) ∗ own d L sB3 (rowV cs p3 k.val) ∗ own d L sB4 (rowV cs p4 k.val))
      ⊢ wp frame (wpE (defs₀ (F := F)) 𝒱₀ (thr d L) none) Set.univ (k0_t7_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 t6 v43 h1 v62 k ())
        fun _ => iprop(own d L sC cs ∗ own d L sP0 p0 ∗ own d L sP1 p1 ∗ own d L sP2 p2 ∗ own d L sP3 p3 ∗ own d L sP4 p4
        ∗ own d L sB0 (rowV cs p0 (k.val + 1)) ∗ own d L sB1 (rowV cs p1 (k.val + 1)) ∗ own d L sB2 (rowV cs p2 (k.val + 1)) ∗ own d L sB3 (rowV cs p3 (k.val + 1)) ∗ own d L sB4 (rowV cs p4 (k.val + 1))) := by
  iintro ⟨HC, HP0, HP1, HP2, HP3, HP4, HB0, HB1, HB2, HB3, HB4⟩
  unfold k0_t7_body
  simp only [Prog.lift, Prog.bind_op, Prog.bind_ret, Prog.pure_eq_ret]
  iapply (ld_step d L (M := sC) cs (chunk cs k.val) (ld_chunk cs _ _ k.val (off9_eq v43 hv k))) $$ HC; iintro HC
  have hk : k0_chk2 (chunk cs k.val) := ⟨hc k.val, hc k.val, hc k.val, hc k.val, hc k.val⟩
  rw [wp_assume_of _ _ _ _ hk]
  iapply (ld_step d L (M := sP0) p0 (chunk p0 k.val) (ld_chunk p0 _ _ k.val (off10_eq v43 hv k))) $$ HP0; iintro HP0
  iapply (vs_step d L (base := sB0) (rowV cs p0 k.val) (rowV cs p0 (k.val + 1)) id (v := chunk cs k.val) (w := chunk p0 k.val) (add := true) (h := hc k.val)
    (Memref.set_access_whole (cc0_scratch7 : Ref sig .scVector)) (rowV cs p0 k.val) (Memref.read_access_whole (Elt F) (cc0_scratch7 : Ref sig .scVector) _) (Memref.write_access_whole_univ (Elt F) (cc0_scratch7 : Ref sig .scVector) _) (rowV_succ cs p0 k.val (hc k.val)).symm) $$ HB0; iintro HB0
  iapply (ld_step d L (M := sP1) p1 (chunk p1 k.val) (ld_chunk p1 _ _ k.val (off10_eq v43 hv k))) $$ HP1; iintro HP1
  iapply (vs_step d L (base := sB1) (rowV cs p1 k.val) (rowV cs p1 (k.val + 1)) id (v := chunk cs k.val) (w := chunk p1 k.val) (add := true) (h := hc k.val)
    (Memref.set_access_whole (cc0_scratch8 : Ref sig .scVector)) (rowV cs p1 k.val) (Memref.read_access_whole (Elt F) (cc0_scratch8 : Ref sig .scVector) _) (Memref.write_access_whole_univ (Elt F) (cc0_scratch8 : Ref sig .scVector) _) (rowV_succ cs p1 k.val (hc k.val)).symm) $$ HB1; iintro HB1
  iapply (ld_step d L (M := sP2) p2 (chunk p2 k.val) (ld_chunk p2 _ _ k.val (off10_eq v43 hv k))) $$ HP2; iintro HP2
  iapply (vs_step d L (base := sB2) (rowV cs p2 k.val) (rowV cs p2 (k.val + 1)) id (v := chunk cs k.val) (w := chunk p2 k.val) (add := true) (h := hc k.val)
    (Memref.set_access_whole (cc0_scratch9 : Ref sig .scVector)) (rowV cs p2 k.val) (Memref.read_access_whole (Elt F) (cc0_scratch9 : Ref sig .scVector) _) (Memref.write_access_whole_univ (Elt F) (cc0_scratch9 : Ref sig .scVector) _) (rowV_succ cs p2 k.val (hc k.val)).symm) $$ HB2; iintro HB2
  iapply (ld_step d L (M := sP3) p3 (chunk p3 k.val) (ld_chunk p3 _ _ k.val (off10_eq v43 hv k))) $$ HP3; iintro HP3
  iapply (vs_step d L (base := sB3) (rowV cs p3 k.val) (rowV cs p3 (k.val + 1)) id (v := chunk cs k.val) (w := chunk p3 k.val) (add := true) (h := hc k.val)
    (Memref.set_access_whole (cc0_scratch10 : Ref sig .scVector)) (rowV cs p3 k.val) (Memref.read_access_whole (Elt F) (cc0_scratch10 : Ref sig .scVector) _) (Memref.write_access_whole_univ (Elt F) (cc0_scratch10 : Ref sig .scVector) _) (rowV_succ cs p3 k.val (hc k.val)).symm) $$ HB3; iintro HB3
  iapply (ld_step d L (M := sP4) p4 (chunk p4 k.val) (ld_chunk p4 _ _ k.val (off10_eq v43 hv k))) $$ HP4; iintro HP4
  iapply (vs_step d L (base := sB4) (rowV cs p4 k.val) (rowV cs p4 (k.val + 1)) id (v := chunk cs k.val) (w := chunk p4 k.val) (add := true) (h := hc k.val)
    (Memref.set_access_whole (cc0_scratch11 : Ref sig .scVector)) (rowV cs p4 k.val) (Memref.read_access_whole (Elt F) (cc0_scratch11 : Ref sig .scVector) _) (Memref.write_access_whole_univ (Elt F) (cc0_scratch11 : Ref sig .scVector) _) (rowV_succ cs p4 k.val (hc k.val)).symm) $$ HB4; iintro HB4
  rw [wp_ret]
  imodintro
  isplitl [HC]; · iexact HC
  isplitl [HP0]; · iexact HP0
  isplitl [HP1]; · iexact HP1
  isplitl [HP2]; · iexact HP2
  isplitl [HP3]; · iexact HP3
  isplitl [HP4]; · iexact HP4
  isplitl [HB0]; · iexact HB0
  isplitl [HB1]; · iexact HB1
  isplitl [HB2]; · iexact HB2
  isplitl [HB3]; · iexact HB3
  iexact HB4

theorem t7_loop (v11 : BitVec 32) (t6 : Fin k0_t6_loop.trips) (v43 : BitVec 32) (h1 : k0_chk1 v43) (hv : v43.toInt ≤ 1280) (v62 : BitVec 32) (hok : (k0_t7_loop v43).OK)
    (cs : Vec F S1280 .i32) (p0 p1 p2 p3 p4 : Vec F S1280 .f32) (hc : ∀ t, InRow (chunk cs t)) (Q : Unit → sProp 𝕄) :
    iprop((own d L sC cs ∗ own d L sP0 p0 ∗ own d L sP1 p1 ∗ own d L sP2 p2 ∗ own d L sP3 p3 ∗ own d L sP4 p4 ∗ own d L sB0 (rowV cs p0 0) ∗ own d L sB1 (rowV cs p1 0) ∗ own d L sB2 (rowV cs p2 0) ∗ own d L sB3 (rowV cs p3 0) ∗ own d L sB4 (rowV cs p4 0)) ∗ ((own d L sC cs ∗ own d L sP0 p0 ∗ own d L sP1 p1 ∗ own d L sP2 p2 ∗ own d L sP3 p3 ∗ own d L sP4 p4 ∗ own d L sB0 (rowV cs p0 (k0_t7_loop v43).trips) ∗ own d L sB1 (rowV cs p1 (k0_t7_loop v43).trips) ∗ own d L sB2 (rowV cs p2 (k0_t7_loop v43).trips) ∗ own d L sB3 (rowV cs p3 (k0_t7_loop v43).trips) ∗ own d L sB4 (rowV cs p4 (k0_t7_loop v43).trips)) -∗ Q ()))
      ⊢ wp frame (wpE (defs₀ (F := F)) 𝒱₀ (thr d L) none) Set.univ (Scf.Loop.for (k0_t7_loop v43) hok ⟨⟩ (k0_t7_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 t6 v43 h1 v62)) Q := by
  have H := Scf.wp_for frame (wpE (defs₀ (F := F)) 𝒱₀ (thr d L) none) Set.univ _ _ _ hok () (k0_t7_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 t6 v43 h1 v62)
    (fun k _ => iprop(own d L sC cs ∗ own d L sP0 p0 ∗ own d L sP1 p1 ∗ own d L sP2 p2 ∗ own d L sP3 p3 ∗ own d L sP4 p4 ∗ own d L sB0 (rowV cs p0 k) ∗ own d L sB1 (rowV cs p1 k) ∗ own d L sB2 (rowV cs p2 k) ∗ own d L sB3 (rowV cs p3 k) ∗ own d L sB4 (rowV cs p4 k)))
    (fun k _ => t7_step d L v11 t6 v43 h1 hv v62 k cs p0 p1 p2 p3 p4 hc) (Q := Q)
  refine BIBase.Entails.trans ?_ H
  iintro ⟨HI, HQ⟩
  isplitl [HI]
  · iexact HI
  · iintro %_ HI
    iapply HQ; iexact HI

/-! ## The loop that clears -/

theorem t9_step (v43 : BitVec 32) (h1 : k0_chk1 v43) (hv : v43.toInt ≤ 1280) (k : Fin (k0_t9_loop v43).trips)
    (cs : Vec F S1280 .i32) (b0 b1 b2 b3 b4 : Vec F S4096 .f32) (hc : ∀ t, InRow (chunk cs t)) :
    iprop(own d L sC cs ∗ own d L sB0 (clrV cs b0 k.val) ∗ own d L sB1 (clrV cs b1 k.val) ∗ own d L sB2 (clrV cs b2 k.val) ∗ own d L sB3 (clrV cs b3 k.val) ∗ own d L sB4 (clrV cs b4 k.val))
      ⊢ wp frame (wpE (defs₀ (F := F)) 𝒱₀ (thr d L) none) Set.univ (k0_t9_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 v43 h1 k ())
        fun _ => iprop(own d L sC cs ∗ own d L sB0 (clrV cs b0 (k.val + 1)) ∗ own d L sB1 (clrV cs b1 (k.val + 1)) ∗ own d L sB2 (clrV cs b2 (k.val + 1)) ∗ own d L sB3 (clrV cs b3 (k.val + 1)) ∗ own d L sB4 (clrV cs b4 (k.val + 1))) := by
  iintro ⟨HC, HB0, HB1, HB2, HB3, HB4⟩
  unfold k0_t9_body
  simp only [Prog.lift, Prog.bind_op, Prog.bind_ret, Prog.pure_eq_ret]
  iapply (ld_step d L (M := sC) cs (chunk cs k.val) (ld_chunk cs _ _ k.val (off14_eq v43 hv k))) $$ HC; iintro HC
  have hk : k0_chk4 (chunk cs k.val) := ⟨hc k.val, hc k.val, hc k.val, hc k.val, hc k.val⟩
  rw [wp_assume_of _ _ _ _ hk]
  iapply (vs_step d L (base := sB0) (clrV cs b0 k.val) (clrV cs b0 (k.val + 1)) id (v := chunk cs k.val) (w := k0_pay2) (add := false) (h := hc k.val)
    (Memref.set_access_whole (cc0_scratch7 : Ref sig .scVector)) (clrV cs b0 k.val) (Memref.read_access_whole (Elt F) (cc0_scratch7 : Ref sig .scVector) _) (Memref.write_access_whole_univ (Elt F) (cc0_scratch7 : Ref sig .scVector) _) (clrV_succ cs b0 k.val (hc k.val)).symm) $$ HB0; iintro HB0
  iapply (vs_step d L (base := sB1) (clrV cs b1 k.val) (clrV cs b1 (k.val + 1)) id (v := chunk cs k.val) (w := k0_pay2) (add := false) (h := hc k.val)
    (Memref.set_access_whole (cc0_scratch8 : Ref sig .scVector)) (clrV cs b1 k.val) (Memref.read_access_whole (Elt F) (cc0_scratch8 : Ref sig .scVector) _) (Memref.write_access_whole_univ (Elt F) (cc0_scratch8 : Ref sig .scVector) _) (clrV_succ cs b1 k.val (hc k.val)).symm) $$ HB1; iintro HB1
  iapply (vs_step d L (base := sB2) (clrV cs b2 k.val) (clrV cs b2 (k.val + 1)) id (v := chunk cs k.val) (w := k0_pay2) (add := false) (h := hc k.val)
    (Memref.set_access_whole (cc0_scratch9 : Ref sig .scVector)) (clrV cs b2 k.val) (Memref.read_access_whole (Elt F) (cc0_scratch9 : Ref sig .scVector) _) (Memref.write_access_whole_univ (Elt F) (cc0_scratch9 : Ref sig .scVector) _) (clrV_succ cs b2 k.val (hc k.val)).symm) $$ HB2; iintro HB2
  iapply (vs_step d L (base := sB3) (clrV cs b3 k.val) (clrV cs b3 (k.val + 1)) id (v := chunk cs k.val) (w := k0_pay2) (add := false) (h := hc k.val)
    (Memref.set_access_whole (cc0_scratch10 : Ref sig .scVector)) (clrV cs b3 k.val) (Memref.read_access_whole (Elt F) (cc0_scratch10 : Ref sig .scVector) _) (Memref.write_access_whole_univ (Elt F) (cc0_scratch10 : Ref sig .scVector) _) (clrV_succ cs b3 k.val (hc k.val)).symm) $$ HB3; iintro HB3
  iapply (vs_step d L (base := sB4) (clrV cs b4 k.val) (clrV cs b4 (k.val + 1)) id (v := chunk cs k.val) (w := k0_pay2) (add := false) (h := hc k.val)
    (Memref.set_access_whole (cc0_scratch11 : Ref sig .scVector)) (clrV cs b4 k.val) (Memref.read_access_whole (Elt F) (cc0_scratch11 : Ref sig .scVector) _) (Memref.write_access_whole_univ (Elt F) (cc0_scratch11 : Ref sig .scVector) _) (clrV_succ cs b4 k.val (hc k.val)).symm) $$ HB4; iintro HB4
  rw [wp_ret]
  imodintro
  isplitl [HC]; · iexact HC
  isplitl [HB0]; · iexact HB0
  isplitl [HB1]; · iexact HB1
  isplitl [HB2]; · iexact HB2
  isplitl [HB3]; · iexact HB3
  iexact HB4

theorem t9_loop (v43 : BitVec 32) (h1 : k0_chk1 v43) (hv : v43.toInt ≤ 1280) (hok : (k0_t9_loop v43).OK)
    (cs : Vec F S1280 .i32) (b0 b1 b2 b3 b4 : Vec F S4096 .f32) (hc : ∀ t, InRow (chunk cs t)) (Q : Unit → sProp 𝕄) :
    iprop((own d L sC cs ∗ own d L sB0 (clrV cs b0 0) ∗ own d L sB1 (clrV cs b1 0) ∗ own d L sB2 (clrV cs b2 0) ∗ own d L sB3 (clrV cs b3 0) ∗ own d L sB4 (clrV cs b4 0)) ∗ ((own d L sC cs ∗ own d L sB0 (clrV cs b0 (k0_t9_loop v43).trips) ∗ own d L sB1 (clrV cs b1 (k0_t9_loop v43).trips) ∗ own d L sB2 (clrV cs b2 (k0_t9_loop v43).trips) ∗ own d L sB3 (clrV cs b3 (k0_t9_loop v43).trips) ∗ own d L sB4 (clrV cs b4 (k0_t9_loop v43).trips)) -∗ Q ()))
      ⊢ wp frame (wpE (defs₀ (F := F)) 𝒱₀ (thr d L) none) Set.univ (Scf.Loop.for (k0_t9_loop v43) hok ⟨⟩ (k0_t9_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 v43 h1)) Q := by
  have H := Scf.wp_for frame (wpE (defs₀ (F := F)) 𝒱₀ (thr d L) none) Set.univ _ _ _ hok () (k0_t9_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 v43 h1)
    (fun k _ => iprop(own d L sC cs ∗ own d L sB0 (clrV cs b0 k) ∗ own d L sB1 (clrV cs b1 k) ∗ own d L sB2 (clrV cs b2 k) ∗ own d L sB3 (clrV cs b3 k) ∗ own d L sB4 (clrV cs b4 k)))
    (fun k _ => t9_step d L v43 h1 hv k cs b0 b1 b2 b3 b4 hc) (Q := Q)
  refine BIBase.Entails.trans ?_ H
  iintro ⟨HI, HQ⟩
  isplitl [HI]
  · iexact HI
  · iintro %_ HI
    iapply HQ; iexact HI

end Tile
end Cert.Proof.Hist
-- ==== Proof.HistWin.lean ====
/-
  The windows of one trip, as the task spells them.
-/
module

public import proofs.«01_k».proof.Proof.HistTile

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Trip

variable (d : Dev nD) (L : grid0.Coords)

/-! ## The windows of one trip -/

abbrev cW (t : Fin k0_t6_loop.trips) : Memref sig .scVector .hbm S1280 .i32 :=
  (aC.slice (Rect.unit (s := S112x4x1280) (k0_off7 L t) S1x1x1280.size (k0_off7_inb L t)) (fun _ => rfl)).squeeze S1280 squeezes_S1x1x1280_S1280
abbrev pW0 (t : Fin k0_t6_loop.trips) : Memref sig .scVector .hbm S1280 .f32 :=
  (aP.slice (Rect.unit (s := S112x20x1280) (k0_off8 L t 0#32) S1x1x1280.size (k0_off8_inb L t 0)) (fun _ => rfl)).squeeze S1280 squeezes_S1x1x1280_S1280
abbrev oW0 (t : Fin k0_t6_loop.trips) : Memref sig .scVector .hbm S4096 .f32 :=
  (aO.slice (Rect.unit (s := S112x20x4096) (k0_off13 L t 0#32) S1x1x4096.size (k0_off13_inb L t 0)) (fun _ => rfl)).squeeze S4096 squeezes_S1x1x4096_S4096
abbrev pW1 (t : Fin k0_t6_loop.trips) : Memref sig .scVector .hbm S1280 .f32 :=
  (aP.slice (Rect.unit (s := S112x20x1280) (k0_off8 L t 1#32) S1x1x1280.size (k0_off8_inb L t 1)) (fun _ => rfl)).squeeze S1280 squeezes_S1x1x1280_S1280
abbrev oW1 (t : Fin k0_t6_loop.trips) : Memref sig .scVector .hbm S4096 .f32 :=
  (aO.slice (Rect.unit (s := S112x20x4096) (k0_off13 L t 1#32) S1x1x4096.size (k0_off13_inb L t 1)) (fun _ => rfl)).squeeze S4096 squeezes_S1x1x4096_S4096
abbrev pW2 (t : Fin k0_t6_loop.trips) : Memref sig .scVector .hbm S1280 .f32 :=
  (aP.slice (Rect.unit (s := S112x20x1280) (k0_off8 L t 2#32) S1x1x1280.size (k0_off8_inb L t 2)) (fun _ => rfl)).squeeze S1280 squeezes_S1x1x1280_S1280
abbrev oW2 (t : Fin k0_t6_loop.trips) : Memref sig .scVector .hbm S4096 .f32 :=
  (aO.slice (Rect.unit (s := S112x20x4096) (k0_off13 L t 2#32) S1x1x4096.size (k0_off13_inb L t 2)) (fun _ => rfl)).squeeze S4096 squeezes_S1x1x4096_S4096
abbrev pW3 (t : Fin k0_t6_loop.trips) : Memref sig .scVector .hbm S1280 .f32 :=
  (aP.slice (Rect.unit (s := S112x20x1280) (k0_off8 L t 3#32) S1x1x1280.size (k0_off8_inb L t 3)) (fun _ => rfl)).squeeze S1280 squeezes_S1x1x1280_S1280
abbrev oW3 (t : Fin k0_t6_loop.trips) : Memref sig .scVector .hbm S4096 .f32 :=
  (aO.slice (Rect.unit (s := S112x20x4096) (k0_off13 L t 3#32) S1x1x4096.size (k0_off13_inb L t 3)) (fun _ => rfl)).squeeze S4096 squeezes_S1x1x4096_S4096
abbrev pW4 (t : Fin k0_t6_loop.trips) : Memref sig .scVector .hbm S1280 .f32 :=
  (aP.slice (Rect.unit (s := S112x20x1280) (k0_off8 L t 4#32) S1x1x1280.size (k0_off8_inb L t 4)) (fun _ => rfl)).squeeze S1280 squeezes_S1x1x1280_S1280
abbrev oW4 (t : Fin k0_t6_loop.trips) : Memref sig .scVector .hbm S4096 .f32 :=
  (aO.slice (Rect.unit (s := S112x20x4096) (k0_off13 L t 4#32) S1x1x4096.size (k0_off13_inb L t 4)) (fun _ => rfl)).squeeze S4096 squeezes_S1x1x4096_S4096

end Trip

end Cert.Proof.Hist
-- ==== Proof.HistTrip.lean ====
/-
  One trip of a vector subcore's task.
-/
module

public import proofs.«01_k».proof.Proof.HistWin

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Trip

variable (d : Dev nD) (L : grid0.Coords)

/-- A window of an array of the main memory, held by its own elements. -/
abbrev win {s : Shape} {e : EltTy} (M : Memref sig .scVector .hbm s e) (f : Buf (Elt F) (M.view.loc (thr d L))) : sProp 𝕄 :=
  M.view.loc (thr d L) ↦[M.view.set]{fullShare} f

/-- The word which the trip reads from the lengths. -/
abbrev lenW (nf : Vec F S128 .i32) (t : Fin k0_t6_loop.trips) : BitVec 32 :=
  extractAt ![0] (k0_pay1 (F := F) (sN.view.readAt (Elt F) (Rect.unit (s := S128) (k0_off6 L t) S16.size (k0_off6_inb L t)).toLoadRect nf)) inpos_S1_p0

/-- A window written with what another array reads there holds that array. -/
theorem win_written {s : Shape} {e : EltTy} (M : Memref sig .scVector .hbm s e) (f g : Buf (Elt F) (M.view.loc (thr d L))) (w : s.Idx → Elt F e)
    (h : M.view.read (Elt F) g = w) : win d L M (M.view.writes (Elt F) f [⟨Rect.whole s, w⟩]) = win d L M g := by
  subst h
  refine pointsTo_congr fun i hi => ?_
  obtain ⟨x, -, rfl⟩ := Finset.mem_map.mp hi
  have e : M.view.emb x = (M.view.slice (Rect.whole s)).emb x := congrArg M.view.emb (Rect.emb_whole_apply s x).symm
  show (M.view.slice (Rect.whole s)).write (Elt F) f _ Finset.univ (M.view.emb x) = g (M.view.emb x)
  rw [e, View.write_emb_of_mem _ _ (Finset.mem_univ x), ← e]
  show cast _ (M.view.read (Elt F) g x) = _
  rw [View.read_apply, cast_cast, cast_eq]

theorem wr_sC (f w : Vec F S1280 .i32) : View.write (Elt F) sC.view f w Finset.univ = w := View.write_whole_univ (cc0_scratch1 : Ref sig .scVector) _ _
theorem wr_sP0 (f w : Vec F S1280 .f32) : View.write (Elt F) sP0.view f w Finset.univ = w := View.write_whole_univ (cc0_scratch2 : Ref sig .scVector) _ _
theorem wr_sP1 (f w : Vec F S1280 .f32) : View.write (Elt F) sP1.view f w Finset.univ = w := View.write_whole_univ (cc0_scratch3 : Ref sig .scVector) _ _
theorem wr_sP2 (f w : Vec F S1280 .f32) : View.write (Elt F) sP2.view f w Finset.univ = w := View.write_whole_univ (cc0_scratch4 : Ref sig .scVector) _ _
theorem wr_sP3 (f w : Vec F S1280 .f32) : View.write (Elt F) sP3.view f w Finset.univ = w := View.write_whole_univ (cc0_scratch5 : Ref sig .scVector) _ _
theorem wr_sP4 (f w : Vec F S1280 .f32) : View.write (Elt F) sP4.view f w Finset.univ = w := View.write_whole_univ (cc0_scratch6 : Ref sig .scVector) _ _

theorem ins_none {W W' : Waits sig (HIx 1)} {sm : SemLoc sig} (h : ∀ p ∈ W', p ∈ W ∨ p.2 = none) : ∀ p ∈ insert (sm, none) W', p ∈ W ∨ p.2 = none := by
  intro p hp
  rcases Finset.mem_insert.mp hp with rfl | hp
  · exact .inr rfl
  · exact h p hp

theorem t8_wp (v : BitVec 32) (hok : (k0_t8_loop v).OK) (body : Fin (k0_t8_loop v).trips → Unit → Prog (TpuEff nD τ sig (Elt F) Λ₀ (.scVector (cV L) (jV L))) Unit) (Q : Unit → sProp 𝕄) :
    Q ⟨⟩ ⊢ wp frame (wpE (defs₀ (F := F)) 𝒱₀ (thr d L) none) Set.univ (Scf.Loop.for (k0_t8_loop v) hok ⟨⟩ body) Q := by
  have e : Scf.Loop.for (k0_t8_loop v) hok ⟨⟩ body = .ret ⟨⟩ := Scf.for_eq_ret _ _ _ _ _ _ (Scf.rem_trips _ _)
  rw [e, wp_ret]
  iintro H
  imodintro
  iexact H

theorem t10_wp (v : BitVec 32) (hok : (k0_t10_loop v).OK) (body : Fin (k0_t10_loop v).trips → Unit → Prog (TpuEff nD τ sig (Elt F) Λ₀ (.scVector (cV L) (jV L))) Unit) (Q : Unit → sProp 𝕄) :
    Q ⟨⟩ ⊢ wp frame (wpE (defs₀ (F := F)) 𝒱₀ (thr d L) none) Set.univ (Scf.Loop.for (k0_t10_loop v) hok ⟨⟩ body) Q := by
  have e : Scf.Loop.for (k0_t10_loop v) hok ⟨⟩ body = .ret ⟨⟩ := Scf.for_eq_ret _ _ _ _ _ _ (Scf.rem_trips _ _)
  rw [e, wp_ret]
  iintro H
  imodintro
  iexact H

set_option maxHeartbeats 4000000 in
theorem trip (hF : (K (F := F)).Facts) (O : CellTallies nD τ sig (HIx 1)) (W : Waits sig (HIx 1)) (hO : ∀ g, O g none = 0)
    (t : Fin k0_t6_loop.trips) (v11 v28 : BitVec 32) (nf : Vec F S128 .i32) (hv : (lenW L nf t).toInt ≤ 1280)
    (mC : Buf (Elt F) ((cW L t).view.loc (thr d L))) (mP : Buf (Elt F) ((pW0 L t).view.loc (thr d L))) (mO mO' : Buf (Elt F) ((oW0 L t).view.loc (thr d L)))
    (hc : ∀ k, InRow (chunk ((cW L t).view.read (Elt F) mC) k))
    (ho0 : (oW0 L t).view.read (Elt F) mO' = rowV ((cW L t).view.read (Elt F) mC) ((pW0 L t).view.read (Elt F) mP) (k0_t7_loop (lenW L nf t)).trips)
    (ho1 : (oW1 L t).view.read (Elt F) mO' = rowV ((cW L t).view.read (Elt F) mC) ((pW1 L t).view.read (Elt F) mP) (k0_t7_loop (lenW L nf t)).trips)
    (ho2 : (oW2 L t).view.read (Elt F) mO' = rowV ((cW L t).view.read (Elt F) mC) ((pW2 L t).view.read (Elt F) mP) (k0_t7_loop (lenW L nf t)).trips)
    (ho3 : (oW3 L t).view.read (Elt F) mO' = rowV ((cW L t).view.read (Elt F) mC) ((pW3 L t).view.read (Elt F) mP) (k0_t7_loop (lenW L nf t)).trips)
    (ho4 : (oW4 L t).view.read (Elt F) mO' = rowV ((cW L t).view.read (Elt F) mC) ((pW4 L t).view.read (Elt F) mP) (k0_t7_loop (lenW L nf t)).trips)
    (fC : Vec F S1280 .i32) (fP0 fP1 fP2 fP3 fP4 : Vec F S1280 .f32)
    (_plan : Transfers.BatchOf (thr d L) (SemLoc.dma (sig := sig) cc0_scratch12.sem) 6)
    (_plan' : Transfers.BatchOf (thr d L) (SemLoc.dma (sig := sig) cc0_scratch13.sem) 5) :
    iprop(levAts (K (F := F)).L (K (F := F)).lev ∗ own d L sN nf ∗ own d L sC fC ∗ own d L sP0 fP0 ∗ own d L sP1 fP1 ∗ own d L sP2 fP2 ∗ own d L sP3 fP3 ∗ own d L sP4 fP4 ∗ own d L sB0 zrow ∗ own d L sB1 zrow ∗ own d L sB2 zrow ∗ own d L sB3 zrow ∗ own d L sB4 zrow ∗ win d L (cW L t) mC ∗ win d L (pW0 L t) mP ∗ win d L (pW1 L t) mP ∗ win d L (pW2 L t) mP ∗ win d L (pW3 L t) mP ∗ win d L (pW4 L t) mP ∗ win d L (oW0 L t) mO ∗ win d L (oW1 L t) mO ∗ win d L (oW2 L t) mO ∗ win d L (oW3 L t) mO ∗ win d L (oW4 L t) mO ∗ semVal (thr d L, SemLoc.dma cc0_scratch12.sem) 0 ∗ semVal (thr d L, SemLoc.dma cc0_scratch13.sem) 0 ∗ owes (thr d L) O W)
      ⊢ wp frame (wpE (defs₀ (F := F)) 𝒱₀ (thr d L) none) Set.univ (k0_t6_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 v28 k0_pay2 t ())
        fun _ => iprop(own d L sN nf ∗ (∃ fC, own d L sC fC) ∗ (∃ fP, own d L sP0 fP) ∗ (∃ fP, own d L sP1 fP) ∗ (∃ fP, own d L sP2 fP) ∗ (∃ fP, own d L sP3 fP) ∗ (∃ fP, own d L sP4 fP) ∗ own d L sB0 zrow ∗ own d L sB1 zrow ∗ own d L sB2 zrow ∗ own d L sB3 zrow ∗ own d L sB4 zrow ∗ win d L (cW L t) mC ∗ win d L (pW0 L t) mP ∗ win d L (pW1 L t) mP ∗ win d L (pW2 L t) mP ∗ win d L (pW3 L t) mP ∗ win d L (pW4 L t) mP ∗ win d L (oW0 L t) mO' ∗ win d L (oW1 L t) mO' ∗ win d L (oW2 L t) mO' ∗ win d L (oW3 L t) mO' ∗ win d L (oW4 L t) mO' ∗ semVal (thr d L, SemLoc.dma cc0_scratch12.sem) 0 ∗ semVal (thr d L, SemLoc.dma cc0_scratch13.sem) 0
          ∗ ∃ W', ⌜∀ p ∈ W', p ∈ W ∨ p.2 = none⌝ ∗ owes (thr d L) O W') := by
  iintro ⟨#Hlv, HN, HC, HP0, HP1, HP2, HP3, HP4, HB0, HB1, HB2, HB3, HB4, HcW, HpW0, HpW1, HpW2, HpW3, HpW4, HoW0, HoW1, HoW2, HoW3, HoW4, Hs, Hs', HO⟩
  ihave Hmw := ((K (F := F)).mayWaits_none (thr := thr d L) hO) $$ Hlv
  unfold k0_t6_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, Prog.bind_assoc]
  iapply (ld_step d L (M := sN) nf _ rfl) $$ HN; iintro HN
  have hk := chk1_of _ hv
  rw [wp_assume_of _ _ _ _ hk]
  sl_exec
  rw [wr_sC, show trip.sl.dma0 d L t mC = (cW L t).view.read (Elt F) mC from rfl]
  rw [wr_sP0, show trip.sl.dma1 d L t mP = (pW0 L t).view.read (Elt F) mP from rfl]
  rw [wr_sP1, show trip.sl.dma2 d L t mP = (pW1 L t).view.read (Elt F) mP from rfl]
  rw [wr_sP2, show trip.sl.dma3 d L t mP = (pW2 L t).view.read (Elt F) mP from rfl]
  rw [wr_sP3, show trip.sl.dma4 d L t mP = (pW3 L t).view.read (Elt F) mP from rfl]
  rw [wr_sP4, show trip.sl.dma5 d L t mP = (pW4 L t).view.read (Elt F) mP from rfl]
  rw [wp_bind]
  iapply (t7_loop d L v11 t _ _ hv _ _ ((cW L t).view.read (Elt F) mC) ((pW0 L t).view.read (Elt F) mP) ((pW1 L t).view.read (Elt F) mP) ((pW2 L t).view.read (Elt F) mP) ((pW3 L t).view.read (Elt F) mP) ((pW4 L t).view.read (Elt F) mP) hc)
  isplitl [HC HP0 HP1 HP2 HP3 HP4 HB0 HB1 HB2 HB3 HB4]
  · isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexact HB0
    isplitl [HB1]; · iexact HB1
    isplitl [HB2]; · iexact HB2
    isplitl [HB3]; · iexact HB3
    iexact HB4
  iintro ⟨HC, HP0, HP1, HP2, HP3, HP4, HB0, HB1, HB2, HB3, HB4⟩
  obtain ⟨b0, hb0⟩ : ∃ b, rowV ((cW L t).view.read (Elt F) mC) ((pW0 L t).view.read (Elt F) mP) (k0_t7_loop (lenW L nf t)).trips = b := ⟨_, rfl⟩
  ihave HB0 := (Entails.of_eq (congrArg (own d L sB0) hb0)) $$ HB0
  obtain ⟨b1, hb1⟩ : ∃ b, rowV ((cW L t).view.read (Elt F) mC) ((pW1 L t).view.read (Elt F) mP) (k0_t7_loop (lenW L nf t)).trips = b := ⟨_, rfl⟩
  ihave HB1 := (Entails.of_eq (congrArg (own d L sB1) hb1)) $$ HB1
  obtain ⟨b2, hb2⟩ : ∃ b, rowV ((cW L t).view.read (Elt F) mC) ((pW2 L t).view.read (Elt F) mP) (k0_t7_loop (lenW L nf t)).trips = b := ⟨_, rfl⟩
  ihave HB2 := (Entails.of_eq (congrArg (own d L sB2) hb2)) $$ HB2
  obtain ⟨b3, hb3⟩ : ∃ b, rowV ((cW L t).view.read (Elt F) mC) ((pW3 L t).view.read (Elt F) mP) (k0_t7_loop (lenW L nf t)).trips = b := ⟨_, rfl⟩
  ihave HB3 := (Entails.of_eq (congrArg (own d L sB3) hb3)) $$ HB3
  obtain ⟨b4, hb4⟩ : ∃ b, rowV ((cW L t).view.read (Elt F) mC) ((pW4 L t).view.read (Elt F) mP) (k0_t7_loop (lenW L nf t)).trips = b := ⟨_, rfl⟩
  ihave HB4 := (Entails.of_eq (congrArg (own d L sB4) hb4)) $$ HB4
  rw [hb0] at ho0
  rw [hb1] at ho1
  rw [hb2] at ho2
  rw [hb3] at ho3
  rw [hb4] at ho4
  rw [wp_bind]
  iapply (t8_wp d L _ _ _ _)
  simp only [Prog.bind_op, Prog.bind_ret]
  sl_exec
  rw [show trip.sl.dma0_1 b0 = b0 from rfl]
  ihave HoW0 := (Entails.of_eq (win_written d L (oW0 L t) _ mO' b0 ho0)) $$ HoW0
  rw [show trip.sl.dma1_1 b1 = b1 from rfl]
  ihave HoW1 := (Entails.of_eq (win_written d L (oW1 L t) _ mO' b1 ho1)) $$ HoW1
  rw [show trip.sl.dma2_1 b2 = b2 from rfl]
  ihave HoW2 := (Entails.of_eq (win_written d L (oW2 L t) _ mO' b2 ho2)) $$ HoW2
  rw [show trip.sl.dma3_1 b3 = b3 from rfl]
  ihave HoW3 := (Entails.of_eq (win_written d L (oW3 L t) _ mO' b3 ho3)) $$ HoW3
  rw [show trip.sl.dma4_1 b4 = b4 from rfl]
  ihave HoW4 := (Entails.of_eq (win_written d L (oW4 L t) _ mO' b4 ho4)) $$ HoW4
  rw [wp_bind]
  iapply (t9_loop d L _ _ hv _ ((cW L t).view.read (Elt F) mC) b0 b1 b2 b3 b4 hc)
  isplitl [HC HB0 HB1 HB2 HB3 HB4]
  · isplitl [HC]; · iexact HC
    isplitl [HB0]; · iexact HB0
    isplitl [HB1]; · iexact HB1
    isplitl [HB2]; · iexact HB2
    isplitl [HB3]; · iexact HB3
    iexact HB4
  iintro ⟨HC, HB0, HB1, HB2, HB3, HB4⟩
  rw [wp_bind]
  iapply (t10_wp d L _ _ _ _)
  ihave HB0 := (Entails.of_eq (congrArg (own d L sB0) (show clrV ((cW L t).view.read (Elt F) mC) b0 (k0_t9_loop (lenW L nf t)).trips = zrow from by rw [← hb0]; exact clrV_rowV _ _ _))) $$ HB0
  ihave HB1 := (Entails.of_eq (congrArg (own d L sB1) (show clrV ((cW L t).view.read (Elt F) mC) b1 (k0_t9_loop (lenW L nf t)).trips = zrow from by rw [← hb1]; exact clrV_rowV _ _ _))) $$ HB1
  ihave HB2 := (Entails.of_eq (congrArg (own d L sB2) (show clrV ((cW L t).view.read (Elt F) mC) b2 (k0_t9_loop (lenW L nf t)).trips = zrow from by rw [← hb2]; exact clrV_rowV _ _ _))) $$ HB2
  ihave HB3 := (Entails.of_eq (congrArg (own d L sB3) (show clrV ((cW L t).view.read (Elt F) mC) b3 (k0_t9_loop (lenW L nf t)).trips = zrow from by rw [← hb3]; exact clrV_rowV _ _ _))) $$ HB3
  ihave HB4 := (Entails.of_eq (congrArg (own d L sB4) (show clrV ((cW L t).view.read (Elt F) mC) b4 (k0_t9_loop (lenW L nf t)).trips = zrow from by rw [← hb4]; exact clrV_rowV _ _ _))) $$ HB4
  rw [wp_ret]
  imodintro
  isplitl [HN]; · iexact HN
  isplitl [HC]
  · iexists _; iexact HC
  isplitl [HP0]
  · iexists _; iexact HP0
  isplitl [HP1]
  · iexists _; iexact HP1
  isplitl [HP2]
  · iexists _; iexact HP2
  isplitl [HP3]
  · iexists _; iexact HP3
  isplitl [HP4]
  · iexists _; iexact HP4
  isplitl [HB0]; · iexact HB0
  isplitl [HB1]; · iexact HB1
  isplitl [HB2]; · iexact HB2
  isplitl [HB3]; · iexact HB3
  isplitl [HB4]; · iexact HB4
  isplitl [HcW]; · iexact HcW
  isplitl [HpW0]; · iexact HpW0
  isplitl [HpW1]; · iexact HpW1
  isplitl [HpW2]; · iexact HpW2
  isplitl [HpW3]; · iexact HpW3
  isplitl [HpW4]; · iexact HpW4
  isplitl [HoW0]; · iexact HoW0
  isplitl [HoW1]; · iexact HoW1
  isplitl [HoW2]; · iexact HoW2
  isplitl [HoW3]; · iexact HoW3
  isplitl [HoW4]; · iexact HoW4
  isplitl [Hs]; · iexact Hs
  isplitl [Hs']; · iexact Hs'
  iexists _
  isplitr
  rotate_left
  · iexact HO
  · ipureintro
    repeat (first | exact fun p hp => .inl hp | refine ins_none ?_)

end Trip

end Cert.Proof.Hist
-- ==== Proof.HistFill.lean ====
/-
  The scratch rows are cleared, sixteen elements at a time.
-/
module

public import proofs.«01_k».proof.Proof.HistTile

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Fill

variable (d : Dev nD) (L : grid0.Coords)

theorem st_step {s : Shape} {e : EltTy} {M : Memref sig .scVector .vmem s e} {r : Rect s} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ (.scVector (cV L) (jV L))) PUnit} {Q : PUnit → sProp 𝕄}
    (f : Buf (Elt F) (M.view.loc (thr d L))) :
    own d L M f
      ⊢ iprop((own d L M ((M.access r).write (Elt F) f w Finset.univ) -∗ wp frame (wpE (defs₀ (F := F)) 𝒱₀ (thr d L) none) Set.univ (k ⟨⟩) Q)
        -∗ wp frame (wpE (defs₀ (F := F)) 𝒱₀ (thr d L) none) Set.univ (.op (.store M r w Finset.univ hx hm) k) Q) :=
  wp_store 𝒱₀ (thr d L) none Set.univ (m := M) (r := r) (Mk := Finset.univ) (S := Finset.univ) (Finset.subset_univ _)

/-- The first `16 k` elements are zero. -/
def Filled (f : Vec F S4096 .f32) (k : ℕ) : Prop := ∀ x : S4096.Idx, (x 0).val < 16 * k → f x = zrow x

theorem Filled.all {f : Vec F S4096 .f32} (h : Filled f 256) : f = zrow := by
  funext x
  exact h x (lt_of_lt_of_eq (x 0).isLt rfl)

theorem fill1 (f : Vec F S4096 .f32) (o : Fin 1 → ℕ) (hi : ∀ a, o a + S16.size a ≤ S4096.size a) (k : ℕ) (ho : o 0 = 16 * k) (hf : Filled f k) :
    Filled ((sB0.access (Rect.unit (s := S4096) o S16.size hi)).write (Elt F) f (k0_pay2 (F := F)) Finset.univ) (k + 1) := by
  intro x hx
  by_cases h : x ∈ (sB0.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf1_val : ∀ k : Fin k0_t1_loop.trips, k0_off1 k 0 = 16 * k.val := by decide +kernel

theorem t1_step (k : Fin k0_t1_loop.trips) :
    iprop(∃ f, ⌜Filled f k.val⌝ ∗ own d L sB0 f)
      ⊢ wp frame (wpE (defs₀ (F := F)) 𝒱₀ (thr d L) none) Set.univ (k0_t1_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB0 f) := by
  iintro ⟨%f, %hf, HB⟩
  unfold k0_t1_body
  simp only [Prog.lift, Prog.bind_op, Prog.bind_ret, Prog.pure_eq_ret]
  iapply (ld_step d L (M := sB0) f _ rfl) $$ HB; iintro HB
  iapply (st_step d L (M := sB0) f) $$ HB; iintro HB
  rw [wp_ret]
  imodintro
  iexists _
  isplitr
  rotate_left
  · iexact HB
  · ipureintro
    exact fill1 f _ _ k.val (offf1_val k) hf

theorem t1_loop (hok : k0_t1_loop.OK) (f : Vec F S4096 .f32) (Q : Unit → sProp 𝕄) :
    iprop(own d L sB0 f ∗ (own d L sB0 zrow -∗ Q ()))
      ⊢ wp frame (wpE (defs₀ (F := F)) 𝒱₀ (thr d L) none) Set.univ (Scf.Loop.for k0_t1_loop hok ⟨⟩ (k0_t1_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t1_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB0 f))
    (fun k _ => t1_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

theorem fill2 (f : Vec F S4096 .f32) (o : Fin 1 → ℕ) (hi : ∀ a, o a + S16.size a ≤ S4096.size a) (k : ℕ) (ho : o 0 = 16 * k) (hf : Filled f k) :
    Filled ((sB1.access (Rect.unit (s := S4096) o S16.size hi)).write (Elt F) f (k0_pay2 (F := F)) Finset.univ) (k + 1) := by
  intro x hx
  by_cases h : x ∈ (sB1.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf2_val : ∀ k : Fin k0_t2_loop.trips, k0_off2 k 0 = 16 * k.val := by decide +kernel

theorem t2_step (k : Fin k0_t2_loop.trips) :
    iprop(∃ f, ⌜Filled f k.val⌝ ∗ own d L sB1 f)
      ⊢ wp frame (wpE (defs₀ (F := F)) 𝒱₀ (thr d L) none) Set.univ (k0_t2_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB1 f) := by
  iintro ⟨%f, %hf, HB⟩
  unfold k0_t2_body
  simp only [Prog.lift, Prog.bind_op, Prog.bind_ret, Prog.pure_eq_ret]
  iapply (ld_step d L (M := sB1) f _ rfl) $$ HB; iintro HB
  iapply (st_step d L (M := sB1) f) $$ HB; iintro HB
  rw [wp_ret]
  imodintro
  iexists _
  isplitr
  rotate_left
  · iexact HB
  · ipureintro
    exact fill2 f _ _ k.val (offf2_val k) hf

theorem t2_loop (hok : k0_t2_loop.OK) (f : Vec F S4096 .f32) (Q : Unit → sProp 𝕄) :
    iprop(own d L sB1 f ∗ (own d L sB1 zrow -∗ Q ()))
      ⊢ wp frame (wpE (defs₀ (F := F)) 𝒱₀ (thr d L) none) Set.univ (Scf.Loop.for k0_t2_loop hok ⟨⟩ (k0_t2_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t2_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB1 f))
    (fun k _ => t2_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

theorem fill3 (f : Vec F S4096 .f32) (o : Fin 1 → ℕ) (hi : ∀ a, o a + S16.size a ≤ S4096.size a) (k : ℕ) (ho : o 0 = 16 * k) (hf : Filled f k) :
    Filled ((sB2.access (Rect.unit (s := S4096) o S16.size hi)).write (Elt F) f (k0_pay2 (F := F)) Finset.univ) (k + 1) := by
  intro x hx
  by_cases h : x ∈ (sB2.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf3_val : ∀ k : Fin k0_t3_loop.trips, k0_off3 k 0 = 16 * k.val := by decide +kernel

theorem t3_step (k : Fin k0_t3_loop.trips) :
    iprop(∃ f, ⌜Filled f k.val⌝ ∗ own d L sB2 f)
      ⊢ wp frame (wpE (defs₀ (F := F)) 𝒱₀ (thr d L) none) Set.univ (k0_t3_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB2 f) := by
  iintro ⟨%f, %hf, HB⟩
  unfold k0_t3_body
  simp only [Prog.lift, Prog.bind_op, Prog.bind_ret, Prog.pure_eq_ret]
  iapply (ld_step d L (M := sB2) f _ rfl) $$ HB; iintro HB
  iapply (st_step d L (M := sB2) f) $$ HB; iintro HB
  rw [wp_ret]
  imodintro
  iexists _
  isplitr
  rotate_left
  · iexact HB
  · ipureintro
    exact fill3 f _ _ k.val (offf3_val k) hf

theorem t3_loop (hok : k0_t3_loop.OK) (f : Vec F S4096 .f32) (Q : Unit → sProp 𝕄) :
    iprop(own d L sB2 f ∗ (own d L sB2 zrow -∗ Q ()))
      ⊢ wp frame (wpE (defs₀ (F := F)) 𝒱₀ (thr d L) none) Set.univ (Scf.Loop.for k0_t3_loop hok ⟨⟩ (k0_t3_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t3_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB2 f))
    (fun k _ => t3_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

theorem fill4 (f : Vec F S4096 .f32) (o : Fin 1 → ℕ) (hi : ∀ a, o a + S16.size a ≤ S4096.size a) (k : ℕ) (ho : o 0 = 16 * k) (hf : Filled f k) :
    Filled ((sB3.access (Rect.unit (s := S4096) o S16.size hi)).write (Elt F) f (k0_pay2 (F := F)) Finset.univ) (k + 1) := by
  intro x hx
  by_cases h : x ∈ (sB3.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf4_val : ∀ k : Fin k0_t4_loop.trips, k0_off4 k 0 = 16 * k.val := by decide +kernel

theorem t4_step (k : Fin k0_t4_loop.trips) :
    iprop(∃ f, ⌜Filled f k.val⌝ ∗ own d L sB3 f)
      ⊢ wp frame (wpE (defs₀ (F := F)) 𝒱₀ (thr d L) none) Set.univ (k0_t4_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB3 f) := by
  iintro ⟨%f, %hf, HB⟩
  unfold k0_t4_body
  simp only [Prog.lift, Prog.bind_op, Prog.bind_ret, Prog.pure_eq_ret]
  iapply (ld_step d L (M := sB3) f _ rfl) $$ HB; iintro HB
  iapply (st_step d L (M := sB3) f) $$ HB; iintro HB
  rw [wp_ret]
  imodintro
  iexists _
  isplitr
  rotate_left
  · iexact HB
  · ipureintro
    exact fill4 f _ _ k.val (offf4_val k) hf

theorem t4_loop (hok : k0_t4_loop.OK) (f : Vec F S4096 .f32) (Q : Unit → sProp 𝕄) :
    iprop(own d L sB3 f ∗ (own d L sB3 zrow -∗ Q ()))
      ⊢ wp frame (wpE (defs₀ (F := F)) 𝒱₀ (thr d L) none) Set.univ (Scf.Loop.for k0_t4_loop hok ⟨⟩ (k0_t4_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t4_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB3 f))
    (fun k _ => t4_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

theorem fill5 (f : Vec F S4096 .f32) (o : Fin 1 → ℕ) (hi : ∀ a, o a + S16.size a ≤ S4096.size a) (k : ℕ) (ho : o 0 = 16 * k) (hf : Filled f k) :
    Filled ((sB4.access (Rect.unit (s := S4096) o S16.size hi)).write (Elt F) f (k0_pay2 (F := F)) Finset.univ) (k + 1) := by
  intro x hx
  by_cases h : x ∈ (sB4.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf5_val : ∀ k : Fin k0_t5_loop.trips, k0_off5 k 0 = 16 * k.val := by decide +kernel

theorem t5_step (k : Fin k0_t5_loop.trips) :
    iprop(∃ f, ⌜Filled f k.val⌝ ∗ own d L sB4 f)
      ⊢ wp frame (wpE (defs₀ (F := F)) 𝒱₀ (thr d L) none) Set.univ (k0_t5_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB4 f) := by
  iintro ⟨%f, %hf, HB⟩
  unfold k0_t5_body
  simp only [Prog.lift, Prog.bind_op, Prog.bind_ret, Prog.pure_eq_ret]
  iapply (ld_step d L (M := sB4) f _ rfl) $$ HB; iintro HB
  iapply (st_step d L (M := sB4) f) $$ HB; iintro HB
  rw [wp_ret]
  imodintro
  iexists _
  isplitr
  rotate_left
  · iexact HB
  · ipureintro
    exact fill5 f _ _ k.val (offf5_val k) hf

theorem t5_loop (hok : k0_t5_loop.OK) (f : Vec F S4096 .f32) (Q : Unit → sProp 𝕄) :
    iprop(own d L sB4 f ∗ (own d L sB4 zrow -∗ Q ()))
      ⊢ wp frame (wpE (defs₀ (F := F)) 𝒱₀ (thr d L) none) Set.univ (Scf.Loop.for k0_t5_loop hok ⟨⟩ (k0_t5_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t5_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB4 f))
    (fun k _ => t5_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

end Fill

end Cert.Proof.Hist
-- ==== Proof.HistBody.lean ====
/-
  The fourteen trips of a vector subcore's task, and the task.
-/
module

public import proofs.«01_k».proof.Proof.HistTrip
public import proofs.«01_k».proof.Proof.HistFill

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable (d : Dev nD) (L : grid0.Coords)

/-- The rows of one trip: the codes, the weights, and the results at `o`. -/
abbrev item (mC : Buf (Elt F) (aC.view.loc (thr d L))) (mP : Buf (Elt F) (aP.view.loc (thr d L))) (o : Buf (Elt F) (aO.view.loc (thr d L))) (t : Fin k0_t6_loop.trips) : sProp 𝕄 :=
  iprop(win d L (cW L t) mC ∗ win d L (pW0 L t) mP ∗ win d L (pW1 L t) mP ∗ win d L (pW2 L t) mP ∗ win d L (pW3 L t) mP ∗ win d L (pW4 L t) mP ∗ win d L (oW0 L t) o ∗ win d L (oW1 L t) o ∗ win d L (oW2 L t) o ∗ win d L (oW3 L t) o ∗ win d L (oW4 L t) o)

theorem bigSep_take {I : Type} [DecidableEq I] (s : Finset I) (t : I) (ht : t ∈ s) (Φ : I → sProp 𝕄) :
    bigSep s Φ = iprop(Φ t ∗ bigSep (s.erase t) Φ) := SparseCore.bigSep_erase' ht

/-- Before trip `k`. -/
def inv6 (O : CellTallies nD τ sig (HIx 1)) (W : Waits sig (HIx 1)) (nf : Vec F S128 .i32) (mC : Buf (Elt F) (aC.view.loc (thr d L))) (mP : Buf (Elt F) (aP.view.loc (thr d L)))
    (mO mO' : Buf (Elt F) (aO.view.loc (thr d L))) (k : ℕ) : sProp 𝕄 :=
  iprop(levAts (K (F := F)).L (K (F := F)).lev ∗ own d L sN nf ∗ (∃ fC, own d L sC fC) ∗ (∃ fP, own d L sP0 fP) ∗ (∃ fP, own d L sP1 fP) ∗ (∃ fP, own d L sP2 fP) ∗ (∃ fP, own d L sP3 fP) ∗ (∃ fP, own d L sP4 fP) ∗ own d L sB0 zrow ∗ own d L sB1 zrow ∗ own d L sB2 zrow ∗ own d L sB3 zrow ∗ own d L sB4 zrow
    ∗ (bigSep Finset.univ fun t : Fin k0_t6_loop.trips => item d L mC mP (if t.val < k then mO' else mO) t)
    ∗ semVal (thr d L, SemLoc.dma cc0_scratch12.sem) 0 ∗ semVal (thr d L, SemLoc.dma cc0_scratch13.sem) 0 ∗ ∃ W', ⌜∀ p ∈ W', p ∈ W ∨ p.2 = none⌝ ∗ owes (thr d L) O W')

/-- What the result array holds, on the rows of trip `t`. -/
structure RowsOf (nf : Vec F S128 .i32) (mC : Buf (Elt F) (aC.view.loc (thr d L))) (mP : Buf (Elt F) (aP.view.loc (thr d L))) (mO' : Buf (Elt F) (aO.view.loc (thr d L))) (t : Fin k0_t6_loop.trips) : Prop where
  hv : (lenW L nf t).toInt ≤ 1280
  hc : ∀ k, InRow (chunk ((cW L t).view.read (Elt F) mC) k)
  h0 : (oW0 L t).view.read (Elt F) mO' = rowV ((cW L t).view.read (Elt F) mC) ((pW0 L t).view.read (Elt F) mP) (k0_t7_loop (lenW L nf t)).trips
  h1 : (oW1 L t).view.read (Elt F) mO' = rowV ((cW L t).view.read (Elt F) mC) ((pW1 L t).view.read (Elt F) mP) (k0_t7_loop (lenW L nf t)).trips
  h2 : (oW2 L t).view.read (Elt F) mO' = rowV ((cW L t).view.read (Elt F) mC) ((pW2 L t).view.read (Elt F) mP) (k0_t7_loop (lenW L nf t)).trips
  h3 : (oW3 L t).view.read (Elt F) mO' = rowV ((cW L t).view.read (Elt F) mC) ((pW3 L t).view.read (Elt F) mP) (k0_t7_loop (lenW L nf t)).trips
  h4 : (oW4 L t).view.read (Elt F) mO' = rowV ((cW L t).view.read (Elt F) mC) ((pW4 L t).view.read (Elt F) mP) (k0_t7_loop (lenW L nf t)).trips

theorem t6_step (hF : (K (F := F)).Facts) (O : CellTallies nD τ sig (HIx 1)) (W : Waits sig (HIx 1)) (hO : ∀ g, O g none = 0) (v11 v28 : BitVec 32)
    (nf : Vec F S128 .i32) (mC : Buf (Elt F) (aC.view.loc (thr d L))) (mP : Buf (Elt F) (aP.view.loc (thr d L))) (mO mO' : Buf (Elt F) (aO.view.loc (thr d L)))
    (hR : ∀ t, RowsOf d L nf mC mP mO' t) (k : Fin k0_t6_loop.trips) :
    inv6 d L O W nf mC mP mO mO' k.val
      ⊢ wp frame (wpE (defs₀ (F := F)) 𝒱₀ (thr d L) none) Set.univ (k0_t6_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 v28 k0_pay2 k ())
        fun _ => inv6 d L O W nf mC mP mO mO' (k.val + 1) := by
  unfold inv6
  rw [bigSep_take Finset.univ k (Finset.mem_univ k) fun t => item d L mC mP (if t.val < k.val then mO' else mO) t,
    bigSep_take Finset.univ k (Finset.mem_univ k) fun t => item d L mC mP (if t.val < k.val + 1 then mO' else mO) t,
    if_neg (Nat.lt_irrefl k.val), if_pos (Nat.lt_succ_self k.val),
    bigSep_congr (s := Finset.univ.erase k) (Ψ := fun t => item d L mC mP (if t.val < k.val then mO' else mO) t) (Φ := fun t => item d L mC mP (if t.val < k.val + 1 then mO' else mO) t) (fun t ht => by
      have hne : t.val ≠ k.val := fun e => (Finset.mem_erase.mp ht).1 (Fin.ext e)
      have e : (t.val < k.val + 1) = (t.val < k.val) := propext ⟨fun h => by omega, fun h => by omega⟩
      simp only [e])]
  iintro ⟨#Hlv, HN, ⟨%fC, HC⟩, ⟨%fP0, HP0⟩, ⟨%fP1, HP1⟩, ⟨%fP2, HP2⟩, ⟨%fP3, HP3⟩, ⟨%fP4, HP4⟩, HB0, HB1, HB2, HB3, HB4, ⟨⟨HcW, HpW0, HpW1, HpW2, HpW3, HpW4, HoW0, HoW1, HoW2, HoW3, HoW4⟩, Hrest⟩, Hs, Hs', %W', %hW', HO⟩
  have R := hR k
  have T := trip d L hF O W' hO k v11 v28 nf R.hv mC mP mO mO' R.hc R.h0 R.h1 R.h2 R.h3 R.h4 fC fP0 fP1 fP2 fP3 fP4 trivial trivial
  iapply (wp_wand_r frame (wpE (defs₀ (F := F)) 𝒱₀ (thr d L) none) Set.univ)
  isplitl [HN HC HP0 HP1 HP2 HP3 HP4 HB0 HB1 HB2 HB3 HB4 HcW HpW0 HpW1 HpW2 HpW3 HpW4 HoW0 HoW1 HoW2 HoW3 HoW4 Hs Hs' HO]
  · iapply T
    isplitr; · iexact Hlv
    isplitl [HN]; · iexact HN
    isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexact HB0
    isplitl [HB1]; · iexact HB1
    isplitl [HB2]; · iexact HB2
    isplitl [HB3]; · iexact HB3
    isplitl [HB4]; · iexact HB4
    isplitl [HcW]; · iexact HcW
    isplitl [HpW0]; · iexact HpW0
    isplitl [HpW1]; · iexact HpW1
    isplitl [HpW2]; · iexact HpW2
    isplitl [HpW3]; · iexact HpW3
    isplitl [HpW4]; · iexact HpW4
    isplitl [HoW0]; · iexact HoW0
    isplitl [HoW1]; · iexact HoW1
    isplitl [HoW2]; · iexact HoW2
    isplitl [HoW3]; · iexact HoW3
    isplitl [HoW4]; · iexact HoW4
    isplitl [Hs]; · iexact Hs
    isplitl [Hs']; · iexact Hs'
    iexact HO
  · iintro %_ ⟨HN, HC, HP0, HP1, HP2, HP3, HP4, HB0, HB1, HB2, HB3, HB4, HcW, HpW0, HpW1, HpW2, HpW3, HpW4, HoW0, HoW1, HoW2, HoW3, HoW4, Hs, Hs', %W'', %hW'', HO⟩
    isplitr; · iexact Hlv
    isplitl [HN]; · iexact HN
    isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexact HB0
    isplitl [HB1]; · iexact HB1
    isplitl [HB2]; · iexact HB2
    isplitl [HB3]; · iexact HB3
    isplitl [HB4]; · iexact HB4
    isplitl [HcW HpW0 HpW1 HpW2 HpW3 HpW4 HoW0 HoW1 HoW2 HoW3 HoW4 Hrest]
    · isplitl [HcW HpW0 HpW1 HpW2 HpW3 HpW4 HoW0 HoW1 HoW2 HoW3 HoW4]
      · isplitl [HcW]; · iexact HcW
        isplitl [HpW0]; · iexact HpW0
        isplitl [HpW1]; · iexact HpW1
        isplitl [HpW2]; · iexact HpW2
        isplitl [HpW3]; · iexact HpW3
        isplitl [HpW4]; · iexact HpW4
        isplitl [HoW0]; · iexact HoW0
        isplitl [HoW1]; · iexact HoW1
        isplitl [HoW2]; · iexact HoW2
        isplitl [HoW3]; · iexact HoW3
        iexact HoW4
      · iexact Hrest
    isplitl [Hs]; · iexact Hs
    isplitl [Hs']; · iexact Hs'
    iexists W''
    isplitr
    · ipureintro
      intro p hp
      rcases hW'' p hp with h | h
      · exact hW' p h
      · exact .inr h
    · iexact HO

end Body

end Cert.Proof.Hist
-- ==== Proof.HistRows.lean ====
/-
  The windows of the trips, as the rows of the arrays.
-/
module

public import proofs.«01_k».proof.Proof.HistWin

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Rows

/-! ## The windows as sets of elements -/

/-- Element `n` of the one row of a window. -/
abbrev y1280 (x : S1280.Idx) : S1x1x1280.Idx := fun | 0 => (0 : Fin 1) | 1 => (0 : Fin 1) | 2 => x 0
abbrev y4096 (x : S4096.Idx) : S1x1x4096.Idx := fun | 0 => (0 : Fin 1) | 1 => (0 : Fin 1) | 2 => x 0

theorem rs1280 (h : S1280.numel = S1x1x1280.numel) (x : S1280.Idx) : Shape.reshapeEquiv h x = y1280 x := by
  refine Shape.reshapeEquiv_eq_of_rowMajor h ?_
  refine (Shape.rowMajor_val_three (y1280 x)).trans ?_
  refine Eq.trans ?_ (Shape.rowMajor_val_one x).symm
  simp
theorem rs4096 (h : S4096.numel = S1x1x4096.numel) (x : S4096.Idx) : Shape.reshapeEquiv h x = y4096 x := by
  refine Shape.reshapeEquiv_eq_of_rowMajor h ?_
  refine (Shape.rowMajor_val_three (y4096 x)).trans ?_
  refine Eq.trans ?_ (Shape.rowMajor_val_one x).symm
  simp

theorem b_lt (L : grid0.Coords) (t : Fin k0_t6_loop.trips) : bOf L t < 112 := by
  have h0 : (L 0).val < 2 := (L 0).isLt
  have h1 : (L 1).val < 16 := (L 1).isLt
  have h2 : t.val < 14 := t.isLt
  unfold bOf; omega
theorem g_lt (L : grid0.Coords) : gOf L < 4 := by
  unfold gOf; omega

/-- Element `l` of the row `(b, h)` of the codes, of the weights, of the results. -/
abbrev cIx (L : grid0.Coords) (t : Fin k0_t6_loop.trips) (x : S1280.Idx) : S112x4x1280.Idx :=
  fun | 0 => (⟨bOf L t, b_lt L t⟩ : Fin 112) | 1 => (⟨gOf L, g_lt L⟩ : Fin 4) | 2 => x 0
abbrev pIx (L : grid0.Coords) (t : Fin k0_t6_loop.trips) (j : Fin 5) (x : S1280.Idx) : S112x20x1280.Idx :=
  fun | 0 => (⟨bOf L t, b_lt L t⟩ : Fin 112) | 1 => (⟨5 * gOf L + j.val, by have := g_lt L; omega⟩ : Fin 20) | 2 => x 0
abbrev oIx (L : grid0.Coords) (t : Fin k0_t6_loop.trips) (j : Fin 5) (x : S4096.Idx) : S112x20x4096.Idx :=
  fun | 0 => (⟨bOf L t, b_lt L t⟩ : Fin 112) | 1 => (⟨5 * gOf L + j.val, by have := g_lt L; omega⟩ : Fin 20) | 2 => x 0

theorem cW_emb (L : grid0.Coords) (t : Fin k0_t6_loop.trips) (x : S1280.Idx) : (cW L t).view.emb x = cIx L t x := by
  show (Rect.unit (s := S112x4x1280) (k0_off7 L t) S1x1x1280.size (k0_off7_inb L t)).emb (Shape.reshapeEquiv _ x) = _
  rw [rs1280]
  have e := off7_eq L t
  funext a
  apply Fin.ext
  show k0_off7 L t a + 1 * (y1280 x a).val = _
  rw [e]
  match a with
  | 0 => rfl
  | 1 => rfl
  | 2 => show 0 + 1 * (x 0).val = (x 0).val; omega

theorem pW0_emb (L : grid0.Coords) (t : Fin k0_t6_loop.trips) (x : S1280.Idx) : (pW0 L t).view.emb x = pIx L t 0 x := by
  show (Rect.unit (s := S112x20x1280) (k0_off8 L t 0#32) S1x1x1280.size (k0_off8_inb L t 0)).emb (Shape.reshapeEquiv _ x) = _
  rw [rs1280]
  have e : k0_off8 L t 0#32 = _ := off8_eq L t 0
  funext a
  apply Fin.ext
  show k0_off8 L t 0#32 a + 1 * (y1280 x a).val = _
  rw [e]
  match a with
  | 0 => rfl
  | 1 => rfl
  | 2 => show 0 + 1 * (x 0).val = (x 0).val; omega

theorem oW0_emb (L : grid0.Coords) (t : Fin k0_t6_loop.trips) (x : S4096.Idx) : (oW0 L t).view.emb x = oIx L t 0 x := by
  show (Rect.unit (s := S112x20x4096) (k0_off13 L t 0#32) S1x1x4096.size (k0_off13_inb L t 0)).emb (Shape.reshapeEquiv _ x) = _
  rw [rs4096]
  have e : k0_off13 L t 0#32 = _ := off13_eq L t 0
  funext a
  apply Fin.ext
  show k0_off13 L t 0#32 a + 1 * (y4096 x a).val = _
  rw [e]
  match a with
  | 0 => rfl
  | 1 => rfl
  | 2 => show 0 + 1 * (x 0).val = (x 0).val; omega

theorem pW1_emb (L : grid0.Coords) (t : Fin k0_t6_loop.trips) (x : S1280.Idx) : (pW1 L t).view.emb x = pIx L t 1 x := by
  show (Rect.unit (s := S112x20x1280) (k0_off8 L t 1#32) S1x1x1280.size (k0_off8_inb L t 1)).emb (Shape.reshapeEquiv _ x) = _
  rw [rs1280]
  have e : k0_off8 L t 1#32 = _ := off8_eq L t 1
  funext a
  apply Fin.ext
  show k0_off8 L t 1#32 a + 1 * (y1280 x a).val = _
  rw [e]
  match a with
  | 0 => rfl
  | 1 => rfl
  | 2 => show 0 + 1 * (x 0).val = (x 0).val; omega

theorem oW1_emb (L : grid0.Coords) (t : Fin k0_t6_loop.trips) (x : S4096.Idx) : (oW1 L t).view.emb x = oIx L t 1 x := by
  show (Rect.unit (s := S112x20x4096) (k0_off13 L t 1#32) S1x1x4096.size (k0_off13_inb L t 1)).emb (Shape.reshapeEquiv _ x) = _
  rw [rs4096]
  have e : k0_off13 L t 1#32 = _ := off13_eq L t 1
  funext a
  apply Fin.ext
  show k0_off13 L t 1#32 a + 1 * (y4096 x a).val = _
  rw [e]
  match a with
  | 0 => rfl
  | 1 => rfl
  | 2 => show 0 + 1 * (x 0).val = (x 0).val; omega

theorem pW2_emb (L : grid0.Coords) (t : Fin k0_t6_loop.trips) (x : S1280.Idx) : (pW2 L t).view.emb x = pIx L t 2 x := by
  show (Rect.unit (s := S112x20x1280) (k0_off8 L t 2#32) S1x1x1280.size (k0_off8_inb L t 2)).emb (Shape.reshapeEquiv _ x) = _
  rw [rs1280]
  have e : k0_off8 L t 2#32 = _ := off8_eq L t 2
  funext a
  apply Fin.ext
  show k0_off8 L t 2#32 a + 1 * (y1280 x a).val = _
  rw [e]
  match a with
  | 0 => rfl
  | 1 => rfl
  | 2 => show 0 + 1 * (x 0).val = (x 0).val; omega

theorem oW2_emb (L : grid0.Coords) (t : Fin k0_t6_loop.trips) (x : S4096.Idx) : (oW2 L t).view.emb x = oIx L t 2 x := by
  show (Rect.unit (s := S112x20x4096) (k0_off13 L t 2#32) S1x1x4096.size (k0_off13_inb L t 2)).emb (Shape.reshapeEquiv _ x) = _
  rw [rs4096]
  have e : k0_off13 L t 2#32 = _ := off13_eq L t 2
  funext a
  apply Fin.ext
  show k0_off13 L t 2#32 a + 1 * (y4096 x a).val = _
  rw [e]
  match a with
  | 0 => rfl
  | 1 => rfl
  | 2 => show 0 + 1 * (x 0).val = (x 0).val; omega

theorem pW3_emb (L : grid0.Coords) (t : Fin k0_t6_loop.trips) (x : S1280.Idx) : (pW3 L t).view.emb x = pIx L t 3 x := by
  show (Rect.unit (s := S112x20x1280) (k0_off8 L t 3#32) S1x1x1280.size (k0_off8_inb L t 3)).emb (Shape.reshapeEquiv _ x) = _
  rw [rs1280]
  have e : k0_off8 L t 3#32 = _ := off8_eq L t 3
  funext a
  apply Fin.ext
  show k0_off8 L t 3#32 a + 1 * (y1280 x a).val = _
  rw [e]
  match a with
  | 0 => rfl
  | 1 => rfl
  | 2 => show 0 + 1 * (x 0).val = (x 0).val; omega

theorem oW3_emb (L : grid0.Coords) (t : Fin k0_t6_loop.trips) (x : S4096.Idx) : (oW3 L t).view.emb x = oIx L t 3 x := by
  show (Rect.unit (s := S112x20x4096) (k0_off13 L t 3#32) S1x1x4096.size (k0_off13_inb L t 3)).emb (Shape.reshapeEquiv _ x) = _
  rw [rs4096]
  have e : k0_off13 L t 3#32 = _ := off13_eq L t 3
  funext a
  apply Fin.ext
  show k0_off13 L t 3#32 a + 1 * (y4096 x a).val = _
  rw [e]
  match a with
  | 0 => rfl
  | 1 => rfl
  | 2 => show 0 + 1 * (x 0).val = (x 0).val; omega

theorem pW4_emb (L : grid0.Coords) (t : Fin k0_t6_loop.trips) (x : S1280.Idx) : (pW4 L t).view.emb x = pIx L t 4 x := by
  show (Rect.unit (s := S112x20x1280) (k0_off8 L t 4#32) S1x1x1280.size (k0_off8_inb L t 4)).emb (Shape.reshapeEquiv _ x) = _
  rw [rs1280]
  have e : k0_off8 L t 4#32 = _ := off8_eq L t 4
  funext a
  apply Fin.ext
  show k0_off8 L t 4#32 a + 1 * (y1280 x a).val = _
  rw [e]
  match a with
  | 0 => rfl
  | 1 => rfl
  | 2 => show 0 + 1 * (x 0).val = (x 0).val; omega

theorem oW4_emb (L : grid0.Coords) (t : Fin k0_t6_loop.trips) (x : S4096.Idx) : (oW4 L t).view.emb x = oIx L t 4 x := by
  show (Rect.unit (s := S112x20x4096) (k0_off13 L t 4#32) S1x1x4096.size (k0_off13_inb L t 4)).emb (Shape.reshapeEquiv _ x) = _
  rw [rs4096]
  have e : k0_off13 L t 4#32 = _ := off13_eq L t 4
  funext a
  apply Fin.ext
  show k0_off13 L t 4#32 a + 1 * (y4096 x a).val = _
  rw [e]
  match a with
  | 0 => rfl
  | 1 => rfl
  | 2 => show 0 + 1 * (x 0).val = (x 0).val; omega

/-- The rows, by their first two coordinates. -/
def cS (L : grid0.Coords) (t : Fin k0_t6_loop.trips) : Finset S112x4x1280.Idx := Finset.univ.filter fun i => (i 0).val = bOf L t ∧ (i 1).val = gOf L
def pS (L : grid0.Coords) (t : Fin k0_t6_loop.trips) (j : Fin 5) : Finset S112x20x1280.Idx := Finset.univ.filter fun i => (i 0).val = bOf L t ∧ (i 1).val = 5 * gOf L + j.val
def oS (L : grid0.Coords) (t : Fin k0_t6_loop.trips) (j : Fin 5) : Finset S112x20x4096.Idx := Finset.univ.filter fun i => (i 0).val = bOf L t ∧ (i 1).val = 5 * gOf L + j.val

theorem cW_set (L : grid0.Coords) (t : Fin k0_t6_loop.trips) : (cW L t).view.set = cS L t := by
  ext i
  refine Iff.trans (Finset.mem_map (f := (cW L t).view.emb)) ?_
  refine Iff.trans ?_ (Finset.mem_filter.trans ⟨fun h => h.2, fun h => ⟨Finset.mem_univ _, h⟩⟩).symm
  constructor
  · rintro ⟨x, -, rfl⟩
    rw [cW_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [cW_emb]
    funext a
    apply Fin.ext
    match a with
    | 0 => exact h0.symm
    | 1 => exact h1.symm
    | 2 => rfl

theorem pW0_set (L : grid0.Coords) (t : Fin k0_t6_loop.trips) : (pW0 L t).view.set = pS L t 0 := by
  ext i
  refine Iff.trans (Finset.mem_map (f := (pW0 L t).view.emb)) ?_
  refine Iff.trans ?_ (Finset.mem_filter.trans ⟨fun h => h.2, fun h => ⟨Finset.mem_univ _, h⟩⟩).symm
  constructor
  · rintro ⟨x, -, rfl⟩
    rw [pW0_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW0_emb]
    funext a
    apply Fin.ext
    match a with
    | 0 => exact h0.symm
    | 1 => exact h1.symm
    | 2 => rfl

theorem oW0_set (L : grid0.Coords) (t : Fin k0_t6_loop.trips) : (oW0 L t).view.set = oS L t 0 := by
  ext i
  refine Iff.trans (Finset.mem_map (f := (oW0 L t).view.emb)) ?_
  refine Iff.trans ?_ (Finset.mem_filter.trans ⟨fun h => h.2, fun h => ⟨Finset.mem_univ _, h⟩⟩).symm
  constructor
  · rintro ⟨x, -, rfl⟩
    rw [oW0_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW0_emb]
    funext a
    apply Fin.ext
    match a with
    | 0 => exact h0.symm
    | 1 => exact h1.symm
    | 2 => rfl

theorem pW1_set (L : grid0.Coords) (t : Fin k0_t6_loop.trips) : (pW1 L t).view.set = pS L t 1 := by
  ext i
  refine Iff.trans (Finset.mem_map (f := (pW1 L t).view.emb)) ?_
  refine Iff.trans ?_ (Finset.mem_filter.trans ⟨fun h => h.2, fun h => ⟨Finset.mem_univ _, h⟩⟩).symm
  constructor
  · rintro ⟨x, -, rfl⟩
    rw [pW1_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW1_emb]
    funext a
    apply Fin.ext
    match a with
    | 0 => exact h0.symm
    | 1 => exact h1.symm
    | 2 => rfl

theorem oW1_set (L : grid0.Coords) (t : Fin k0_t6_loop.trips) : (oW1 L t).view.set = oS L t 1 := by
  ext i
  refine Iff.trans (Finset.mem_map (f := (oW1 L t).view.emb)) ?_
  refine Iff.trans ?_ (Finset.mem_filter.trans ⟨fun h => h.2, fun h => ⟨Finset.mem_univ _, h⟩⟩).symm
  constructor
  · rintro ⟨x, -, rfl⟩
    rw [oW1_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW1_emb]
    funext a
    apply Fin.ext
    match a with
    | 0 => exact h0.symm
    | 1 => exact h1.symm
    | 2 => rfl

theorem pW2_set (L : grid0.Coords) (t : Fin k0_t6_loop.trips) : (pW2 L t).view.set = pS L t 2 := by
  ext i
  refine Iff.trans (Finset.mem_map (f := (pW2 L t).view.emb)) ?_
  refine Iff.trans ?_ (Finset.mem_filter.trans ⟨fun h => h.2, fun h => ⟨Finset.mem_univ _, h⟩⟩).symm
  constructor
  · rintro ⟨x, -, rfl⟩
    rw [pW2_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW2_emb]
    funext a
    apply Fin.ext
    match a with
    | 0 => exact h0.symm
    | 1 => exact h1.symm
    | 2 => rfl

theorem oW2_set (L : grid0.Coords) (t : Fin k0_t6_loop.trips) : (oW2 L t).view.set = oS L t 2 := by
  ext i
  refine Iff.trans (Finset.mem_map (f := (oW2 L t).view.emb)) ?_
  refine Iff.trans ?_ (Finset.mem_filter.trans ⟨fun h => h.2, fun h => ⟨Finset.mem_univ _, h⟩⟩).symm
  constructor
  · rintro ⟨x, -, rfl⟩
    rw [oW2_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW2_emb]
    funext a
    apply Fin.ext
    match a with
    | 0 => exact h0.symm
    | 1 => exact h1.symm
    | 2 => rfl

theorem pW3_set (L : grid0.Coords) (t : Fin k0_t6_loop.trips) : (pW3 L t).view.set = pS L t 3 := by
  ext i
  refine Iff.trans (Finset.mem_map (f := (pW3 L t).view.emb)) ?_
  refine Iff.trans ?_ (Finset.mem_filter.trans ⟨fun h => h.2, fun h => ⟨Finset.mem_univ _, h⟩⟩).symm
  constructor
  · rintro ⟨x, -, rfl⟩
    rw [pW3_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW3_emb]
    funext a
    apply Fin.ext
    match a with
    | 0 => exact h0.symm
    | 1 => exact h1.symm
    | 2 => rfl

theorem oW3_set (L : grid0.Coords) (t : Fin k0_t6_loop.trips) : (oW3 L t).view.set = oS L t 3 := by
  ext i
  refine Iff.trans (Finset.mem_map (f := (oW3 L t).view.emb)) ?_
  refine Iff.trans ?_ (Finset.mem_filter.trans ⟨fun h => h.2, fun h => ⟨Finset.mem_univ _, h⟩⟩).symm
  constructor
  · rintro ⟨x, -, rfl⟩
    rw [oW3_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW3_emb]
    funext a
    apply Fin.ext
    match a with
    | 0 => exact h0.symm
    | 1 => exact h1.symm
    | 2 => rfl

theorem pW4_set (L : grid0.Coords) (t : Fin k0_t6_loop.trips) : (pW4 L t).view.set = pS L t 4 := by
  ext i
  refine Iff.trans (Finset.mem_map (f := (pW4 L t).view.emb)) ?_
  refine Iff.trans ?_ (Finset.mem_filter.trans ⟨fun h => h.2, fun h => ⟨Finset.mem_univ _, h⟩⟩).symm
  constructor
  · rintro ⟨x, -, rfl⟩
    rw [pW4_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW4_emb]
    funext a
    apply Fin.ext
    match a with
    | 0 => exact h0.symm
    | 1 => exact h1.symm
    | 2 => rfl

theorem oW4_set (L : grid0.Coords) (t : Fin k0_t6_loop.trips) : (oW4 L t).view.set = oS L t 4 := by
  ext i
  refine Iff.trans (Finset.mem_map (f := (oW4 L t).view.emb)) ?_
  refine Iff.trans ?_ (Finset.mem_filter.trans ⟨fun h => h.2, fun h => ⟨Finset.mem_univ _, h⟩⟩).symm
  constructor
  · rintro ⟨x, -, rfl⟩
    rw [oW4_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW4_emb]
    funext a
    apply Fin.ext
    match a with
    | 0 => exact h0.symm
    | 1 => exact h1.symm
    | 2 => rfl

end Rows

end Cert.Proof.Hist
-- ==== Proof.HistCore.lean ====
/-
  The task of one vector subcore.
-/
module

public import proofs.«01_k».proof.Proof.HistBody
public import proofs.«01_k».proof.Proof.HistRows

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Core

variable (d : Dev nD) (L : grid0.Coords)

/-- The first 112 words of the lengths' scratch. -/
abbrev nW : Memref sig .scVector .vmem S112 .i32 := sN.slice (Rect.unit (s := S128) ![0] S112.size inb_S128_S112_0) (fun _ => rfl)

/-- A share of an array in HBM. -/
abbrev lend {s : Shape} {e : EltTy} (M : Memref sig .scVector .hbm s e) (q : PosShare TreeShare) (f : Buf (Elt F) (M.view.loc (thr d L))) : sProp 𝕄 :=
  M.view.loc (thr d L) ↦{q} f

/-- A window of a scratch. -/
abbrev ownW {s : Shape} {e : EltTy} (M : Memref sig .scVector .vmem s e) (f : Buf (Elt F) (M.view.loc (thr d L))) : sProp 𝕄 :=
  M.view.loc (thr d L) ↦[M.view.set]{fullShare} f

/-- The scratch but for a window. -/
abbrev ownR {s : Shape} {e : EltTy} (M : Memref sig .scVector .vmem s e) (f : Buf (Elt F) (M.view.loc (thr d L))) : sProp 𝕄 :=
  M.view.loc (thr d L) ↦[Finset.univ \ M.view.set]{fullShare} f

theorem own_split (f : Vec F S128 .i32) : own d L sN f ⊣⊢ iprop(ownW d L nW f ∗ ownR d L nW f) :=
  pointsTo_split_subset (ℓ := sN.view.loc (thr d L)) (I := nW.view.set) (S := Finset.univ) (Finset.subset_univ _)

theorem writes_rest (f : Vec F S128 .i32) (w : Vec F S112 .i32) :
    ownR d L nW f = ownR d L nW (nW.view.writes (Elt F) f [⟨Rect.whole S112, w⟩]) := by
  refine pointsTo_congr fun i hi => ?_
  have hn := (Finset.mem_sdiff.mp hi).2
  symm
  show (nW.view.slice (Rect.whole S112)).write (Elt F) f _ Finset.univ i = f i
  refine View.write_of_not_mem _ _ _ fun hm => ?_
  obtain ⟨x, -, rfl⟩ := Finset.mem_map.mp hm
  exact hn (Finset.mem_map.mpr ⟨(Rect.whole S112).emb x, Finset.mem_univ _, rfl⟩)

/-- Where a trip's length lies. -/
abbrev nIx (t : Fin k0_t6_loop.trips) : S112.Idx := fun | 0 => (⟨bOf L t, b_lt L t⟩ : Fin 112)

theorem lens_written (f : Vec F S128 .i32) (w : Vec F S112 .i32) (t : Fin k0_t6_loop.trips) :
    lenW (F := F) L (nW.view.writes (Elt F) f [⟨Rect.whole S112, w⟩]) t = w (nIx L t) := by
  show (nW.view.slice (Rect.whole S112)).write (Elt F) f _ Finset.univ ((Rect.unit (s := S128) (k0_off6 L t) S16.size (k0_off6_inb L t)).emb _) = _
  have e : ∀ y, (y 0).val = 0 → (Rect.unit (s := S128) (k0_off6 L t) S16.size (k0_off6_inb L t)).emb y = (nW.view.slice (Rect.whole S112)).emb (nIx L t) := by
    intro y hy
    funext a
    match a with
    | 0 =>
      apply Fin.ext
      show k0_off6 L t 0 + 1 * (y 0).val = 0 + 1 * (0 + 1 * bOf L t)
      rw [off6_eq, hy]; omega
  rw [e _ rfl, View.write_emb_of_mem _ _ (Finset.mem_univ _)]
  rfl

theorem pro (O : CellTallies nD τ sig (HIx 1)) (W : Waits sig (HIx 1)) (hO : ∀ g, O g none = 0) (q : PosShare TreeShare)
    (mN : Vec F S112 .i32) (fN : Vec F S128 .i32) :
    iprop(levAts (K (F := F)).L (K (F := F)).lev ∗ lend d L aN q mN ∗ own d L sN fN ∗ semVal (thr d L, SemLoc.dma cc0_scoped0.sem) 0 ∗ owes (thr d L) O W)
      ⊢ wp frame (wpE (defs₀ (F := F)) 𝒱₀ (thr d L) none) Set.univ (k0_part5 (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0)
        fun r => iprop(⌜r.2.2.1 = k0_pay2⌝ ∗ lend d L aN q mN ∗ (∃ nf, ⌜∀ t, lenW L nf t = mN (nIx L t)⌝ ∗ own d L sN nf) ∗ semVal (thr d L, SemLoc.dma cc0_scoped0.sem) 0
          ∗ ∃ W', ⌜∀ p ∈ W', p ∈ W ∨ p.2 = none⌝ ∗ owes (thr d L) O W') := by
  iintro ⟨#Hlv, HL, HN, Hs, HO⟩
  ihave Hmw := ((K (F := F)).mayWaits_none (thr := thr d L) hO) $$ Hlv
  ihave ⟨HN, HN'⟩ := (own_split d L fN).1 $$ HN
  simp only [k0_part5_eq_skeleton]; unfold k0_part5_skel
  sl_exec
  rw [wp_ret]; imodintro
  ihave HN' := (Entails.of_eq (writes_rest d L fN mN)) $$ HN'
  isplitr; · ipureintro; rfl
  isplitl [HL]; · iexact HL
  isplitl [HN HN']
  · iexists (nW.view.writes (Elt F) fN [⟨Rect.whole S112, mN⟩])
    isplitr
    · ipureintro
      exact fun t => lens_written L fN _ t
    · iapply (own_split d L (nW.view.writes (Elt F) fN [⟨Rect.whole S112, mN⟩])).2
      isplitl [HN]; · iexact HN
      iexact HN'
  isplitl [Hs]; · iexact Hs
  iexists _
  isplitr; rotate_left
  · iexact HO
  · ipureintro
    repeat (first | exact fun p hp => .inl hp | refine ins_none ?_)

/-- All the trips. -/
theorem t6_loop (hF : (K (F := F)).Facts) (O : CellTallies nD τ sig (HIx 1)) (W : Waits sig (HIx 1)) (hO : ∀ g, O g none = 0) (v11 v28 : BitVec 32)
    (nf : Vec F S128 .i32) (mC : Buf (Elt F) (aC.view.loc (thr d L))) (mP : Buf (Elt F) (aP.view.loc (thr d L))) (mO mO' : Buf (Elt F) (aO.view.loc (thr d L)))
    (hR : ∀ t, RowsOf d L nf mC mP mO' t) (hok : k0_t6_loop.OK) (Q : Unit → sProp 𝕄) :
    iprop(inv6 d L O W nf mC mP mO mO' 0 ∗ (inv6 d L O W nf mC mP mO mO' k0_t6_loop.trips -∗ Q ()))
      ⊢ wp frame (wpE (defs₀ (F := F)) 𝒱₀ (thr d L) none) Set.univ (Scf.Loop.for k0_t6_loop hok ⟨⟩ (k0_t6_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 v28 k0_pay2)) Q := by
  have H := Scf.wp_for frame (wpE (defs₀ (F := F)) 𝒱₀ (thr d L) none) Set.univ _ _ _ hok () (k0_t6_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 v28 k0_pay2)
    (fun k _ => inv6 d L O W nf mC mP mO mO' k)
    (fun k _ => t6_step d L hF O W hO v11 v28 nf mC mP mO mO' hR k) (Q := Q)
  refine BIBase.Entails.trans ?_ H
  iintro ⟨Hi, HQ⟩
  isplitl [Hi]; · iexact Hi
  iintro %_ H
  iapply HQ
  iexact H

/-- The task's scratch, at any contents. -/
abbrev scr : sProp 𝕄 :=
  iprop((∃ f, own d L sN f) ∗ (∃ f, own d L sC f) ∗ (∃ f, own d L sP0 f) ∗ (∃ f, own d L sP1 f) ∗ (∃ f, own d L sP2 f) ∗ (∃ f, own d L sP3 f) ∗ (∃ f, own d L sP4 f)
    ∗ (∃ f, own d L sB0 f) ∗ (∃ f, own d L sB1 f) ∗ (∃ f, own d L sB2 f) ∗ (∃ f, own d L sB3 f) ∗ (∃ f, own d L sB4 f))

/-- The task of one vector subcore. -/
theorem tile_core (hF : (K (F := F)).Facts) (O : CellTallies nD τ sig (HIx 1)) (W : Waits sig (HIx 1)) (hO : ∀ g, O g none = 0) (q : PosShare TreeShare)
    (mN : Vec F S112 .i32) (mC : Buf (Elt F) (aC.view.loc (thr d L))) (mP : Buf (Elt F) (aP.view.loc (thr d L))) (mO mO' : Buf (Elt F) (aO.view.loc (thr d L)))
    (hR : ∀ nf : Vec F S128 .i32, (∀ t, lenW L nf t = mN (nIx L t)) → ∀ t, RowsOf d L nf mC mP mO' t) :
    iprop(levAts (K (F := F)).L (K (F := F)).lev ∗ lend d L aN q mN ∗ (bigSep Finset.univ fun t : Fin k0_t6_loop.trips => item d L mC mP mO t) ∗ scr d L
        ∗ semVal (thr d L, SemLoc.dma cc0_scoped0.sem) 0 ∗ semVal (thr d L, SemLoc.dma cc0_scratch12.sem) 0 ∗ semVal (thr d L, SemLoc.dma cc0_scratch13.sem) 0 ∗ owes (thr d L) O W)
      ⊢ wp frame (wpE (defs₀ (F := F)) 𝒱₀ (thr d L) none) Set.univ (cc0_histogram (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0)
        fun _ => iprop(lend d L aN q mN ∗ (bigSep Finset.univ fun t : Fin k0_t6_loop.trips => item d L mC mP mO' t) ∗ scr d L
        ∗ semVal (thr d L, SemLoc.dma cc0_scoped0.sem) 0 ∗ semVal (thr d L, SemLoc.dma cc0_scratch12.sem) 0 ∗ semVal (thr d L, SemLoc.dma cc0_scratch13.sem) 0
        ∗ ∃ W', ⌜∀ p ∈ W', p ∈ W ∨ p.2 = none⌝ ∗ owes (thr d L) O W') := by
  iintro ⟨#Hlv, HL, HI, ⟨⟨%fN, HN⟩, ⟨%fC, HC⟩, ⟨%fP0, HP0⟩, ⟨%fP1, HP1⟩, ⟨%fP2, HP2⟩, ⟨%fP3, HP3⟩, ⟨%fP4, HP4⟩, ⟨%fB0, HB0⟩, ⟨%fB1, HB1⟩, ⟨%fB2, HB2⟩, ⟨%fB3, HB3⟩, ⟨%fB4, HB4⟩⟩, Hs0, Hs, Hs', HO⟩
  simp only [cc0_histogram_eq_skeleton]; unfold cc0_histogram_skel
  rw [wp_bind]
  iapply (wp_wand_r frame (wpE (defs₀ (F := F)) 𝒱₀ (thr d L) none) Set.univ)
  isplitl [HL HN Hs0 HO]
  · iapply (pro d L O W hO q mN fN)
    isplitr; · iexact Hlv
    isplitl [HL]; · iexact HL
    isplitl [HN]; · iexact HN
    isplitl [Hs0]; · iexact Hs0
    iexact HO
  iintro %r ⟨%hr, HL, ⟨%nf, %hnf, HN⟩, Hs0, %W₀, %hW₀, HO⟩
  obtain ⟨v11, v28, v29, c0⟩ := r
  obtain rfl : v29 = k0_pay2 := hr
  rw [wp_bind]
  iapply (t1_loop d L k0_t1_ok _ _)
  isplitl [HB0]; · iexact HB0
  iintro HB0
  rw [wp_bind]
  iapply (t2_loop d L k0_t2_ok _ _)
  isplitl [HB1]; · iexact HB1
  iintro HB1
  rw [wp_bind]
  iapply (t3_loop d L k0_t3_ok _ _)
  isplitl [HB2]; · iexact HB2
  iintro HB2
  rw [wp_bind]
  iapply (t4_loop d L k0_t4_ok _ _)
  isplitl [HB3]; · iexact HB3
  iintro HB3
  rw [wp_bind]
  iapply (t5_loop d L k0_t5_ok _ _)
  isplitl [HB4]; · iexact HB4
  iintro HB4
  rw [wp_bind]
  iapply (t6_loop d L hF O W₀ hO v11 v28 nf mC mP mO mO' (hR nf hnf) k0_t6_ok _)
  unfold inv6
  isplitl [HN HC HP0 HP1 HP2 HP3 HP4 HB0 HB1 HB2 HB3 HB4 HI Hs Hs' HO]
  · isplitr; · iexact Hlv
    isplitl [HN]; · iexact HN
    isplitl [HC]; · iexists fC; iexact HC
    isplitl [HP0]; · iexists fP0; iexact HP0
    isplitl [HP1]; · iexists fP1; iexact HP1
    isplitl [HP2]; · iexists fP2; iexact HP2
    isplitl [HP3]; · iexists fP3; iexact HP3
    isplitl [HP4]; · iexists fP4; iexact HP4
    isplitl [HB0]; · iexact HB0
    isplitl [HB1]; · iexact HB1
    isplitl [HB2]; · iexact HB2
    isplitl [HB3]; · iexact HB3
    isplitl [HB4]; · iexact HB4
    isplitl [HI]
    · ihave HI := (Entails.of_eq (show (bigSep Finset.univ fun t : Fin k0_t6_loop.trips => item d L mC mP mO t) = (bigSep Finset.univ fun t : Fin k0_t6_loop.trips => item d L mC mP (if t.val < 0 then mO' else mO) t) from
        bigSep_congr fun t _ => by simp only [Nat.not_lt_zero, if_false])) $$ HI
      iexact HI
    isplitl [Hs]; · iexact Hs
    isplitl [Hs']; · iexact Hs'
    iexists W₀
    isplitr
    · ipureintro; exact fun p hp => .inl hp
    · iexact HO
  iintro ⟨-, HN, HC, HP0, HP1, HP2, HP3, HP4, HB0, HB1, HB2, HB3, HB4, HI, Hs, Hs', %W₁, %hW₁, HO⟩
  rw [wp_pure]; imodintro
  isplitl [HL]; · iexact HL
  isplitl [HI]
  · rw [bigSep_congr (s := Finset.univ) (Ψ := fun t : Fin k0_t6_loop.trips => item d L mC mP (if t.val < k0_t6_loop.trips then mO' else mO) t) (Φ := fun t => item d L mC mP mO' t) (fun t _ => by rw [if_pos t.isLt])]
    iexact HI
  isplitl [HN HC HP0 HP1 HP2 HP3 HP4 HB0 HB1 HB2 HB3 HB4]
  · isplitl [HN]; · iexists nf; iexact HN
    isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexists zrow; iexact HB0
    isplitl [HB1]; · iexists zrow; iexact HB1
    isplitl [HB2]; · iexists zrow; iexact HB2
    isplitl [HB3]; · iexists zrow; iexact HB3
    iexists zrow; iexact HB4
  isplitl [Hs0]; · iexact Hs0
  isplitl [Hs]; · iexact Hs
  isplitl [Hs']; · iexact Hs'
  iexists W₁
  isplitr
  · ipureintro
    intro p hp
    rcases hW₁ p hp with h | h
    · exact hW₀ p h
    · exact .inr h
  · iexact HO

end Core

end Cert.Proof.Hist
-- ==== Proof.HistLay.lean ====
/-
  The arrays, cut into what each vector subcore's task is handed.
-/
module

public import proofs.«01_k».proof.Proof.HistCore
public import proofs.«01_k».proof.Proof.HistRows

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Lay

/-- The arrays, as locations of device `d`. -/
abbrev pLoc (d : Dev nD) : Loc nD τ sig := (SparseCore.T d).loc main_arg0
abbrev cLoc (d : Dev nD) : Loc nD τ sig := (SparseCore.T d).loc main_arg1
abbrev nLoc (d : Dev nD) : Loc nD τ sig := (SparseCore.T d).loc main_arg2
abbrev oLoc (d : Dev nD) : Loc nD τ sig := (SparseCore.T d).loc main_v0

def coordsV (c : Fin (grid0.bound 0)) (s : Fin (grid0.bound 1)) : grid0.Coords :=
  fun | 0 => c | 1 => s | ⟨_ + 2, h⟩ => absurd h (Nat.not_lt.2 (Nat.le_add_left _ _))

abbrev TC : Type := Fin (grid0.bound 0)
abbrev TI : Type := Fin (grid0.bound 1)
abbrev TT : Type := Fin k0_t6_loop.trips

theorem bOf_coords (c : TC) (i : TI) (t : TT) : bOf (coordsV c i) t = 8 * t.val + (2 * i.val + c.val) / 4 := rfl
theorem gOf_coords (c : TC) (i : TI) : gOf (coordsV c i) = (2 * i.val + c.val) % 4 := rfl

theorem slot_inj {c c' : TC} {i i' : TI} {t t' : TT} (hb : bOf (coordsV c i) t = bOf (coordsV c' i') t') (hg : gOf (coordsV c i) = gOf (coordsV c' i')) :
    c = c' ∧ i = i' ∧ t = t' := by
  rw [bOf_coords, bOf_coords] at hb
  rw [gOf_coords, gOf_coords] at hg
  have h0 : c.val < 2 := c.isLt
  have h1 : i.val < 16 := i.isLt
  have h0' : c'.val < 2 := c'.isLt
  have h1' : i'.val < 16 := i'.isLt
  refine ⟨Fin.ext ?_, Fin.ext ?_, Fin.ext ?_⟩ <;> omega

theorem slot_ex (b g : ℕ) (hb : b < 112) (hg : g < 4) : ∃ (c : TC) (i : TI) (t : TT), b = bOf (coordsV c i) t ∧ g = gOf (coordsV c i) := by
  refine ⟨⟨g % 2, ?_⟩, ⟨(4 * (b % 8) + g) / 2, ?_⟩, ⟨b / 8, ?_⟩, ?_, ?_⟩
  · show g % 2 < 2; omega
  · show (4 * (b % 8) + g) / 2 < 16; omega
  · show b / 8 < 14; omega
  · rw [bOf_coords]; show b = 8 * (b / 8) + (2 * ((4 * (b % 8) + g) / 2) + g % 2) / 4; omega
  · rw [gOf_coords]; show g = (2 * ((4 * (b % 8) + g) / 2) + g % 2) % 4; omega

theorem cPts (d : Dev nD) (f : Buf (Elt F) (cLoc d)) :
    (cLoc d ↦{fullShare} f : sProp 𝕄) = bigSep Finset.univ fun c : TC => bigSep Finset.univ fun i : TI => bigSep Finset.univ fun t : TT => cLoc d ↦[cS (coordsV c i) t]{fullShare} f := by
  refine Eq.trans ?_ ((bigSep_univ_prod (fun x : TC × TI × TT => (cLoc d ↦[cS (coordsV x.1 x.2.1) x.2.2]{fullShare} f : sProp 𝕄))).trans (bigSep_congr fun c _ => bigSep_univ_prod _))
  have hcov : (Finset.univ : Finset _).biUnion (fun x : TC × TI × TT => cS (coordsV x.1 x.2.1) x.2.2) = Finset.univ := by
    refine Finset.eq_univ_iff_forall.mpr fun x => ?_
    obtain ⟨c, i, t, hb, hg⟩ := slot_ex (x 0).val (x 1).val (x 0).isLt (x 1).isLt
    exact Finset.mem_biUnion.mpr ⟨(c, i, t), Finset.mem_univ _, Finset.mem_filter.mpr ⟨Finset.mem_univ _, hb, hg⟩⟩
  rw [← pointsTo_biUnion Finset.univ (ℓ := cLoc d) (fun x : TC × TI × TT => cS (coordsV x.1 x.2.1) x.2.2) ?_, hcov]
  · rintro ⟨c, i, t⟩ - ⟨c', i', t'⟩ - hne
    refine Finset.disjoint_left.mpr fun x h h' => hne ?_
    obtain ⟨hb, hg⟩ := (Finset.mem_filter.mp h).2
    obtain ⟨hb', hg'⟩ := (Finset.mem_filter.mp h').2
    obtain ⟨rfl, rfl, rfl⟩ := slot_inj (hb.symm.trans hb') (hg.symm.trans hg')
    rfl

theorem slot_ex5 (b h : ℕ) (hb : b < 112) (hh : h < 20) : ∃ y : TC × TI × TT × Fin 5, b = bOf (coordsV y.1 y.2.1) y.2.2.1 ∧ h = 5 * gOf (coordsV y.1 y.2.1) + y.2.2.2.val := by
  have hg4 : h / 5 < 4 := by omega
  obtain ⟨c, i, t, e, e'⟩ := slot_ex b (h / 5) hb hg4
  refine ⟨(c, i, t, ⟨h % 5, Nat.mod_lt _ (by decide)⟩), e, ?_⟩
  show h = 5 * gOf (coordsV c i) + h % 5
  rw [← e']; omega

theorem mem_pS (L : grid0.Coords) (t : TT) (j : Fin 5) (x : S112x20x1280.Idx) : x ∈ pS L t j ↔ ((x 0).val = bOf L t ∧ (x 1).val = 5 * gOf L + j.val) := by
  unfold pS; rw [Finset.mem_filter]; exact ⟨fun h => h.2, fun h => ⟨Finset.mem_univ _, h⟩⟩

theorem pS_ex (x : S112x20x1280.Idx) : ∃ y : TC × TI × TT × Fin 5, x ∈ pS (coordsV y.1 y.2.1) y.2.2.1 y.2.2.2 := by
  obtain ⟨y, hy⟩ := slot_ex5 (x 0).val (x 1).val (x 0).isLt (x 1).isLt
  exact ⟨y, (mem_pS _ _ _ x).mpr hy⟩

theorem mem_oS (L : grid0.Coords) (t : TT) (j : Fin 5) (x : S112x20x4096.Idx) : x ∈ oS L t j ↔ ((x 0).val = bOf L t ∧ (x 1).val = 5 * gOf L + j.val) := by
  unfold oS; rw [Finset.mem_filter]; exact ⟨fun h => h.2, fun h => ⟨Finset.mem_univ _, h⟩⟩

theorem oS_ex (x : S112x20x4096.Idx) : ∃ y : TC × TI × TT × Fin 5, x ∈ oS (coordsV y.1 y.2.1) y.2.2.1 y.2.2.2 := by
  obtain ⟨y, hy⟩ := slot_ex5 (x 0).val (x 1).val (x 0).isLt (x 1).isLt
  exact ⟨y, (mem_oS _ _ _ x).mpr hy⟩

theorem pS_cover : (Finset.univ : Finset (TC × TI × TT × Fin 5)).biUnion (fun x : TC × TI × TT × Fin 5 => pS (coordsV x.1 x.2.1) x.2.2.1 x.2.2.2) = Finset.univ := by
  rw [Finset.eq_univ_iff_forall]
  intro x
  have h := pS_ex x
  rw [Finset.mem_biUnion]
  cases h with
  | intro y hy => exact Exists.intro y ⟨Finset.mem_univ _, hy⟩

theorem oS_cover : (Finset.univ : Finset (TC × TI × TT × Fin 5)).biUnion (fun x : TC × TI × TT × Fin 5 => oS (coordsV x.1 x.2.1) x.2.2.1 x.2.2.2) = Finset.univ := by
  rw [Finset.eq_univ_iff_forall]
  intro x
  have h := oS_ex x
  rw [Finset.mem_biUnion]
  cases h with
  | intro y hy => exact Exists.intro y ⟨Finset.mem_univ _, hy⟩

theorem pPts (d : Dev nD) (f : Buf (Elt F) (pLoc d)) :
    (pLoc d ↦{fullShare} f : sProp 𝕄) = bigSep Finset.univ fun c : TC => bigSep Finset.univ fun i : TI => bigSep Finset.univ fun t : TT => bigSep Finset.univ fun j : Fin 5 => pLoc d ↦[pS (coordsV c i) t j]{fullShare} f := by
  refine Eq.trans ?_ ((bigSep_univ_prod (fun x : TC × TI × TT × Fin 5 => (pLoc d ↦[pS (coordsV x.1 x.2.1) x.2.2.1 x.2.2.2]{fullShare} f : sProp 𝕄))).trans
    (bigSep_congr fun c _ => (bigSep_univ_prod _).trans (bigSep_congr fun i _ => bigSep_univ_prod _)))
  rw [← pointsTo_biUnion Finset.univ (ℓ := pLoc d) (fun x : TC × TI × TT × Fin 5 => pS (coordsV x.1 x.2.1) x.2.2.1 x.2.2.2) ?_, pS_cover]
  · rintro ⟨c, i, t, j⟩ - ⟨c', i', t', j'⟩ - hne
    refine Finset.disjoint_left.mpr fun x h h' => hne ?_
    obtain ⟨hb, hg⟩ := (Finset.mem_filter.mp h).2
    obtain ⟨hb', hg'⟩ := (Finset.mem_filter.mp h').2
    have e : 5 * gOf (coordsV c i) + j.val = 5 * gOf (coordsV c' i') + j'.val := hg.symm.trans hg'
    obtain ⟨rfl, rfl, rfl⟩ := slot_inj (hb.symm.trans hb') (by omega)
    obtain rfl : j = j' := Fin.ext (by omega)
    rfl

theorem oPts (d : Dev nD) (f : Buf (Elt F) (oLoc d)) :
    (oLoc d ↦{fullShare} f : sProp 𝕄) = bigSep Finset.univ fun c : TC => bigSep Finset.univ fun i : TI => bigSep Finset.univ fun t : TT => bigSep Finset.univ fun j : Fin 5 => oLoc d ↦[oS (coordsV c i) t j]{fullShare} f := by
  refine Eq.trans ?_ ((bigSep_univ_prod (fun x : TC × TI × TT × Fin 5 => (oLoc d ↦[oS (coordsV x.1 x.2.1) x.2.2.1 x.2.2.2]{fullShare} f : sProp 𝕄))).trans
    (bigSep_congr fun c _ => (bigSep_univ_prod _).trans (bigSep_congr fun i _ => bigSep_univ_prod _)))
  rw [← pointsTo_biUnion Finset.univ (ℓ := oLoc d) (fun x : TC × TI × TT × Fin 5 => oS (coordsV x.1 x.2.1) x.2.2.1 x.2.2.2) ?_, oS_cover]
  · rintro ⟨c, i, t, j⟩ - ⟨c', i', t', j'⟩ - hne
    refine Finset.disjoint_left.mpr fun x h h' => hne ?_
    obtain ⟨hb, hg⟩ := (Finset.mem_filter.mp h).2
    obtain ⟨hb', hg'⟩ := (Finset.mem_filter.mp h').2
    have e : 5 * gOf (coordsV c i) + j.val = 5 * gOf (coordsV c' i') + j'.val := hg.symm.trans hg'
    obtain ⟨rfl, rfl, rfl⟩ := slot_inj (hb.symm.trans hb') (by omega)
    obtain rfl : j = j' := Fin.ext (by omega)
    rfl

/-- The share of the lengths which a task reads. -/
def shr (c : TC) (i : TI) : PosShare TreeShare := Transfers.dealOf (Transfers.dealOf fullShare Finset.univ c) Finset.univ i

theorem nPts (d : Dev nD) (f : Buf (Elt F) (nLoc d)) :
    (nLoc d ↦{fullShare} f : sProp 𝕄) = bigSep Finset.univ fun c : TC => bigSep Finset.univ fun i : TI => nLoc d ↦{shr c i} f := by
  refine (Transfers.pointsTo_deal (Finset.univ : Finset TC) ⟨⟨0, by decide⟩, Finset.mem_univ _⟩ fullShare).trans (bigSep_congr fun c _ => ?_)
  exact Transfers.pointsTo_deal (Finset.univ : Finset TI) ⟨⟨0, by decide⟩, Finset.mem_univ _⟩ _

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem regroup (c p0 p1 p2 p3 p4 q : sProp 𝕄) : iprop(c ∗ p0 ∗ p1 ∗ p2 ∗ p3 ∗ p4 ∗ q) = iprop(c ∗ (p0 ∗ p1 ∗ p2 ∗ p3 ∗ p4) ∗ q) := by
  refine BI.Entails.antisymm ?_ ?_
  · show iprop(c ∗ p0 ∗ p1 ∗ p2 ∗ p3 ∗ p4 ∗ q) ⊢ iprop(c ∗ (p0 ∗ p1 ∗ p2 ∗ p3 ∗ p4) ∗ q)
    iintro ⟨Hc, H0, H1, H2, H3, H4, Hq⟩
    isplitl [Hc]; · iexact Hc
    isplitr [Hq]
    · isplitl [H0]; · iexact H0
      isplitl [H1]; · iexact H1
      isplitl [H2]; · iexact H2
      isplitl [H3]; · iexact H3
      iexact H4
    · iexact Hq
  · show iprop(c ∗ (p0 ∗ p1 ∗ p2 ∗ p3 ∗ p4) ∗ q) ⊢ iprop(c ∗ p0 ∗ p1 ∗ p2 ∗ p3 ∗ p4 ∗ q)
    iintro ⟨Hc, ⟨H0, H1, H2, H3, H4⟩, Hq⟩
    isplitl [Hc]; · iexact Hc
    isplitl [H0]; · iexact H0
    isplitl [H1]; · iexact H1
    isplitl [H2]; · iexact H2
    isplitl [H3]; · iexact H3
    isplitl [H4]; · iexact H4
    iexact Hq

theorem win_c (d : Dev nD) (L : grid0.Coords) (t : TT) (f : Buf (Elt F) (cLoc d)) : win d L (cW L t) f = (cLoc d ↦[cS L t]{fullShare} f : sProp 𝕄) := by
  unfold win; rw [cW_set]
theorem win_p0 (d : Dev nD) (L : grid0.Coords) (t : TT) (f : Buf (Elt F) (pLoc d)) : win d L (pW0 L t) f = (pLoc d ↦[pS L t 0]{fullShare} f : sProp 𝕄) := by
  unfold win; rw [pW0_set]
theorem win_p1 (d : Dev nD) (L : grid0.Coords) (t : TT) (f : Buf (Elt F) (pLoc d)) : win d L (pW1 L t) f = (pLoc d ↦[pS L t 1]{fullShare} f : sProp 𝕄) := by
  unfold win; rw [pW1_set]
theorem win_p2 (d : Dev nD) (L : grid0.Coords) (t : TT) (f : Buf (Elt F) (pLoc d)) : win d L (pW2 L t) f = (pLoc d ↦[pS L t 2]{fullShare} f : sProp 𝕄) := by
  unfold win; rw [pW2_set]
theorem win_p3 (d : Dev nD) (L : grid0.Coords) (t : TT) (f : Buf (Elt F) (pLoc d)) : win d L (pW3 L t) f = (pLoc d ↦[pS L t 3]{fullShare} f : sProp 𝕄) := by
  unfold win; rw [pW3_set]
theorem win_p4 (d : Dev nD) (L : grid0.Coords) (t : TT) (f : Buf (Elt F) (pLoc d)) : win d L (pW4 L t) f = (pLoc d ↦[pS L t 4]{fullShare} f : sProp 𝕄) := by
  unfold win; rw [pW4_set]
theorem win_o0 (d : Dev nD) (L : grid0.Coords) (t : TT) (f : Buf (Elt F) (oLoc d)) : win d L (oW0 L t) f = (oLoc d ↦[oS L t 0]{fullShare} f : sProp 𝕄) := by
  unfold win; rw [oW0_set]
theorem win_o1 (d : Dev nD) (L : grid0.Coords) (t : TT) (f : Buf (Elt F) (oLoc d)) : win d L (oW1 L t) f = (oLoc d ↦[oS L t 1]{fullShare} f : sProp 𝕄) := by
  unfold win; rw [oW1_set]
theorem win_o2 (d : Dev nD) (L : grid0.Coords) (t : TT) (f : Buf (Elt F) (oLoc d)) : win d L (oW2 L t) f = (oLoc d ↦[oS L t 2]{fullShare} f : sProp 𝕄) := by
  unfold win; rw [oW2_set]
theorem win_o3 (d : Dev nD) (L : grid0.Coords) (t : TT) (f : Buf (Elt F) (oLoc d)) : win d L (oW3 L t) f = (oLoc d ↦[oS L t 3]{fullShare} f : sProp 𝕄) := by
  unfold win; rw [oW3_set]
theorem win_o4 (d : Dev nD) (L : grid0.Coords) (t : TT) (f : Buf (Elt F) (oLoc d)) : win d L (oW4 L t) f = (oLoc d ↦[oS L t 4]{fullShare} f : sProp 𝕄) := by
  unfold win; rw [oW4_set]

theorem item_eq (d : Dev nD) (L : grid0.Coords) (mC : Buf (Elt F) (cLoc d)) (mP : Buf (Elt F) (pLoc d)) (o : Buf (Elt F) (oLoc d)) (t : TT) :
    (item d L mC mP o t : sProp 𝕄) = iprop((cLoc d ↦[cS L t]{fullShare} mC) ∗ (bigSep Finset.univ fun j : Fin 5 => pLoc d ↦[pS L t j]{fullShare} mP) ∗ bigSep Finset.univ fun j : Fin 5 => oLoc d ↦[oS L t j]{fullShare} o) := by
  unfold item
  rw [win_c, win_p0, win_p1, win_p2, win_p3, win_p4, win_o0, win_o1, win_o2, win_o3, win_o4, regroup, bigSep_five, bigSep_five]

/-- What one task is handed, the results at `o`. -/
abbrev task (d : Dev nD) (c : TC) (i : TI) (mN : Buf (Elt F) (nLoc d)) (mC : Buf (Elt F) (cLoc d)) (mP : Buf (Elt F) (pLoc d)) (o : Buf (Elt F) (oLoc d)) : sProp 𝕄 :=
  iprop(lend d (coordsV c i) aN (shr c i) mN ∗ bigSep Finset.univ fun t : TT => item d (coordsV c i) mC mP o t)

theorem tasks_eq (d : Dev nD) (mN : Buf (Elt F) (nLoc d)) (mC : Buf (Elt F) (cLoc d)) (mP : Buf (Elt F) (pLoc d)) (o : Buf (Elt F) (oLoc d)) :
    (bigSep Finset.univ fun c : TC => bigSep Finset.univ fun i : TI => task d c i mN mC mP o)
      = (iprop((nLoc d ↦{fullShare} mN) ∗ (cLoc d ↦{fullShare} mC) ∗ (pLoc d ↦{fullShare} mP) ∗ oLoc d ↦{fullShare} o) : sProp 𝕄) := by
  rw [nPts, cPts, pPts, oPts]
  simp only [item_eq, bigSep_sep']

end Lay

end Cert.Proof.Hist
-- ==== Proof.HistOut.lean ====
/-
  What the kernel leaves, as one function of its arguments.
-/
module

public import proofs.«01_k».proof.Proof.HistLay

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Out

/-- Where a result's codes, weights and length lie. -/
abbrev cI (x : S112x20x4096.Idx) (l : S1280.Idx) : S112x4x1280.Idx :=
  fun | 0 => (x 0 : Fin 112) | 1 => (⟨(x 1).val / 5, by have h : (x 1).val < 20 := (x 1).isLt; omega⟩ : Fin 4) | 2 => l 0
abbrev pI (x : S112x20x4096.Idx) (l : S1280.Idx) : S112x20x1280.Idx := fun | 0 => (x 0 : Fin 112) | 1 => (x 1 : Fin 20) | 2 => l 0
abbrev nI (x : S112x20x4096.Idx) : S112.Idx := fun | 0 => (x 0 : Fin 112)
abbrev bI (x : S112x20x4096.Idx) : S4096.Idx := fun | 0 => (x 2 : Fin 4096)

/-- What the kernel leaves: per row, the row's weights added into the row's bins. -/
def OUT (p : Vec F S112x20x1280 .f32) (c : Vec F S112x4x1280 .i32) (n : Vec F S112 .i32) : Vec F S112x20x4096 .f32 :=
  fun x => rowV (fun l => c (cI x l)) (fun l => p (pI x l)) (k0_t7_loop (n (nI x))).trips (bI x)

/-- What the kernel asks of its codes and lengths. -/
def PreOK (c : Vec F S112x4x1280 .i32) (n : Vec F S112 .i32) : Prop := (∀ i, (c i).toNat < 4096) ∧ ∀ i, (n i).toInt ≤ 1280

variable (L : grid0.Coords) (t : Fin k0_t6_loop.trips)

theorem OUT_at (p : Vec F S112x20x1280 .f32) (c : Vec F S112x4x1280 .i32) (n : Vec F S112 .i32) (j : Fin 5) (x : S4096.Idx) :
    OUT p c n (oIx L t j x) = rowV (fun l => c (cIx L t l)) (fun l => p (pIx L t j l)) (k0_t7_loop (n (nIx L t))).trips x := by
  have hc : ∀ l, cI (oIx L t j x) l = cIx L t l := fun l => by
    funext a
    match a with
    | 0 => rfl
    | 1 =>
      apply Fin.ext
      show (5 * gOf L + j.val) / 5 = gOf L
      omega
    | 2 => rfl
  have hp : ∀ l, pI (oIx L t j x) l = pIx L t j l := fun l => by
    funext a
    match a with
    | 0 => rfl
    | 1 => rfl
    | 2 => rfl
  have hn : nI (oIx L t j x) = nIx L t := by
    funext a
    match a with
    | 0 => rfl
  have hb : bI (oIx L t j x) = x := by
    funext a
    match a with
    | 0 => rfl
  unfold OUT
  simp only [hc, hp, hn, hb]

theorem cW_read (c : Vec F S112x4x1280 .i32) : (cW L t).view.read (Elt F) c = fun l => c (cIx L t l) :=
  funext fun l => (View.read_apply _ _).trans ((cast_eq _ _).trans (congrArg c (cW_emb L t l)))
theorem pW0_read (p : Vec F S112x20x1280 .f32) : (pW0 L t).view.read (Elt F) p = fun l => p (pIx L t 0 l) :=
  funext fun l => (View.read_apply _ _).trans ((cast_eq _ _).trans (congrArg p (pW0_emb L t l)))
theorem oW0_read (o : Vec F S112x20x4096 .f32) : (oW0 L t).view.read (Elt F) o = fun l => o (oIx L t 0 l) :=
  funext fun l => (View.read_apply _ _).trans ((cast_eq _ _).trans (congrArg o (oW0_emb L t l)))
theorem pW1_read (p : Vec F S112x20x1280 .f32) : (pW1 L t).view.read (Elt F) p = fun l => p (pIx L t 1 l) :=
  funext fun l => (View.read_apply _ _).trans ((cast_eq _ _).trans (congrArg p (pW1_emb L t l)))
theorem oW1_read (o : Vec F S112x20x4096 .f32) : (oW1 L t).view.read (Elt F) o = fun l => o (oIx L t 1 l) :=
  funext fun l => (View.read_apply _ _).trans ((cast_eq _ _).trans (congrArg o (oW1_emb L t l)))
theorem pW2_read (p : Vec F S112x20x1280 .f32) : (pW2 L t).view.read (Elt F) p = fun l => p (pIx L t 2 l) :=
  funext fun l => (View.read_apply _ _).trans ((cast_eq _ _).trans (congrArg p (pW2_emb L t l)))
theorem oW2_read (o : Vec F S112x20x4096 .f32) : (oW2 L t).view.read (Elt F) o = fun l => o (oIx L t 2 l) :=
  funext fun l => (View.read_apply _ _).trans ((cast_eq _ _).trans (congrArg o (oW2_emb L t l)))
theorem pW3_read (p : Vec F S112x20x1280 .f32) : (pW3 L t).view.read (Elt F) p = fun l => p (pIx L t 3 l) :=
  funext fun l => (View.read_apply _ _).trans ((cast_eq _ _).trans (congrArg p (pW3_emb L t l)))
theorem oW3_read (o : Vec F S112x20x4096 .f32) : (oW3 L t).view.read (Elt F) o = fun l => o (oIx L t 3 l) :=
  funext fun l => (View.read_apply _ _).trans ((cast_eq _ _).trans (congrArg o (oW3_emb L t l)))
theorem pW4_read (p : Vec F S112x20x1280 .f32) : (pW4 L t).view.read (Elt F) p = fun l => p (pIx L t 4 l) :=
  funext fun l => (View.read_apply _ _).trans ((cast_eq _ _).trans (congrArg p (pW4_emb L t l)))
theorem oW4_read (o : Vec F S112x20x4096 .f32) : (oW4 L t).view.read (Elt F) o = fun l => o (oIx L t 4 l) :=
  funext fun l => (View.read_apply _ _).trans ((cast_eq _ _).trans (congrArg o (oW4_emb L t l)))

theorem rowsOf (d : Dev nD) (p : Vec F S112x20x1280 .f32) (c : Vec F S112x4x1280 .i32) (n : Vec F S112 .i32) (h : PreOK (F := F) c n)
    (nf : Vec F S128 .i32) (hn : ∀ t, lenW L nf t = n (nIx L t)) : RowsOf d L nf c p (OUT p c n) t where
  hv := by rw [hn]; exact h.2 _
  hc := fun k => by
    rw [cW_read]
    intro a x
    obtain rfl : a = 0 := Subsingleton.elim _ _
    exact h.1 _
  h0 := by
    rw [oW0_read, cW_read, pW0_read, hn]
    exact funext fun x => OUT_at L t p c n 0 x
  h1 := by
    rw [oW1_read, cW_read, pW1_read, hn]
    exact funext fun x => OUT_at L t p c n 1 x
  h2 := by
    rw [oW2_read, cW_read, pW2_read, hn]
    exact funext fun x => OUT_at L t p c n 2 x
  h3 := by
    rw [oW3_read, cW_read, pW3_read, hn]
    exact funext fun x => OUT_at L t p c n 3 x
  h4 := by
    rw [oW4_read, cW_read, pW4_read, hn]
    exact funext fun x => OUT_at L t p c n 4 x

end Out

end Cert.Proof.Hist
-- ==== Proof.HistTask.lean ====
/-
  The task as the launch runs it.
-/
module

public import proofs.«01_k».proof.Proof.HistOut

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Task

open SparseCore (T S V)
open SparseCore.Cfg (HIx ownSems0 ownBufs ownRefs ownCells mem_ownCells)

section Own

variable (d : Dev nD) (L : grid0.Coords)

abbrev g0 (d : Dev nD) (c : Fin τ.nSC) (i : Fin τ.nSub) : GSem nD τ sig := (V d c i, .dma cc0_scoped0.sem)
abbrev g1 (d : Dev nD) (c : Fin τ.nSC) (i : Fin τ.nSub) : GSem nD τ sig := (V d c i, .dma cc0_scratch12.sem)
abbrev g2 (d : Dev nD) (c : Fin τ.nSC) (i : Fin τ.nSub) : GSem nD τ sig := (V d c i, .dma cc0_scratch13.sem)

omit [FloatOps F] in
theorem ownSems0_V :
    (ownSems0 (V d (cV L) (jV L)) : sProp 𝕄)
      = iprop(semVal (g0 d (cV L) (jV L)) 0 ∗ semVal (g1 d (cV L) (jV L)) 0 ∗ semVal (g2 d (cV L) (jV L)) 0
          ∗ bigSep ((((ownCells (V d (cV L) (jV L))).erase (g0 d (cV L) (jV L))).erase (g1 d (cV L) (jV L))).erase (g2 d (cV L) (jV L)))
              fun g => semVal g 0) := by
  unfold SparseCore.Cfg.ownSems0
  rw [SparseCore.bigSep_erase' ((mem_ownCells (g := g0 d (cV L) (jV L))).mpr ⟨rfl, by
      show (SemLoc.dma cc0_scoped0.sem : SemLoc sig).isScoped .scVector = true; decide⟩),
    SparseCore.bigSep_erase' (Finset.mem_erase.mpr ⟨by simp [g0, g1]; decide, (mem_ownCells (g := g1 d (cV L) (jV L))).mpr ⟨rfl, by
      show (SemLoc.dma cc0_scratch12.sem : SemLoc sig).isScoped .scVector = true; decide⟩⟩),
    SparseCore.bigSep_erase' (Finset.mem_erase.mpr ⟨by simp [g1, g2]; decide, Finset.mem_erase.mpr ⟨by simp [g0, g2]; decide,
      (mem_ownCells (g := g2 d (cV L) (jV L))).mpr ⟨rfl, by show (SemLoc.dma cc0_scratch13.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f) ∗ (∃ f, (V d (cV L) (jV L)).loc cc0_scratch9 ↦{fullShare} f) ∗ (∃ f, (V d (cV L) (jV L)).loc cc0_scratch10 ↦{fullShare} f) ∗ (∃ f, (V d (cV L) (jV L)).loc cc0_scratch11 ↦{fullShare} f)
          ∗ bigSep (((((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)).erase ((Proc.scVector (cV L) (jV L)).devRef cc0_scratch9)).erase ((Proc.scVector (cV L) (jV L)).devRef cc0_scratch10)).erase ((Proc.scVector (cV L) (jV L)).devRef cc0_scratch11)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩),
    SparseCore.bigSep_erase' (Finset.mem_erase.mpr ⟨fun e => absurd (Proc.devRef_injective _ e) (show (cc0_scratch9 : Ref sig .scVector) ≠ cc0_scratch8 by decide), Finset.mem_erase.mpr ⟨fun e => absurd (Proc.devRef_injective _ e) (show (cc0_scratch9 : Ref sig .scVector) ≠ cc0_scratch7 by decide), Finset.mem_erase.mpr ⟨fun e => absurd (Proc.devRef_injective _ e) (show (cc0_scratch9 : Ref sig .scVector) ≠ cc0_scratch6 by decide), Finset.mem_erase.mpr ⟨fun e => absurd (Proc.devRef_injective _ e) (show (cc0_scratch9 : Ref sig .scVector) ≠ cc0_scratch5 by decide), Finset.mem_erase.mpr ⟨fun e => absurd (Proc.devRef_injective _ e) (show (cc0_scratch9 : Ref sig .scVector) ≠ cc0_scratch4 by decide), Finset.mem_erase.mpr ⟨fun e => absurd (Proc.devRef_injective _ e) (show (cc0_scratch9 : Ref sig .scVector) ≠ cc0_scratch3 by decide), Finset.mem_erase.mpr ⟨fun e => absurd (Proc.devRef_injective _ e) (show (cc0_scratch9 : Ref sig .scVector) ≠ cc0_scratch2 by decide), Finset.mem_erase.mpr ⟨fun e => absurd (Proc.devRef_injective _ e) (show (cc0_scratch9 : Ref sig .scVector) ≠ cc0_scratch1 by decide), Finset.mem_erase.mpr ⟨fun e => absurd (Proc.devRef_injective _ e) (show (cc0_scratch9 : Ref sig .scVector) ≠ cc0_scratch0 by decide), SparseCore.Cfg.mem_ownRefs_of_owner (p := Proc.scVector (cV L) (jV L)) (b := (Proc.scVector (cV L) (jV L)).devRef cc0_scratch9) rfl⟩⟩⟩⟩⟩⟩⟩⟩⟩),
    SparseCore.bigSep_erase' (Finset.mem_erase.mpr ⟨fun e => absurd (Proc.devRef_injective _ e) (show (cc0_scratch10 : Ref sig .scVector) ≠ cc0_scratch9 by decide), Finset.mem_erase.mpr ⟨fun e => absurd (Proc.devRef_injective _ e) (show (cc0_scratch10 : Ref sig .scVector) ≠ cc0_scratch8 by decide), Finset.mem_erase.mpr ⟨fun e => absurd (Proc.devRef_injective _ e) (show (cc0_scratch10 : Ref sig .scVector) ≠ cc0_scratch7 by decide), Finset.mem_erase.mpr ⟨fun e => absurd (Proc.devRef_injective _ e) (show (cc0_scratch10 : Ref sig .scVector) ≠ cc0_scratch6 by decide), Finset.mem_erase.mpr ⟨fun e => absurd (Proc.devRef_injective _ e) (show (cc0_scratch10 : Ref sig .scVector) ≠ cc0_scratch5 by decide), Finset.mem_erase.mpr ⟨fun e => absurd (Proc.devRef_injective _ e) (show (cc0_scratch10 : Ref sig .scVector) ≠ cc0_scratch4 by decide), Finset.mem_erase.mpr ⟨fun e => absurd (Proc.devRef_injective _ e) (show (cc0_scratch10 : Ref sig .scVector) ≠ cc0_scratch3 by decide), Finset.mem_erase.mpr ⟨fun e => absurd (Proc.devRef_injective _ e) (show (cc0_scratch10 : Ref sig .scVector) ≠ cc0_scratch2 by decide), Finset.mem_erase.mpr ⟨fun e => absurd (Proc.devRef_injective _ e) (show (cc0_scratch10 : Ref sig .scVector) ≠ cc0_scratch1 by decide), Finset.mem_erase.mpr ⟨fun e => absurd (Proc.devRef_injective _ e) (show (cc0_scratch10 : Ref sig .scVector) ≠ cc0_scratch0 by decide), SparseCore.Cfg.mem_ownRefs_of_owner (p := Proc.scVector (cV L) (jV L)) (b := (Proc.scVector (cV L) (jV L)).devRef cc0_scratch10) rfl⟩⟩⟩⟩⟩⟩⟩⟩⟩⟩),
    SparseCore.bigSep_erase' (Finset.mem_erase.mpr ⟨fun e => absurd (Proc.devRef_injective _ e) (show (cc0_scratch11 : Ref sig .scVector) ≠ cc0_scratch10 by decide), Finset.mem_erase.mpr ⟨fun e => absurd (Proc.devRef_injective _ e) (show (cc0_scratch11 : Ref sig .scVector) ≠ cc0_scratch9 by decide), Finset.mem_erase.mpr ⟨fun e => absurd (Proc.devRef_injective _ e) (show (cc0_scratch11 : Ref sig .scVector) ≠ cc0_scratch8 by decide), Finset.mem_erase.mpr ⟨fun e => absurd (Proc.devRef_injective _ e) (show (cc0_scratch11 : Ref sig .scVector) ≠ cc0_scratch7 by decide), Finset.mem_erase.mpr ⟨fun e => absurd (Proc.devRef_injective _ e) (show (cc0_scratch11 : Ref sig .scVector) ≠ cc0_scratch6 by decide), Finset.mem_erase.mpr ⟨fun e => absurd (Proc.devRef_injective _ e) (show (cc0_scratch11 : Ref sig .scVector) ≠ cc0_scratch5 by decide), Finset.mem_erase.mpr ⟨fun e => absurd (Proc.devRef_injective _ e) (show (cc0_scratch11 : Ref sig .scVector) ≠ cc0_scratch4 by decide), Finset.mem_erase.mpr ⟨fun e => absurd (Proc.devRef_injective _ e) (show (cc0_scratch11 : Ref sig .scVector) ≠ cc0_scratch3 by decide), Finset.mem_erase.mpr ⟨fun e => absurd (Proc.devRef_injective _ e) (show (cc0_scratch11 : Ref sig .scVector) ≠ cc0_scratch2 by decide), Finset.mem_erase.mpr ⟨fun e => absurd (Proc.devRef_injective _ e) (show (cc0_scratch11 : Ref sig .scVector) ≠ cc0_scratch1 by decide), Finset.mem_erase.mpr ⟨fun e => absurd (Proc.devRef_injective _ e) (show (cc0_scratch11 : Ref sig .scVector) ≠ cc0_scratch0 by decide), SparseCore.Cfg.mem_ownRefs_of_owner (p := Proc.scVector (cV L) (jV L)) (b := (Proc.scVector (cV L) (jV L)).devRef cc0_scratch11) rfl⟩⟩⟩⟩⟩⟩⟩⟩⟩⟩⟩)]

end Own

/-! ## What the launch carries -/

variable (m : (ℓ : Loc nD τ sig) → Buf (Elt F) ℓ)

/-- The results, of the launch memory. -/
abbrev outM (d : Dev nD) : Buf (Elt F) (oLoc d) := OUT (m (pLoc d)) (m (cLoc d)) (m (nLoc d))

abbrev goP (d : Dev nD) (c : TC) (i : TI) : sProp 𝕄 := task d c i (m (nLoc d)) (m (cLoc d)) (m (pLoc d)) (m (oLoc d))
abbrev tdP (d : Dev nD) (c : TC) (i : TI) : sProp 𝕄 := task d c i (m (nLoc d)) (m (cLoc d)) (m (pLoc d)) (outM m d)

def P : (K (F := F)).Pay (nD := nD) (Val := Elt F) (Name := ℕ) (U := UU) where
  st := fun q d c => match q with | 0 => bigSep Finset.univ fun i : TI => goP m d c i
  dn := fun q d c => match q with | 0 => bigSep Finset.univ fun i : TI => tdP m d c i
  go := fun q d c i => match q with | 0 => goP m d c i
  td := fun q d c i => match q with | 0 => tdP m d c i
  x := fun _ _ => iprop(emp)

instance P_storable : (P (F := F) m).IsStorable where
  st q d c := match q with | 0 => (inferInstance : BI.Storable (upEmb : UEmb _ 𝕄) (bigSep Finset.univ fun i : TI => goP m d c i))
  dn q d c := match q with | 0 => (inferInstance : BI.Storable (upEmb : UEmb _ 𝕄) (bigSep Finset.univ fun i : TI => tdP m d c i))
  go q d c i := match q with | 0 => (inferInstance : BI.Storable (upEmb : UEmb _ 𝕄) (goP m d c i))
  td q d c i := match q with | 0 => (inferInstance : BI.Storable (upEmb : UEmb _ 𝕄) (tdP m d c i))

/-- The task, from what the launch hands it. -/
theorem tile_body (hF : (K (F := F)).Facts) (d : Dev nD) (hpre : PreOK (F := F) (m (cLoc d)) (m (nLoc d))) (c : TC) (i : TI)
    (O : CellTallies nD τ sig (HIx 1)) (W : Waits sig (HIx 1)) (hO : ∀ g, O g none = 0) :
    iprop(levAts (K (F := F)).L (K (F := F)).lev ∗ iprop(emp) ∗ goP m d c i
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
          (cc0_histogram (F := F) (coordsV c i) aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0)
          fun _ => iprop(tdP m d c i ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  rw [(K (F := F)).scopedBufs_V hF d (cV (coordsV c i)) (jV (coordsV c i)), SparseCore.Cfg.scopedSems0_V (Val := Elt F) d (cV (coordsV c i)) (jV (coordsV c i)), ownSems0_V, ownBufs_V]
  iintro ⟨#Hlv, -, ⟨HL, HI⟩, ⟨HN, HC, HP0, HP1, HP2, HP3, HP4, HB0, HB1, HB2, HB3, HB4, Hbufs⟩, ⟨Hs0, Hs, Hs', Hsems⟩, HO⟩
  iapply (wp_wand_r frame (wpE (defs₀ (F := F)) 𝒱₀ (thr d (coordsV c i)) none) Set.univ)
  isplitl [HL HI HN HC HP0 HP1 HP2 HP3 HP4 HB0 HB1 HB2 HB3 HB4 Hs0 Hs Hs' HO]
  · iapply (tile_core d (coordsV c i) hF O W hO (shr c i) (m (nLoc d)) (m (cLoc d)) (m (pLoc d)) (m (oLoc d)) (outM m d)
      (fun nf hn t => rowsOf (coordsV c i) t d (m (pLoc d)) (m (cLoc d)) (m (nLoc d)) hpre nf hn))
    isplitr; · iexact Hlv
    isplitl [HL]; · iexact HL
    isplitl [HI]; · iexact HI
    isplitl [HN HC HP0 HP1 HP2 HP3 HP4 HB0 HB1 HB2 HB3 HB4]
    · isplitl [HN]; · iexact HN
      isplitl [HC]; · iexact HC
      isplitl [HP0]; · iexact HP0
      isplitl [HP1]; · iexact HP1
      isplitl [HP2]; · iexact HP2
      isplitl [HP3]; · iexact HP3
      isplitl [HP4]; · iexact HP4
      isplitl [HB0]; · iexact HB0
      isplitl [HB1]; · iexact HB1
      isplitl [HB2]; · iexact HB2
      isplitl [HB3]; · iexact HB3
      iexact HB4
    isplitl [Hs0]; · iexact Hs0
    isplitl [Hs]; · iexact Hs
    isplitl [Hs']; · iexact Hs'
    iexact HO
  iintro %_ ⟨HL, HI, ⟨HN, HC, HP0, HP1, HP2, HP3, HP4, HB0, HB1, HB2, HB3, HB4⟩, Hs0, Hs, Hs', HO⟩
  isplitl [HL HI]
  · isplitl [HL]; · iexact HL
    iexact HI
  isplitl [HN HC HP0 HP1 HP2 HP3 HP4 HB0 HB1 HB2 HB3 HB4 Hbufs]
  · isplitl [HN]; · iexact HN
    isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexact HB0
    isplitl [HB1]; · iexact HB1
    isplitl [HB2]; · iexact HB2
    isplitl [HB3]; · iexact HB3
    isplitl [HB4]; · iexact HB4
    iexact Hbufs
  isplitl [Hs0 Hs Hs' Hsems]
  · isplitl [Hs0]; · iexact Hs0
    isplitl [Hs]; · iexact Hs
    isplitl [Hs']; · iexact Hs'
    iexact Hsems
  iexact HO

end Task

end Cert.Proof.Hist
-- ==== Proof.HistRun.lean ====
/-
  The launch, and what the program leaves.
-/
module

public import proofs.«01_k».proof.Proof.HistTask

@[expose] public section

noncomputable section

namespace Cert.Proof.Hist

open Cert.Hist Cert.Hist.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Run

open SparseCore (T S V)
open SparseCore.Cfg (HIx ownSems0 ownBufs ownRefs ownCells mem_ownCells)

variable (m : (ℓ : Loc nD τ sig) → Buf (Elt F) ℓ) (ρ : Dev nD → PrngReg)

omit [FloatOps F] in
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem defs₀_vector (c : Fin τ.nSC) (s : Fin τ.nSub) :
    defs₀ (F := F) (.scVector c s) 0 ()
      = SparseCore.onTile hcore0 hsub0 (fun c s => cc0_histogram (F := F) (coordsV c s) aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the launch memory. -/
abbrev PreM : Prop := ∀ d : Dev nD, PreOK (F := F) (m (cLoc d)) (m (nLoc d))

set_option maxRecDepth 1024 in
theorem tileObl (hF : (K (F := F)).Facts) (hpre : PreM m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (hpre d) ⟨_, hc.1⟩ ⟨_, hc.2⟩ O W hO).trans (wp_mono frame _ _ fun _ => obl_post)

theorem vecSplit : (K (F := F)).VecSplit' (P m) 0 := by
  intro d c
  show (bigSep Finset.univ fun i : TI => goP m d c i) ⊢ |={Set.univ}=> iprop(
      (bigSep Finset.univ fun i : TI => goP m d c i)
      ∗ ((bigSep Finset.univ fun i : TI => tdP m d c i) -∗ bigSep Finset.univ fun i : TI => tdP m d c i))
  iintro H; imodintro
  isplitl [H]; · iexact H
  iintro H; iexact H

/-! ## The launch element -/

def EK : Emb Counters (MT nD τ sig (HIx 1) (Elt F) ℕ UU ℕ) :=
  (Emb.inr : Emb Counters UU).trans (uEmb (nD := nD) (sig := sig) (Ix := HIx 1) (Val := Elt F) (Name := ℕ) (U := UU) (Lvl := ℕ)).toEmb

def u₀ : UU := (initOf (K (F := F)).hsCells (K (F := F)).hsToks, 1)

omit [FloatOps F] in
theorem ownU_split (a : UH) (b : Counters) : (ownU (a, b) : sProp 𝕄) ⊢ iprop(BI.own (EH a) ∗ BI.own (EK b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_split _ _) $$ Hu
  icases H with ⟨HH, -⟩
  imodintro
  isplitl [HH]; · iexact HH
  rw [show (bigSep Finset.univ fun thr : Thread nD τ => bigSep Finset.univ fun q : Fin 1 => (P m).x q thr) = (iprop(emp) : sProp 𝕄) from
    (bigSep_congr fun _ _ => bigSep_emp_const _).trans (bigSep_emp_const _)]
  isplitr; · rw [show (bigSep Finset.univ fun _ : Dev nD => iprop(emp)) = (iprop(emp) : sProp 𝕄) from bigSep_emp_const _]; iempintro
  iempintro

/-! ## The host program -/

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ (cLoc d ↦{fullShare} W main_arg1) ∗ (nLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = iprop((nLoc d ↦{fullShare} m (nLoc d)) ∗ (cLoc d ↦{fullShare} m (cLoc d)) ∗ (pLoc d ↦{fullShare} m (pLoc d)) ∗ oLoc d ↦{fullShare} m (oLoc d)) :=
  tasks_eq d _ _ _ _
theorem dn0_eq (d : Dev nD) : (bigSep Finset.univ fun c : Fin ((K (F := F)).nCore 0) => (P m).dn 0 d c)
    = iprop((nLoc d ↦{fullShare} m (nLoc d)) ∗ (cLoc d ↦{fullShare} m (cLoc d)) ∗ (pLoc d ↦{fullShare} m (pLoc d)) ∗ oLoc d ↦{fullShare} outM m d) :=
  tasks_eq d _ _ _ _

abbrev FIN (d : Dev nD) : sProp 𝕄 :=
  iprop((nLoc d ↦{fullShare} m (nLoc d)) ∗ (cLoc d ↦{fullShare} m (cLoc d)) ∗ (pLoc d ↦{fullShare} m (pLoc d)) ∗ oLoc d ↦{fullShare} outM m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hc, Hn, Ho⟩, Hts, -⟩, -⟩
  iapply ((K (F := F)).wp_run (D (F := F)) 𝒱 (EH := EH) (P := P m) κ d 0) $$ [Hst Hp Hc Hn Ho Hb Hts]
  isplitr; · iexact Hctx
  isplitl [Hst]; · iexact Hst
  isplitl [Hp Hc Hn Ho]
  · rw [st0_eq]
    isplitl [Hn]; · iexact Hn
    isplitl [Hc]; · iexact Hc
    isplitl [Hp]; · iexact Hp
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (nLoc d) = m (nLoc d) ∧ s'.mem.mem (cLoc d) = m (cLoc d) ∧ s'.mem.mem (pLoc d) = m (pLoc d) ∧ s'.mem.mem (oLoc d) = outM m d

theorem hfin (d : Dev nD) (s' : Phys nD τ sig (Elt F)) : iprop(FIN m d ∗ SI s') ⊢ (⌜fq m d s'⌝ : sProp 𝕄) := by
  iintro ⟨⟨Hn, Hc, Hp, Ho⟩, HSI⟩
  ihave H := (persistent_entails_right (SI_pointsTo_agree (st := s') (ℓ := nLoc d) (I := Finset.univ) (q := fullShare) (f := m (nLoc d)))) $$ [HSI Hn]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h3, HSI, -⟩
  ihave H := (SI_pointsTo_agree (st := s') (ℓ := oLoc d) (I := Finset.univ) (q := fullShare) (f := outM m d)) $$ [HSI Ho]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-! ## The run -/

def QC : PUnit × MemSt nD τ sig (Elt F) → Prop := fun r =>
  (∀ c : Dev nD, r.2.mem (nLoc c) = m (nLoc c) ∧ r.2.mem (cLoc c) = m (cLoc c) ∧ r.2.mem (pLoc c) = m (pLoc c) ∧ r.2.mem (oLoc c) = outM m c) ∧ r.2.sem = fun _ => 0

theorem run_main [∀ e, Nonempty (Elt F e)] (hpre : PreM m) :
    θ_run (Cert.Hist.defs (F := F)) (Cert.Hist.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.Hist
-- ==== Proof.BinsPre.lean ====
/- What the precondition says of the weights, the codes and the lengths. -/
module

public import proofs.«01_k».proof.Defs
public import proofs.«01_k».proof.Proof.Gen.Pre_codes_and_lengths
public import proofs.«01_k».proof.Proof.Gen.Pre_weights_of_cache
public import Idealize.ShloMosaic.Lib.Pipeline.ValueKit
public import Idealize.ShloMosaic.Lib.IdealHost

@[expose] public section

set_option maxRecDepth 16384

noncomputable section

namespace Cert.Proof.BinsPre

open Idealize.ShloMosaic

theorem andi_ofBool (p q : Bool) : IntOp.andi (BitVec.ofBool p) (BitVec.ofBool q) = BitVec.ofBool (p && q) := by cases p <;> cases q <;> decide
theorem ofBool_eq_one (p : Bool) : (BitVec.ofBool p = 1#1) ↔ p = true := by cases p <;> decide
theorem andi_one (p q : BitVec 1) : IntOp.andi p q = 1#1 ↔ p = 1#1 ∧ q = 1#1 := by
  revert p q; decide

theorem code_of (v : BitVec 32) (h0 : IntOp.cmpi .sge v 0#32 = 1#1) (h1 : IntOp.cmpi .slt v 4096#32 = 1#1) : v.toNat < 4096 := by
  simp only [IntOp.cmpi, ofBool_eq_one, BitVec.sle_eq_decide, BitVec.slt_eq_decide, decide_eq_true_eq, BitVec.toInt_eq_toNat_cond, BitVec.toNat_ofNat,
    Nat.reducePow, Nat.reduceMod] at h0 h1
  omega

theorem len_of (v : BitVec 32) (h0 : IntOp.cmpi .sle v 1280#32 = 1#1) : v.toInt ≤ 1280 := by
  simp only [IntOp.cmpi, ofBool_eq_one, BitVec.sle_eq_decide, decide_eq_true_eq] at h0
  have : (1280#32 : BitVec 32).toInt = 1280 := by decide
  omega

theorem floor16 : ∀ l : Fin 1280, IntOp.andi (BitVec.ofNat 32 l.val) 4294967280#32 = BitVec.ofNat 32 (l.val / 16 * 16) := by decide +kernel

theorem past_of (l : Fin 1280) (v : BitVec 32) (h : v.toInt ≤ (l.val / 16 * 16 : ℕ)) :
    IntOp.cmpi .sge (IntOp.andi (BitVec.ofNat 32 l.val) 4294967280#32) v = 1#1 := by
  have hl := l.isLt
  have e : (BitVec.ofNat 32 (l.val / 16 * 16)).toInt = (l.val / 16 * 16 : ℕ) := by
    rw [BitVec.toInt_eq_toNat_cond, BitVec.toNat_ofNat, Nat.mod_eq_of_lt (by omega), if_pos (by omega)]
  rw [floor16]
  simp only [IntOp.cmpi, ofBool_eq_one, BitVec.sle_eq_decide, decide_eq_true_eq]
  omega

variable {F : FTy → Type} [FloatOps F]

section Codes

open Cert.Pre_codes_and_lengths Cert.Pre_codes_and_lengths.Gen

namespace CL

theorem read (p : FVec F S112x20x1280 .f32) (c : IVec S112x4x1280 32) (n : IVec S112 32) (h : fn (F := F) p c n = fun _ => 1#1)
    (b : Fin 112) (r : Fin 20) (l : Fin 1280) :
    (c (ix3 b (⟨r.val / 5, by omega⟩ : Fin 4) l)).toNat < 4096 ∧ (n (ix1 b)).toInt ≤ 1280 := by
  have e := congrFun h (ix3 b r l)
  pointwise [fn] at e
  rw [andi_one, andi_one] at e
  obtain ⟨⟨h0, h1⟩, h2⟩ := e
  exact ⟨code_of _ h0 h1, len_of _ h2⟩

/-- Every code names a bin. -/
theorem codes (p : FVec F S112x20x1280 .f32) (c : IVec S112x4x1280 32) (n : IVec S112 32) (h : fn (F := F) p c n = fun _ => 1#1) (i) : (c i).toNat < 4096 := by
  obtain ⟨b, g, l, rfl⟩ : ∃ (b : Fin 112) (g : Fin 4) (l : Fin 1280), i = ix3 b g l := ⟨i 0, i 1, i 2, eq_ix3 i⟩
  have e := (read p c n h b ⟨5 * g.val, by omega⟩ l).1
  have hi : (⟨5 * g.val / 5, by omega⟩ : Fin 4) = g := Fin.ext (by show 5 * g.val / 5 = g.val; omega)
  simp only [hi] at e
  exact e

/-- No length is more than a row. -/
theorem lens (p : FVec F S112x20x1280 .f32) (c : IVec S112x4x1280 32) (n : IVec S112 32) (h : fn (F := F) p c n = fun _ => 1#1) (i) : (n i).toInt ≤ 1280 := by
  obtain ⟨b, rfl⟩ : ∃ (b : Fin 112), i = ix1 b := ⟨i 0, eq_ix1 i⟩
  exact (read p c n h b 0 0).2

end CL

end Codes

section Weights

open Cert.Pre_weights_of_cache Cert.Pre_weights_of_cache.Gen

theorem read (p : FVec F S112x20x1280 .f32) (c : IVec S112x4x1280 32) (n : IVec S112 32) (h : fn (F := F) p c n = fun _ => 1#1)
    (b : Fin 112) (r : Fin 20) (l : Fin 1280) :
    (c (ix3 b (⟨r.val / 5, by omega⟩ : Fin 4) l)).toNat < 4096 ∧ (n (ix1 b)).toInt ≤ 1280
      ∧ ((n (ix1 b)).toInt ≤ (l.val / 16 * 16 : ℕ) → FloatOps.cmpf (F := F) .oeq (p (ix3 b r l)) (Scalar.ofBits .f32 0x00000000#32) = 1#1) := by
  have e := congrFun h (ix3 b r l)
  pointwise [fn, fn_part1, fn_where] at e
  rw [andi_one, andi_one, andi_one] at e
  obtain ⟨⟨⟨h0, h1⟩, h2⟩, h3⟩ := e
  refine ⟨code_of _ h0 h1, len_of _ h2, fun hl => ?_⟩
  change Scalar.select (IntOp.cmpi .sge (IntOp.andi (BitVec.ofNat 32 l.val) 4294967280#32) (n (ix1 b))) _ _ = 1#1 at h3
  rw [past_of l _ hl] at h3
  exact h3

/-- Every code names a bin. -/
theorem codes (p : FVec F S112x20x1280 .f32) (c : IVec S112x4x1280 32) (n : IVec S112 32) (h : fn (F := F) p c n = fun _ => 1#1) (i) : (c i).toNat < 4096 := by
  obtain ⟨b, g, l, rfl⟩ : ∃ (b : Fin 112) (g : Fin 4) (l : Fin 1280), i = ix3 b g l := ⟨i 0, i 1, i 2, eq_ix3 i⟩
  have e := (read p c n h b ⟨5 * g.val, by omega⟩ l).1
  have hi : (⟨5 * g.val / 5, by omega⟩ : Fin 4) = g := Fin.ext (by show 5 * g.val / 5 = g.val; omega)
  simp only [hi] at e
  exact e

/-- No length is more than a row. -/
theorem lens (p : FVec F S112x20x1280 .f32) (c : IVec S112x4x1280 32) (n : IVec S112 32) (h : fn (F := F) p c n = fun _ => 1#1) (i) : (n i).toInt ≤ 1280 := by
  obtain ⟨b, rfl⟩ : ∃ (b : Fin 112), i = ix1 b := ⟨i 0, eq_ix1 i⟩
  exact (read p c n h b 0 0).2.1

/-- The weights of the chunks past the length are zero. -/
theorem past (p : FVec Ideal S112x20x1280 .f32) (c : IVec S112x4x1280 32) (n : IVec S112 32) (h : fn (F := Ideal) p c n = fun _ => 1#1)
    (b : Fin 112) (r : Fin 20) (l : Fin 1280) (hl : (n (ix1 b)).toInt ≤ (l.val / 16 * 16 : ℕ)) : (p (ix3 b r l) : EReal) = 0 := by
  have e := (read p c n h b r l).2.2 hl
  by_contra hne
  have : Ideal.cmp .oeq (p (ix3 b r l)) (Ideal.ofBits .f32 0x00000000#32) = 1#1 := e
  rw [Ideal.ofBits_zero_f32] at this
  simp [Ideal.cmp, hne] at this

end Weights

end Cert.Proof.BinsPre
-- ==== Proof.HistFrame.lean ====
/-
  The histogram as it stands: it ends, and leaves its arguments and every counter as they were.
-/
module

public import proofs.«01_k».proof.Proof.HistRun
public import proofs.«01_k».proof.Proof.BinsPre

@[expose] public section

noncomputable section

namespace Cert.Proof.Hist

open Cert.Hist Cert.Hist.Gen
open Idealize.ShloMosaic Idealize.SL.Sem

theorem pre_of (m : (ℓ : Loc nD τ sig) → Buf (Elt Bits) ℓ) (h : letI := Cert.Pre_codes_and_lengths.Gen.facts; Cert.Pre_Hist m) : PreM (F := Bits) m :=
  fun d => ⟨fun i => BinsPre.CL.codes _ _ _ (h d) i, fun i => BinsPre.CL.lens _ _ _ (h d) i⟩

theorem frame : letI := Cert.Hist.Gen.facts; letI := Cert.Pre_codes_and_lengths.Gen.facts; Cert.quiescent_Hist := fun m ρ hpre =>
  (θ_run Cert.Hist.defs _ _).mono (fun _ h => ⟨fun c => ⟨(h.1 c).2.2.1, (h.1 c).2.1, (h.1 c).1⟩, h.2⟩)
    (run_main (F := Bits) m ρ (pre_of m hpre))

end Cert.Proof.Hist
-- ==== Proof.HistIRow.lean ====
/-
  One result row of the histogram, as a function: sixteen codes and sixteen weights at a time, the weights are added to
  the places which the codes name; clearing the same places again leaves the row of zeros.
-/
module

public import proofs.«01_k».proof.Defs
public import proofs.«01_k».proof.Proof.Gen.HistIdeal
public import Idealize.ShloMosaic.Lib.Tactic

@[expose] public section

noncomputable section

namespace Cert.Proof.HistI

open Cert.HistIdeal Cert.HistIdeal.Gen
open Idealize.ShloMosaic

variable {F : FTy → Type} [FloatOps F]

/-- The row of zeros. -/
def zrow : Vec F S4096 .f32 := fun _ => Scalar.ofBits .f32 0x00000000#32

/-- Sixteen consecutive elements, from `16 t` on. -/
def chunk {α : Type} (u : S1280.Idx → α) (t : ℕ) : S16.Idx → α :=
  fun x => u (fun a => ⟨(16 * t + (x 0).val) % 1280, by
    have : S1280.size a = 1280 := by fin_cases a; rfl
    rw [this]; exact Nat.mod_lt _ (by decide)⟩)

/-- Every code names a place of the row. -/
abbrev InRow (v : IVec S16 32) : Prop := ∀ (a : Fin 1) x, ((![v] : Fin 1 → IVec S16 32) a x).toNat < S4096.size a

/-- The row after the first `t` chunks have been added. -/
def rowV (cs : Vec F S1280 .i32) (ps : Vec F S1280 .f32) : ℕ → Vec F S4096 .f32
  | 0 => zrow
  | t + 1 => if h : InRow (chunk cs t) then storeIdx (rowV cs ps t) ![chunk cs t] (chunk ps t) (fun _ => 1#1) true h else rowV cs ps t

/-- The row after the places of the first `t` chunks have been cleared. -/
def clrV (cs : Vec F S1280 .i32) (f : Vec F S4096 .f32) : ℕ → Vec F S4096 .f32
  | 0 => f
  | t + 1 => if h : InRow (chunk cs t) then storeIdx (clrV cs f t) ![chunk cs t] (broadcast S16 (Scalar.ofBits .f32 0x00000000#32)) (fun _ => 1#1) false h else clrV cs f t

/-- Some lane of the chunk names place `j`. -/
def Hits (v : IVec S16 32) (h : InRow v) (j : S4096.Idx) : Prop :=
  ∃ k : Fin 16, ∀ a, (j a).val = (idxAt (s := S4096) (![v] : Fin 1 → IVec S16 32) h (Shape.ofLane (d := ![16]) k) a).val

theorem foldl_miss {X J α : Type} (op : (J → α) → X → J → α) (P : X → Prop) (j : J) (hm : ∀ g k, ¬ P k → op g k j = g j) :
    ∀ (l : List X) (f : J → α), (¬ ∃ k ∈ l, P k) → l.foldl op f j = f j
  | [], _, _ => rfl
  | k :: l, f, hn => by
    rw [List.foldl_cons, foldl_miss op P j hm l _ fun ⟨k', hk', h⟩ => hn ⟨k', List.mem_cons_of_mem _ hk', h⟩]
    exact hm f k fun h => hn ⟨k, List.mem_cons_self, h⟩

theorem foldl_hit {X J α : Type} (op : (J → α) → X → J → α) (P : X → Prop) (j : J) (z : α) (hm : ∀ g k, ¬ P k → op g k j = g j)
    (hh : ∀ g k, P k → op g k j = z) :
    ∀ (l : List X) (f : J → α), ((∃ k ∈ l, P k) ∨ f j = z) → l.foldl op f j = z
  | [], _, h => h.elim (fun ⟨_, hk, _⟩ => absurd hk (List.not_mem_nil)) id
  | k :: l, f, h => by
    rw [List.foldl_cons]
    refine foldl_hit op P j z hm hh l _ ?_
    by_cases e : P k
    · exact .inr (hh f k e)
    · rcases h with ⟨k', hk', h⟩ | h
      · rcases List.mem_cons.mp hk' with rfl | hk'
        · exact absurd h e
        · exact .inl ⟨k', hk', h⟩
      · exact .inr ((hm f k e).trans h)

theorem storeIdx_untouched (f : Vec F S4096 .f32) (v : IVec S16 32) (w : Vec F S16 .f32) (add : Bool) (h : InRow v) (j : S4096.Idx)
    (hn : ¬ Hits v h j) : storeIdx f ![v] w (fun _ => 1#1) add h j = f j := by
  unfold storeIdx
  refine foldl_miss _ (fun k : Fin 16 => ∀ a, (j a).val = (idxAt (s := S4096) (![v] : Fin 1 → IVec S16 32) h (Shape.ofLane (d := ![16]) k) a).val) j ?_ _ f
    fun ⟨k, _, hk⟩ => hn ⟨k, hk⟩
  intro g k hk
  simp only [if_true]
  exact if_neg hk

theorem storeIdx_cleared (f : Vec F S4096 .f32) (v : IVec S16 32) (z : F .f32) (h : InRow v) (j : S4096.Idx)
    (hn : Hits v h j ∨ f j = z) : storeIdx f ![v] (broadcast S16 z) (fun _ => 1#1) false h j = z := by
  unfold storeIdx
  refine foldl_hit _ (fun k : Fin 16 => ∀ a, (j a).val = (idxAt (s := S4096) (![v] : Fin 1 → IVec S16 32) h (Shape.ofLane (d := ![16]) k) a).val) j z ?_ ?_ _ f
    (hn.imp_left fun ⟨k, hk⟩ => ⟨k, List.mem_finRange _, hk⟩)
  · intro g k hk
    simp only [if_true]
    exact if_neg hk
  · intro g k hk
    simp only [if_true]
    exact if_pos hk

theorem rowV_or (cs : Vec F S1280 .i32) (ps : Vec F S1280 .f32) (j : S4096.Idx) :
    ∀ T, rowV cs ps T j = zrow j ∨ ∃ t < T, ∃ h : InRow (chunk cs t), Hits (chunk cs t) h j := by
  intro T
  induction T with
  | zero => exact .inl rfl
  | succ t ih =>
    rcases ih with ih | ⟨t', ht', H⟩
    · by_cases h : InRow (chunk cs t)
      · by_cases hh : Hits (chunk cs t) h j
        · exact .inr ⟨t, Nat.lt_succ_self t, h, hh⟩
        · left; unfold rowV; rw [dif_pos h, storeIdx_untouched _ _ _ _ _ _ hh, ih]
      · left; unfold rowV; rw [dif_neg h, ih]
    · exact .inr ⟨t', Nat.lt_succ_of_lt ht', H⟩

theorem clrV_zero (cs : Vec F S1280 .i32) (f : Vec F S4096 .f32) (j : S4096.Idx) :
    ∀ T, (f j = zrow j ∨ ∃ t < T, ∃ h : InRow (chunk cs t), Hits (chunk cs t) h j) → clrV cs f T j = zrow j := by
  intro T
  induction T with
  | zero => rintro (h | ⟨t, ht, -⟩); · exact h
            · exact absurd ht (Nat.not_lt_zero t)
  | succ t ih =>
    intro H
    unfold clrV
    by_cases h : InRow (chunk cs t)
    · rw [dif_pos h]
      refine storeIdx_cleared _ _ _ h j ?_
      by_cases hh : Hits (chunk cs t) h j
      · exact .inl hh
      · right
        refine ih ?_
        rcases H with H | ⟨t', ht', h', hit⟩
        · exact .inl H
        · rcases Nat.lt_succ_iff_lt_or_eq.mp ht' with ht' | rfl
          · exact .inr ⟨t', ht', h', hit⟩
          · exact absurd hit hh
    · rw [dif_neg h]
      refine ih ?_
      rcases H with H | ⟨t', ht', h', hit⟩
      · exact .inl H
      · rcases Nat.lt_succ_iff_lt_or_eq.mp ht' with ht' | rfl
        · exact .inr ⟨t', ht', h', hit⟩
        · exact absurd h' h

/-- The row, cleared by the same chunks, is the row of zeros again. -/
theorem clrV_rowV (cs : Vec F S1280 .i32) (ps : Vec F S1280 .f32) (T : ℕ) : clrV cs (rowV cs ps T) T = zrow :=
  funext fun j => clrV_zero cs _ j T (rowV_or cs ps j T)

end Cert.Proof.HistI
-- ==== Proof.HistIWords.lean ====
/-
  The words that the histogram's kernel computes, as numbers: how many chunks of sixteen a length asks for, and which row
  a trip of a subcore works at.
-/
module

public import proofs.«01_k».proof.Defs
public import proofs.«01_k».proof.Proof.Gen.HistIdeal
public import Idealize.ShloMosaic.Lib.LoopRemainder
public import Idealize.ShloMosaic.Lib.Tactic

@[expose] public section

namespace Cert.Proof.HistI

open Cert.HistIdeal Cert.HistIdeal.Gen
open Idealize.ShloMosaic

theorem ub_pos : ∀ n : Fin 1281, (k0_t7_loop (BitVec.ofNat 32 n.val)).ub.toInt = ((n.val + 15) / 16 : ℕ)
    ∧ (k0_t9_loop (BitVec.ofNat 32 n.val)).ub.toInt = ((n.val + 15) / 16 : ℕ) := by
  decide +kernel

theorem off6_val : ∀ (a : Fin 2) (b : Fin 16) (t : Fin k0_t6_loop.trips),
    k0_off6 (fun | 0 => a | 1 => b | ⟨_ + 2, h⟩ => absurd h (Nat.not_lt.2 (Nat.le_add_left _ _))) t 0 = 8 * t.val + (2 * b.val + a.val) / 4 := by
  decide +kernel

theorem off7_val : ∀ (a : Fin 2) (b : Fin 16) (t : Fin k0_t6_loop.trips),
    k0_off7 (fun | 0 => a | 1 => b | ⟨_ + 2, h⟩ => absurd h (Nat.not_lt.2 (Nat.le_add_left _ _))) t = ![8 * t.val + (2 * b.val + a.val) / 4, (2 * b.val + a.val) % 4, 0] := by
  decide +kernel

theorem off8_val : ∀ (a : Fin 2) (b : Fin 16) (t : Fin k0_t6_loop.trips) (j : Fin 5),
    k0_off8 (fun | 0 => a | 1 => b | ⟨_ + 2, h⟩ => absurd h (Nat.not_lt.2 (Nat.le_add_left _ _))) t (BitVec.ofNat 32 j.val)
      = ![8 * t.val + (2 * b.val + a.val) / 4, 5 * ((2 * b.val + a.val) % 4) + j.val, 0] := by
  decide +kernel

theorem off13_val : ∀ (a : Fin 2) (b : Fin 16) (t : Fin k0_t6_loop.trips) (j : Fin 5),
    k0_off13 (fun | 0 => a | 1 => b | ⟨_ + 2, h⟩ => absurd h (Nat.not_lt.2 (Nat.le_add_left _ _))) t (BitVec.ofNat 32 j.val)
      = ![8 * t.val + (2 * b.val + a.val) / 4, 5 * ((2 * b.val + a.val) % 4) + j.val, 0] := by
  decide +kernel

theorem divsi_one (x : BitVec 32) : Scalar.divsi x 1#32 = x := by
  have h := Scalar.muli_divsi_one x
  unfold Scalar.muli IntOp.muli at h
  rwa [BitVec.mul_one] at h

theorem ub9_eq (v : BitVec 32) : (k0_t9_loop v).ub = (k0_t7_loop v).ub := rfl

theorem tdiv_16 (a : Int) : (0 ≤ a ∧ a.tdiv 16 = a / 16) ∨ (a < 0 ∧ a.tdiv 16 = -(-a / 16)) := by
  rcases Int.lt_or_le a 0 with h | h
  · right
    refine ⟨h, ?_⟩
    have : a = -(-a) := by omega
    rw [this, Int.neg_tdiv, Int.tdiv_eq_ediv_of_nonneg (by omega)]
    omega
  · exact .inl ⟨h, Int.tdiv_eq_ediv_of_nonneg h⟩

theorem divsi_16 (x : BitVec 32) : (Scalar.divsi x 16#32).toInt = x.toInt.tdiv 16 := by
  have hx := BitVec.toInt_lt (x := x)
  have hx' := BitVec.le_toInt (x := x)
  have h : ¬ IntOp.SDivCorner x 16#32 := by
    unfold IntOp.SDivCorner
    rintro (h | ⟨-, h⟩) <;> revert h <;> decide
  show (IntOp.divsi _ x 16#32).toInt = _
  unfold IntOp.divsi
  rw [if_neg h, BitVec.toInt_sdiv]
  have h16 : (16#32 : BitVec 32).toInt = 16 := by decide
  rw [h16]
  simp only [show ((32 : ℕ) - 1) = 31 from rfl] at hx hx'
  rcases tdiv_16 x.toInt with ⟨h0, h⟩ | ⟨h0, h⟩ <;> rw [h] <;> apply Int.bmod_eq_of_le <;> omega

theorem e_word (x : BitVec 32) : Scalar.addi 0#32 (Scalar.subi (Scalar.addi (Scalar.subi x 0#32) (Scalar.subi 1#32 1#32)) 0#32) = x := by
  show 0#32 + (((x - 0#32) + (1#32 - 1#32)) - 0#32) = x
  simp

theorem ub_eq (v : BitVec 32) : ∃ c : BitVec 1, (k0_t7_loop v).ub
    = Scalar.select c (Scalar.subi (Scalar.divsi (Scalar.subi (Scalar.addi v 16#32) 1#32) 16#32) 1#32) (Scalar.divsi (Scalar.subi (Scalar.addi v 16#32) 1#32) 16#32) := by
  refine ⟨Scalar.andi (Scalar.cmpi .ne (Scalar.subi (Scalar.extui (Scalar.cmpi .sgt (Scalar.subi (Scalar.addi v 16#32) 1#32) 0#32)) (Scalar.extui (Scalar.cmpi .slt (Scalar.subi (Scalar.addi v 16#32) 1#32) 0#32)))
    (Scalar.subi (Scalar.extui (Scalar.cmpi .sgt 16#32 0#32)) (Scalar.extui (Scalar.cmpi .slt 16#32 0#32)))) (Scalar.cmpi .ne (Scalar.remsi (Scalar.subi (Scalar.addi v 16#32) 1#32) 16#32) 0#32), ?_⟩
  unfold k0_t7_loop
  dsimp only
  rw [Scalar.muli_divsi_one, divsi_one]
  exact e_word _

/-- A length that is not positive asks for no chunk. -/
theorem ub_neg (v : BitVec 32) (hv : v.toInt ≤ 0) : (k0_t7_loop v).ub.toInt ≤ 0 := by
  obtain ⟨c, hc⟩ := ub_eq v
  rw [hc]
  have hx' := BitVec.le_toInt (x := v)
  simp only [show ((32 : ℕ) - 1) = 31 from rfl] at hx'
  have h16 : (16#32 : BitVec 32).toInt = 16 := by decide
  have h1 : (1#32 : BitVec 32).toInt = 1 := by decide
  have h45 : (Scalar.subi (Scalar.addi v 16#32) 1#32).toInt = v.toInt + 15 := by
    show ((v + 16#32) - 1#32).toInt = _
    rw [BitVec.toInt_sub, BitVec.toInt_add, h16, h1, Int.bmod_sub_bmod]
    rw [Int.bmod_eq_of_le] <;> omega
  have hd := divsi_16 (Scalar.subi (Scalar.addi v 16#32) 1#32)
  rw [h45] at hd
  generalize Scalar.divsi (Scalar.subi (Scalar.addi v 16#32) 1#32) 16#32 = q at hd
  have ht := tdiv_16 (v.toInt + 15)
  have hq0 : q.toInt ≤ 0 := by rw [hd]; omega
  have hq1 : -(2 ^ 27 : Int) - 1 ≤ q.toInt := by rw [hd]; omega
  unfold Scalar.select
  split
  · show (q - 1#32).toInt ≤ 0
    rw [BitVec.toInt_sub, h1, Int.bmod_eq_of_le] <;> omega
  · exact hq0

theorem trips7_eq (v : BitVec 32) : (k0_t7_loop v).trips = (k0_t7_loop v).ub.toInt.toNat := by
  show ((_ - (0#32 : BitVec 32).toInt + (1#32 : BitVec 32).toInt - 1) / (1#32 : BitVec 32).toInt).toNat = _
  have h1 : (1#32 : BitVec 32).toInt = 1 := by decide
  have h0 : (0#32 : BitVec 32).toInt = 0 := by decide
  rw [h0, h1]
  congr 1
  omega

theorem trips9_eq (v : BitVec 32) : (k0_t9_loop v).trips = (k0_t7_loop v).trips := rfl

/-- How many chunks a length at most 1280 asks for. -/
theorem trips_val (v : BitVec 32) (hv : v.toInt ≤ 1280) : (k0_t7_loop v).ub.toInt ≤ 80 ∧ v.toInt ≤ 16 * (k0_t7_loop v).trips ∧ (k0_t7_loop v).trips ≤ 80 := by
  rw [trips7_eq]
  rcases Int.lt_or_le 0 v.toInt with h | h
  · have hn : v.toNat < 1281 := by
      have := BitVec.toInt_eq_toNat_cond v
      have hl := v.isLt
      split at this <;> omega
    have hi : v.toInt = v.toNat := by
      have := BitVec.toInt_eq_toNat_cond v
      have hl := v.isLt
      split at this <;> omega
    have hb : (k0_t7_loop v).ub.toInt = ((v.toNat + 15) / 16 : ℕ) := by
      have hb := (ub_pos ⟨v.toNat, hn⟩).1
      rw [show BitVec.ofNat 32 (⟨v.toNat, hn⟩ : Fin 1281).val = v from by show BitVec.ofNat 32 v.toNat = v; rw [BitVec.ofNat_toNat, BitVec.setWidth_eq]] at hb
      exact hb
    rw [hb]
    omega
  · have := ub_neg v h
    omega

theorem ok7 (v : BitVec 32) (hv : v.toInt ≤ 1280) : (k0_t7_loop v).OK := by
  have := (trips_val v hv).1
  have h0 : (k0_t7_loop v).lb.toInt = 0 := by show (0#32 : BitVec 32).toInt = 0; decide
  exact Affine.ok (Affine.word _) (Affine.word _) (Affine.ofNat 1 ⟨rfl, by decide⟩) ⟨by decide, by omega⟩

theorem off_val (n : ℕ) (hn : n < 80) :
    (Scalar.indexCast (Scalar.muli (Scalar.addi 0#32 (Scalar.muli (Scf.iv 0#32 1#32 n) 1#32)) 16#32)).toNat = 16 * n := by
  have : ∀ n : Fin 80, (Scalar.indexCast (Scalar.muli (Scalar.addi 0#32 (Scalar.muli (Scf.iv 0#32 1#32 n.val) 1#32)) 16#32)).toNat = 16 * n.val := by
    decide +kernel
  exact this ⟨n, hn⟩

theorem off9_eq (v : BitVec 32) (hv : v.toInt ≤ 1280) (k : Fin (k0_t7_loop v).trips) : k0_off9 v k 0 = 16 * k.val :=
  off_val k.val (lt_of_lt_of_le k.isLt (trips_val v hv).2.2)
theorem off10_eq (v : BitVec 32) (hv : v.toInt ≤ 1280) (k : Fin (k0_t7_loop v).trips) : k0_off10 v k 0 = 16 * k.val :=
  off_val k.val (lt_of_lt_of_le k.isLt (trips_val v hv).2.2)
theorem off14_eq (v : BitVec 32) (hv : v.toInt ≤ 1280) (k : Fin (k0_t9_loop v).trips) : k0_off14 v k 0 = 16 * k.val :=
  off_val k.val (lt_of_lt_of_le k.isLt (trips_val v hv).2.2)

/-- What the kernel assumes of a length it has read holds of every length at most 1280. -/
theorem chk1_of (v : BitVec 32) (hv : v.toInt ≤ 1280) : k0_chk1 v := by
  have ht := (trips_val v hv).2.2
  refine ⟨ok7 v hv, ?_, ?_, Scf.rem_ok _ _, ?_, ?_, ok7 v hv, ?_, Scf.rem_ok _ _, ?_⟩
  · intro k a
    obtain rfl : a = 0 := Subsingleton.elim _ _
    have := k.isLt
    rw [off9_eq v hv k]
    show 16 * k.val + 16 ≤ 1280
    omega
  · intro k a
    obtain rfl : a = 0 := Subsingleton.elim _ _
    have := k.isLt
    rw [off10_eq v hv k]
    show 16 * k.val + 16 ≤ 1280
    omega
  · intro k; exact (Scf.rem_no_trip _ _ k).elim
  · intro k; exact (Scf.rem_no_trip _ _ k).elim
  · intro k a
    obtain rfl : a = 0 := Subsingleton.elim _ _
    have := k.isLt
    rw [off14_eq v hv k]
    show 16 * k.val + 16 ≤ 1280
    have h9 := trips9_eq v
    omega
  · intro k; exact (Scf.rem_no_trip _ _ k).elim

/-! ## The rows, by the subcore's coordinates -/

theorem coords_eta (L : grid0.Coords) : L = (fun | 0 => L 0 | 1 => L 1 | ⟨_ + 2, h⟩ => absurd h (Nat.not_lt.2 (Nat.le_add_left _ _))) := by
  funext a
  match a with
  | 0 => rfl
  | 1 => rfl

/-- The batch row and the group of a subcore's trip. -/
def bOf (L : grid0.Coords) (t : Fin k0_t6_loop.trips) : ℕ := 8 * t.val + (2 * (L 1).val + (L 0).val) / 4
def gOf (L : grid0.Coords) : ℕ := (2 * (L 1).val + (L 0).val) % 4

theorem off6_eq (L : grid0.Coords) (t : Fin k0_t6_loop.trips) : k0_off6 L t 0 = bOf L t := by
  have h := off6_val (L 0) (L 1) t
  rw [← coords_eta L] at h; exact h
theorem off7_eq (L : grid0.Coords) (t : Fin k0_t6_loop.trips) : k0_off7 L t = ![bOf L t, gOf L, 0] := by
  have h := off7_val (L 0) (L 1) t
  rw [← coords_eta L] at h; exact h
theorem off8_eq (L : grid0.Coords) (t : Fin k0_t6_loop.trips) (j : Fin 5) : k0_off8 L t (BitVec.ofNat 32 j.val) = ![bOf L t, 5 * gOf L + j.val, 0] := by
  have h := off8_val (L 0) (L 1) t j
  rw [← coords_eta L] at h; exact h
theorem off13_eq (L : grid0.Coords) (t : Fin k0_t6_loop.trips) (j : Fin 5) : k0_off13 L t (BitVec.ofNat 32 j.val) = ![bOf L t, 5 * gOf L + j.val, 0] := by
  have h := off13_val (L 0) (L 1) t j
  rw [← coords_eta L] at h; exact h

end Cert.Proof.HistI
-- ==== Proof.HistITile.lean ====
/-
  One vector subcore's task of the histogram call: the scratch rows are cleared, and in fourteen trips a row of codes and
  five rows of weights are copied in, added up by code, copied out, and the rows cleared again.
-/
module

public import proofs.«01_k».proof.Proof.HistIRow
public import proofs.«01_k».proof.Proof.HistIWords
public import proofs.«01_k».proof.Proof.Gen.HistIdeal.Skeleton
public import Idealize.ShloMosaic.Lib.SparseCore.Quiescent
public import Idealize.ShloMosaic.Lib.SparseCore.Ops
public import Idealize.ShloMosaic.Lib.SparseCore.Threads
public import Idealize.ShloMosaic.Lib.StableHlo.Run
public import Idealize.ShloMosaic.Lib.LoopRemainder
public import Idealize.ShloMosaic.Lib.Batch
public import Idealize.ShloMosaic.Lib.Tactic

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

/-! ## The buffers -/

variable [FloatOps F]

abbrev aP : Memref sig .scVector .hbm S112x20x1280 .f32 := Memref.whole main_arg0_scv
abbrev aC : Memref sig .scVector .hbm S112x4x1280 .i32 := Memref.whole main_arg1_scv
abbrev aN : Memref sig .scVector .hbm S112 .i32 := Memref.whole main_arg2_scv
abbrev aO : Memref sig .scVector .hbm S112x20x4096 .f32 := Memref.whole main_v0_scv
abbrev sN : Memref sig .scVector .vmem S128 .i32 := Memref.whole cc0_scratch0
abbrev sC : Memref sig .scVector .vmem S1280 .i32 := Memref.whole cc0_scratch1
abbrev sP0 : Memref sig .scVector .vmem S1280 .f32 := Memref.whole cc0_scratch2
abbrev sP1 : Memref sig .scVector .vmem S1280 .f32 := Memref.whole cc0_scratch3
abbrev sP2 : Memref sig .scVector .vmem S1280 .f32 := Memref.whole cc0_scratch4
abbrev sP3 : Memref sig .scVector .vmem S1280 .f32 := Memref.whole cc0_scratch5
abbrev sP4 : Memref sig .scVector .vmem S1280 .f32 := Memref.whole cc0_scratch6
abbrev sB0 : Memref sig .scVector .vmem S4096 .f32 := Memref.whole cc0_scratch7
abbrev sB1 : Memref sig .scVector .vmem S4096 .f32 := Memref.whole cc0_scratch8
abbrev sB2 : Memref sig .scVector .vmem S4096 .f32 := Memref.whole cc0_scratch9
abbrev sB3 : Memref sig .scVector .vmem S4096 .f32 := Memref.whole cc0_scratch10
abbrev sB4 : Memref sig .scVector .vmem S4096 .f32 := Memref.whole cc0_scratch11

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A scratch array held whole. -/
abbrev own {s : Shape} {e : EltTy} (M : Memref sig .scVector .vmem s e) (f : Buf (Elt F) (M.view.loc (thr d L))) : sProp 𝕄 :=
  M.view.loc (thr d L) ↦{fullShare} f

/-! ## One step at a time -/

theorem vs_step {base : Memref sig .scVector .vmem S4096 .f32} (f g : Buf (Elt F) (base.view.loc (thr d L))) (w' : Vec F S4096 .f32 → Buf (Elt F) (base.view.loc (thr d L))) {v : IVec S16 32} {w : Vec F S16 .f32}
    {add : Bool} {h : InRow v} {hs : (base.access (.whole S4096)).Stores Finset.univ}
    {k : PUnit → Prog (TpuEff nD τ sig (Elt F) Λ₀ (.scVector (cV L) (jV L))) PUnit} {Q : PUnit → sProp 𝕄}
    (hset : (base.access (.whole S4096)).set = Finset.univ)
    (u : Vec F S4096 .f32) (hr : (base.access (.whole S4096)).read (Elt F) f = u) (hw : ∀ w, (base.access (.whole S4096)).write (Elt F) f w Finset.univ = w' w)
    (hg : w' (storeIdx u ![v] w (fun _ => 1#1) add h) = g) :
    own d L base f
      ⊢ iprop((own d L base g -∗ wp frame (wpE (defs₀ (F := F)) 𝒱₀ (thr d L) none) Set.univ (k ⟨⟩) Q)
        -∗ wp frame (wpE (defs₀ (F := F)) 𝒱₀ (thr d L) none) Set.univ
          (SparseCore.vectorStoreIdx (p := .scVector (cV L) (jV L)) base ![v] w (fun _ => 1#1) add h hs >>= k) Q) := by
  have H := SparseCore.wp_vectorStoreIdx (defs := defs₀ (F := F)) 𝒱₀ (thr d L) none Set.univ (Q := Q) (base := base) (idxs := ![v]) (v := w) (mask := fun _ => 1#1)
    (add := add) (h := h) (hs := hs) (k := k) (f := f) (Name := ℕ) (U := UU) (Lvl := ℕ) (Ix := HIx 1)
  rw [hset, hr, hw, hg] at H
  exact H

theorem ld_step {s : Shape} {e : EltTy} {M : Memref sig .scVector .vmem s e} {r : LoadRect s} {hl : M.view.LoadsAt r}
    {k : (r.shape.Idx → Elt F e) → Prog (TpuEff nD τ sig (Elt F) Λ₀ (.scVector (cV L) (jV L))) PUnit} {Q : PUnit → sProp 𝕄}
    (f : Buf (Elt F) (M.view.loc (thr d L))) (g : r.shape.Idx → Elt F e) (hg : M.view.readAt (Elt F) r f = g) :
    own d L M f
      ⊢ iprop((own d L M f -∗ wp frame (wpE (defs₀ (F := F)) 𝒱₀ (thr d L) none) Set.univ (k g) Q)
        -∗ wp frame (wpE (defs₀ (F := F)) 𝒱₀ (thr d L) none) Set.univ (.op (.load M r hl) k) Q) := by
  subst hg
  exact wp_load 𝒱₀ (thr d L) none Set.univ (m := M) (S := Finset.univ) (Finset.subset_univ _)

/-! ## The loop that adds -/

theorem ld_chunk {α : Type} (u : S1280.Idx → α) (o : Fin 1 → ℕ) (hi : ∀ a, o a + S16.size a ≤ S1280.size a) (t : ℕ) (ho : o 0 = 16 * t) :
    (fun x => u ((Rect.unit (s := S1280) o S16.size hi).emb x)) = chunk u t := by
  funext x
  unfold chunk
  congr 1
  funext a
  apply Fin.ext
  have ha : a = 0 := Subsingleton.elim _ _
  subst ha
  have h16 := (x 0).isLt
  have h1 := hi 0
  have e1 : S16.size 0 = 16 := rfl
  have e2 : S1280.size 0 = 1280 := rfl
  have e : (((Rect.unit (s := S1280) o S16.size hi).emb x) 0 : ℕ) = o 0 + 1 * (x 0).val := rfl
  have h16' : (x 0).val < 16 := h16
  show (((Rect.unit (s := S1280) o S16.size hi).emb x) 0 : ℕ) = (16 * t + (x 0).val) % 1280
  rw [e]
  omega

theorem rowV_succ (cs : Vec F S1280 .i32) (ps : Vec F S1280 .f32) (t : ℕ) (h : InRow (chunk cs t)) :
    rowV cs ps (t + 1) = storeIdx (rowV cs ps t) ![chunk cs t] (chunk ps t) (fun _ => 1#1) true h := dif_pos h

theorem clrV_succ (cs : Vec F S1280 .i32) (f : Vec F S4096 .f32) (t : ℕ) (h : InRow (chunk cs t)) :
    clrV cs f (t + 1) = storeIdx (clrV cs f t) ![chunk cs t] (broadcast S16 (Scalar.ofBits .f32 0x00000000#32)) (fun _ => 1#1) false h := dif_pos h

theorem t7_step (v11 : BitVec 32) (t6 : Fin k0_t6_loop.trips) (v43 : BitVec 32) (h1 : k0_chk1 v43) (hv : v43.toInt ≤ 1280) (v62 : BitVec 32) (k : Fin (k0_t7_loop v43).trips)
    (cs : Vec F S1280 .i32) (p0 p1 p2 p3 p4 : Vec F S1280 .f32) (hc : ∀ t, InRow (chunk cs t)) :
    iprop(own d L sC cs ∗ own d L sP0 p0 ∗ own d L sP1 p1 ∗ own d L sP2 p2 ∗ own d L sP3 p3 ∗ own d L sP4 p4
        ∗ own d L sB0 (rowV cs p0 k.val) ∗ own d L sB1 (rowV cs p1 k.val) ∗ own d L sB2 (rowV cs p2 k.val) ∗ own d L sB3 (rowV cs p3 k.val) ∗ own d L sB4 (rowV cs p4 k.val))
      ⊢ wp frame (wpE (defs₀ (F := F)) 𝒱₀ (thr d L) none) Set.univ (k0_t7_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 t6 v43 h1 v62 k ())
        fun _ => iprop(own d L sC cs ∗ own d L sP0 p0 ∗ own d L sP1 p1 ∗ own d L sP2 p2 ∗ own d L sP3 p3 ∗ own d L sP4 p4
        ∗ own d L sB0 (rowV cs p0 (k.val + 1)) ∗ own d L sB1 (rowV cs p1 (k.val + 1)) ∗ own d L sB2 (rowV cs p2 (k.val + 1)) ∗ own d L sB3 (rowV cs p3 (k.val + 1)) ∗ own d L sB4 (rowV cs p4 (k.val + 1))) := by
  iintro ⟨HC, HP0, HP1, HP2, HP3, HP4, HB0, HB1, HB2, HB3, HB4⟩
  unfold k0_t7_body
  simp only [Prog.lift, Prog.bind_op, Prog.bind_ret, Prog.pure_eq_ret]
  iapply (ld_step d L (M := sC) cs (chunk cs k.val) (ld_chunk cs _ _ k.val (off9_eq v43 hv k))) $$ HC; iintro HC
  have hk : k0_chk2 (chunk cs k.val) := ⟨hc k.val, hc k.val, hc k.val, hc k.val, hc k.val⟩
  rw [wp_assume_of _ _ _ _ hk]
  iapply (ld_step d L (M := sP0) p0 (chunk p0 k.val) (ld_chunk p0 _ _ k.val (off10_eq v43 hv k))) $$ HP0; iintro HP0
  iapply (vs_step d L (base := sB0) (rowV cs p0 k.val) (rowV cs p0 (k.val + 1)) id (v := chunk cs k.val) (w := chunk p0 k.val) (add := true) (h := hc k.val)
    (Memref.set_access_whole (cc0_scratch7 : Ref sig .scVector)) (rowV cs p0 k.val) (Memref.read_access_whole (Elt F) (cc0_scratch7 : Ref sig .scVector) _) (Memref.write_access_whole_univ (Elt F) (cc0_scratch7 : Ref sig .scVector) _) (rowV_succ cs p0 k.val (hc k.val)).symm) $$ HB0; iintro HB0
  iapply (ld_step d L (M := sP1) p1 (chunk p1 k.val) (ld_chunk p1 _ _ k.val (off10_eq v43 hv k))) $$ HP1; iintro HP1
  iapply (vs_step d L (base := sB1) (rowV cs p1 k.val) (rowV cs p1 (k.val + 1)) id (v := chunk cs k.val) (w := chunk p1 k.val) (add := true) (h := hc k.val)
    (Memref.set_access_whole (cc0_scratch8 : Ref sig .scVector)) (rowV cs p1 k.val) (Memref.read_access_whole (Elt F) (cc0_scratch8 : Ref sig .scVector) _) (Memref.write_access_whole_univ (Elt F) (cc0_scratch8 : Ref sig .scVector) _) (rowV_succ cs p1 k.val (hc k.val)).symm) $$ HB1; iintro HB1
  iapply (ld_step d L (M := sP2) p2 (chunk p2 k.val) (ld_chunk p2 _ _ k.val (off10_eq v43 hv k))) $$ HP2; iintro HP2
  iapply (vs_step d L (base := sB2) (rowV cs p2 k.val) (rowV cs p2 (k.val + 1)) id (v := chunk cs k.val) (w := chunk p2 k.val) (add := true) (h := hc k.val)
    (Memref.set_access_whole (cc0_scratch9 : Ref sig .scVector)) (rowV cs p2 k.val) (Memref.read_access_whole (Elt F) (cc0_scratch9 : Ref sig .scVector) _) (Memref.write_access_whole_univ (Elt F) (cc0_scratch9 : Ref sig .scVector) _) (rowV_succ cs p2 k.val (hc k.val)).symm) $$ HB2; iintro HB2
  iapply (ld_step d L (M := sP3) p3 (chunk p3 k.val) (ld_chunk p3 _ _ k.val (off10_eq v43 hv k))) $$ HP3; iintro HP3
  iapply (vs_step d L (base := sB3) (rowV cs p3 k.val) (rowV cs p3 (k.val + 1)) id (v := chunk cs k.val) (w := chunk p3 k.val) (add := true) (h := hc k.val)
    (Memref.set_access_whole (cc0_scratch10 : Ref sig .scVector)) (rowV cs p3 k.val) (Memref.read_access_whole (Elt F) (cc0_scratch10 : Ref sig .scVector) _) (Memref.write_access_whole_univ (Elt F) (cc0_scratch10 : Ref sig .scVector) _) (rowV_succ cs p3 k.val (hc k.val)).symm) $$ HB3; iintro HB3
  iapply (ld_step d L (M := sP4) p4 (chunk p4 k.val) (ld_chunk p4 _ _ k.val (off10_eq v43 hv k))) $$ HP4; iintro HP4
  iapply (vs_step d L (base := sB4) (rowV cs p4 k.val) (rowV cs p4 (k.val + 1)) id (v := chunk cs k.val) (w := chunk p4 k.val) (add := true) (h := hc k.val)
    (Memref.set_access_whole (cc0_scratch11 : Ref sig .scVector)) (rowV cs p4 k.val) (Memref.read_access_whole (Elt F) (cc0_scratch11 : Ref sig .scVector) _) (Memref.write_access_whole_univ (Elt F) (cc0_scratch11 : Ref sig .scVector) _) (rowV_succ cs p4 k.val (hc k.val)).symm) $$ HB4; iintro HB4
  rw [wp_ret]
  imodintro
  isplitl [HC]; · iexact HC
  isplitl [HP0]; · iexact HP0
  isplitl [HP1]; · iexact HP1
  isplitl [HP2]; · iexact HP2
  isplitl [HP3]; · iexact HP3
  isplitl [HP4]; · iexact HP4
  isplitl [HB0]; · iexact HB0
  isplitl [HB1]; · iexact HB1
  isplitl [HB2]; · iexact HB2
  isplitl [HB3]; · iexact HB3
  iexact HB4

theorem t7_loop (v11 : BitVec 32) (t6 : Fin k0_t6_loop.trips) (v43 : BitVec 32) (h1 : k0_chk1 v43) (hv : v43.toInt ≤ 1280) (v62 : BitVec 32) (hok : (k0_t7_loop v43).OK)
    (cs : Vec F S1280 .i32) (p0 p1 p2 p3 p4 : Vec F S1280 .f32) (hc : ∀ t, InRow (chunk cs t)) (Q : Unit → sProp 𝕄) :
    iprop((own d L sC cs ∗ own d L sP0 p0 ∗ own d L sP1 p1 ∗ own d L sP2 p2 ∗ own d L sP3 p3 ∗ own d L sP4 p4 ∗ own d L sB0 (rowV cs p0 0) ∗ own d L sB1 (rowV cs p1 0) ∗ own d L sB2 (rowV cs p2 0) ∗ own d L sB3 (rowV cs p3 0) ∗ own d L sB4 (rowV cs p4 0)) ∗ ((own d L sC cs ∗ own d L sP0 p0 ∗ own d L sP1 p1 ∗ own d L sP2 p2 ∗ own d L sP3 p3 ∗ own d L sP4 p4 ∗ own d L sB0 (rowV cs p0 (k0_t7_loop v43).trips) ∗ own d L sB1 (rowV cs p1 (k0_t7_loop v43).trips) ∗ own d L sB2 (rowV cs p2 (k0_t7_loop v43).trips) ∗ own d L sB3 (rowV cs p3 (k0_t7_loop v43).trips) ∗ own d L sB4 (rowV cs p4 (k0_t7_loop v43).trips)) -∗ Q ()))
      ⊢ wp frame (wpE (defs₀ (F := F)) 𝒱₀ (thr d L) none) Set.univ (Scf.Loop.for (k0_t7_loop v43) hok ⟨⟩ (k0_t7_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 t6 v43 h1 v62)) Q := by
  have H := Scf.wp_for frame (wpE (defs₀ (F := F)) 𝒱₀ (thr d L) none) Set.univ _ _ _ hok () (k0_t7_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 t6 v43 h1 v62)
    (fun k _ => iprop(own d L sC cs ∗ own d L sP0 p0 ∗ own d L sP1 p1 ∗ own d L sP2 p2 ∗ own d L sP3 p3 ∗ own d L sP4 p4 ∗ own d L sB0 (rowV cs p0 k) ∗ own d L sB1 (rowV cs p1 k) ∗ own d L sB2 (rowV cs p2 k) ∗ own d L sB3 (rowV cs p3 k) ∗ own d L sB4 (rowV cs p4 k)))
    (fun k _ => t7_step d L v11 t6 v43 h1 hv v62 k cs p0 p1 p2 p3 p4 hc) (Q := Q)
  refine BIBase.Entails.trans ?_ H
  iintro ⟨HI, HQ⟩
  isplitl [HI]
  · iexact HI
  · iintro %_ HI
    iapply HQ; iexact HI

/-! ## The loop that clears -/

theorem t9_step (v43 : BitVec 32) (h1 : k0_chk1 v43) (hv : v43.toInt ≤ 1280) (k : Fin (k0_t9_loop v43).trips)
    (cs : Vec F S1280 .i32) (b0 b1 b2 b3 b4 : Vec F S4096 .f32) (hc : ∀ t, InRow (chunk cs t)) :
    iprop(own d L sC cs ∗ own d L sB0 (clrV cs b0 k.val) ∗ own d L sB1 (clrV cs b1 k.val) ∗ own d L sB2 (clrV cs b2 k.val) ∗ own d L sB3 (clrV cs b3 k.val) ∗ own d L sB4 (clrV cs b4 k.val))
      ⊢ wp frame (wpE (defs₀ (F := F)) 𝒱₀ (thr d L) none) Set.univ (k0_t9_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 v43 h1 k ())
        fun _ => iprop(own d L sC cs ∗ own d L sB0 (clrV cs b0 (k.val + 1)) ∗ own d L sB1 (clrV cs b1 (k.val + 1)) ∗ own d L sB2 (clrV cs b2 (k.val + 1)) ∗ own d L sB3 (clrV cs b3 (k.val + 1)) ∗ own d L sB4 (clrV cs b4 (k.val + 1))) := by
  iintro ⟨HC, HB0, HB1, HB2, HB3, HB4⟩
  unfold k0_t9_body
  simp only [Prog.lift, Prog.bind_op, Prog.bind_ret, Prog.pure_eq_ret]
  iapply (ld_step d L (M := sC) cs (chunk cs k.val) (ld_chunk cs _ _ k.val (off14_eq v43 hv k))) $$ HC; iintro HC
  have hk : k0_chk4 (chunk cs k.val) := ⟨hc k.val, hc k.val, hc k.val, hc k.val, hc k.val⟩
  rw [wp_assume_of _ _ _ _ hk]
  iapply (vs_step d L (base := sB0) (clrV cs b0 k.val) (clrV cs b0 (k.val + 1)) id (v := chunk cs k.val) (w := k0_pay2) (add := false) (h := hc k.val)
    (Memref.set_access_whole (cc0_scratch7 : Ref sig .scVector)) (clrV cs b0 k.val) (Memref.read_access_whole (Elt F) (cc0_scratch7 : Ref sig .scVector) _) (Memref.write_access_whole_univ (Elt F) (cc0_scratch7 : Ref sig .scVector) _) (clrV_succ cs b0 k.val (hc k.val)).symm) $$ HB0; iintro HB0
  iapply (vs_step d L (base := sB1) (clrV cs b1 k.val) (clrV cs b1 (k.val + 1)) id (v := chunk cs k.val) (w := k0_pay2) (add := false) (h := hc k.val)
    (Memref.set_access_whole (cc0_scratch8 : Ref sig .scVector)) (clrV cs b1 k.val) (Memref.read_access_whole (Elt F) (cc0_scratch8 : Ref sig .scVector) _) (Memref.write_access_whole_univ (Elt F) (cc0_scratch8 : Ref sig .scVector) _) (clrV_succ cs b1 k.val (hc k.val)).symm) $$ HB1; iintro HB1
  iapply (vs_step d L (base := sB2) (clrV cs b2 k.val) (clrV cs b2 (k.val + 1)) id (v := chunk cs k.val) (w := k0_pay2) (add := false) (h := hc k.val)
    (Memref.set_access_whole (cc0_scratch9 : Ref sig .scVector)) (clrV cs b2 k.val) (Memref.read_access_whole (Elt F) (cc0_scratch9 : Ref sig .scVector) _) (Memref.write_access_whole_univ (Elt F) (cc0_scratch9 : Ref sig .scVector) _) (clrV_succ cs b2 k.val (hc k.val)).symm) $$ HB2; iintro HB2
  iapply (vs_step d L (base := sB3) (clrV cs b3 k.val) (clrV cs b3 (k.val + 1)) id (v := chunk cs k.val) (w := k0_pay2) (add := false) (h := hc k.val)
    (Memref.set_access_whole (cc0_scratch10 : Ref sig .scVector)) (clrV cs b3 k.val) (Memref.read_access_whole (Elt F) (cc0_scratch10 : Ref sig .scVector) _) (Memref.write_access_whole_univ (Elt F) (cc0_scratch10 : Ref sig .scVector) _) (clrV_succ cs b3 k.val (hc k.val)).symm) $$ HB3; iintro HB3
  iapply (vs_step d L (base := sB4) (clrV cs b4 k.val) (clrV cs b4 (k.val + 1)) id (v := chunk cs k.val) (w := k0_pay2) (add := false) (h := hc k.val)
    (Memref.set_access_whole (cc0_scratch11 : Ref sig .scVector)) (clrV cs b4 k.val) (Memref.read_access_whole (Elt F) (cc0_scratch11 : Ref sig .scVector) _) (Memref.write_access_whole_univ (Elt F) (cc0_scratch11 : Ref sig .scVector) _) (clrV_succ cs b4 k.val (hc k.val)).symm) $$ HB4; iintro HB4
  rw [wp_ret]
  imodintro
  isplitl [HC]; · iexact HC
  isplitl [HB0]; · iexact HB0
  isplitl [HB1]; · iexact HB1
  isplitl [HB2]; · iexact HB2
  isplitl [HB3]; · iexact HB3
  iexact HB4

theorem t9_loop (v43 : BitVec 32) (h1 : k0_chk1 v43) (hv : v43.toInt ≤ 1280) (hok : (k0_t9_loop v43).OK)
    (cs : Vec F S1280 .i32) (b0 b1 b2 b3 b4 : Vec F S4096 .f32) (hc : ∀ t, InRow (chunk cs t)) (Q : Unit → sProp 𝕄) :
    iprop((own d L sC cs ∗ own d L sB0 (clrV cs b0 0) ∗ own d L sB1 (clrV cs b1 0) ∗ own d L sB2 (clrV cs b2 0) ∗ own d L sB3 (clrV cs b3 0) ∗ own d L sB4 (clrV cs b4 0)) ∗ ((own d L sC cs ∗ own d L sB0 (clrV cs b0 (k0_t9_loop v43).trips) ∗ own d L sB1 (clrV cs b1 (k0_t9_loop v43).trips) ∗ own d L sB2 (clrV cs b2 (k0_t9_loop v43).trips) ∗ own d L sB3 (clrV cs b3 (k0_t9_loop v43).trips) ∗ own d L sB4 (clrV cs b4 (k0_t9_loop v43).trips)) -∗ Q ()))
      ⊢ wp frame (wpE (defs₀ (F := F)) 𝒱₀ (thr d L) none) Set.univ (Scf.Loop.for (k0_t9_loop v43) hok ⟨⟩ (k0_t9_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 v43 h1)) Q := by
  have H := Scf.wp_for frame (wpE (defs₀ (F := F)) 𝒱₀ (thr d L) none) Set.univ _ _ _ hok () (k0_t9_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 v43 h1)
    (fun k _ => iprop(own d L sC cs ∗ own d L sB0 (clrV cs b0 k) ∗ own d L sB1 (clrV cs b1 k) ∗ own d L sB2 (clrV cs b2 k) ∗ own d L sB3 (clrV cs b3 k) ∗ own d L sB4 (clrV cs b4 k)))
    (fun k _ => t9_step d L v43 h1 hv k cs b0 b1 b2 b3 b4 hc) (Q := Q)
  refine BIBase.Entails.trans ?_ H
  iintro ⟨HI, HQ⟩
  isplitl [HI]
  · iexact HI
  · iintro %_ HI
    iapply HQ; iexact HI

end Tile
end Cert.Proof.HistI
-- ==== Proof.HistIWin.lean ====
/-
  The windows of one trip, as the task spells them.
-/
module

public import proofs.«01_k».proof.Proof.HistITile

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Trip

variable (d : Dev nD) (L : grid0.Coords)

/-! ## The windows of one trip -/

abbrev cW (t : Fin k0_t6_loop.trips) : Memref sig .scVector .hbm S1280 .i32 :=
  (aC.slice (Rect.unit (s := S112x4x1280) (k0_off7 L t) S1x1x1280.size (k0_off7_inb L t)) (fun _ => rfl)).squeeze S1280 squeezes_S1x1x1280_S1280
abbrev pW0 (t : Fin k0_t6_loop.trips) : Memref sig .scVector .hbm S1280 .f32 :=
  (aP.slice (Rect.unit (s := S112x20x1280) (k0_off8 L t 0#32) S1x1x1280.size (k0_off8_inb L t 0)) (fun _ => rfl)).squeeze S1280 squeezes_S1x1x1280_S1280
abbrev oW0 (t : Fin k0_t6_loop.trips) : Memref sig .scVector .hbm S4096 .f32 :=
  (aO.slice (Rect.unit (s := S112x20x4096) (k0_off13 L t 0#32) S1x1x4096.size (k0_off13_inb L t 0)) (fun _ => rfl)).squeeze S4096 squeezes_S1x1x4096_S4096
abbrev pW1 (t : Fin k0_t6_loop.trips) : Memref sig .scVector .hbm S1280 .f32 :=
  (aP.slice (Rect.unit (s := S112x20x1280) (k0_off8 L t 1#32) S1x1x1280.size (k0_off8_inb L t 1)) (fun _ => rfl)).squeeze S1280 squeezes_S1x1x1280_S1280
abbrev oW1 (t : Fin k0_t6_loop.trips) : Memref sig .scVector .hbm S4096 .f32 :=
  (aO.slice (Rect.unit (s := S112x20x4096) (k0_off13 L t 1#32) S1x1x4096.size (k0_off13_inb L t 1)) (fun _ => rfl)).squeeze S4096 squeezes_S1x1x4096_S4096
abbrev pW2 (t : Fin k0_t6_loop.trips) : Memref sig .scVector .hbm S1280 .f32 :=
  (aP.slice (Rect.unit (s := S112x20x1280) (k0_off8 L t 2#32) S1x1x1280.size (k0_off8_inb L t 2)) (fun _ => rfl)).squeeze S1280 squeezes_S1x1x1280_S1280
abbrev oW2 (t : Fin k0_t6_loop.trips) : Memref sig .scVector .hbm S4096 .f32 :=
  (aO.slice (Rect.unit (s := S112x20x4096) (k0_off13 L t 2#32) S1x1x4096.size (k0_off13_inb L t 2)) (fun _ => rfl)).squeeze S4096 squeezes_S1x1x4096_S4096
abbrev pW3 (t : Fin k0_t6_loop.trips) : Memref sig .scVector .hbm S1280 .f32 :=
  (aP.slice (Rect.unit (s := S112x20x1280) (k0_off8 L t 3#32) S1x1x1280.size (k0_off8_inb L t 3)) (fun _ => rfl)).squeeze S1280 squeezes_S1x1x1280_S1280
abbrev oW3 (t : Fin k0_t6_loop.trips) : Memref sig .scVector .hbm S4096 .f32 :=
  (aO.slice (Rect.unit (s := S112x20x4096) (k0_off13 L t 3#32) S1x1x4096.size (k0_off13_inb L t 3)) (fun _ => rfl)).squeeze S4096 squeezes_S1x1x4096_S4096
abbrev pW4 (t : Fin k0_t6_loop.trips) : Memref sig .scVector .hbm S1280 .f32 :=
  (aP.slice (Rect.unit (s := S112x20x1280) (k0_off8 L t 4#32) S1x1x1280.size (k0_off8_inb L t 4)) (fun _ => rfl)).squeeze S1280 squeezes_S1x1x1280_S1280
abbrev oW4 (t : Fin k0_t6_loop.trips) : Memref sig .scVector .hbm S4096 .f32 :=
  (aO.slice (Rect.unit (s := S112x20x4096) (k0_off13 L t 4#32) S1x1x4096.size (k0_off13_inb L t 4)) (fun _ => rfl)).squeeze S4096 squeezes_S1x1x4096_S4096

end Trip

end Cert.Proof.HistI
-- ==== Proof.HistITrip.lean ====
/-
  One trip of a vector subcore's task.
-/
module

public import proofs.«01_k».proof.Proof.HistIWin

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Trip

variable (d : Dev nD) (L : grid0.Coords)

/-- A window of an array of the main memory, held by its own elements. -/
abbrev win {s : Shape} {e : EltTy} (M : Memref sig .scVector .hbm s e) (f : Buf (Elt F) (M.view.loc (thr d L))) : sProp 𝕄 :=
  M.view.loc (thr d L) ↦[M.view.set]{fullShare} f

/-- The word which the trip reads from the lengths. -/
abbrev lenW (nf : Vec F S128 .i32) (t : Fin k0_t6_loop.trips) : BitVec 32 :=
  extractAt ![0] (k0_pay1 (F := F) (sN.view.readAt (Elt F) (Rect.unit (s := S128) (k0_off6 L t) S16.size (k0_off6_inb L t)).toLoadRect nf)) inpos_S1_p0

/-- A window written with what another array reads there holds that array. -/
theorem win_written {s : Shape} {e : EltTy} (M : Memref sig .scVector .hbm s e) (f g : Buf (Elt F) (M.view.loc (thr d L))) (w : s.Idx → Elt F e)
    (h : M.view.read (Elt F) g = w) : win d L M (M.view.writes (Elt F) f [⟨Rect.whole s, w⟩]) = win d L M g := by
  subst h
  refine pointsTo_congr fun i hi => ?_
  obtain ⟨x, -, rfl⟩ := Finset.mem_map.mp hi
  have e : M.view.emb x = (M.view.slice (Rect.whole s)).emb x := congrArg M.view.emb (Rect.emb_whole_apply s x).symm
  show (M.view.slice (Rect.whole s)).write (Elt F) f _ Finset.univ (M.view.emb x) = g (M.view.emb x)
  rw [e, View.write_emb_of_mem _ _ (Finset.mem_univ x), ← e]
  show cast _ (M.view.read (Elt F) g x) = _
  rw [View.read_apply, cast_cast, cast_eq]

theorem wr_sC (f w : Vec F S1280 .i32) : View.write (Elt F) sC.view f w Finset.univ = w := View.write_whole_univ (cc0_scratch1 : Ref sig .scVector) _ _
theorem wr_sP0 (f w : Vec F S1280 .f32) : View.write (Elt F) sP0.view f w Finset.univ = w := View.write_whole_univ (cc0_scratch2 : Ref sig .scVector) _ _
theorem wr_sP1 (f w : Vec F S1280 .f32) : View.write (Elt F) sP1.view f w Finset.univ = w := View.write_whole_univ (cc0_scratch3 : Ref sig .scVector) _ _
theorem wr_sP2 (f w : Vec F S1280 .f32) : View.write (Elt F) sP2.view f w Finset.univ = w := View.write_whole_univ (cc0_scratch4 : Ref sig .scVector) _ _
theorem wr_sP3 (f w : Vec F S1280 .f32) : View.write (Elt F) sP3.view f w Finset.univ = w := View.write_whole_univ (cc0_scratch5 : Ref sig .scVector) _ _
theorem wr_sP4 (f w : Vec F S1280 .f32) : View.write (Elt F) sP4.view f w Finset.univ = w := View.write_whole_univ (cc0_scratch6 : Ref sig .scVector) _ _

theorem ins_none {W W' : Waits sig (HIx 1)} {sm : SemLoc sig} (h : ∀ p ∈ W', p ∈ W ∨ p.2 = none) : ∀ p ∈ insert (sm, none) W', p ∈ W ∨ p.2 = none := by
  intro p hp
  rcases Finset.mem_insert.mp hp with rfl | hp
  · exact .inr rfl
  · exact h p hp

theorem t8_wp (v : BitVec 32) (hok : (k0_t8_loop v).OK) (body : Fin (k0_t8_loop v).trips → Unit → Prog (TpuEff nD τ sig (Elt F) Λ₀ (.scVector (cV L) (jV L))) Unit) (Q : Unit → sProp 𝕄) :
    Q ⟨⟩ ⊢ wp frame (wpE (defs₀ (F := F)) 𝒱₀ (thr d L) none) Set.univ (Scf.Loop.for (k0_t8_loop v) hok ⟨⟩ body) Q := by
  have e : Scf.Loop.for (k0_t8_loop v) hok ⟨⟩ body = .ret ⟨⟩ := Scf.for_eq_ret _ _ _ _ _ _ (Scf.rem_trips _ _)
  rw [e, wp_ret]
  iintro H
  imodintro
  iexact H

theorem t10_wp (v : BitVec 32) (hok : (k0_t10_loop v).OK) (body : Fin (k0_t10_loop v).trips → Unit → Prog (TpuEff nD τ sig (Elt F) Λ₀ (.scVector (cV L) (jV L))) Unit) (Q : Unit → sProp 𝕄) :
    Q ⟨⟩ ⊢ wp frame (wpE (defs₀ (F := F)) 𝒱₀ (thr d L) none) Set.univ (Scf.Loop.for (k0_t10_loop v) hok ⟨⟩ body) Q := by
  have e : Scf.Loop.for (k0_t10_loop v) hok ⟨⟩ body = .ret ⟨⟩ := Scf.for_eq_ret _ _ _ _ _ _ (Scf.rem_trips _ _)
  rw [e, wp_ret]
  iintro H
  imodintro
  iexact H

set_option maxHeartbeats 4000000 in
theorem trip (hF : (K (F := F)).Facts) (O : CellTallies nD τ sig (HIx 1)) (W : Waits sig (HIx 1)) (hO : ∀ g, O g none = 0)
    (t : Fin k0_t6_loop.trips) (v11 v28 : BitVec 32) (nf : Vec F S128 .i32) (hv : (lenW L nf t).toInt ≤ 1280)
    (mC : Buf (Elt F) ((cW L t).view.loc (thr d L))) (mP : Buf (Elt F) ((pW0 L t).view.loc (thr d L))) (mO mO' : Buf (Elt F) ((oW0 L t).view.loc (thr d L)))
    (hc : ∀ k, InRow (chunk ((cW L t).view.read (Elt F) mC) k))
    (ho0 : (oW0 L t).view.read (Elt F) mO' = rowV ((cW L t).view.read (Elt F) mC) ((pW0 L t).view.read (Elt F) mP) (k0_t7_loop (lenW L nf t)).trips)
    (ho1 : (oW1 L t).view.read (Elt F) mO' = rowV ((cW L t).view.read (Elt F) mC) ((pW1 L t).view.read (Elt F) mP) (k0_t7_loop (lenW L nf t)).trips)
    (ho2 : (oW2 L t).view.read (Elt F) mO' = rowV ((cW L t).view.read (Elt F) mC) ((pW2 L t).view.read (Elt F) mP) (k0_t7_loop (lenW L nf t)).trips)
    (ho3 : (oW3 L t).view.read (Elt F) mO' = rowV ((cW L t).view.read (Elt F) mC) ((pW3 L t).view.read (Elt F) mP) (k0_t7_loop (lenW L nf t)).trips)
    (ho4 : (oW4 L t).view.read (Elt F) mO' = rowV ((cW L t).view.read (Elt F) mC) ((pW4 L t).view.read (Elt F) mP) (k0_t7_loop (lenW L nf t)).trips)
    (fC : Vec F S1280 .i32) (fP0 fP1 fP2 fP3 fP4 : Vec F S1280 .f32)
    (_plan : Transfers.BatchOf (thr d L) (SemLoc.dma (sig := sig) cc0_scratch12.sem) 6)
    (_plan' : Transfers.BatchOf (thr d L) (SemLoc.dma (sig := sig) cc0_scratch13.sem) 5) :
    iprop(levAts (K (F := F)).L (K (F := F)).lev ∗ own d L sN nf ∗ own d L sC fC ∗ own d L sP0 fP0 ∗ own d L sP1 fP1 ∗ own d L sP2 fP2 ∗ own d L sP3 fP3 ∗ own d L sP4 fP4 ∗ own d L sB0 zrow ∗ own d L sB1 zrow ∗ own d L sB2 zrow ∗ own d L sB3 zrow ∗ own d L sB4 zrow ∗ win d L (cW L t) mC ∗ win d L (pW0 L t) mP ∗ win d L (pW1 L t) mP ∗ win d L (pW2 L t) mP ∗ win d L (pW3 L t) mP ∗ win d L (pW4 L t) mP ∗ win d L (oW0 L t) mO ∗ win d L (oW1 L t) mO ∗ win d L (oW2 L t) mO ∗ win d L (oW3 L t) mO ∗ win d L (oW4 L t) mO ∗ semVal (thr d L, SemLoc.dma cc0_scratch12.sem) 0 ∗ semVal (thr d L, SemLoc.dma cc0_scratch13.sem) 0 ∗ owes (thr d L) O W)
      ⊢ wp frame (wpE (defs₀ (F := F)) 𝒱₀ (thr d L) none) Set.univ (k0_t6_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 v28 k0_pay2 t ())
        fun _ => iprop(own d L sN nf ∗ (∃ fC, own d L sC fC) ∗ (∃ fP, own d L sP0 fP) ∗ (∃ fP, own d L sP1 fP) ∗ (∃ fP, own d L sP2 fP) ∗ (∃ fP, own d L sP3 fP) ∗ (∃ fP, own d L sP4 fP) ∗ own d L sB0 zrow ∗ own d L sB1 zrow ∗ own d L sB2 zrow ∗ own d L sB3 zrow ∗ own d L sB4 zrow ∗ win d L (cW L t) mC ∗ win d L (pW0 L t) mP ∗ win d L (pW1 L t) mP ∗ win d L (pW2 L t) mP ∗ win d L (pW3 L t) mP ∗ win d L (pW4 L t) mP ∗ win d L (oW0 L t) mO' ∗ win d L (oW1 L t) mO' ∗ win d L (oW2 L t) mO' ∗ win d L (oW3 L t) mO' ∗ win d L (oW4 L t) mO' ∗ semVal (thr d L, SemLoc.dma cc0_scratch12.sem) 0 ∗ semVal (thr d L, SemLoc.dma cc0_scratch13.sem) 0
          ∗ ∃ W', ⌜∀ p ∈ W', p ∈ W ∨ p.2 = none⌝ ∗ owes (thr d L) O W') := by
  iintro ⟨#Hlv, HN, HC, HP0, HP1, HP2, HP3, HP4, HB0, HB1, HB2, HB3, HB4, HcW, HpW0, HpW1, HpW2, HpW3, HpW4, HoW0, HoW1, HoW2, HoW3, HoW4, Hs, Hs', HO⟩
  ihave Hmw := ((K (F := F)).mayWaits_none (thr := thr d L) hO) $$ Hlv
  unfold k0_t6_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, Prog.bind_assoc]
  iapply (ld_step d L (M := sN) nf _ rfl) $$ HN; iintro HN
  have hk := chk1_of _ hv
  rw [wp_assume_of _ _ _ _ hk]
  sl_exec
  rw [wr_sC, show trip.sl.dma0 d L t mC = (cW L t).view.read (Elt F) mC from rfl]
  rw [wr_sP0, show trip.sl.dma1 d L t mP = (pW0 L t).view.read (Elt F) mP from rfl]
  rw [wr_sP1, show trip.sl.dma2 d L t mP = (pW1 L t).view.read (Elt F) mP from rfl]
  rw [wr_sP2, show trip.sl.dma3 d L t mP = (pW2 L t).view.read (Elt F) mP from rfl]
  rw [wr_sP3, show trip.sl.dma4 d L t mP = (pW3 L t).view.read (Elt F) mP from rfl]
  rw [wr_sP4, show trip.sl.dma5 d L t mP = (pW4 L t).view.read (Elt F) mP from rfl]
  rw [wp_bind]
  iapply (t7_loop d L v11 t _ _ hv _ _ ((cW L t).view.read (Elt F) mC) ((pW0 L t).view.read (Elt F) mP) ((pW1 L t).view.read (Elt F) mP) ((pW2 L t).view.read (Elt F) mP) ((pW3 L t).view.read (Elt F) mP) ((pW4 L t).view.read (Elt F) mP) hc)
  isplitl [HC HP0 HP1 HP2 HP3 HP4 HB0 HB1 HB2 HB3 HB4]
  · isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexact HB0
    isplitl [HB1]; · iexact HB1
    isplitl [HB2]; · iexact HB2
    isplitl [HB3]; · iexact HB3
    iexact HB4
  iintro ⟨HC, HP0, HP1, HP2, HP3, HP4, HB0, HB1, HB2, HB3, HB4⟩
  obtain ⟨b0, hb0⟩ : ∃ b, rowV ((cW L t).view.read (Elt F) mC) ((pW0 L t).view.read (Elt F) mP) (k0_t7_loop (lenW L nf t)).trips = b := ⟨_, rfl⟩
  ihave HB0 := (Entails.of_eq (congrArg (own d L sB0) hb0)) $$ HB0
  obtain ⟨b1, hb1⟩ : ∃ b, rowV ((cW L t).view.read (Elt F) mC) ((pW1 L t).view.read (Elt F) mP) (k0_t7_loop (lenW L nf t)).trips = b := ⟨_, rfl⟩
  ihave HB1 := (Entails.of_eq (congrArg (own d L sB1) hb1)) $$ HB1
  obtain ⟨b2, hb2⟩ : ∃ b, rowV ((cW L t).view.read (Elt F) mC) ((pW2 L t).view.read (Elt F) mP) (k0_t7_loop (lenW L nf t)).trips = b := ⟨_, rfl⟩
  ihave HB2 := (Entails.of_eq (congrArg (own d L sB2) hb2)) $$ HB2
  obtain ⟨b3, hb3⟩ : ∃ b, rowV ((cW L t).view.read (Elt F) mC) ((pW3 L t).view.read (Elt F) mP) (k0_t7_loop (lenW L nf t)).trips = b := ⟨_, rfl⟩
  ihave HB3 := (Entails.of_eq (congrArg (own d L sB3) hb3)) $$ HB3
  obtain ⟨b4, hb4⟩ : ∃ b, rowV ((cW L t).view.read (Elt F) mC) ((pW4 L t).view.read (Elt F) mP) (k0_t7_loop (lenW L nf t)).trips = b := ⟨_, rfl⟩
  ihave HB4 := (Entails.of_eq (congrArg (own d L sB4) hb4)) $$ HB4
  rw [hb0] at ho0
  rw [hb1] at ho1
  rw [hb2] at ho2
  rw [hb3] at ho3
  rw [hb4] at ho4
  rw [wp_bind]
  iapply (t8_wp d L _ _ _ _)
  simp only [Prog.bind_op, Prog.bind_ret]
  sl_exec
  rw [show trip.sl.dma0_1 b0 = b0 from rfl]
  ihave HoW0 := (Entails.of_eq (win_written d L (oW0 L t) _ mO' b0 ho0)) $$ HoW0
  rw [show trip.sl.dma1_1 b1 = b1 from rfl]
  ihave HoW1 := (Entails.of_eq (win_written d L (oW1 L t) _ mO' b1 ho1)) $$ HoW1
  rw [show trip.sl.dma2_1 b2 = b2 from rfl]
  ihave HoW2 := (Entails.of_eq (win_written d L (oW2 L t) _ mO' b2 ho2)) $$ HoW2
  rw [show trip.sl.dma3_1 b3 = b3 from rfl]
  ihave HoW3 := (Entails.of_eq (win_written d L (oW3 L t) _ mO' b3 ho3)) $$ HoW3
  rw [show trip.sl.dma4_1 b4 = b4 from rfl]
  ihave HoW4 := (Entails.of_eq (win_written d L (oW4 L t) _ mO' b4 ho4)) $$ HoW4
  rw [wp_bind]
  iapply (t9_loop d L _ _ hv _ ((cW L t).view.read (Elt F) mC) b0 b1 b2 b3 b4 hc)
  isplitl [HC HB0 HB1 HB2 HB3 HB4]
  · isplitl [HC]; · iexact HC
    isplitl [HB0]; · iexact HB0
    isplitl [HB1]; · iexact HB1
    isplitl [HB2]; · iexact HB2
    isplitl [HB3]; · iexact HB3
    iexact HB4
  iintro ⟨HC, HB0, HB1, HB2, HB3, HB4⟩
  rw [wp_bind]
  iapply (t10_wp d L _ _ _ _)
  ihave HB0 := (Entails.of_eq (congrArg (own d L sB0) (show clrV ((cW L t).view.read (Elt F) mC) b0 (k0_t9_loop (lenW L nf t)).trips = zrow from by rw [← hb0]; exact clrV_rowV _ _ _))) $$ HB0
  ihave HB1 := (Entails.of_eq (congrArg (own d L sB1) (show clrV ((cW L t).view.read (Elt F) mC) b1 (k0_t9_loop (lenW L nf t)).trips = zrow from by rw [← hb1]; exact clrV_rowV _ _ _))) $$ HB1
  ihave HB2 := (Entails.of_eq (congrArg (own d L sB2) (show clrV ((cW L t).view.read (Elt F) mC) b2 (k0_t9_loop (lenW L nf t)).trips = zrow from by rw [← hb2]; exact clrV_rowV _ _ _))) $$ HB2
  ihave HB3 := (Entails.of_eq (congrArg (own d L sB3) (show clrV ((cW L t).view.read (Elt F) mC) b3 (k0_t9_loop (lenW L nf t)).trips = zrow from by rw [← hb3]; exact clrV_rowV _ _ _))) $$ HB3
  ihave HB4 := (Entails.of_eq (congrArg (own d L sB4) (show clrV ((cW L t).view.read (Elt F) mC) b4 (k0_t9_loop (lenW L nf t)).trips = zrow from by rw [← hb4]; exact clrV_rowV _ _ _))) $$ HB4
  rw [wp_ret]
  imodintro
  isplitl [HN]; · iexact HN
  isplitl [HC]
  · iexists _; iexact HC
  isplitl [HP0]
  · iexists _; iexact HP0
  isplitl [HP1]
  · iexists _; iexact HP1
  isplitl [HP2]
  · iexists _; iexact HP2
  isplitl [HP3]
  · iexists _; iexact HP3
  isplitl [HP4]
  · iexists _; iexact HP4
  isplitl [HB0]; · iexact HB0
  isplitl [HB1]; · iexact HB1
  isplitl [HB2]; · iexact HB2
  isplitl [HB3]; · iexact HB3
  isplitl [HB4]; · iexact HB4
  isplitl [HcW]; · iexact HcW
  isplitl [HpW0]; · iexact HpW0
  isplitl [HpW1]; · iexact HpW1
  isplitl [HpW2]; · iexact HpW2
  isplitl [HpW3]; · iexact HpW3
  isplitl [HpW4]; · iexact HpW4
  isplitl [HoW0]; · iexact HoW0
  isplitl [HoW1]; · iexact HoW1
  isplitl [HoW2]; · iexact HoW2
  isplitl [HoW3]; · iexact HoW3
  isplitl [HoW4]; · iexact HoW4
  isplitl [Hs]; · iexact Hs
  isplitl [Hs']; · iexact Hs'
  iexists _
  isplitr
  rotate_left
  · iexact HO
  · ipureintro
    repeat (first | exact fun p hp => .inl hp | refine ins_none ?_)

end Trip

end Cert.Proof.HistI
-- ==== Proof.HistIFill.lean ====
/-
  The scratch rows are cleared, sixteen elements at a time.
-/
module

public import proofs.«01_k».proof.Proof.HistITile

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Fill

variable (d : Dev nD) (L : grid0.Coords)

theorem st_step {s : Shape} {e : EltTy} {M : Memref sig .scVector .vmem s e} {r : Rect s} {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ (.scVector (cV L) (jV L))) PUnit} {Q : PUnit → sProp 𝕄}
    (f : Buf (Elt F) (M.view.loc (thr d L))) :
    own d L M f
      ⊢ iprop((own d L M ((M.access r).write (Elt F) f w Finset.univ) -∗ wp frame (wpE (defs₀ (F := F)) 𝒱₀ (thr d L) none) Set.univ (k ⟨⟩) Q)
        -∗ wp frame (wpE (defs₀ (F := F)) 𝒱₀ (thr d L) none) Set.univ (.op (.store M r w Finset.univ hx hm) k) Q) :=
  wp_store 𝒱₀ (thr d L) none Set.univ (m := M) (r := r) (Mk := Finset.univ) (S := Finset.univ) (Finset.subset_univ _)

/-- The first `16 k` elements are zero. -/
def Filled (f : Vec F S4096 .f32) (k : ℕ) : Prop := ∀ x : S4096.Idx, (x 0).val < 16 * k → f x = zrow x

theorem Filled.all {f : Vec F S4096 .f32} (h : Filled f 256) : f = zrow := by
  funext x
  exact h x (lt_of_lt_of_eq (x 0).isLt rfl)

theorem fill1 (f : Vec F S4096 .f32) (o : Fin 1 → ℕ) (hi : ∀ a, o a + S16.size a ≤ S4096.size a) (k : ℕ) (ho : o 0 = 16 * k) (hf : Filled f k) :
    Filled ((sB0.access (Rect.unit (s := S4096) o S16.size hi)).write (Elt F) f (k0_pay2 (F := F)) Finset.univ) (k + 1) := by
  intro x hx
  by_cases h : x ∈ (sB0.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf1_val : ∀ k : Fin k0_t1_loop.trips, k0_off1 k 0 = 16 * k.val := by decide +kernel

theorem t1_step (k : Fin k0_t1_loop.trips) :
    iprop(∃ f, ⌜Filled f k.val⌝ ∗ own d L sB0 f)
      ⊢ wp frame (wpE (defs₀ (F := F)) 𝒱₀ (thr d L) none) Set.univ (k0_t1_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB0 f) := by
  iintro ⟨%f, %hf, HB⟩
  unfold k0_t1_body
  simp only [Prog.lift, Prog.bind_op, Prog.bind_ret, Prog.pure_eq_ret]
  iapply (ld_step d L (M := sB0) f _ rfl) $$ HB; iintro HB
  iapply (st_step d L (M := sB0) f) $$ HB; iintro HB
  rw [wp_ret]
  imodintro
  iexists _
  isplitr
  rotate_left
  · iexact HB
  · ipureintro
    exact fill1 f _ _ k.val (offf1_val k) hf

theorem t1_loop (hok : k0_t1_loop.OK) (f : Vec F S4096 .f32) (Q : Unit → sProp 𝕄) :
    iprop(own d L sB0 f ∗ (own d L sB0 zrow -∗ Q ()))
      ⊢ wp frame (wpE (defs₀ (F := F)) 𝒱₀ (thr d L) none) Set.univ (Scf.Loop.for k0_t1_loop hok ⟨⟩ (k0_t1_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t1_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB0 f))
    (fun k _ => t1_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

theorem fill2 (f : Vec F S4096 .f32) (o : Fin 1 → ℕ) (hi : ∀ a, o a + S16.size a ≤ S4096.size a) (k : ℕ) (ho : o 0 = 16 * k) (hf : Filled f k) :
    Filled ((sB1.access (Rect.unit (s := S4096) o S16.size hi)).write (Elt F) f (k0_pay2 (F := F)) Finset.univ) (k + 1) := by
  intro x hx
  by_cases h : x ∈ (sB1.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf2_val : ∀ k : Fin k0_t2_loop.trips, k0_off2 k 0 = 16 * k.val := by decide +kernel

theorem t2_step (k : Fin k0_t2_loop.trips) :
    iprop(∃ f, ⌜Filled f k.val⌝ ∗ own d L sB1 f)
      ⊢ wp frame (wpE (defs₀ (F := F)) 𝒱₀ (thr d L) none) Set.univ (k0_t2_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB1 f) := by
  iintro ⟨%f, %hf, HB⟩
  unfold k0_t2_body
  simp only [Prog.lift, Prog.bind_op, Prog.bind_ret, Prog.pure_eq_ret]
  iapply (ld_step d L (M := sB1) f _ rfl) $$ HB; iintro HB
  iapply (st_step d L (M := sB1) f) $$ HB; iintro HB
  rw [wp_ret]
  imodintro
  iexists _
  isplitr
  rotate_left
  · iexact HB
  · ipureintro
    exact fill2 f _ _ k.val (offf2_val k) hf

theorem t2_loop (hok : k0_t2_loop.OK) (f : Vec F S4096 .f32) (Q : Unit → sProp 𝕄) :
    iprop(own d L sB1 f ∗ (own d L sB1 zrow -∗ Q ()))
      ⊢ wp frame (wpE (defs₀ (F := F)) 𝒱₀ (thr d L) none) Set.univ (Scf.Loop.for k0_t2_loop hok ⟨⟩ (k0_t2_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t2_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB1 f))
    (fun k _ => t2_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

theorem fill3 (f : Vec F S4096 .f32) (o : Fin 1 → ℕ) (hi : ∀ a, o a + S16.size a ≤ S4096.size a) (k : ℕ) (ho : o 0 = 16 * k) (hf : Filled f k) :
    Filled ((sB2.access (Rect.unit (s := S4096) o S16.size hi)).write (Elt F) f (k0_pay2 (F := F)) Finset.univ) (k + 1) := by
  intro x hx
  by_cases h : x ∈ (sB2.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf3_val : ∀ k : Fin k0_t3_loop.trips, k0_off3 k 0 = 16 * k.val := by decide +kernel

theorem t3_step (k : Fin k0_t3_loop.trips) :
    iprop(∃ f, ⌜Filled f k.val⌝ ∗ own d L sB2 f)
      ⊢ wp frame (wpE (defs₀ (F := F)) 𝒱₀ (thr d L) none) Set.univ (k0_t3_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB2 f) := by
  iintro ⟨%f, %hf, HB⟩
  unfold k0_t3_body
  simp only [Prog.lift, Prog.bind_op, Prog.bind_ret, Prog.pure_eq_ret]
  iapply (ld_step d L (M := sB2) f _ rfl) $$ HB; iintro HB
  iapply (st_step d L (M := sB2) f) $$ HB; iintro HB
  rw [wp_ret]
  imodintro
  iexists _
  isplitr
  rotate_left
  · iexact HB
  · ipureintro
    exact fill3 f _ _ k.val (offf3_val k) hf

theorem t3_loop (hok : k0_t3_loop.OK) (f : Vec F S4096 .f32) (Q : Unit → sProp 𝕄) :
    iprop(own d L sB2 f ∗ (own d L sB2 zrow -∗ Q ()))
      ⊢ wp frame (wpE (defs₀ (F := F)) 𝒱₀ (thr d L) none) Set.univ (Scf.Loop.for k0_t3_loop hok ⟨⟩ (k0_t3_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t3_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB2 f))
    (fun k _ => t3_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

theorem fill4 (f : Vec F S4096 .f32) (o : Fin 1 → ℕ) (hi : ∀ a, o a + S16.size a ≤ S4096.size a) (k : ℕ) (ho : o 0 = 16 * k) (hf : Filled f k) :
    Filled ((sB3.access (Rect.unit (s := S4096) o S16.size hi)).write (Elt F) f (k0_pay2 (F := F)) Finset.univ) (k + 1) := by
  intro x hx
  by_cases h : x ∈ (sB3.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf4_val : ∀ k : Fin k0_t4_loop.trips, k0_off4 k 0 = 16 * k.val := by decide +kernel

theorem t4_step (k : Fin k0_t4_loop.trips) :
    iprop(∃ f, ⌜Filled f k.val⌝ ∗ own d L sB3 f)
      ⊢ wp frame (wpE (defs₀ (F := F)) 𝒱₀ (thr d L) none) Set.univ (k0_t4_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB3 f) := by
  iintro ⟨%f, %hf, HB⟩
  unfold k0_t4_body
  simp only [Prog.lift, Prog.bind_op, Prog.bind_ret, Prog.pure_eq_ret]
  iapply (ld_step d L (M := sB3) f _ rfl) $$ HB; iintro HB
  iapply (st_step d L (M := sB3) f) $$ HB; iintro HB
  rw [wp_ret]
  imodintro
  iexists _
  isplitr
  rotate_left
  · iexact HB
  · ipureintro
    exact fill4 f _ _ k.val (offf4_val k) hf

theorem t4_loop (hok : k0_t4_loop.OK) (f : Vec F S4096 .f32) (Q : Unit → sProp 𝕄) :
    iprop(own d L sB3 f ∗ (own d L sB3 zrow -∗ Q ()))
      ⊢ wp frame (wpE (defs₀ (F := F)) 𝒱₀ (thr d L) none) Set.univ (Scf.Loop.for k0_t4_loop hok ⟨⟩ (k0_t4_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t4_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB3 f))
    (fun k _ => t4_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

theorem fill5 (f : Vec F S4096 .f32) (o : Fin 1 → ℕ) (hi : ∀ a, o a + S16.size a ≤ S4096.size a) (k : ℕ) (ho : o 0 = 16 * k) (hf : Filled f k) :
    Filled ((sB4.access (Rect.unit (s := S4096) o S16.size hi)).write (Elt F) f (k0_pay2 (F := F)) Finset.univ) (k + 1) := by
  intro x hx
  by_cases h : x ∈ (sB4.access (Rect.unit (s := S4096) o S16.size hi)).setOn Finset.univ
  · obtain ⟨y, -, rfl⟩ := Finset.mem_map.mp h
    rw [View.write_emb_of_mem _ _ (Finset.mem_univ y)]; rfl
  · refine (View.write_of_not_mem _ _ _ h).trans (hf x ?_)
    by_contra hlt
    refine h (Finset.mem_map.mpr ⟨fun a => ⟨(x 0).val - 16 * k, ?_⟩, Finset.mem_univ _, ?_⟩)
    · have e : (Rect.unit (s := S4096) o S16.size hi).shape.size a = 16 := by
        have : a = 0 := Subsingleton.elim (α := Fin 1) _ _
        subst this; rfl
      rw [e]; omega
    · funext a
      have : a = 0 := Subsingleton.elim (α := Fin 1) _ _
      subst this
      apply Fin.ext
      show o 0 + 1 * ((x 0).val - 16 * k) = (x 0).val
      omega

theorem offf5_val : ∀ k : Fin k0_t5_loop.trips, k0_off5 k 0 = 16 * k.val := by decide +kernel

theorem t5_step (k : Fin k0_t5_loop.trips) :
    iprop(∃ f, ⌜Filled f k.val⌝ ∗ own d L sB4 f)
      ⊢ wp frame (wpE (defs₀ (F := F)) 𝒱₀ (thr d L) none) Set.univ (k0_t5_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2 k ())
        fun _ => iprop(∃ f, ⌜Filled f (k.val + 1)⌝ ∗ own d L sB4 f) := by
  iintro ⟨%f, %hf, HB⟩
  unfold k0_t5_body
  simp only [Prog.lift, Prog.bind_op, Prog.bind_ret, Prog.pure_eq_ret]
  iapply (ld_step d L (M := sB4) f _ rfl) $$ HB; iintro HB
  iapply (st_step d L (M := sB4) f) $$ HB; iintro HB
  rw [wp_ret]
  imodintro
  iexists _
  isplitr
  rotate_left
  · iexact HB
  · ipureintro
    exact fill5 f _ _ k.val (offf5_val k) hf

theorem t5_loop (hok : k0_t5_loop.OK) (f : Vec F S4096 .f32) (Q : Unit → sProp 𝕄) :
    iprop(own d L sB4 f ∗ (own d L sB4 zrow -∗ Q ()))
      ⊢ wp frame (wpE (defs₀ (F := F)) 𝒱₀ (thr d L) none) Set.univ (Scf.Loop.for k0_t5_loop hok ⟨⟩ (k0_t5_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)) Q := by
  have H := Scf.wp_for frame (wpE (defs₀ (F := F)) 𝒱₀ (thr d L) none) Set.univ _ _ _ hok () (k0_t5_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 k0_pay2)
    (fun k _ => iprop(∃ f, ⌜Filled f k⌝ ∗ own d L sB4 f))
    (fun k _ => t5_step d L k) (Q := Q)
  refine BIBase.Entails.trans ?_ H
  iintro ⟨HI, HQ⟩
  isplitl [HI]
  · iexists f
    isplitr
    · ipureintro; exact fun x hx => absurd hx (Nat.not_lt_zero _)
    · iexact HI
  · iintro %_ ⟨%g, %hg, HB⟩
    have e : g = zrow := Filled.all hg
    subst e
    iapply HQ; iexact HB

end Fill

end Cert.Proof.HistI
-- ==== Proof.HistIBody.lean ====
/-
  The fourteen trips of a vector subcore's task, and the task.
-/
module

public import proofs.«01_k».proof.Proof.HistITrip
public import proofs.«01_k».proof.Proof.HistIFill

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable (d : Dev nD) (L : grid0.Coords)

/-- The rows of one trip: the codes, the weights, and the results at `o`. -/
abbrev item (mC : Buf (Elt F) (aC.view.loc (thr d L))) (mP : Buf (Elt F) (aP.view.loc (thr d L))) (o : Buf (Elt F) (aO.view.loc (thr d L))) (t : Fin k0_t6_loop.trips) : sProp 𝕄 :=
  iprop(win d L (cW L t) mC ∗ win d L (pW0 L t) mP ∗ win d L (pW1 L t) mP ∗ win d L (pW2 L t) mP ∗ win d L (pW3 L t) mP ∗ win d L (pW4 L t) mP ∗ win d L (oW0 L t) o ∗ win d L (oW1 L t) o ∗ win d L (oW2 L t) o ∗ win d L (oW3 L t) o ∗ win d L (oW4 L t) o)

theorem bigSep_take {I : Type} [DecidableEq I] (s : Finset I) (t : I) (ht : t ∈ s) (Φ : I → sProp 𝕄) :
    bigSep s Φ = iprop(Φ t ∗ bigSep (s.erase t) Φ) := SparseCore.bigSep_erase' ht

/-- Before trip `k`. -/
def inv6 (O : CellTallies nD τ sig (HIx 1)) (W : Waits sig (HIx 1)) (nf : Vec F S128 .i32) (mC : Buf (Elt F) (aC.view.loc (thr d L))) (mP : Buf (Elt F) (aP.view.loc (thr d L)))
    (mO mO' : Buf (Elt F) (aO.view.loc (thr d L))) (k : ℕ) : sProp 𝕄 :=
  iprop(levAts (K (F := F)).L (K (F := F)).lev ∗ own d L sN nf ∗ (∃ fC, own d L sC fC) ∗ (∃ fP, own d L sP0 fP) ∗ (∃ fP, own d L sP1 fP) ∗ (∃ fP, own d L sP2 fP) ∗ (∃ fP, own d L sP3 fP) ∗ (∃ fP, own d L sP4 fP) ∗ own d L sB0 zrow ∗ own d L sB1 zrow ∗ own d L sB2 zrow ∗ own d L sB3 zrow ∗ own d L sB4 zrow
    ∗ (bigSep Finset.univ fun t : Fin k0_t6_loop.trips => item d L mC mP (if t.val < k then mO' else mO) t)
    ∗ semVal (thr d L, SemLoc.dma cc0_scratch12.sem) 0 ∗ semVal (thr d L, SemLoc.dma cc0_scratch13.sem) 0 ∗ ∃ W', ⌜∀ p ∈ W', p ∈ W ∨ p.2 = none⌝ ∗ owes (thr d L) O W')

/-- What the result array holds, on the rows of trip `t`. -/
structure RowsOf (nf : Vec F S128 .i32) (mC : Buf (Elt F) (aC.view.loc (thr d L))) (mP : Buf (Elt F) (aP.view.loc (thr d L))) (mO' : Buf (Elt F) (aO.view.loc (thr d L))) (t : Fin k0_t6_loop.trips) : Prop where
  hv : (lenW L nf t).toInt ≤ 1280
  hc : ∀ k, InRow (chunk ((cW L t).view.read (Elt F) mC) k)
  h0 : (oW0 L t).view.read (Elt F) mO' = rowV ((cW L t).view.read (Elt F) mC) ((pW0 L t).view.read (Elt F) mP) (k0_t7_loop (lenW L nf t)).trips
  h1 : (oW1 L t).view.read (Elt F) mO' = rowV ((cW L t).view.read (Elt F) mC) ((pW1 L t).view.read (Elt F) mP) (k0_t7_loop (lenW L nf t)).trips
  h2 : (oW2 L t).view.read (Elt F) mO' = rowV ((cW L t).view.read (Elt F) mC) ((pW2 L t).view.read (Elt F) mP) (k0_t7_loop (lenW L nf t)).trips
  h3 : (oW3 L t).view.read (Elt F) mO' = rowV ((cW L t).view.read (Elt F) mC) ((pW3 L t).view.read (Elt F) mP) (k0_t7_loop (lenW L nf t)).trips
  h4 : (oW4 L t).view.read (Elt F) mO' = rowV ((cW L t).view.read (Elt F) mC) ((pW4 L t).view.read (Elt F) mP) (k0_t7_loop (lenW L nf t)).trips

theorem t6_step (hF : (K (F := F)).Facts) (O : CellTallies nD τ sig (HIx 1)) (W : Waits sig (HIx 1)) (hO : ∀ g, O g none = 0) (v11 v28 : BitVec 32)
    (nf : Vec F S128 .i32) (mC : Buf (Elt F) (aC.view.loc (thr d L))) (mP : Buf (Elt F) (aP.view.loc (thr d L))) (mO mO' : Buf (Elt F) (aO.view.loc (thr d L)))
    (hR : ∀ t, RowsOf d L nf mC mP mO' t) (k : Fin k0_t6_loop.trips) :
    inv6 d L O W nf mC mP mO mO' k.val
      ⊢ wp frame (wpE (defs₀ (F := F)) 𝒱₀ (thr d L) none) Set.univ (k0_t6_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 v28 k0_pay2 k ())
        fun _ => inv6 d L O W nf mC mP mO mO' (k.val + 1) := by
  unfold inv6
  rw [bigSep_take Finset.univ k (Finset.mem_univ k) fun t => item d L mC mP (if t.val < k.val then mO' else mO) t,
    bigSep_take Finset.univ k (Finset.mem_univ k) fun t => item d L mC mP (if t.val < k.val + 1 then mO' else mO) t,
    if_neg (Nat.lt_irrefl k.val), if_pos (Nat.lt_succ_self k.val),
    bigSep_congr (s := Finset.univ.erase k) (Ψ := fun t => item d L mC mP (if t.val < k.val then mO' else mO) t) (Φ := fun t => item d L mC mP (if t.val < k.val + 1 then mO' else mO) t) (fun t ht => by
      have hne : t.val ≠ k.val := fun e => (Finset.mem_erase.mp ht).1 (Fin.ext e)
      have e : (t.val < k.val + 1) = (t.val < k.val) := propext ⟨fun h => by omega, fun h => by omega⟩
      simp only [e])]
  iintro ⟨#Hlv, HN, ⟨%fC, HC⟩, ⟨%fP0, HP0⟩, ⟨%fP1, HP1⟩, ⟨%fP2, HP2⟩, ⟨%fP3, HP3⟩, ⟨%fP4, HP4⟩, HB0, HB1, HB2, HB3, HB4, ⟨⟨HcW, HpW0, HpW1, HpW2, HpW3, HpW4, HoW0, HoW1, HoW2, HoW3, HoW4⟩, Hrest⟩, Hs, Hs', %W', %hW', HO⟩
  have R := hR k
  have T := trip d L hF O W' hO k v11 v28 nf R.hv mC mP mO mO' R.hc R.h0 R.h1 R.h2 R.h3 R.h4 fC fP0 fP1 fP2 fP3 fP4 trivial trivial
  iapply (wp_wand_r frame (wpE (defs₀ (F := F)) 𝒱₀ (thr d L) none) Set.univ)
  isplitl [HN HC HP0 HP1 HP2 HP3 HP4 HB0 HB1 HB2 HB3 HB4 HcW HpW0 HpW1 HpW2 HpW3 HpW4 HoW0 HoW1 HoW2 HoW3 HoW4 Hs Hs' HO]
  · iapply T
    isplitr; · iexact Hlv
    isplitl [HN]; · iexact HN
    isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexact HB0
    isplitl [HB1]; · iexact HB1
    isplitl [HB2]; · iexact HB2
    isplitl [HB3]; · iexact HB3
    isplitl [HB4]; · iexact HB4
    isplitl [HcW]; · iexact HcW
    isplitl [HpW0]; · iexact HpW0
    isplitl [HpW1]; · iexact HpW1
    isplitl [HpW2]; · iexact HpW2
    isplitl [HpW3]; · iexact HpW3
    isplitl [HpW4]; · iexact HpW4
    isplitl [HoW0]; · iexact HoW0
    isplitl [HoW1]; · iexact HoW1
    isplitl [HoW2]; · iexact HoW2
    isplitl [HoW3]; · iexact HoW3
    isplitl [HoW4]; · iexact HoW4
    isplitl [Hs]; · iexact Hs
    isplitl [Hs']; · iexact Hs'
    iexact HO
  · iintro %_ ⟨HN, HC, HP0, HP1, HP2, HP3, HP4, HB0, HB1, HB2, HB3, HB4, HcW, HpW0, HpW1, HpW2, HpW3, HpW4, HoW0, HoW1, HoW2, HoW3, HoW4, Hs, Hs', %W'', %hW'', HO⟩
    isplitr; · iexact Hlv
    isplitl [HN]; · iexact HN
    isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexact HB0
    isplitl [HB1]; · iexact HB1
    isplitl [HB2]; · iexact HB2
    isplitl [HB3]; · iexact HB3
    isplitl [HB4]; · iexact HB4
    isplitl [HcW HpW0 HpW1 HpW2 HpW3 HpW4 HoW0 HoW1 HoW2 HoW3 HoW4 Hrest]
    · isplitl [HcW HpW0 HpW1 HpW2 HpW3 HpW4 HoW0 HoW1 HoW2 HoW3 HoW4]
      · isplitl [HcW]; · iexact HcW
        isplitl [HpW0]; · iexact HpW0
        isplitl [HpW1]; · iexact HpW1
        isplitl [HpW2]; · iexact HpW2
        isplitl [HpW3]; · iexact HpW3
        isplitl [HpW4]; · iexact HpW4
        isplitl [HoW0]; · iexact HoW0
        isplitl [HoW1]; · iexact HoW1
        isplitl [HoW2]; · iexact HoW2
        isplitl [HoW3]; · iexact HoW3
        iexact HoW4
      · iexact Hrest
    isplitl [Hs]; · iexact Hs
    isplitl [Hs']; · iexact Hs'
    iexists W''
    isplitr
    · ipureintro
      intro p hp
      rcases hW'' p hp with h | h
      · exact hW' p h
      · exact .inr h
    · iexact HO

end Body

end Cert.Proof.HistI
-- ==== Proof.HistIRows.lean ====
/-
  The windows of the trips, as the rows of the arrays.
-/
module

public import proofs.«01_k».proof.Proof.HistIWin

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Rows

/-! ## The windows as sets of elements -/

/-- Element `n` of the one row of a window. -/
abbrev y1280 (x : S1280.Idx) : S1x1x1280.Idx := fun | 0 => (0 : Fin 1) | 1 => (0 : Fin 1) | 2 => x 0
abbrev y4096 (x : S4096.Idx) : S1x1x4096.Idx := fun | 0 => (0 : Fin 1) | 1 => (0 : Fin 1) | 2 => x 0

theorem rs1280 (h : S1280.numel = S1x1x1280.numel) (x : S1280.Idx) : Shape.reshapeEquiv h x = y1280 x := by
  refine Shape.reshapeEquiv_eq_of_rowMajor h ?_
  refine (Shape.rowMajor_val_three (y1280 x)).trans ?_
  refine Eq.trans ?_ (Shape.rowMajor_val_one x).symm
  simp
theorem rs4096 (h : S4096.numel = S1x1x4096.numel) (x : S4096.Idx) : Shape.reshapeEquiv h x = y4096 x := by
  refine Shape.reshapeEquiv_eq_of_rowMajor h ?_
  refine (Shape.rowMajor_val_three (y4096 x)).trans ?_
  refine Eq.trans ?_ (Shape.rowMajor_val_one x).symm
  simp

theorem b_lt (L : grid0.Coords) (t : Fin k0_t6_loop.trips) : bOf L t < 112 := by
  have h0 : (L 0).val < 2 := (L 0).isLt
  have h1 : (L 1).val < 16 := (L 1).isLt
  have h2 : t.val < 14 := t.isLt
  unfold bOf; omega
theorem g_lt (L : grid0.Coords) : gOf L < 4 := by
  unfold gOf; omega

/-- Element `l` of the row `(b, h)` of the codes, of the weights, of the results. -/
abbrev cIx (L : grid0.Coords) (t : Fin k0_t6_loop.trips) (x : S1280.Idx) : S112x4x1280.Idx :=
  fun | 0 => (⟨bOf L t, b_lt L t⟩ : Fin 112) | 1 => (⟨gOf L, g_lt L⟩ : Fin 4) | 2 => x 0
abbrev pIx (L : grid0.Coords) (t : Fin k0_t6_loop.trips) (j : Fin 5) (x : S1280.Idx) : S112x20x1280.Idx :=
  fun | 0 => (⟨bOf L t, b_lt L t⟩ : Fin 112) | 1 => (⟨5 * gOf L + j.val, by have := g_lt L; omega⟩ : Fin 20) | 2 => x 0
abbrev oIx (L : grid0.Coords) (t : Fin k0_t6_loop.trips) (j : Fin 5) (x : S4096.Idx) : S112x20x4096.Idx :=
  fun | 0 => (⟨bOf L t, b_lt L t⟩ : Fin 112) | 1 => (⟨5 * gOf L + j.val, by have := g_lt L; omega⟩ : Fin 20) | 2 => x 0

theorem cW_emb (L : grid0.Coords) (t : Fin k0_t6_loop.trips) (x : S1280.Idx) : (cW L t).view.emb x = cIx L t x := by
  show (Rect.unit (s := S112x4x1280) (k0_off7 L t) S1x1x1280.size (k0_off7_inb L t)).emb (Shape.reshapeEquiv _ x) = _
  rw [rs1280]
  have e := off7_eq L t
  funext a
  apply Fin.ext
  show k0_off7 L t a + 1 * (y1280 x a).val = _
  rw [e]
  match a with
  | 0 => rfl
  | 1 => rfl
  | 2 => show 0 + 1 * (x 0).val = (x 0).val; omega

theorem pW0_emb (L : grid0.Coords) (t : Fin k0_t6_loop.trips) (x : S1280.Idx) : (pW0 L t).view.emb x = pIx L t 0 x := by
  show (Rect.unit (s := S112x20x1280) (k0_off8 L t 0#32) S1x1x1280.size (k0_off8_inb L t 0)).emb (Shape.reshapeEquiv _ x) = _
  rw [rs1280]
  have e : k0_off8 L t 0#32 = _ := off8_eq L t 0
  funext a
  apply Fin.ext
  show k0_off8 L t 0#32 a + 1 * (y1280 x a).val = _
  rw [e]
  match a with
  | 0 => rfl
  | 1 => rfl
  | 2 => show 0 + 1 * (x 0).val = (x 0).val; omega

theorem oW0_emb (L : grid0.Coords) (t : Fin k0_t6_loop.trips) (x : S4096.Idx) : (oW0 L t).view.emb x = oIx L t 0 x := by
  show (Rect.unit (s := S112x20x4096) (k0_off13 L t 0#32) S1x1x4096.size (k0_off13_inb L t 0)).emb (Shape.reshapeEquiv _ x) = _
  rw [rs4096]
  have e : k0_off13 L t 0#32 = _ := off13_eq L t 0
  funext a
  apply Fin.ext
  show k0_off13 L t 0#32 a + 1 * (y4096 x a).val = _
  rw [e]
  match a with
  | 0 => rfl
  | 1 => rfl
  | 2 => show 0 + 1 * (x 0).val = (x 0).val; omega

theorem pW1_emb (L : grid0.Coords) (t : Fin k0_t6_loop.trips) (x : S1280.Idx) : (pW1 L t).view.emb x = pIx L t 1 x := by
  show (Rect.unit (s := S112x20x1280) (k0_off8 L t 1#32) S1x1x1280.size (k0_off8_inb L t 1)).emb (Shape.reshapeEquiv _ x) = _
  rw [rs1280]
  have e : k0_off8 L t 1#32 = _ := off8_eq L t 1
  funext a
  apply Fin.ext
  show k0_off8 L t 1#32 a + 1 * (y1280 x a).val = _
  rw [e]
  match a with
  | 0 => rfl
  | 1 => rfl
  | 2 => show 0 + 1 * (x 0).val = (x 0).val; omega

theorem oW1_emb (L : grid0.Coords) (t : Fin k0_t6_loop.trips) (x : S4096.Idx) : (oW1 L t).view.emb x = oIx L t 1 x := by
  show (Rect.unit (s := S112x20x4096) (k0_off13 L t 1#32) S1x1x4096.size (k0_off13_inb L t 1)).emb (Shape.reshapeEquiv _ x) = _
  rw [rs4096]
  have e : k0_off13 L t 1#32 = _ := off13_eq L t 1
  funext a
  apply Fin.ext
  show k0_off13 L t 1#32 a + 1 * (y4096 x a).val = _
  rw [e]
  match a with
  | 0 => rfl
  | 1 => rfl
  | 2 => show 0 + 1 * (x 0).val = (x 0).val; omega

theorem pW2_emb (L : grid0.Coords) (t : Fin k0_t6_loop.trips) (x : S1280.Idx) : (pW2 L t).view.emb x = pIx L t 2 x := by
  show (Rect.unit (s := S112x20x1280) (k0_off8 L t 2#32) S1x1x1280.size (k0_off8_inb L t 2)).emb (Shape.reshapeEquiv _ x) = _
  rw [rs1280]
  have e : k0_off8 L t 2#32 = _ := off8_eq L t 2
  funext a
  apply Fin.ext
  show k0_off8 L t 2#32 a + 1 * (y1280 x a).val = _
  rw [e]
  match a with
  | 0 => rfl
  | 1 => rfl
  | 2 => show 0 + 1 * (x 0).val = (x 0).val; omega

theorem oW2_emb (L : grid0.Coords) (t : Fin k0_t6_loop.trips) (x : S4096.Idx) : (oW2 L t).view.emb x = oIx L t 2 x := by
  show (Rect.unit (s := S112x20x4096) (k0_off13 L t 2#32) S1x1x4096.size (k0_off13_inb L t 2)).emb (Shape.reshapeEquiv _ x) = _
  rw [rs4096]
  have e : k0_off13 L t 2#32 = _ := off13_eq L t 2
  funext a
  apply Fin.ext
  show k0_off13 L t 2#32 a + 1 * (y4096 x a).val = _
  rw [e]
  match a with
  | 0 => rfl
  | 1 => rfl
  | 2 => show 0 + 1 * (x 0).val = (x 0).val; omega

theorem pW3_emb (L : grid0.Coords) (t : Fin k0_t6_loop.trips) (x : S1280.Idx) : (pW3 L t).view.emb x = pIx L t 3 x := by
  show (Rect.unit (s := S112x20x1280) (k0_off8 L t 3#32) S1x1x1280.size (k0_off8_inb L t 3)).emb (Shape.reshapeEquiv _ x) = _
  rw [rs1280]
  have e : k0_off8 L t 3#32 = _ := off8_eq L t 3
  funext a
  apply Fin.ext
  show k0_off8 L t 3#32 a + 1 * (y1280 x a).val = _
  rw [e]
  match a with
  | 0 => rfl
  | 1 => rfl
  | 2 => show 0 + 1 * (x 0).val = (x 0).val; omega

theorem oW3_emb (L : grid0.Coords) (t : Fin k0_t6_loop.trips) (x : S4096.Idx) : (oW3 L t).view.emb x = oIx L t 3 x := by
  show (Rect.unit (s := S112x20x4096) (k0_off13 L t 3#32) S1x1x4096.size (k0_off13_inb L t 3)).emb (Shape.reshapeEquiv _ x) = _
  rw [rs4096]
  have e : k0_off13 L t 3#32 = _ := off13_eq L t 3
  funext a
  apply Fin.ext
  show k0_off13 L t 3#32 a + 1 * (y4096 x a).val = _
  rw [e]
  match a with
  | 0 => rfl
  | 1 => rfl
  | 2 => show 0 + 1 * (x 0).val = (x 0).val; omega

theorem pW4_emb (L : grid0.Coords) (t : Fin k0_t6_loop.trips) (x : S1280.Idx) : (pW4 L t).view.emb x = pIx L t 4 x := by
  show (Rect.unit (s := S112x20x1280) (k0_off8 L t 4#32) S1x1x1280.size (k0_off8_inb L t 4)).emb (Shape.reshapeEquiv _ x) = _
  rw [rs1280]
  have e : k0_off8 L t 4#32 = _ := off8_eq L t 4
  funext a
  apply Fin.ext
  show k0_off8 L t 4#32 a + 1 * (y1280 x a).val = _
  rw [e]
  match a with
  | 0 => rfl
  | 1 => rfl
  | 2 => show 0 + 1 * (x 0).val = (x 0).val; omega

theorem oW4_emb (L : grid0.Coords) (t : Fin k0_t6_loop.trips) (x : S4096.Idx) : (oW4 L t).view.emb x = oIx L t 4 x := by
  show (Rect.unit (s := S112x20x4096) (k0_off13 L t 4#32) S1x1x4096.size (k0_off13_inb L t 4)).emb (Shape.reshapeEquiv _ x) = _
  rw [rs4096]
  have e : k0_off13 L t 4#32 = _ := off13_eq L t 4
  funext a
  apply Fin.ext
  show k0_off13 L t 4#32 a + 1 * (y4096 x a).val = _
  rw [e]
  match a with
  | 0 => rfl
  | 1 => rfl
  | 2 => show 0 + 1 * (x 0).val = (x 0).val; omega

/-- The rows, by their first two coordinates. -/
def cS (L : grid0.Coords) (t : Fin k0_t6_loop.trips) : Finset S112x4x1280.Idx := Finset.univ.filter fun i => (i 0).val = bOf L t ∧ (i 1).val = gOf L
def pS (L : grid0.Coords) (t : Fin k0_t6_loop.trips) (j : Fin 5) : Finset S112x20x1280.Idx := Finset.univ.filter fun i => (i 0).val = bOf L t ∧ (i 1).val = 5 * gOf L + j.val
def oS (L : grid0.Coords) (t : Fin k0_t6_loop.trips) (j : Fin 5) : Finset S112x20x4096.Idx := Finset.univ.filter fun i => (i 0).val = bOf L t ∧ (i 1).val = 5 * gOf L + j.val

theorem cW_set (L : grid0.Coords) (t : Fin k0_t6_loop.trips) : (cW L t).view.set = cS L t := by
  ext i
  refine Iff.trans (Finset.mem_map (f := (cW L t).view.emb)) ?_
  refine Iff.trans ?_ (Finset.mem_filter.trans ⟨fun h => h.2, fun h => ⟨Finset.mem_univ _, h⟩⟩).symm
  constructor
  · rintro ⟨x, -, rfl⟩
    rw [cW_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [cW_emb]
    funext a
    apply Fin.ext
    match a with
    | 0 => exact h0.symm
    | 1 => exact h1.symm
    | 2 => rfl

theorem pW0_set (L : grid0.Coords) (t : Fin k0_t6_loop.trips) : (pW0 L t).view.set = pS L t 0 := by
  ext i
  refine Iff.trans (Finset.mem_map (f := (pW0 L t).view.emb)) ?_
  refine Iff.trans ?_ (Finset.mem_filter.trans ⟨fun h => h.2, fun h => ⟨Finset.mem_univ _, h⟩⟩).symm
  constructor
  · rintro ⟨x, -, rfl⟩
    rw [pW0_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW0_emb]
    funext a
    apply Fin.ext
    match a with
    | 0 => exact h0.symm
    | 1 => exact h1.symm
    | 2 => rfl

theorem oW0_set (L : grid0.Coords) (t : Fin k0_t6_loop.trips) : (oW0 L t).view.set = oS L t 0 := by
  ext i
  refine Iff.trans (Finset.mem_map (f := (oW0 L t).view.emb)) ?_
  refine Iff.trans ?_ (Finset.mem_filter.trans ⟨fun h => h.2, fun h => ⟨Finset.mem_univ _, h⟩⟩).symm
  constructor
  · rintro ⟨x, -, rfl⟩
    rw [oW0_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW0_emb]
    funext a
    apply Fin.ext
    match a with
    | 0 => exact h0.symm
    | 1 => exact h1.symm
    | 2 => rfl

theorem pW1_set (L : grid0.Coords) (t : Fin k0_t6_loop.trips) : (pW1 L t).view.set = pS L t 1 := by
  ext i
  refine Iff.trans (Finset.mem_map (f := (pW1 L t).view.emb)) ?_
  refine Iff.trans ?_ (Finset.mem_filter.trans ⟨fun h => h.2, fun h => ⟨Finset.mem_univ _, h⟩⟩).symm
  constructor
  · rintro ⟨x, -, rfl⟩
    rw [pW1_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW1_emb]
    funext a
    apply Fin.ext
    match a with
    | 0 => exact h0.symm
    | 1 => exact h1.symm
    | 2 => rfl

theorem oW1_set (L : grid0.Coords) (t : Fin k0_t6_loop.trips) : (oW1 L t).view.set = oS L t 1 := by
  ext i
  refine Iff.trans (Finset.mem_map (f := (oW1 L t).view.emb)) ?_
  refine Iff.trans ?_ (Finset.mem_filter.trans ⟨fun h => h.2, fun h => ⟨Finset.mem_univ _, h⟩⟩).symm
  constructor
  · rintro ⟨x, -, rfl⟩
    rw [oW1_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW1_emb]
    funext a
    apply Fin.ext
    match a with
    | 0 => exact h0.symm
    | 1 => exact h1.symm
    | 2 => rfl

theorem pW2_set (L : grid0.Coords) (t : Fin k0_t6_loop.trips) : (pW2 L t).view.set = pS L t 2 := by
  ext i
  refine Iff.trans (Finset.mem_map (f := (pW2 L t).view.emb)) ?_
  refine Iff.trans ?_ (Finset.mem_filter.trans ⟨fun h => h.2, fun h => ⟨Finset.mem_univ _, h⟩⟩).symm
  constructor
  · rintro ⟨x, -, rfl⟩
    rw [pW2_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW2_emb]
    funext a
    apply Fin.ext
    match a with
    | 0 => exact h0.symm
    | 1 => exact h1.symm
    | 2 => rfl

theorem oW2_set (L : grid0.Coords) (t : Fin k0_t6_loop.trips) : (oW2 L t).view.set = oS L t 2 := by
  ext i
  refine Iff.trans (Finset.mem_map (f := (oW2 L t).view.emb)) ?_
  refine Iff.trans ?_ (Finset.mem_filter.trans ⟨fun h => h.2, fun h => ⟨Finset.mem_univ _, h⟩⟩).symm
  constructor
  · rintro ⟨x, -, rfl⟩
    rw [oW2_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW2_emb]
    funext a
    apply Fin.ext
    match a with
    | 0 => exact h0.symm
    | 1 => exact h1.symm
    | 2 => rfl

theorem pW3_set (L : grid0.Coords) (t : Fin k0_t6_loop.trips) : (pW3 L t).view.set = pS L t 3 := by
  ext i
  refine Iff.trans (Finset.mem_map (f := (pW3 L t).view.emb)) ?_
  refine Iff.trans ?_ (Finset.mem_filter.trans ⟨fun h => h.2, fun h => ⟨Finset.mem_univ _, h⟩⟩).symm
  constructor
  · rintro ⟨x, -, rfl⟩
    rw [pW3_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW3_emb]
    funext a
    apply Fin.ext
    match a with
    | 0 => exact h0.symm
    | 1 => exact h1.symm
    | 2 => rfl

theorem oW3_set (L : grid0.Coords) (t : Fin k0_t6_loop.trips) : (oW3 L t).view.set = oS L t 3 := by
  ext i
  refine Iff.trans (Finset.mem_map (f := (oW3 L t).view.emb)) ?_
  refine Iff.trans ?_ (Finset.mem_filter.trans ⟨fun h => h.2, fun h => ⟨Finset.mem_univ _, h⟩⟩).symm
  constructor
  · rintro ⟨x, -, rfl⟩
    rw [oW3_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW3_emb]
    funext a
    apply Fin.ext
    match a with
    | 0 => exact h0.symm
    | 1 => exact h1.symm
    | 2 => rfl

theorem pW4_set (L : grid0.Coords) (t : Fin k0_t6_loop.trips) : (pW4 L t).view.set = pS L t 4 := by
  ext i
  refine Iff.trans (Finset.mem_map (f := (pW4 L t).view.emb)) ?_
  refine Iff.trans ?_ (Finset.mem_filter.trans ⟨fun h => h.2, fun h => ⟨Finset.mem_univ _, h⟩⟩).symm
  constructor
  · rintro ⟨x, -, rfl⟩
    rw [pW4_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [pW4_emb]
    funext a
    apply Fin.ext
    match a with
    | 0 => exact h0.symm
    | 1 => exact h1.symm
    | 2 => rfl

theorem oW4_set (L : grid0.Coords) (t : Fin k0_t6_loop.trips) : (oW4 L t).view.set = oS L t 4 := by
  ext i
  refine Iff.trans (Finset.mem_map (f := (oW4 L t).view.emb)) ?_
  refine Iff.trans ?_ (Finset.mem_filter.trans ⟨fun h => h.2, fun h => ⟨Finset.mem_univ _, h⟩⟩).symm
  constructor
  · rintro ⟨x, -, rfl⟩
    rw [oW4_emb]; exact ⟨rfl, rfl⟩
  · rintro ⟨h0, h1⟩
    refine ⟨fun a => ⟨(i 2).val, by have : a = 0 := Subsingleton.elim (α := Fin 1) _ _; subst this; exact (i 2).isLt⟩, Finset.mem_univ _, ?_⟩
    rw [oW4_emb]
    funext a
    apply Fin.ext
    match a with
    | 0 => exact h0.symm
    | 1 => exact h1.symm
    | 2 => rfl

end Rows

end Cert.Proof.HistI
-- ==== Proof.HistICore.lean ====
/-
  The task of one vector subcore.
-/
module

public import proofs.«01_k».proof.Proof.HistIBody
public import proofs.«01_k».proof.Proof.HistIRows

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Core

variable (d : Dev nD) (L : grid0.Coords)

/-- The first 112 words of the lengths' scratch. -/
abbrev nW : Memref sig .scVector .vmem S112 .i32 := sN.slice (Rect.unit (s := S128) ![0] S112.size inb_S128_S112_0) (fun _ => rfl)

/-- A share of an array in HBM. -/
abbrev lend {s : Shape} {e : EltTy} (M : Memref sig .scVector .hbm s e) (q : PosShare TreeShare) (f : Buf (Elt F) (M.view.loc (thr d L))) : sProp 𝕄 :=
  M.view.loc (thr d L) ↦{q} f

/-- A window of a scratch. -/
abbrev ownW {s : Shape} {e : EltTy} (M : Memref sig .scVector .vmem s e) (f : Buf (Elt F) (M.view.loc (thr d L))) : sProp 𝕄 :=
  M.view.loc (thr d L) ↦[M.view.set]{fullShare} f

/-- The scratch but for a window. -/
abbrev ownR {s : Shape} {e : EltTy} (M : Memref sig .scVector .vmem s e) (f : Buf (Elt F) (M.view.loc (thr d L))) : sProp 𝕄 :=
  M.view.loc (thr d L) ↦[Finset.univ \ M.view.set]{fullShare} f

theorem own_split (f : Vec F S128 .i32) : own d L sN f ⊣⊢ iprop(ownW d L nW f ∗ ownR d L nW f) :=
  pointsTo_split_subset (ℓ := sN.view.loc (thr d L)) (I := nW.view.set) (S := Finset.univ) (Finset.subset_univ _)

theorem writes_rest (f : Vec F S128 .i32) (w : Vec F S112 .i32) :
    ownR d L nW f = ownR d L nW (nW.view.writes (Elt F) f [⟨Rect.whole S112, w⟩]) := by
  refine pointsTo_congr fun i hi => ?_
  have hn := (Finset.mem_sdiff.mp hi).2
  symm
  show (nW.view.slice (Rect.whole S112)).write (Elt F) f _ Finset.univ i = f i
  refine View.write_of_not_mem _ _ _ fun hm => ?_
  obtain ⟨x, -, rfl⟩ := Finset.mem_map.mp hm
  exact hn (Finset.mem_map.mpr ⟨(Rect.whole S112).emb x, Finset.mem_univ _, rfl⟩)

/-- Where a trip's length lies. -/
abbrev nIx (t : Fin k0_t6_loop.trips) : S112.Idx := fun | 0 => (⟨bOf L t, b_lt L t⟩ : Fin 112)

theorem lens_written (f : Vec F S128 .i32) (w : Vec F S112 .i32) (t : Fin k0_t6_loop.trips) :
    lenW (F := F) L (nW.view.writes (Elt F) f [⟨Rect.whole S112, w⟩]) t = w (nIx L t) := by
  show (nW.view.slice (Rect.whole S112)).write (Elt F) f _ Finset.univ ((Rect.unit (s := S128) (k0_off6 L t) S16.size (k0_off6_inb L t)).emb _) = _
  have e : ∀ y, (y 0).val = 0 → (Rect.unit (s := S128) (k0_off6 L t) S16.size (k0_off6_inb L t)).emb y = (nW.view.slice (Rect.whole S112)).emb (nIx L t) := by
    intro y hy
    funext a
    match a with
    | 0 =>
      apply Fin.ext
      show k0_off6 L t 0 + 1 * (y 0).val = 0 + 1 * (0 + 1 * bOf L t)
      rw [off6_eq, hy]; omega
  rw [e _ rfl, View.write_emb_of_mem _ _ (Finset.mem_univ _)]
  rfl

theorem pro (O : CellTallies nD τ sig (HIx 1)) (W : Waits sig (HIx 1)) (hO : ∀ g, O g none = 0) (q : PosShare TreeShare)
    (mN : Vec F S112 .i32) (fN : Vec F S128 .i32) :
    iprop(levAts (K (F := F)).L (K (F := F)).lev ∗ lend d L aN q mN ∗ own d L sN fN ∗ semVal (thr d L, SemLoc.dma cc0_scoped0.sem) 0 ∗ owes (thr d L) O W)
      ⊢ wp frame (wpE (defs₀ (F := F)) 𝒱₀ (thr d L) none) Set.univ (k0_part5 (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0)
        fun r => iprop(⌜r.2.2.1 = k0_pay2⌝ ∗ lend d L aN q mN ∗ (∃ nf, ⌜∀ t, lenW L nf t = mN (nIx L t)⌝ ∗ own d L sN nf) ∗ semVal (thr d L, SemLoc.dma cc0_scoped0.sem) 0
          ∗ ∃ W', ⌜∀ p ∈ W', p ∈ W ∨ p.2 = none⌝ ∗ owes (thr d L) O W') := by
  iintro ⟨#Hlv, HL, HN, Hs, HO⟩
  ihave Hmw := ((K (F := F)).mayWaits_none (thr := thr d L) hO) $$ Hlv
  ihave ⟨HN, HN'⟩ := (own_split d L fN).1 $$ HN
  simp only [k0_part5_eq_skeleton]; unfold k0_part5_skel
  sl_exec
  rw [wp_ret]; imodintro
  ihave HN' := (Entails.of_eq (writes_rest d L fN mN)) $$ HN'
  isplitr; · ipureintro; rfl
  isplitl [HL]; · iexact HL
  isplitl [HN HN']
  · iexists (nW.view.writes (Elt F) fN [⟨Rect.whole S112, mN⟩])
    isplitr
    · ipureintro
      exact fun t => lens_written L fN _ t
    · iapply (own_split d L (nW.view.writes (Elt F) fN [⟨Rect.whole S112, mN⟩])).2
      isplitl [HN]; · iexact HN
      iexact HN'
  isplitl [Hs]; · iexact Hs
  iexists _
  isplitr; rotate_left
  · iexact HO
  · ipureintro
    repeat (first | exact fun p hp => .inl hp | refine ins_none ?_)

/-- All the trips. -/
theorem t6_loop (hF : (K (F := F)).Facts) (O : CellTallies nD τ sig (HIx 1)) (W : Waits sig (HIx 1)) (hO : ∀ g, O g none = 0) (v11 v28 : BitVec 32)
    (nf : Vec F S128 .i32) (mC : Buf (Elt F) (aC.view.loc (thr d L))) (mP : Buf (Elt F) (aP.view.loc (thr d L))) (mO mO' : Buf (Elt F) (aO.view.loc (thr d L)))
    (hR : ∀ t, RowsOf d L nf mC mP mO' t) (hok : k0_t6_loop.OK) (Q : Unit → sProp 𝕄) :
    iprop(inv6 d L O W nf mC mP mO mO' 0 ∗ (inv6 d L O W nf mC mP mO mO' k0_t6_loop.trips -∗ Q ()))
      ⊢ wp frame (wpE (defs₀ (F := F)) 𝒱₀ (thr d L) none) Set.univ (Scf.Loop.for k0_t6_loop hok ⟨⟩ (k0_t6_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 v28 k0_pay2)) Q := by
  have H := Scf.wp_for frame (wpE (defs₀ (F := F)) 𝒱₀ (thr d L) none) Set.univ _ _ _ hok () (k0_t6_body (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0 v11 v28 k0_pay2)
    (fun k _ => inv6 d L O W nf mC mP mO mO' k)
    (fun k _ => t6_step d L hF O W hO v11 v28 nf mC mP mO mO' hR k) (Q := Q)
  refine BIBase.Entails.trans ?_ H
  iintro ⟨Hi, HQ⟩
  isplitl [Hi]; · iexact Hi
  iintro %_ H
  iapply HQ
  iexact H

/-- The task's scratch, at any contents. -/
abbrev scr : sProp 𝕄 :=
  iprop((∃ f, own d L sN f) ∗ (∃ f, own d L sC f) ∗ (∃ f, own d L sP0 f) ∗ (∃ f, own d L sP1 f) ∗ (∃ f, own d L sP2 f) ∗ (∃ f, own d L sP3 f) ∗ (∃ f, own d L sP4 f)
    ∗ (∃ f, own d L sB0 f) ∗ (∃ f, own d L sB1 f) ∗ (∃ f, own d L sB2 f) ∗ (∃ f, own d L sB3 f) ∗ (∃ f, own d L sB4 f))

/-- The task of one vector subcore. -/
theorem tile_core (hF : (K (F := F)).Facts) (O : CellTallies nD τ sig (HIx 1)) (W : Waits sig (HIx 1)) (hO : ∀ g, O g none = 0) (q : PosShare TreeShare)
    (mN : Vec F S112 .i32) (mC : Buf (Elt F) (aC.view.loc (thr d L))) (mP : Buf (Elt F) (aP.view.loc (thr d L))) (mO mO' : Buf (Elt F) (aO.view.loc (thr d L)))
    (hR : ∀ nf : Vec F S128 .i32, (∀ t, lenW L nf t = mN (nIx L t)) → ∀ t, RowsOf d L nf mC mP mO' t) :
    iprop(levAts (K (F := F)).L (K (F := F)).lev ∗ lend d L aN q mN ∗ (bigSep Finset.univ fun t : Fin k0_t6_loop.trips => item d L mC mP mO t) ∗ scr d L
        ∗ semVal (thr d L, SemLoc.dma cc0_scoped0.sem) 0 ∗ semVal (thr d L, SemLoc.dma cc0_scratch12.sem) 0 ∗ semVal (thr d L, SemLoc.dma cc0_scratch13.sem) 0 ∗ owes (thr d L) O W)
      ⊢ wp frame (wpE (defs₀ (F := F)) 𝒱₀ (thr d L) none) Set.univ (cc0_histogram (F := F) L aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0)
        fun _ => iprop(lend d L aN q mN ∗ (bigSep Finset.univ fun t : Fin k0_t6_loop.trips => item d L mC mP mO' t) ∗ scr d L
        ∗ semVal (thr d L, SemLoc.dma cc0_scoped0.sem) 0 ∗ semVal (thr d L, SemLoc.dma cc0_scratch12.sem) 0 ∗ semVal (thr d L, SemLoc.dma cc0_scratch13.sem) 0
        ∗ ∃ W', ⌜∀ p ∈ W', p ∈ W ∨ p.2 = none⌝ ∗ owes (thr d L) O W') := by
  iintro ⟨#Hlv, HL, HI, ⟨⟨%fN, HN⟩, ⟨%fC, HC⟩, ⟨%fP0, HP0⟩, ⟨%fP1, HP1⟩, ⟨%fP2, HP2⟩, ⟨%fP3, HP3⟩, ⟨%fP4, HP4⟩, ⟨%fB0, HB0⟩, ⟨%fB1, HB1⟩, ⟨%fB2, HB2⟩, ⟨%fB3, HB3⟩, ⟨%fB4, HB4⟩⟩, Hs0, Hs, Hs', HO⟩
  simp only [cc0_histogram_eq_skeleton]; unfold cc0_histogram_skel
  rw [wp_bind]
  iapply (wp_wand_r frame (wpE (defs₀ (F := F)) 𝒱₀ (thr d L) none) Set.univ)
  isplitl [HL HN Hs0 HO]
  · iapply (pro d L O W hO q mN fN)
    isplitr; · iexact Hlv
    isplitl [HL]; · iexact HL
    isplitl [HN]; · iexact HN
    isplitl [Hs0]; · iexact Hs0
    iexact HO
  iintro %r ⟨%hr, HL, ⟨%nf, %hnf, HN⟩, Hs0, %W₀, %hW₀, HO⟩
  obtain ⟨v11, v28, v29, c0⟩ := r
  obtain rfl : v29 = k0_pay2 := hr
  rw [wp_bind]
  iapply (t1_loop d L k0_t1_ok _ _)
  isplitl [HB0]; · iexact HB0
  iintro HB0
  rw [wp_bind]
  iapply (t2_loop d L k0_t2_ok _ _)
  isplitl [HB1]; · iexact HB1
  iintro HB1
  rw [wp_bind]
  iapply (t3_loop d L k0_t3_ok _ _)
  isplitl [HB2]; · iexact HB2
  iintro HB2
  rw [wp_bind]
  iapply (t4_loop d L k0_t4_ok _ _)
  isplitl [HB3]; · iexact HB3
  iintro HB3
  rw [wp_bind]
  iapply (t5_loop d L k0_t5_ok _ _)
  isplitl [HB4]; · iexact HB4
  iintro HB4
  rw [wp_bind]
  iapply (t6_loop d L hF O W₀ hO v11 v28 nf mC mP mO mO' (hR nf hnf) k0_t6_ok _)
  unfold inv6
  isplitl [HN HC HP0 HP1 HP2 HP3 HP4 HB0 HB1 HB2 HB3 HB4 HI Hs Hs' HO]
  · isplitr; · iexact Hlv
    isplitl [HN]; · iexact HN
    isplitl [HC]; · iexists fC; iexact HC
    isplitl [HP0]; · iexists fP0; iexact HP0
    isplitl [HP1]; · iexists fP1; iexact HP1
    isplitl [HP2]; · iexists fP2; iexact HP2
    isplitl [HP3]; · iexists fP3; iexact HP3
    isplitl [HP4]; · iexists fP4; iexact HP4
    isplitl [HB0]; · iexact HB0
    isplitl [HB1]; · iexact HB1
    isplitl [HB2]; · iexact HB2
    isplitl [HB3]; · iexact HB3
    isplitl [HB4]; · iexact HB4
    isplitl [HI]
    · ihave HI := (Entails.of_eq (show (bigSep Finset.univ fun t : Fin k0_t6_loop.trips => item d L mC mP mO t) = (bigSep Finset.univ fun t : Fin k0_t6_loop.trips => item d L mC mP (if t.val < 0 then mO' else mO) t) from
        bigSep_congr fun t _ => by simp only [Nat.not_lt_zero, if_false])) $$ HI
      iexact HI
    isplitl [Hs]; · iexact Hs
    isplitl [Hs']; · iexact Hs'
    iexists W₀
    isplitr
    · ipureintro; exact fun p hp => .inl hp
    · iexact HO
  iintro ⟨-, HN, HC, HP0, HP1, HP2, HP3, HP4, HB0, HB1, HB2, HB3, HB4, HI, Hs, Hs', %W₁, %hW₁, HO⟩
  rw [wp_pure]; imodintro
  isplitl [HL]; · iexact HL
  isplitl [HI]
  · rw [bigSep_congr (s := Finset.univ) (Ψ := fun t : Fin k0_t6_loop.trips => item d L mC mP (if t.val < k0_t6_loop.trips then mO' else mO) t) (Φ := fun t => item d L mC mP mO' t) (fun t _ => by rw [if_pos t.isLt])]
    iexact HI
  isplitl [HN HC HP0 HP1 HP2 HP3 HP4 HB0 HB1 HB2 HB3 HB4]
  · isplitl [HN]; · iexists nf; iexact HN
    isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexists zrow; iexact HB0
    isplitl [HB1]; · iexists zrow; iexact HB1
    isplitl [HB2]; · iexists zrow; iexact HB2
    isplitl [HB3]; · iexists zrow; iexact HB3
    iexists zrow; iexact HB4
  isplitl [Hs0]; · iexact Hs0
  isplitl [Hs]; · iexact Hs
  isplitl [Hs']; · iexact Hs'
  iexists W₁
  isplitr
  · ipureintro
    intro p hp
    rcases hW₁ p hp with h | h
    · exact hW₀ p h
    · exact .inr h
  · iexact HO

end Core

end Cert.Proof.HistI
-- ==== Proof.HistILay.lean ====
/-
  The arrays, cut into what each vector subcore's task is handed.
-/
module

public import proofs.«01_k».proof.Proof.HistICore
public import proofs.«01_k».proof.Proof.HistIRows

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Lay

/-- The arrays, as locations of device `d`. -/
abbrev pLoc (d : Dev nD) : Loc nD τ sig := (SparseCore.T d).loc main_arg0
abbrev cLoc (d : Dev nD) : Loc nD τ sig := (SparseCore.T d).loc main_arg1
abbrev nLoc (d : Dev nD) : Loc nD τ sig := (SparseCore.T d).loc main_arg2
abbrev oLoc (d : Dev nD) : Loc nD τ sig := (SparseCore.T d).loc main_v0

def coordsV (c : Fin (grid0.bound 0)) (s : Fin (grid0.bound 1)) : grid0.Coords :=
  fun | 0 => c | 1 => s | ⟨_ + 2, h⟩ => absurd h (Nat.not_lt.2 (Nat.le_add_left _ _))

abbrev TC : Type := Fin (grid0.bound 0)
abbrev TI : Type := Fin (grid0.bound 1)
abbrev TT : Type := Fin k0_t6_loop.trips

theorem bOf_coords (c : TC) (i : TI) (t : TT) : bOf (coordsV c i) t = 8 * t.val + (2 * i.val + c.val) / 4 := rfl
theorem gOf_coords (c : TC) (i : TI) : gOf (coordsV c i) = (2 * i.val + c.val) % 4 := rfl

theorem slot_inj {c c' : TC} {i i' : TI} {t t' : TT} (hb : bOf (coordsV c i) t = bOf (coordsV c' i') t') (hg : gOf (coordsV c i) = gOf (coordsV c' i')) :
    c = c' ∧ i = i' ∧ t = t' := by
  rw [bOf_coords, bOf_coords] at hb
  rw [gOf_coords, gOf_coords] at hg
  have h0 : c.val < 2 := c.isLt
  have h1 : i.val < 16 := i.isLt
  have h0' : c'.val < 2 := c'.isLt
  have h1' : i'.val < 16 := i'.isLt
  refine ⟨Fin.ext ?_, Fin.ext ?_, Fin.ext ?_⟩ <;> omega

theorem slot_ex (b g : ℕ) (hb : b < 112) (hg : g < 4) : ∃ (c : TC) (i : TI) (t : TT), b = bOf (coordsV c i) t ∧ g = gOf (coordsV c i) := by
  refine ⟨⟨g % 2, ?_⟩, ⟨(4 * (b % 8) + g) / 2, ?_⟩, ⟨b / 8, ?_⟩, ?_, ?_⟩
  · show g % 2 < 2; omega
  · show (4 * (b % 8) + g) / 2 < 16; omega
  · show b / 8 < 14; omega
  · rw [bOf_coords]; show b = 8 * (b / 8) + (2 * ((4 * (b % 8) + g) / 2) + g % 2) / 4; omega
  · rw [gOf_coords]; show g = (2 * ((4 * (b % 8) + g) / 2) + g % 2) % 4; omega

theorem cPts (d : Dev nD) (f : Buf (Elt F) (cLoc d)) :
    (cLoc d ↦{fullShare} f : sProp 𝕄) = bigSep Finset.univ fun c : TC => bigSep Finset.univ fun i : TI => bigSep Finset.univ fun t : TT => cLoc d ↦[cS (coordsV c i) t]{fullShare} f := by
  refine Eq.trans ?_ ((bigSep_univ_prod (fun x : TC × TI × TT => (cLoc d ↦[cS (coordsV x.1 x.2.1) x.2.2]{fullShare} f : sProp 𝕄))).trans (bigSep_congr fun c _ => bigSep_univ_prod _))
  have hcov : (Finset.univ : Finset _).biUnion (fun x : TC × TI × TT => cS (coordsV x.1 x.2.1) x.2.2) = Finset.univ := by
    refine Finset.eq_univ_iff_forall.mpr fun x => ?_
    obtain ⟨c, i, t, hb, hg⟩ := slot_ex (x 0).val (x 1).val (x 0).isLt (x 1).isLt
    exact Finset.mem_biUnion.mpr ⟨(c, i, t), Finset.mem_univ _, Finset.mem_filter.mpr ⟨Finset.mem_univ _, hb, hg⟩⟩
  rw [← pointsTo_biUnion Finset.univ (ℓ := cLoc d) (fun x : TC × TI × TT => cS (coordsV x.1 x.2.1) x.2.2) ?_, hcov]
  · rintro ⟨c, i, t⟩ - ⟨c', i', t'⟩ - hne
    refine Finset.disjoint_left.mpr fun x h h' => hne ?_
    obtain ⟨hb, hg⟩ := (Finset.mem_filter.mp h).2
    obtain ⟨hb', hg'⟩ := (Finset.mem_filter.mp h').2
    obtain ⟨rfl, rfl, rfl⟩ := slot_inj (hb.symm.trans hb') (hg.symm.trans hg')
    rfl

theorem slot_ex5 (b h : ℕ) (hb : b < 112) (hh : h < 20) : ∃ y : TC × TI × TT × Fin 5, b = bOf (coordsV y.1 y.2.1) y.2.2.1 ∧ h = 5 * gOf (coordsV y.1 y.2.1) + y.2.2.2.val := by
  have hg4 : h / 5 < 4 := by omega
  obtain ⟨c, i, t, e, e'⟩ := slot_ex b (h / 5) hb hg4
  refine ⟨(c, i, t, ⟨h % 5, Nat.mod_lt _ (by decide)⟩), e, ?_⟩
  show h = 5 * gOf (coordsV c i) + h % 5
  rw [← e']; omega

theorem mem_pS (L : grid0.Coords) (t : TT) (j : Fin 5) (x : S112x20x1280.Idx) : x ∈ pS L t j ↔ ((x 0).val = bOf L t ∧ (x 1).val = 5 * gOf L + j.val) := by
  unfold pS; rw [Finset.mem_filter]; exact ⟨fun h => h.2, fun h => ⟨Finset.mem_univ _, h⟩⟩

theorem pS_ex (x : S112x20x1280.Idx) : ∃ y : TC × TI × TT × Fin 5, x ∈ pS (coordsV y.1 y.2.1) y.2.2.1 y.2.2.2 := by
  obtain ⟨y, hy⟩ := slot_ex5 (x 0).val (x 1).val (x 0).isLt (x 1).isLt
  exact ⟨y, (mem_pS _ _ _ x).mpr hy⟩

theorem mem_oS (L : grid0.Coords) (t : TT) (j : Fin 5) (x : S112x20x4096.Idx) : x ∈ oS L t j ↔ ((x 0).val = bOf L t ∧ (x 1).val = 5 * gOf L + j.val) := by
  unfold oS; rw [Finset.mem_filter]; exact ⟨fun h => h.2, fun h => ⟨Finset.mem_univ _, h⟩⟩

theorem oS_ex (x : S112x20x4096.Idx) : ∃ y : TC × TI × TT × Fin 5, x ∈ oS (coordsV y.1 y.2.1) y.2.2.1 y.2.2.2 := by
  obtain ⟨y, hy⟩ := slot_ex5 (x 0).val (x 1).val (x 0).isLt (x 1).isLt
  exact ⟨y, (mem_oS _ _ _ x).mpr hy⟩

theorem pS_cover : (Finset.univ : Finset (TC × TI × TT × Fin 5)).biUnion (fun x : TC × TI × TT × Fin 5 => pS (coordsV x.1 x.2.1) x.2.2.1 x.2.2.2) = Finset.univ := by
  rw [Finset.eq_univ_iff_forall]
  intro x
  have h := pS_ex x
  rw [Finset.mem_biUnion]
  cases h with
  | intro y hy => exact Exists.intro y ⟨Finset.mem_univ _, hy⟩

theorem oS_cover : (Finset.univ : Finset (TC × TI × TT × Fin 5)).biUnion (fun x : TC × TI × TT × Fin 5 => oS (coordsV x.1 x.2.1) x.2.2.1 x.2.2.2) = Finset.univ := by
  rw [Finset.eq_univ_iff_forall]
  intro x
  have h := oS_ex x
  rw [Finset.mem_biUnion]
  cases h with
  | intro y hy => exact Exists.intro y ⟨Finset.mem_univ _, hy⟩

theorem pPts (d : Dev nD) (f : Buf (Elt F) (pLoc d)) :
    (pLoc d ↦{fullShare} f : sProp 𝕄) = bigSep Finset.univ fun c : TC => bigSep Finset.univ fun i : TI => bigSep Finset.univ fun t : TT => bigSep Finset.univ fun j : Fin 5 => pLoc d ↦[pS (coordsV c i) t j]{fullShare} f := by
  refine Eq.trans ?_ ((bigSep_univ_prod (fun x : TC × TI × TT × Fin 5 => (pLoc d ↦[pS (coordsV x.1 x.2.1) x.2.2.1 x.2.2.2]{fullShare} f : sProp 𝕄))).trans
    (bigSep_congr fun c _ => (bigSep_univ_prod _).trans (bigSep_congr fun i _ => bigSep_univ_prod _)))
  rw [← pointsTo_biUnion Finset.univ (ℓ := pLoc d) (fun x : TC × TI × TT × Fin 5 => pS (coordsV x.1 x.2.1) x.2.2.1 x.2.2.2) ?_, pS_cover]
  · rintro ⟨c, i, t, j⟩ - ⟨c', i', t', j'⟩ - hne
    refine Finset.disjoint_left.mpr fun x h h' => hne ?_
    obtain ⟨hb, hg⟩ := (Finset.mem_filter.mp h).2
    obtain ⟨hb', hg'⟩ := (Finset.mem_filter.mp h').2
    have e : 5 * gOf (coordsV c i) + j.val = 5 * gOf (coordsV c' i') + j'.val := hg.symm.trans hg'
    obtain ⟨rfl, rfl, rfl⟩ := slot_inj (hb.symm.trans hb') (by omega)
    obtain rfl : j = j' := Fin.ext (by omega)
    rfl

theorem oPts (d : Dev nD) (f : Buf (Elt F) (oLoc d)) :
    (oLoc d ↦{fullShare} f : sProp 𝕄) = bigSep Finset.univ fun c : TC => bigSep Finset.univ fun i : TI => bigSep Finset.univ fun t : TT => bigSep Finset.univ fun j : Fin 5 => oLoc d ↦[oS (coordsV c i) t j]{fullShare} f := by
  refine Eq.trans ?_ ((bigSep_univ_prod (fun x : TC × TI × TT × Fin 5 => (oLoc d ↦[oS (coordsV x.1 x.2.1) x.2.2.1 x.2.2.2]{fullShare} f : sProp 𝕄))).trans
    (bigSep_congr fun c _ => (bigSep_univ_prod _).trans (bigSep_congr fun i _ => bigSep_univ_prod _)))
  rw [← pointsTo_biUnion Finset.univ (ℓ := oLoc d) (fun x : TC × TI × TT × Fin 5 => oS (coordsV x.1 x.2.1) x.2.2.1 x.2.2.2) ?_, oS_cover]
  · rintro ⟨c, i, t, j⟩ - ⟨c', i', t', j'⟩ - hne
    refine Finset.disjoint_left.mpr fun x h h' => hne ?_
    obtain ⟨hb, hg⟩ := (Finset.mem_filter.mp h).2
    obtain ⟨hb', hg'⟩ := (Finset.mem_filter.mp h').2
    have e : 5 * gOf (coordsV c i) + j.val = 5 * gOf (coordsV c' i') + j'.val := hg.symm.trans hg'
    obtain ⟨rfl, rfl, rfl⟩ := slot_inj (hb.symm.trans hb') (by omega)
    obtain rfl : j = j' := Fin.ext (by omega)
    rfl

/-- The share of the lengths which a task reads. -/
def shr (c : TC) (i : TI) : PosShare TreeShare := Transfers.dealOf (Transfers.dealOf fullShare Finset.univ c) Finset.univ i

theorem nPts (d : Dev nD) (f : Buf (Elt F) (nLoc d)) :
    (nLoc d ↦{fullShare} f : sProp 𝕄) = bigSep Finset.univ fun c : TC => bigSep Finset.univ fun i : TI => nLoc d ↦{shr c i} f := by
  refine (Transfers.pointsTo_deal (Finset.univ : Finset TC) ⟨⟨0, by decide⟩, Finset.mem_univ _⟩ fullShare).trans (bigSep_congr fun c _ => ?_)
  exact Transfers.pointsTo_deal (Finset.univ : Finset TI) ⟨⟨0, by decide⟩, Finset.mem_univ _⟩ _

theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem regroup (c p0 p1 p2 p3 p4 q : sProp 𝕄) : iprop(c ∗ p0 ∗ p1 ∗ p2 ∗ p3 ∗ p4 ∗ q) = iprop(c ∗ (p0 ∗ p1 ∗ p2 ∗ p3 ∗ p4) ∗ q) := by
  refine BI.Entails.antisymm ?_ ?_
  · show iprop(c ∗ p0 ∗ p1 ∗ p2 ∗ p3 ∗ p4 ∗ q) ⊢ iprop(c ∗ (p0 ∗ p1 ∗ p2 ∗ p3 ∗ p4) ∗ q)
    iintro ⟨Hc, H0, H1, H2, H3, H4, Hq⟩
    isplitl [Hc]; · iexact Hc
    isplitr [Hq]
    · isplitl [H0]; · iexact H0
      isplitl [H1]; · iexact H1
      isplitl [H2]; · iexact H2
      isplitl [H3]; · iexact H3
      iexact H4
    · iexact Hq
  · show iprop(c ∗ (p0 ∗ p1 ∗ p2 ∗ p3 ∗ p4) ∗ q) ⊢ iprop(c ∗ p0 ∗ p1 ∗ p2 ∗ p3 ∗ p4 ∗ q)
    iintro ⟨Hc, ⟨H0, H1, H2, H3, H4⟩, Hq⟩
    isplitl [Hc]; · iexact Hc
    isplitl [H0]; · iexact H0
    isplitl [H1]; · iexact H1
    isplitl [H2]; · iexact H2
    isplitl [H3]; · iexact H3
    isplitl [H4]; · iexact H4
    iexact Hq

theorem win_c (d : Dev nD) (L : grid0.Coords) (t : TT) (f : Buf (Elt F) (cLoc d)) : win d L (cW L t) f = (cLoc d ↦[cS L t]{fullShare} f : sProp 𝕄) := by
  unfold win; rw [cW_set]
theorem win_p0 (d : Dev nD) (L : grid0.Coords) (t : TT) (f : Buf (Elt F) (pLoc d)) : win d L (pW0 L t) f = (pLoc d ↦[pS L t 0]{fullShare} f : sProp 𝕄) := by
  unfold win; rw [pW0_set]
theorem win_p1 (d : Dev nD) (L : grid0.Coords) (t : TT) (f : Buf (Elt F) (pLoc d)) : win d L (pW1 L t) f = (pLoc d ↦[pS L t 1]{fullShare} f : sProp 𝕄) := by
  unfold win; rw [pW1_set]
theorem win_p2 (d : Dev nD) (L : grid0.Coords) (t : TT) (f : Buf (Elt F) (pLoc d)) : win d L (pW2 L t) f = (pLoc d ↦[pS L t 2]{fullShare} f : sProp 𝕄) := by
  unfold win; rw [pW2_set]
theorem win_p3 (d : Dev nD) (L : grid0.Coords) (t : TT) (f : Buf (Elt F) (pLoc d)) : win d L (pW3 L t) f = (pLoc d ↦[pS L t 3]{fullShare} f : sProp 𝕄) := by
  unfold win; rw [pW3_set]
theorem win_p4 (d : Dev nD) (L : grid0.Coords) (t : TT) (f : Buf (Elt F) (pLoc d)) : win d L (pW4 L t) f = (pLoc d ↦[pS L t 4]{fullShare} f : sProp 𝕄) := by
  unfold win; rw [pW4_set]
theorem win_o0 (d : Dev nD) (L : grid0.Coords) (t : TT) (f : Buf (Elt F) (oLoc d)) : win d L (oW0 L t) f = (oLoc d ↦[oS L t 0]{fullShare} f : sProp 𝕄) := by
  unfold win; rw [oW0_set]
theorem win_o1 (d : Dev nD) (L : grid0.Coords) (t : TT) (f : Buf (Elt F) (oLoc d)) : win d L (oW1 L t) f = (oLoc d ↦[oS L t 1]{fullShare} f : sProp 𝕄) := by
  unfold win; rw [oW1_set]
theorem win_o2 (d : Dev nD) (L : grid0.Coords) (t : TT) (f : Buf (Elt F) (oLoc d)) : win d L (oW2 L t) f = (oLoc d ↦[oS L t 2]{fullShare} f : sProp 𝕄) := by
  unfold win; rw [oW2_set]
theorem win_o3 (d : Dev nD) (L : grid0.Coords) (t : TT) (f : Buf (Elt F) (oLoc d)) : win d L (oW3 L t) f = (oLoc d ↦[oS L t 3]{fullShare} f : sProp 𝕄) := by
  unfold win; rw [oW3_set]
theorem win_o4 (d : Dev nD) (L : grid0.Coords) (t : TT) (f : Buf (Elt F) (oLoc d)) : win d L (oW4 L t) f = (oLoc d ↦[oS L t 4]{fullShare} f : sProp 𝕄) := by
  unfold win; rw [oW4_set]

theorem item_eq (d : Dev nD) (L : grid0.Coords) (mC : Buf (Elt F) (cLoc d)) (mP : Buf (Elt F) (pLoc d)) (o : Buf (Elt F) (oLoc d)) (t : TT) :
    (item d L mC mP o t : sProp 𝕄) = iprop((cLoc d ↦[cS L t]{fullShare} mC) ∗ (bigSep Finset.univ fun j : Fin 5 => pLoc d ↦[pS L t j]{fullShare} mP) ∗ bigSep Finset.univ fun j : Fin 5 => oLoc d ↦[oS L t j]{fullShare} o) := by
  unfold item
  rw [win_c, win_p0, win_p1, win_p2, win_p3, win_p4, win_o0, win_o1, win_o2, win_o3, win_o4, regroup, bigSep_five, bigSep_five]

/-- What one task is handed, the results at `o`. -/
abbrev task (d : Dev nD) (c : TC) (i : TI) (mN : Buf (Elt F) (nLoc d)) (mC : Buf (Elt F) (cLoc d)) (mP : Buf (Elt F) (pLoc d)) (o : Buf (Elt F) (oLoc d)) : sProp 𝕄 :=
  iprop(lend d (coordsV c i) aN (shr c i) mN ∗ bigSep Finset.univ fun t : TT => item d (coordsV c i) mC mP o t)

theorem tasks_eq (d : Dev nD) (mN : Buf (Elt F) (nLoc d)) (mC : Buf (Elt F) (cLoc d)) (mP : Buf (Elt F) (pLoc d)) (o : Buf (Elt F) (oLoc d)) :
    (bigSep Finset.univ fun c : TC => bigSep Finset.univ fun i : TI => task d c i mN mC mP o)
      = (iprop((nLoc d ↦{fullShare} mN) ∗ (cLoc d ↦{fullShare} mC) ∗ (pLoc d ↦{fullShare} mP) ∗ oLoc d ↦{fullShare} o) : sProp 𝕄) := by
  rw [nPts, cPts, pPts, oPts]
  simp only [item_eq, bigSep_sep']

end Lay

end Cert.Proof.HistI
-- ==== Proof.HistIOut.lean ====
/-
  What the kernel leaves, as one function of its arguments.
-/
module

public import proofs.«01_k».proof.Proof.HistILay

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Out

/-- Where a result's codes, weights and length lie. -/
abbrev cI (x : S112x20x4096.Idx) (l : S1280.Idx) : S112x4x1280.Idx :=
  fun | 0 => (x 0 : Fin 112) | 1 => (⟨(x 1).val / 5, by have h : (x 1).val < 20 := (x 1).isLt; omega⟩ : Fin 4) | 2 => l 0
abbrev pI (x : S112x20x4096.Idx) (l : S1280.Idx) : S112x20x1280.Idx := fun | 0 => (x 0 : Fin 112) | 1 => (x 1 : Fin 20) | 2 => l 0
abbrev nI (x : S112x20x4096.Idx) : S112.Idx := fun | 0 => (x 0 : Fin 112)
abbrev bI (x : S112x20x4096.Idx) : S4096.Idx := fun | 0 => (x 2 : Fin 4096)

/-- What the kernel leaves: per row, the row's weights added into the row's bins. -/
def OUT (p : Vec F S112x20x1280 .f32) (c : Vec F S112x4x1280 .i32) (n : Vec F S112 .i32) : Vec F S112x20x4096 .f32 :=
  fun x => rowV (fun l => c (cI x l)) (fun l => p (pI x l)) (k0_t7_loop (n (nI x))).trips (bI x)

/-- What the kernel asks of its codes and lengths. -/
def PreOK (c : Vec F S112x4x1280 .i32) (n : Vec F S112 .i32) : Prop := (∀ i, (c i).toNat < 4096) ∧ ∀ i, (n i).toInt ≤ 1280

variable (L : grid0.Coords) (t : Fin k0_t6_loop.trips)

theorem OUT_at (p : Vec F S112x20x1280 .f32) (c : Vec F S112x4x1280 .i32) (n : Vec F S112 .i32) (j : Fin 5) (x : S4096.Idx) :
    OUT p c n (oIx L t j x) = rowV (fun l => c (cIx L t l)) (fun l => p (pIx L t j l)) (k0_t7_loop (n (nIx L t))).trips x := by
  have hc : ∀ l, cI (oIx L t j x) l = cIx L t l := fun l => by
    funext a
    match a with
    | 0 => rfl
    | 1 =>
      apply Fin.ext
      show (5 * gOf L + j.val) / 5 = gOf L
      omega
    | 2 => rfl
  have hp : ∀ l, pI (oIx L t j x) l = pIx L t j l := fun l => by
    funext a
    match a with
    | 0 => rfl
    | 1 => rfl
    | 2 => rfl
  have hn : nI (oIx L t j x) = nIx L t := by
    funext a
    match a with
    | 0 => rfl
  have hb : bI (oIx L t j x) = x := by
    funext a
    match a with
    | 0 => rfl
  unfold OUT
  simp only [hc, hp, hn, hb]

theorem cW_read (c : Vec F S112x4x1280 .i32) : (cW L t).view.read (Elt F) c = fun l => c (cIx L t l) :=
  funext fun l => (View.read_apply _ _).trans ((cast_eq _ _).trans (congrArg c (cW_emb L t l)))
theorem pW0_read (p : Vec F S112x20x1280 .f32) : (pW0 L t).view.read (Elt F) p = fun l => p (pIx L t 0 l) :=
  funext fun l => (View.read_apply _ _).trans ((cast_eq _ _).trans (congrArg p (pW0_emb L t l)))
theorem oW0_read (o : Vec F S112x20x4096 .f32) : (oW0 L t).view.read (Elt F) o = fun l => o (oIx L t 0 l) :=
  funext fun l => (View.read_apply _ _).trans ((cast_eq _ _).trans (congrArg o (oW0_emb L t l)))
theorem pW1_read (p : Vec F S112x20x1280 .f32) : (pW1 L t).view.read (Elt F) p = fun l => p (pIx L t 1 l) :=
  funext fun l => (View.read_apply _ _).trans ((cast_eq _ _).trans (congrArg p (pW1_emb L t l)))
theorem oW1_read (o : Vec F S112x20x4096 .f32) : (oW1 L t).view.read (Elt F) o = fun l => o (oIx L t 1 l) :=
  funext fun l => (View.read_apply _ _).trans ((cast_eq _ _).trans (congrArg o (oW1_emb L t l)))
theorem pW2_read (p : Vec F S112x20x1280 .f32) : (pW2 L t).view.read (Elt F) p = fun l => p (pIx L t 2 l) :=
  funext fun l => (View.read_apply _ _).trans ((cast_eq _ _).trans (congrArg p (pW2_emb L t l)))
theorem oW2_read (o : Vec F S112x20x4096 .f32) : (oW2 L t).view.read (Elt F) o = fun l => o (oIx L t 2 l) :=
  funext fun l => (View.read_apply _ _).trans ((cast_eq _ _).trans (congrArg o (oW2_emb L t l)))
theorem pW3_read (p : Vec F S112x20x1280 .f32) : (pW3 L t).view.read (Elt F) p = fun l => p (pIx L t 3 l) :=
  funext fun l => (View.read_apply _ _).trans ((cast_eq _ _).trans (congrArg p (pW3_emb L t l)))
theorem oW3_read (o : Vec F S112x20x4096 .f32) : (oW3 L t).view.read (Elt F) o = fun l => o (oIx L t 3 l) :=
  funext fun l => (View.read_apply _ _).trans ((cast_eq _ _).trans (congrArg o (oW3_emb L t l)))
theorem pW4_read (p : Vec F S112x20x1280 .f32) : (pW4 L t).view.read (Elt F) p = fun l => p (pIx L t 4 l) :=
  funext fun l => (View.read_apply _ _).trans ((cast_eq _ _).trans (congrArg p (pW4_emb L t l)))
theorem oW4_read (o : Vec F S112x20x4096 .f32) : (oW4 L t).view.read (Elt F) o = fun l => o (oIx L t 4 l) :=
  funext fun l => (View.read_apply _ _).trans ((cast_eq _ _).trans (congrArg o (oW4_emb L t l)))

theorem rowsOf (d : Dev nD) (p : Vec F S112x20x1280 .f32) (c : Vec F S112x4x1280 .i32) (n : Vec F S112 .i32) (h : PreOK (F := F) c n)
    (nf : Vec F S128 .i32) (hn : ∀ t, lenW L nf t = n (nIx L t)) : RowsOf d L nf c p (OUT p c n) t where
  hv := by rw [hn]; exact h.2 _
  hc := fun k => by
    rw [cW_read]
    intro a x
    obtain rfl : a = 0 := Subsingleton.elim _ _
    exact h.1 _
  h0 := by
    rw [oW0_read, cW_read, pW0_read, hn]
    exact funext fun x => OUT_at L t p c n 0 x
  h1 := by
    rw [oW1_read, cW_read, pW1_read, hn]
    exact funext fun x => OUT_at L t p c n 1 x
  h2 := by
    rw [oW2_read, cW_read, pW2_read, hn]
    exact funext fun x => OUT_at L t p c n 2 x
  h3 := by
    rw [oW3_read, cW_read, pW3_read, hn]
    exact funext fun x => OUT_at L t p c n 3 x
  h4 := by
    rw [oW4_read, cW_read, pW4_read, hn]
    exact funext fun x => OUT_at L t p c n 4 x

end Out

end Cert.Proof.HistI
-- ==== Proof.HistITask.lean ====
/-
  The task as the launch runs it.
-/
module

public import proofs.«01_k».proof.Proof.HistIOut

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Task

open SparseCore (T S V)
open SparseCore.Cfg (HIx ownSems0 ownBufs ownRefs ownCells mem_ownCells)

section Own

variable (d : Dev nD) (L : grid0.Coords)

abbrev g0 (d : Dev nD) (c : Fin τ.nSC) (i : Fin τ.nSub) : GSem nD τ sig := (V d c i, .dma cc0_scoped0.sem)
abbrev g1 (d : Dev nD) (c : Fin τ.nSC) (i : Fin τ.nSub) : GSem nD τ sig := (V d c i, .dma cc0_scratch12.sem)
abbrev g2 (d : Dev nD) (c : Fin τ.nSC) (i : Fin τ.nSub) : GSem nD τ sig := (V d c i, .dma cc0_scratch13.sem)

omit [FloatOps F] in
theorem ownSems0_V :
    (ownSems0 (V d (cV L) (jV L)) : sProp 𝕄)
      = iprop(semVal (g0 d (cV L) (jV L)) 0 ∗ semVal (g1 d (cV L) (jV L)) 0 ∗ semVal (g2 d (cV L) (jV L)) 0
          ∗ bigSep ((((ownCells (V d (cV L) (jV L))).erase (g0 d (cV L) (jV L))).erase (g1 d (cV L) (jV L))).erase (g2 d (cV L) (jV L)))
              fun g => semVal g 0) := by
  unfold SparseCore.Cfg.ownSems0
  rw [SparseCore.bigSep_erase' ((mem_ownCells (g := g0 d (cV L) (jV L))).mpr ⟨rfl, by
      show (SemLoc.dma cc0_scoped0.sem : SemLoc sig).isScoped .scVector = true; decide⟩),
    SparseCore.bigSep_erase' (Finset.mem_erase.mpr ⟨by simp [g0, g1]; decide, (mem_ownCells (g := g1 d (cV L) (jV L))).mpr ⟨rfl, by
      show (SemLoc.dma cc0_scratch12.sem : SemLoc sig).isScoped .scVector = true; decide⟩⟩),
    SparseCore.bigSep_erase' (Finset.mem_erase.mpr ⟨by simp [g1, g2]; decide, Finset.mem_erase.mpr ⟨by simp [g0, g2]; decide,
      (mem_ownCells (g := g2 d (cV L) (jV L))).mpr ⟨rfl, by show (SemLoc.dma cc0_scratch13.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f) ∗ (∃ f, (V d (cV L) (jV L)).loc cc0_scratch9 ↦{fullShare} f) ∗ (∃ f, (V d (cV L) (jV L)).loc cc0_scratch10 ↦{fullShare} f) ∗ (∃ f, (V d (cV L) (jV L)).loc cc0_scratch11 ↦{fullShare} f)
          ∗ bigSep (((((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)).erase ((Proc.scVector (cV L) (jV L)).devRef cc0_scratch9)).erase ((Proc.scVector (cV L) (jV L)).devRef cc0_scratch10)).erase ((Proc.scVector (cV L) (jV L)).devRef cc0_scratch11)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩),
    SparseCore.bigSep_erase' (Finset.mem_erase.mpr ⟨fun e => absurd (Proc.devRef_injective _ e) (show (cc0_scratch9 : Ref sig .scVector) ≠ cc0_scratch8 by decide), Finset.mem_erase.mpr ⟨fun e => absurd (Proc.devRef_injective _ e) (show (cc0_scratch9 : Ref sig .scVector) ≠ cc0_scratch7 by decide), Finset.mem_erase.mpr ⟨fun e => absurd (Proc.devRef_injective _ e) (show (cc0_scratch9 : Ref sig .scVector) ≠ cc0_scratch6 by decide), Finset.mem_erase.mpr ⟨fun e => absurd (Proc.devRef_injective _ e) (show (cc0_scratch9 : Ref sig .scVector) ≠ cc0_scratch5 by decide), Finset.mem_erase.mpr ⟨fun e => absurd (Proc.devRef_injective _ e) (show (cc0_scratch9 : Ref sig .scVector) ≠ cc0_scratch4 by decide), Finset.mem_erase.mpr ⟨fun e => absurd (Proc.devRef_injective _ e) (show (cc0_scratch9 : Ref sig .scVector) ≠ cc0_scratch3 by decide), Finset.mem_erase.mpr ⟨fun e => absurd (Proc.devRef_injective _ e) (show (cc0_scratch9 : Ref sig .scVector) ≠ cc0_scratch2 by decide), Finset.mem_erase.mpr ⟨fun e => absurd (Proc.devRef_injective _ e) (show (cc0_scratch9 : Ref sig .scVector) ≠ cc0_scratch1 by decide), Finset.mem_erase.mpr ⟨fun e => absurd (Proc.devRef_injective _ e) (show (cc0_scratch9 : Ref sig .scVector) ≠ cc0_scratch0 by decide), SparseCore.Cfg.mem_ownRefs_of_owner (p := Proc.scVector (cV L) (jV L)) (b := (Proc.scVector (cV L) (jV L)).devRef cc0_scratch9) rfl⟩⟩⟩⟩⟩⟩⟩⟩⟩),
    SparseCore.bigSep_erase' (Finset.mem_erase.mpr ⟨fun e => absurd (Proc.devRef_injective _ e) (show (cc0_scratch10 : Ref sig .scVector) ≠ cc0_scratch9 by decide), Finset.mem_erase.mpr ⟨fun e => absurd (Proc.devRef_injective _ e) (show (cc0_scratch10 : Ref sig .scVector) ≠ cc0_scratch8 by decide), Finset.mem_erase.mpr ⟨fun e => absurd (Proc.devRef_injective _ e) (show (cc0_scratch10 : Ref sig .scVector) ≠ cc0_scratch7 by decide), Finset.mem_erase.mpr ⟨fun e => absurd (Proc.devRef_injective _ e) (show (cc0_scratch10 : Ref sig .scVector) ≠ cc0_scratch6 by decide), Finset.mem_erase.mpr ⟨fun e => absurd (Proc.devRef_injective _ e) (show (cc0_scratch10 : Ref sig .scVector) ≠ cc0_scratch5 by decide), Finset.mem_erase.mpr ⟨fun e => absurd (Proc.devRef_injective _ e) (show (cc0_scratch10 : Ref sig .scVector) ≠ cc0_scratch4 by decide), Finset.mem_erase.mpr ⟨fun e => absurd (Proc.devRef_injective _ e) (show (cc0_scratch10 : Ref sig .scVector) ≠ cc0_scratch3 by decide), Finset.mem_erase.mpr ⟨fun e => absurd (Proc.devRef_injective _ e) (show (cc0_scratch10 : Ref sig .scVector) ≠ cc0_scratch2 by decide), Finset.mem_erase.mpr ⟨fun e => absurd (Proc.devRef_injective _ e) (show (cc0_scratch10 : Ref sig .scVector) ≠ cc0_scratch1 by decide), Finset.mem_erase.mpr ⟨fun e => absurd (Proc.devRef_injective _ e) (show (cc0_scratch10 : Ref sig .scVector) ≠ cc0_scratch0 by decide), SparseCore.Cfg.mem_ownRefs_of_owner (p := Proc.scVector (cV L) (jV L)) (b := (Proc.scVector (cV L) (jV L)).devRef cc0_scratch10) rfl⟩⟩⟩⟩⟩⟩⟩⟩⟩⟩),
    SparseCore.bigSep_erase' (Finset.mem_erase.mpr ⟨fun e => absurd (Proc.devRef_injective _ e) (show (cc0_scratch11 : Ref sig .scVector) ≠ cc0_scratch10 by decide), Finset.mem_erase.mpr ⟨fun e => absurd (Proc.devRef_injective _ e) (show (cc0_scratch11 : Ref sig .scVector) ≠ cc0_scratch9 by decide), Finset.mem_erase.mpr ⟨fun e => absurd (Proc.devRef_injective _ e) (show (cc0_scratch11 : Ref sig .scVector) ≠ cc0_scratch8 by decide), Finset.mem_erase.mpr ⟨fun e => absurd (Proc.devRef_injective _ e) (show (cc0_scratch11 : Ref sig .scVector) ≠ cc0_scratch7 by decide), Finset.mem_erase.mpr ⟨fun e => absurd (Proc.devRef_injective _ e) (show (cc0_scratch11 : Ref sig .scVector) ≠ cc0_scratch6 by decide), Finset.mem_erase.mpr ⟨fun e => absurd (Proc.devRef_injective _ e) (show (cc0_scratch11 : Ref sig .scVector) ≠ cc0_scratch5 by decide), Finset.mem_erase.mpr ⟨fun e => absurd (Proc.devRef_injective _ e) (show (cc0_scratch11 : Ref sig .scVector) ≠ cc0_scratch4 by decide), Finset.mem_erase.mpr ⟨fun e => absurd (Proc.devRef_injective _ e) (show (cc0_scratch11 : Ref sig .scVector) ≠ cc0_scratch3 by decide), Finset.mem_erase.mpr ⟨fun e => absurd (Proc.devRef_injective _ e) (show (cc0_scratch11 : Ref sig .scVector) ≠ cc0_scratch2 by decide), Finset.mem_erase.mpr ⟨fun e => absurd (Proc.devRef_injective _ e) (show (cc0_scratch11 : Ref sig .scVector) ≠ cc0_scratch1 by decide), Finset.mem_erase.mpr ⟨fun e => absurd (Proc.devRef_injective _ e) (show (cc0_scratch11 : Ref sig .scVector) ≠ cc0_scratch0 by decide), SparseCore.Cfg.mem_ownRefs_of_owner (p := Proc.scVector (cV L) (jV L)) (b := (Proc.scVector (cV L) (jV L)).devRef cc0_scratch11) rfl⟩⟩⟩⟩⟩⟩⟩⟩⟩⟩⟩)]

end Own

/-! ## What the launch carries -/

variable (m : (ℓ : Loc nD τ sig) → Buf (Elt F) ℓ)

/-- The results, of the launch memory. -/
abbrev outM (d : Dev nD) : Buf (Elt F) (oLoc d) := OUT (m (pLoc d)) (m (cLoc d)) (m (nLoc d))

abbrev goP (d : Dev nD) (c : TC) (i : TI) : sProp 𝕄 := task d c i (m (nLoc d)) (m (cLoc d)) (m (pLoc d)) (m (oLoc d))
abbrev tdP (d : Dev nD) (c : TC) (i : TI) : sProp 𝕄 := task d c i (m (nLoc d)) (m (cLoc d)) (m (pLoc d)) (outM m d)

def P : (K (F := F)).Pay (nD := nD) (Val := Elt F) (Name := ℕ) (U := UU) where
  st := fun q d c => match q with | 0 => bigSep Finset.univ fun i : TI => goP m d c i
  dn := fun q d c => match q with | 0 => bigSep Finset.univ fun i : TI => tdP m d c i
  go := fun q d c i => match q with | 0 => goP m d c i
  td := fun q d c i => match q with | 0 => tdP m d c i
  x := fun _ _ => iprop(emp)

instance P_storable : (P (F := F) m).IsStorable where
  st q d c := match q with | 0 => (inferInstance : BI.Storable (upEmb : UEmb _ 𝕄) (bigSep Finset.univ fun i : TI => goP m d c i))
  dn q d c := match q with | 0 => (inferInstance : BI.Storable (upEmb : UEmb _ 𝕄) (bigSep Finset.univ fun i : TI => tdP m d c i))
  go q d c i := match q with | 0 => (inferInstance : BI.Storable (upEmb : UEmb _ 𝕄) (goP m d c i))
  td q d c i := match q with | 0 => (inferInstance : BI.Storable (upEmb : UEmb _ 𝕄) (tdP m d c i))

/-- The task, from what the launch hands it. -/
theorem tile_body (hF : (K (F := F)).Facts) (d : Dev nD) (hpre : PreOK (F := F) (m (cLoc d)) (m (nLoc d))) (c : TC) (i : TI)
    (O : CellTallies nD τ sig (HIx 1)) (W : Waits sig (HIx 1)) (hO : ∀ g, O g none = 0) :
    iprop(levAts (K (F := F)).L (K (F := F)).lev ∗ iprop(emp) ∗ goP m d c i
        ∗ scopedBufs (V d (cV (coordsV c i)) (jV (coordsV c i))) ∗ scopedSems0 (V d (cV (coordsV c i)) (jV (coordsV c i))) ∗ owes (V d (cV (coordsV c i)) (jV (coordsV c i))) O W)
      ⊢ wp frame (wpE (defs₀ (F := F)) 𝒱₀ (V d (cV (coordsV c i)) (jV (coordsV c i))) none) Set.univ
          (cc0_histogram (F := F) (coordsV c i) aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0)
          fun _ => iprop(tdP m d c i ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  rw [(K (F := F)).scopedBufs_V hF d (cV (coordsV c i)) (jV (coordsV c i)), SparseCore.Cfg.scopedSems0_V (Val := Elt F) d (cV (coordsV c i)) (jV (coordsV c i)), ownSems0_V, ownBufs_V]
  iintro ⟨#Hlv, -, ⟨HL, HI⟩, ⟨HN, HC, HP0, HP1, HP2, HP3, HP4, HB0, HB1, HB2, HB3, HB4, Hbufs⟩, ⟨Hs0, Hs, Hs', Hsems⟩, HO⟩
  iapply (wp_wand_r frame (wpE (defs₀ (F := F)) 𝒱₀ (thr d (coordsV c i)) none) Set.univ)
  isplitl [HL HI HN HC HP0 HP1 HP2 HP3 HP4 HB0 HB1 HB2 HB3 HB4 Hs0 Hs Hs' HO]
  · iapply (tile_core d (coordsV c i) hF O W hO (shr c i) (m (nLoc d)) (m (cLoc d)) (m (pLoc d)) (m (oLoc d)) (outM m d)
      (fun nf hn t => rowsOf (coordsV c i) t d (m (pLoc d)) (m (cLoc d)) (m (nLoc d)) hpre nf hn))
    isplitr; · iexact Hlv
    isplitl [HL]; · iexact HL
    isplitl [HI]; · iexact HI
    isplitl [HN HC HP0 HP1 HP2 HP3 HP4 HB0 HB1 HB2 HB3 HB4]
    · isplitl [HN]; · iexact HN
      isplitl [HC]; · iexact HC
      isplitl [HP0]; · iexact HP0
      isplitl [HP1]; · iexact HP1
      isplitl [HP2]; · iexact HP2
      isplitl [HP3]; · iexact HP3
      isplitl [HP4]; · iexact HP4
      isplitl [HB0]; · iexact HB0
      isplitl [HB1]; · iexact HB1
      isplitl [HB2]; · iexact HB2
      isplitl [HB3]; · iexact HB3
      iexact HB4
    isplitl [Hs0]; · iexact Hs0
    isplitl [Hs]; · iexact Hs
    isplitl [Hs']; · iexact Hs'
    iexact HO
  iintro %_ ⟨HL, HI, ⟨HN, HC, HP0, HP1, HP2, HP3, HP4, HB0, HB1, HB2, HB3, HB4⟩, Hs0, Hs, Hs', HO⟩
  isplitl [HL HI]
  · isplitl [HL]; · iexact HL
    iexact HI
  isplitl [HN HC HP0 HP1 HP2 HP3 HP4 HB0 HB1 HB2 HB3 HB4 Hbufs]
  · isplitl [HN]; · iexact HN
    isplitl [HC]; · iexact HC
    isplitl [HP0]; · iexact HP0
    isplitl [HP1]; · iexact HP1
    isplitl [HP2]; · iexact HP2
    isplitl [HP3]; · iexact HP3
    isplitl [HP4]; · iexact HP4
    isplitl [HB0]; · iexact HB0
    isplitl [HB1]; · iexact HB1
    isplitl [HB2]; · iexact HB2
    isplitl [HB3]; · iexact HB3
    isplitl [HB4]; · iexact HB4
    iexact Hbufs
  isplitl [Hs0 Hs Hs' Hsems]
  · isplitl [Hs0]; · iexact Hs0
    isplitl [Hs]; · iexact Hs
    isplitl [Hs']; · iexact Hs'
    iexact Hsems
  iexact HO

end Task

end Cert.Proof.HistI
-- ==== Proof.HistIRun.lean ====
/-
  The launch, and what the program leaves.
-/
module

public import proofs.«01_k».proof.Proof.HistITask

@[expose] public section

noncomputable section

namespace Cert.Proof.HistI

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Run

open SparseCore (T S V)
open SparseCore.Cfg (HIx ownSems0 ownBufs ownRefs ownCells mem_ownCells)

variable (m : (ℓ : Loc nD τ sig) → Buf (Elt F) ℓ) (ρ : Dev nD → PrngReg)

omit [FloatOps F] in
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem defs₀_vector (c : Fin τ.nSC) (s : Fin τ.nSub) :
    defs₀ (F := F) (.scVector c s) 0 ()
      = SparseCore.onTile hcore0 hsub0 (fun c s => cc0_histogram (F := F) (coordsV c s) aP (Memref.isWhole_whole _) aC (Memref.isWhole_whole _) aN (Memref.isWhole_whole _) aO (Memref.isWhole_whole _) sN (Memref.isWhole_whole _) sC (Memref.isWhole_whole _) sP0 (Memref.isWhole_whole _) sP1 (Memref.isWhole_whole _) sP2 (Memref.isWhole_whole _) sP3 (Memref.isWhole_whole _) sP4 (Memref.isWhole_whole _) sB0 (Memref.isWhole_whole _) sB1 (Memref.isWhole_whole _) sB2 (Memref.isWhole_whole _) sB3 (Memref.isWhole_whole _) sB4 (Memref.isWhole_whole _) cc0_scratch12 cc0_scratch13 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the launch memory. -/
abbrev PreM : Prop := ∀ d : Dev nD, PreOK (F := F) (m (cLoc d)) (m (nLoc d))

set_option maxRecDepth 1024 in
theorem tileObl (hF : (K (F := F)).Facts) (hpre : PreM m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF d (hpre d) ⟨_, hc.1⟩ ⟨_, hc.2⟩ O W hO).trans (wp_mono frame _ _ fun _ => obl_post)

theorem vecSplit : (K (F := F)).VecSplit' (P m) 0 := by
  intro d c
  show (bigSep Finset.univ fun i : TI => goP m d c i) ⊢ |={Set.univ}=> iprop(
      (bigSep Finset.univ fun i : TI => goP m d c i)
      ∗ ((bigSep Finset.univ fun i : TI => tdP m d c i) -∗ bigSep Finset.univ fun i : TI => tdP m d c i))
  iintro H; imodintro
  isplitl [H]; · iexact H
  iintro H; iexact H

/-! ## The launch element -/

def EK : Emb Counters (MT nD τ sig (HIx 1) (Elt F) ℕ UU ℕ) :=
  (Emb.inr : Emb Counters UU).trans (uEmb (nD := nD) (sig := sig) (Ix := HIx 1) (Val := Elt F) (Name := ℕ) (U := UU) (Lvl := ℕ)).toEmb

def u₀ : UU := (initOf (K (F := F)).hsCells (K (F := F)).hsToks, 1)

omit [FloatOps F] in
theorem ownU_split (a : UH) (b : Counters) : (ownU (a, b) : sProp 𝕄) ⊢ iprop(BI.own (EH a) ∗ BI.own (EK b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_split _ _) $$ Hu
  icases H with ⟨HH, -⟩
  imodintro
  isplitl [HH]; · iexact HH
  rw [show (bigSep Finset.univ fun thr : Thread nD τ => bigSep Finset.univ fun q : Fin 1 => (P m).x q thr) = (iprop(emp) : sProp 𝕄) from
    (bigSep_congr fun _ _ => bigSep_emp_const _).trans (bigSep_emp_const _)]
  isplitr; · rw [show (bigSep Finset.univ fun _ : Dev nD => iprop(emp)) = (iprop(emp) : sProp 𝕄) from bigSep_emp_const _]; iempintro
  iempintro

/-! ## The host program -/

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ (cLoc d ↦{fullShare} W main_arg1) ∗ (nLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = iprop((nLoc d ↦{fullShare} m (nLoc d)) ∗ (cLoc d ↦{fullShare} m (cLoc d)) ∗ (pLoc d ↦{fullShare} m (pLoc d)) ∗ oLoc d ↦{fullShare} m (oLoc d)) :=
  tasks_eq d _ _ _ _
theorem dn0_eq (d : Dev nD) : (bigSep Finset.univ fun c : Fin ((K (F := F)).nCore 0) => (P m).dn 0 d c)
    = iprop((nLoc d ↦{fullShare} m (nLoc d)) ∗ (cLoc d ↦{fullShare} m (cLoc d)) ∗ (pLoc d ↦{fullShare} m (pLoc d)) ∗ oLoc d ↦{fullShare} outM m d) :=
  tasks_eq d _ _ _ _

abbrev FIN (d : Dev nD) : sProp 𝕄 :=
  iprop((nLoc d ↦{fullShare} m (nLoc d)) ∗ (cLoc d ↦{fullShare} m (cLoc d)) ∗ (pLoc d ↦{fullShare} m (pLoc d)) ∗ oLoc d ↦{fullShare} outM m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hc, Hn, Ho⟩, Hts, -⟩, -⟩
  iapply ((K (F := F)).wp_run (D (F := F)) 𝒱 (EH := EH) (P := P m) κ d 0) $$ [Hst Hp Hc Hn Ho Hb Hts]
  isplitr; · iexact Hctx
  isplitl [Hst]; · iexact Hst
  isplitl [Hp Hc Hn Ho]
  · rw [st0_eq]
    isplitl [Hn]; · iexact Hn
    isplitl [Hc]; · iexact Hc
    isplitl [Hp]; · iexact Hp
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (nLoc d) = m (nLoc d) ∧ s'.mem.mem (cLoc d) = m (cLoc d) ∧ s'.mem.mem (pLoc d) = m (pLoc d) ∧ s'.mem.mem (oLoc d) = outM m d

theorem hfin (d : Dev nD) (s' : Phys nD τ sig (Elt F)) : iprop(FIN m d ∗ SI s') ⊢ (⌜fq m d s'⌝ : sProp 𝕄) := by
  iintro ⟨⟨Hn, Hc, Hp, Ho⟩, HSI⟩
  ihave H := (persistent_entails_right (SI_pointsTo_agree (st := s') (ℓ := nLoc d) (I := Finset.univ) (q := fullShare) (f := m (nLoc d)))) $$ [HSI Hn]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h3, HSI, -⟩
  ihave H := (SI_pointsTo_agree (st := s') (ℓ := oLoc d) (I := Finset.univ) (q := fullShare) (f := outM m d)) $$ [HSI Ho]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-! ## The run -/

def QC : PUnit × MemSt nD τ sig (Elt F) → Prop := fun r =>
  (∀ c : Dev nD, r.2.mem (nLoc c) = m (nLoc c) ∧ r.2.mem (cLoc c) = m (cLoc c) ∧ r.2.mem (pLoc c) = m (pLoc c) ∧ r.2.mem (oLoc c) = outM m c) ∧ r.2.sem = fun _ => 0

theorem run_main [∀ e, Nonempty (Elt F e)] (hpre : PreM m) :
    θ_run (Cert.HistIdeal.defs (F := F)) (Cert.HistIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.HistI
-- ==== Proof.HistISum.lean ====
/-
  A result row over the exact numbers: bin `j` is the sum of the weights whose code is `j`.
-/
module

public import proofs.«01_k».proof.Proof.HistIRow
public import proofs.«01_k».proof.Proof.HistIWords
public import Idealize.ShloMosaic.Lib.IdealHost
public import Idealize.ShloMosaic.Lib.Pipeline.ValueKit

@[expose] public section

noncomputable section

namespace Cert.Proof.HistI

open Cert.HistIdeal Cert.HistIdeal.Gen
open Idealize.ShloMosaic

theorem foldl_sum {X : Type} (v : X → S4096.Idx) (w : X → EReal) (j : S4096.Idx) :
    ∀ (l : List X) (f : S4096.Idx → EReal),
      l.foldl (fun (g : S4096.Idx → EReal) k => fun i => if (∀ a, (i a).val = (v k a).val) then g (v k) + w k else g i) f j
        = f j + (l.map fun k => if (∀ a, (j a).val = (v k a).val) then w k else 0).sum
  | [], f => by simp
  | k :: l, f => by
    rw [List.foldl_cons, foldl_sum v w j l, List.map_cons, List.sum_cons]
    by_cases h : ∀ a, (j a).val = (v k a).val
    · have e : v k = j := funext fun a => Fin.ext (h a).symm
      rw [if_pos h, if_pos h, e, add_assoc]
    · rw [if_neg h, if_neg h, zero_add]

/-- One chunk adds its weights to the places its codes name. -/
theorem storeIdx_sum (f : Vec Ideal S4096 .f32) (v : IVec S16 32) (w : Vec Ideal S16 .f32) (h : InRow v) (j : S4096.Idx) :
    (storeIdx f ![v] w (fun _ => 1#1) true h j : EReal)
      = (f j : EReal) + ∑ k : Fin 16, if (j 0).val = (v (Shape.ofLane (d := ![16]) k)).toNat then (w (Shape.ofLane (d := ![16]) k) : EReal) else 0 := by
  have e := foldl_sum (fun k : Fin 16 => idxAt (s := S4096) (![v] : Fin 1 → IVec S16 32) h (Shape.ofLane (d := ![16]) k))
    (fun k => (w (Shape.ofLane (d := ![16]) k) : EReal)) j (List.finRange 16) f
  have hs : ∀ g : Fin 16 → EReal, ((List.finRange 16).map g).sum = ∑ k, g k := fun g => by
    rw [← List.ofFn_eq_map, List.sum_ofFn]
  rw [hs] at e
  refine Eq.trans ?_ (e.trans (congrArg (fun z : EReal => (f j : EReal) + z) (Finset.sum_congr rfl fun k _ => if_congr ?_ rfl rfl)))
  · unfold storeIdx
    refine congrFun (congrArg (fun op => List.foldl op f (List.finRange 16)) (funext fun g => funext fun k => ?_)) j
    simp only [if_true]
    rfl
  · exact ⟨fun hh => hh 0, fun hh a => by obtain rfl : a = 0 := Subsingleton.elim _ _; exact hh⟩

/-- Position `l` of a row. -/
abbrev at1 (l : Fin 1280) : S1280.Idx := fun | 0 => l

/-- A row's term at position `l`. -/
def term (cs : Vec Ideal S1280 .i32) (ps : Vec Ideal S1280 .f32) (j : S4096.Idx) (l : ℕ) : EReal :=
  if (j 0).val = (cs (at1 ⟨l % 1280, Nat.mod_lt _ (by decide)⟩)).toNat then
    ps (at1 ⟨l % 1280, Nat.mod_lt _ (by decide)⟩) else 0

theorem chunk_at {α : Type} (u : S1280.Idx → α) (t : ℕ) (k : Fin 16) :
    chunk u t (Shape.ofLane (d := ![16]) k) = u (at1 ⟨(16 * t + k.val) % 1280, Nat.mod_lt _ (by decide)⟩) := by
  refine congrArg u (funext fun a => ?_)
  match a with
  | 0 => rfl

theorem zrow_zero (j : S4096.Idx) : ((zrow (F := Ideal)) j : EReal) = 0 := by
  show Scalar.ofBits (F := Ideal) .f32 0x00000000#32 = (0 : EReal)
  exact Ideal.ofBits_zero_f32

theorem rowV_sum (cs : Vec Ideal S1280 .i32) (ps : Vec Ideal S1280 .f32) (hc : ∀ l, (cs l).toNat < 4096) (j : S4096.Idx) :
    ∀ T, (rowV cs ps T j : EReal) = ∑ l ∈ Finset.range (16 * T), term cs ps j l := by
  intro T
  induction T with
  | zero => rw [Nat.mul_zero, Finset.range_zero, Finset.sum_empty]; exact zrow_zero j
  | succ t ih =>
    have hr : InRow (chunk cs t) := fun a x => by
      obtain rfl : a = 0 := Subsingleton.elim _ _
      exact hc _
    unfold rowV
    rw [dif_pos hr, storeIdx_sum, ih, Nat.mul_succ, Finset.sum_range_add, Finset.sum_range (n := 16)]
    refine congrArg (fun z : EReal => _ + z) (Finset.sum_congr rfl fun k _ => ?_)
    rw [chunk_at, chunk_at]
    rfl

/-- All the row's positions, those past the trips carrying nothing. -/
theorem rowV_all (cs : Vec Ideal S1280 .i32) (ps : Vec Ideal S1280 .f32) (hc : ∀ l, (cs l).toNat < 4096) (j : S4096.Idx) (T : ℕ) (hT : T ≤ 80)
    (hz : ∀ l : Fin 1280, 16 * T ≤ l.val → (ps (at1 l) : EReal) = 0) :
    (rowV cs ps T j : EReal) = ∑ l : Fin 1280, if (j 0).val = (cs (at1 l)).toNat then (ps (at1 l) : EReal) else 0 := by
  rw [rowV_sum cs ps hc j T, Finset.sum_subset (s₂ := Finset.range 1280) (fun l hl => Finset.mem_range.2 (by have := Finset.mem_range.1 hl; omega))
    fun l hl hn => by
      have h1 := Finset.mem_range.1 hl
      have h2 : 16 * T ≤ l := by by_contra hh; exact hn (Finset.mem_range.2 (by omega))
      unfold term
      split
      · exact hz ⟨l % 1280, Nat.mod_lt _ (by decide)⟩ (by show 16 * T ≤ l % 1280; rw [Nat.mod_eq_of_lt h1]; exact h2)
      · rfl]
  rw [Finset.sum_range]
  refine Finset.sum_congr rfl fun l _ => ?_
  unfold term
  have e : (⟨l.val % 1280, Nat.mod_lt _ (by decide)⟩ : Fin 1280) = l := Fin.ext (Nat.mod_eq_of_lt l.isLt)
  rw [e]

/-- The trips cover the positions before the length, and no more than the row. -/
theorem trips_cover (v : BitVec 32) (hv : v.toInt ≤ 1280) : (k0_t7_loop v).trips ≤ 80 ∧ ∀ n : ℕ, 16 * (k0_t7_loop v).trips ≤ n → v.toInt ≤ n := by
  rw [trips7_eq]
  rcases Int.lt_or_le 0 v.toInt with h | h
  · have hn : v.toInt.toNat < 1281 := by omega
    have e : BitVec.ofNat 32 v.toInt.toNat = v := by
      apply BitVec.eq_of_toInt_eq
      rw [BitVec.toInt_eq_toNat_cond, BitVec.toNat_ofNat, Nat.mod_eq_of_lt (by omega), if_pos (by omega)]
      omega
    have hu := (ub_pos ⟨v.toInt.toNat, hn⟩).1
    rw [show BitVec.ofNat 32 (⟨v.toInt.toNat, hn⟩ : Fin 1281).val = v from e] at hu
    rw [hu]
    constructor
    · show ((((v.toInt.toNat + 15) / 16 : ℕ) : Int)).toNat ≤ 80
      omega
    · intro n hh
      change 16 * ((((v.toInt.toNat + 15) / 16 : ℕ) : Int)).toNat ≤ n at hh
      omega
  · have hu := ub_neg v h
    constructor
    · omega
    · intro n _; omega

end Cert.Proof.HistI
-- ==== Proof.RefBinsValue.lean ====
/- The histogram's reference, element by element: bin `k` of row `r` of item `b` is the sum of the row's weights whose code
   is `k` (`res_at`), and `run` says that its program ends with them. -/
module

public import proofs.«01_k».proof.Proof.Gen.RefBinsIdeal.Run
public import Idealize.ShloMosaic.Lib.Pipeline.ValueKit
public import Idealize.ShloMosaic.Lib.Routing.OpsPair
public import Idealize.ShloMosaic.Lib.IdealHost

@[expose] public section

set_option maxRecDepth 16384

noncomputable section

namespace Cert.RefBinsIdeal.RefValue

open Idealize.ShloMosaic Idealize.ShloMosaic.TcCoe Idealize.SL.Sem
open Cert.RefBinsIdeal Cert.RefBinsIdeal.Gen

/-- Where each weight goes: item, group, row of the group, code. -/
def ridx (C : IVec S112x4x1280 32) : IVec S112x4x5x1280x4 32 :=
  concatenate S112x4x5x1280x4 4 [⟨S112x4x5x1280x1, ((broadcastInDim S112x4x5x1280x1 ![0, 1, 2, 3] bcast_S112x4x5x1280_S112x4x5x1280x1_0_1_2_3 (broadcastInDim S112x4x5x1280 ![0, 1, 2, 3] bcast_S112x1x1x1_S112x4x5x1280_0_1_2_3 (select (cmpi .slt (broadcastInDim S112x1x1x1 ![0] bcast_S112_S112x1x1x1_0 (iotaInDim S112 32 0)) (broadcastInDim S112x1x1x1 ![] bcast_S_S112x1x1x1 (constantI S_ 32 0#32))) (addi (broadcastInDim S112x1x1x1 ![0] bcast_S112_S112x1x1x1_0 (iotaInDim S112 32 0)) (broadcastInDim S112x1x1x1 ![] bcast_S_S112x1x1x1 (constantI S_ 32 112#32))) (broadcastInDim S112x1x1x1 ![0] bcast_S112_S112x1x1x1_0 (iotaInDim S112 32 0))))) : (⟨S112x4x5x1280x1, .i32⟩ : BufTy).Contents (Elt Ideal))⟩, ⟨S112x4x5x1280x1, ((broadcastInDim S112x4x5x1280x1 ![0, 1, 2, 3] bcast_S112x4x5x1280_S112x4x5x1280x1_0_1_2_3 (broadcastInDim S112x4x5x1280 ![0, 1, 2, 3] bcast_S1x4x1x1_S112x4x5x1280_0_1_2_3 (select (cmpi .slt (broadcastInDim S1x4x1x1 ![1] bcast_S4_S1x4x1x1_1 (iotaInDim S4 32 0)) (broadcastInDim S1x4x1x1 ![] bcast_S_S1x4x1x1 (constantI S_ 32 0#32))) (addi (broadcastInDim S1x4x1x1 ![1] bcast_S4_S1x4x1x1_1 (iotaInDim S4 32 0)) (broadcastInDim S1x4x1x1 ![] bcast_S_S1x4x1x1 (constantI S_ 32 4#32))) (broadcastInDim S1x4x1x1 ![1] bcast_S4_S1x4x1x1_1 (iotaInDim S4 32 0))))) : (⟨S112x4x5x1280x1, .i32⟩ : BufTy).Contents (Elt Ideal))⟩, ⟨S112x4x5x1280x1, ((broadcastInDim S112x4x5x1280x1 ![0, 1, 2, 3] bcast_S112x4x5x1280_S112x4x5x1280x1_0_1_2_3 (broadcastInDim S112x4x5x1280 ![0, 1, 2, 3] bcast_S1x1x5x1_S112x4x5x1280_0_1_2_3 (select (cmpi .slt (broadcastInDim S1x1x5x1 ![2] bcast_S5_S1x1x5x1_2 (iotaInDim S5 32 0)) (broadcastInDim S1x1x5x1 ![] bcast_S_S1x1x5x1 (constantI S_ 32 0#32))) (addi (broadcastInDim S1x1x5x1 ![2] bcast_S5_S1x1x5x1_2 (iotaInDim S5 32 0)) (broadcastInDim S1x1x5x1 ![] bcast_S_S1x1x5x1 (constantI S_ 32 5#32))) (broadcastInDim S1x1x5x1 ![2] bcast_S5_S1x1x5x1_2 (iotaInDim S5 32 0))))) : (⟨S112x4x5x1280x1, .i32⟩ : BufTy).Contents (Elt Ideal))⟩, ⟨S112x4x5x1280x1, ((broadcastInDim S112x4x5x1280x1 ![0, 1, 2, 3] bcast_S112x4x5x1280_S112x4x5x1280x1_0_1_2_3 (broadcastInDim S112x4x5x1280 ![0, 1, 2, 3] bcast_S112x4x1x1280_S112x4x5x1280_0_1_2_3 (select (cmpi .slt (broadcastInDim S112x4x1x1280 ![0, 1, 3] bcast_S112x4x1280_S112x4x1x1280_0_1_3 C) (broadcastInDim S112x4x1x1280 ![] bcast_S_S112x4x1x1280 (constantI S_ 32 0#32))) (addi (broadcastInDim S112x4x1x1280 ![0, 1, 3] bcast_S112x4x1280_S112x4x1x1280_0_1_3 C) (broadcastInDim S112x4x1x1280 ![] bcast_S_S112x4x1x1280 (constantI S_ 32 4096#32))) (broadcastInDim S112x4x1x1280 ![0, 1, 3] bcast_S112x4x1280_S112x4x1x1280_0_1_3 C)))) : (⟨S112x4x5x1280x1, .i32⟩ : BufTy).Contents (Elt Ideal))⟩] concatenates_S112x4x5x1280x1_S112x4x5x1280x1_S112x4x5x1280x1_S112x4x5x1280x1_S112x4x5x1280x4_d4

/-- The reference's result. -/
def res (P : FVec Ideal S112x20x1280 .f32) (C : IVec S112x4x1280 32) : FVec Ideal S112x20x4096 .f32 :=
  shapeCast _ (Host.scatterAdd scatter_S112x4x5x4096_S112x4x5x1280x4_S112x4x5x1280_n_0123_0123_4 (broadcastInDim S112x4x5x4096 ![] bcast_S_S112x4x5x4096 (constant (F := Ideal) S_ .f32 0x00000000#32)) (ridx C) (shapeCast _ P shapeCasts_S112x20x1280_S112x4x5x1280)) shapeCasts_S112x4x5x4096_S112x20x4096

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => h c) (Value.run (F := Ideal) m ρ)

section Lands

variable (C : IVec S112x4x1280 32) (b : Fin 112) (g : Fin 4) (q : Fin 5) (l : Fin 1280)

theorem small : ∀ (n : Fin 112), IntOp.cmpi .slt (BitVec.ofNat 32 n.val) 0#32 = 0#1 := by decide +kernel

theorem ridx_0 : ridx C (ix5 b g q l (0 : Fin 4)) = BitVec.ofNat 32 b.val := by
  pointwise [ridx]
  rw [small b]; rfl
theorem ridx_1 : ridx C (ix5 b g q l (1 : Fin 4)) = BitVec.ofNat 32 g.val := by
  pointwise [ridx]
  rw [small ⟨g.val, by omega⟩]; rfl
theorem ridx_2 : ridx C (ix5 b g q l (2 : Fin 4)) = BitVec.ofNat 32 q.val := by
  pointwise [ridx]
  rw [small ⟨q.val, by omega⟩]; rfl
theorem ridx_3 (hC : (C (ix3 b g l)).toNat < 4096) : ridx C (ix5 b g q l (3 : Fin 4)) = C (ix3 b g l) := by
  have h : IntOp.cmpi .slt (C (ix3 b g l)) 0#32 = 0#1 := by
    have : (C (ix3 b g l)).slt 0#32 = false := by
      rw [BitVec.slt_eq_decide, BitVec.toInt_eq_toNat_cond]
      simp
      omega
    simp [IntOp.cmpi, this]
  pointwise [ridx]
  rw [h]; rfl

/-- The dimension numbers of the scatter. -/
abbrev dd : ScatterDims S112x4x5x4096 S112x4x5x1280x4 S112x4x5x1280 := scatter_S112x4x5x4096_S112x4x5x1280x4_S112x4x5x1280_n_0123_0123_4

theorem siIdx_at (a : Fin 4) (h : List.idxOf a dd.scatterDimsToOperandDims < dd.scatterDimsToOperandDims.length) :
    dd.siIdx (ix4 b g q l) ⟨List.idxOf a dd.scatterDimsToOperandDims, h⟩ = ix5 b g q l a := by
  funext e
  apply Fin.ext
  fin_cases a <;> fin_cases e <;> rfl

theorem start_at (a : Fin 4) : dd.start (ix4 b g q l) (ridx C) a = (ridx C (ix5 b g q l a)).toInt := by
  have hm : a ∈ dd.scatterDimsToOperandDims := by fin_cases a <;> simp [dd, scatter_S112x4x5x4096_S112x4x5x1280x4_S112x4x5x1280_n_0123_0123_4]
  unfold ScatterDims.start
  rw [dif_pos hm, siIdx_at]

theorem window_at (a : Fin 4) (j : S112x4x5x1280.Idx) : dd.window j a = 0 := by
  unfold ScatterDims.window
  rw [dif_neg fun h => (of_decide_eq_true (List.mem_filter.1 h).2) (by fin_cases a <;> simp [dd, scatter_S112x4x5x4096_S112x4x5x1280x4_S112x4x5x1280_n_0123_0123_4])]

theorem ofNat_toInt (n : ℕ) (h : n < 4096) : (BitVec.ofNat 32 n).toInt = n := by
  rw [BitVec.toInt_eq_toNat_cond, BitVec.toNat_ofNat, Nat.mod_eq_of_lt (by omega), if_pos (by omega)]

theorem lands (hC : (C (ix3 b g l)).toNat < 4096) (b' : Fin 112) (g' : Fin 4) (q' : Fin 5) (k : Fin 4096) :
    dd.resultIdx? (ix4 b g q l) (ridx C) = some (ix4 b' g' q' k) ↔ b = b' ∧ g = g' ∧ q = q' ∧ k.val = (C (ix3 b g l)).toNat := by
  have hc : (C (ix3 b g l)).toInt = (C (ix3 b g l)).toNat := by
    rw [BitVec.toInt_eq_toNat_cond, if_pos (by omega)]
  rw [Routing.resultIdx?_eq_some]
  constructor
  · intro h
    have h0 := h 0
    have h1 := h 1
    have h2 := h 2
    have h3 := h 3
    rw [start_at, window_at, ridx_0, ofNat_toInt _ (by omega)] at h0
    rw [start_at, window_at, ridx_1, ofNat_toInt _ (by omega)] at h1
    rw [start_at, window_at, ridx_2, ofNat_toInt _ (by omega)] at h2
    rw [start_at, window_at, ridx_3 C b g q l hC, hc] at h3
    change _ = (b'.val : Int) at h0
    change _ = (g'.val : Int) at h1
    change _ = (q'.val : Int) at h2
    change _ = (k.val : Int) at h3
    exact ⟨Fin.ext (by omega), Fin.ext (by omega), Fin.ext (by omega), by omega⟩
  · rintro ⟨rfl, rfl, rfl, hk⟩ a
    rw [start_at, window_at]
    match a with
    | 0 => rw [ridx_0, ofNat_toInt _ (by omega)]; simp
    | 1 => rw [ridx_1, ofNat_toInt _ (by omega)]; simp
    | 2 => rw [ridx_2, ofNat_toInt _ (by omega)]; simp
    | 3 =>
      rw [ridx_3 C b g q l hC, hc]
      show ((C (ix3 b g l)).toNat : Int) + ((0 : ℕ) : Int) = (k.val : Int)
      omega

end Lands

theorem cast_out (Y : FVec Ideal S112x4x5x4096 .f32) (b : Fin 112) (r : Fin 20) (k : Fin 4096) :
    (shapeCast S112x20x4096 Y shapeCasts_S112x4x5x4096_S112x20x4096 : FVec Ideal S112x20x4096 .f32) (ix3 b r k)
      = Y (ix4 b (⟨r.val / 5, by omega⟩ : Fin 4) (⟨r.val % 5, by omega⟩ : Fin 5) k) := by
  pointwise []

theorem cast_in (P : FVec Ideal S112x20x1280 .f32) (b : Fin 112) (r : Fin 20) (l : Fin 1280) :
    (shapeCast S112x4x5x1280 P shapeCasts_S112x20x1280_S112x4x5x1280 : FVec Ideal S112x4x5x1280 .f32)
      (ix4 b (⟨r.val / 5, by omega⟩ : Fin 4) (⟨r.val % 5, by omega⟩ : Fin 5) l) = P (ix3 b r l) := by
  pointwise []

/-- Each bin: the sum of the row's weights whose code is the bin. -/
theorem res_at (P : FVec Ideal S112x20x1280 .f32) (C : IVec S112x4x1280 32) (hC : ∀ i, (C i).toNat < 4096) (b : Fin 112) (r : Fin 20) (k : Fin 4096) :
    (res P C (ix3 b r k) : EReal) = ∑ l : Fin 1280, if k.val = (C (ix3 b (⟨r.val / 5, by omega⟩ : Fin 4) l)).toNat then (P (ix3 b r l) : EReal) else 0 := by
  unfold res
  rw [cast_out]
  show ((_ : EReal) + ∑ j ∈ Finset.univ.filter _, _) = _
  rw [show (∀ x : EReal, x = 0 → ∀ y z : EReal, y = z → x + y = z) from fun x hx y z h => by rw [hx, zero_add, h]]
  · show Scalar.ofBits (F := Ideal) .f32 0x00000000#32 = (0 : EReal)
    exact Ideal.ofBits_zero_f32
  · rw [← Finset.sum_filter]
    symm
    refine Finset.sum_bij (fun l _ => ix4 b (⟨r.val / 5, by omega⟩ : Fin 4) (⟨r.val % 5, by omega⟩ : Fin 5) l) ?_ ?_ ?_ ?_
    · intro l hl
      rw [Finset.mem_filter] at hl ⊢
      exact ⟨Finset.mem_univ _, (lands C _ _ _ _ (hC _) _ _ _ _).2 ⟨rfl, rfl, rfl, hl.2⟩⟩
    · intro l _ l' _ h
      exact congrFun h 3
    · intro j hj
      rw [Finset.mem_filter] at hj
      obtain ⟨b0, g0, q0, l0, rfl⟩ : ∃ (b0 : Fin 112) (g0 : Fin 4) (q0 : Fin 5) (l0 : Fin 1280), j = ix4 b0 g0 q0 l0 := ⟨j 0, j 1, j 2, j 3, eq_ix4 j⟩
      obtain ⟨rfl, rfl, rfl, h3⟩ := (lands C _ _ _ _ (hC _) _ _ _ _).1 hj.2
      exact ⟨l0, Finset.mem_filter.2 ⟨Finset.mem_univ _, h3⟩, rfl⟩
    · intro l _
      exact (cast_in P b r l).symm

end Cert.RefBinsIdeal.RefValue
-- ==== Proof.HistIValue.lean ====
/-
  The histogram over the exact numbers: it ends, and what it leaves is its reference's result.
-/
module

public import proofs.«01_k».proof.Proof.HistIRun
public import proofs.«01_k».proof.Proof.HistISum
public import proofs.«01_k».proof.Proof.BinsPre
public import proofs.«01_k».proof.Proof.RefBinsValue
public import Idealize.ShloMosaic.Lib.Quiescent

@[expose] public section

noncomputable section

namespace Cert.Proof.HistI

open Cert.HistIdeal Cert.HistIdeal.Gen
open Idealize.ShloMosaic Idealize.SL.Sem

theorem pre_of (m : (ℓ : Loc nD τ sig) → Buf (Elt Ideal) ℓ) (h : letI := Cert.Pre_codes_and_lengths.Gen.facts; Cert.Pre_HistIdeal m) : PreM (F := Ideal) m :=
  fun d => ⟨fun i => BinsPre.CL.codes _ _ _ (h d) i, fun i => BinsPre.CL.lens _ _ _ (h d) i⟩

theorem pre_of' (m : (ℓ : Loc nD τ sig) → Buf (Elt Ideal) ℓ) (h : letI := Cert.Pre_weights_of_cache.Gen.facts; Cert.Pre_HistIdeal_weights_of_cache m) :
    PreM (F := Ideal) m :=
  fun d => ⟨fun i => BinsPre.codes _ _ _ (h d) i, fun i => BinsPre.lens _ _ _ (h d) i⟩

theorem frame : letI := Cert.HistIdeal.Gen.facts; letI := Cert.Pre_codes_and_lengths.Gen.facts; Cert.quiescent_HistIdeal := fun m ρ hpre =>
  (θ_run Cert.HistIdeal.defs _ _).mono (fun _ h => ⟨fun c => ⟨(h.1 c).2.2.1, (h.1 c).2.1, (h.1 c).1⟩, h.2⟩)
    (run_main (F := Ideal) m ρ (pre_of m hpre))

theorem frame' : letI := Cert.HistIdeal.Gen.facts; letI := Cert.Pre_weights_of_cache.Gen.facts; Cert.quiescent_HistIdeal_pre_weights_of_cache := fun m ρ hpre =>
  (θ_run Cert.HistIdeal.defs _ _).mono (fun _ h => ⟨fun c => ⟨(h.1 c).2.2.1, (h.1 c).2.1, (h.1 c).1⟩, h.2⟩)
    (run_main (F := Ideal) m ρ (pre_of' m hpre))

/-- What the kernel leaves is the reference's result. -/
theorem OUT_eq (p : Vec Ideal S112x20x1280 .f32) (c : Vec Ideal S112x4x1280 .i32) (n : Vec Ideal S112 .i32)
    (hc : ∀ i, (c i).toNat < 4096) (hn : ∀ i, (n i).toInt ≤ 1280)
    (hz : ∀ (b : Fin 112) (r : Fin 20) (l : Fin 1280), (n (ix1 b)).toInt ≤ (l.val / 16 * 16 : ℕ) → (p (ix3 b r l) : EReal) = 0) :
    OUT (F := Ideal) p c n = Cert.RefBinsIdeal.RefValue.res p c := by
  funext x
  obtain ⟨b, r, k, rfl⟩ : ∃ (b : Fin 112) (r : Fin 20) (k : Fin 4096), x = ix3 b r k := ⟨x 0, x 1, x 2, eq_ix3 x⟩
  have hcI : ∀ l : Fin 1280, cI (ix3 b r k) (at1 l) = ix3 b (⟨r.val / 5, by omega⟩ : Fin 4) l := fun l => by
    funext a
    match a with
    | 0 => rfl
    | 1 => rfl
    | 2 => rfl
  have hpI : ∀ l : Fin 1280, pI (ix3 b r k) (at1 l) = ix3 b r l := fun l => by
    funext a
    match a with
    | 0 => rfl
    | 1 => rfl
    | 2 => rfl
  have hnI : nI (ix3 b r k) = ix1 b := by
    funext a
    match a with
    | 0 => rfl
  obtain ⟨t1, t2⟩ := trips_cover (n (ix1 b)) (hn _)
  refine Eq.trans ?_ (Cert.RefBinsIdeal.RefValue.res_at p c hc b r k).symm
  unfold OUT
  rw [hnI]
  refine (rowV_all _ _ (fun l => hc _) _ _ t1 fun l hl => ?_).trans (Finset.sum_congr rfl fun l _ => ?_)
  · show (p (pI (ix3 b r k) (at1 l)) : EReal) = 0
    rw [hpI]
    exact hz b r l (t2 _ (by omega))
  · show (if k.val = (c (cI (ix3 b r k) (at1 l))).toNat then (p (pI (ix3 b r k) (at1 l)) : EReal) else 0) = _
    rw [hcI, hpI]

theorem value : letI := Cert.HistIdeal.Gen.facts; letI := Cert.RefBinsIdeal.Gen.facts; letI := Cert.Pre_weights_of_cache.Gen.facts;
    Cert.algebraic_HistIdeal_RefBinsIdeal_pre_weights_of_cache := fun m ρ m' ρ' hpre hag =>
  ⟨fun c => Cert.RefBinsIdeal.RefValue.res (m ((c.tc : Thread Cert.HistIdeal.nD Cert.HistIdeal.τ).loc Cert.HistIdeal.main_arg0))
      (m ((c.tc : Thread Cert.HistIdeal.nD Cert.HistIdeal.τ).loc Cert.HistIdeal.main_arg1)),
    (θ_run Cert.HistIdeal.defs _ _).mono (fun _ h c => ⟨(h.1 c).2.2.2.trans
        (OUT_eq _ _ _ (fun i => BinsPre.codes _ _ _ (hpre c) i) (fun i => BinsPre.lens _ _ _ (hpre c) i) (fun b r l hl => BinsPre.past _ _ _ (hpre c) b r l hl)),
      (h.1 c).2.2.1, (h.1 c).2.1, (h.1 c).1⟩)
      (run_main (F := Ideal) m ρ (pre_of' m hpre)),
    (θ_run _ _ _).mono (fun _ h c => by
      obtain ⟨a0, a1, a2⟩ := hag c
      obtain ⟨h0, h1⟩ := h c
      refine ⟨h0.trans ?_, h1⟩
      rw [a0, a1]) (Cert.RefBinsIdeal.RefValue.run m' ρ')⟩

/-- The reference's frame. -/
theorem reference_frame : letI := Cert.RefBinsIdeal.Gen.facts; Cert.quiescent_RefBinsIdeal := fun m ρ _ =>
  (θ_run Cert.RefBinsIdeal.defs _ _).mono (fun r h => ⟨fun c => (h c).2, sem_eq_zero_of_no_sems (by decide) r.2⟩)
    (Cert.RefBinsIdeal.Value.run (F := Ideal) m ρ)

theorem reference_frame' : letI := Cert.RefBinsIdeal.Gen.facts; letI := Cert.Pre_weights_of_cache.Gen.facts;
    Cert.quiescent_RefBinsIdeal_pre_weights_of_cache := fun m ρ _ =>
  (θ_run Cert.RefBinsIdeal.defs _ _).mono (fun r h => ⟨fun c => (h c).2, sem_eq_zero_of_no_sems (by decide) r.2⟩)
    (Cert.RefBinsIdeal.Value.run (F := Ideal) m ρ)

end Cert.Proof.HistI
-- ==== Proof.lean ====
/- The certificate's claims: the frames of the three programs and of their references, and the three value claims —
   the scores call against its reference (Proof/ScoresValue.lean, Proof/RefScoresValue.lean), the histogram call against
   its reference (Proof/HistIValue.lean, Proof/RefBinsValue.lean) and the output call against its reference
   (Proof/OutputValue.lean). -/
module

public import proofs.«01_k».proof.Defs
public import proofs.«01_k».proof.Proof.Gen.OutputIdeal.Value
public import proofs.«01_k».proof.Proof.Gen.RefOutputIdeal.Run
public import proofs.«01_k».proof.Proof.Gen.Scores
public import proofs.«01_k».proof.Proof.Gen.Scores.Skeleton
public import proofs.«01_k».proof.Proof.Gen.Scores.Launch
public import proofs.«01_k».proof.Proof.Gen.Scores.Points
public import proofs.«01_k».proof.Proof.Gen.Scores.Frame
public import proofs.«01_k».proof.Proof.Gen.ScoresIdeal
public import proofs.«01_k».proof.Proof.Gen.ScoresIdeal.Skeleton
public import proofs.«01_k».proof.Proof.Gen.ScoresIdeal.Launch
public import proofs.«01_k».proof.Proof.Gen.ScoresIdeal.Points
public import proofs.«01_k».proof.Proof.Gen.ScoresIdeal.Frame
public import proofs.«01_k».proof.Proof.Gen.RefScoresIdeal
public import proofs.«01_k».proof.Proof.Gen.RefScoresIdeal.Skeleton
public import proofs.«01_k».proof.Proof.Gen.RefScoresIdeal.Launch
public import proofs.«01_k».proof.Proof.Gen.RefScoresIdeal.Points
public import proofs.«01_k».proof.Proof.Gen.RefScoresIdeal.Frame
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.RefOutputIdeal
public import proofs.«01_k».proof.Proof.Gen.Hist
public import proofs.«01_k».proof.Proof.Gen.Hist.Skeleton
public import proofs.«01_k».proof.Proof.Gen.HistIdeal
public import proofs.«01_k».proof.Proof.Gen.HistIdeal.Skeleton
public import proofs.«01_k».proof.Proof.Gen.RefBinsIdeal
public import proofs.«01_k».proof.Proof.Gen.RefBinsIdeal.Run
public import proofs.«01_k».proof.Proof.Gen.Pre_codes_and_lengths
public import proofs.«01_k».proof.Proof.Gen.Pre_weights_of_cache
public import proofs.«01_k».proof.Proof.OutputValue
public import proofs.«01_k».proof.Proof.ScoresValue
public import proofs.«01_k».proof.Proof.HistFrame
public import proofs.«01_k».proof.Proof.HistIValue
public import Idealize.ShloMosaic.Adequacy
public import Idealize.ShloMosaic.Lib.Quiescent
public import Idealize.ShloMosaic.Init

@[expose] public section

noncomputable section

namespace Cert.Proof

open Idealize.ShloMosaic Idealize.SL.Sem Cert.Scores

/-- The scores call ends with the reference's two results: the weights and the new token's part of the output. -/
theorem scores_value : letI := Cert.ScoresIdeal.Gen.facts; letI := Cert.RefScoresIdeal.Gen.facts;
    Cert.algebraic_ScoresIdeal_RefScoresIdeal := fun m ρ m' ρ' _ hag =>
  ⟨fun c => Cert.RefScoresIdeal.RefValue.resP (m ((c.tc : Thread Cert.ScoresIdeal.nD Cert.ScoresIdeal.τ).loc Cert.ScoresIdeal.main_arg0))
      (m ((c.tc : Thread Cert.ScoresIdeal.nD Cert.ScoresIdeal.τ).loc Cert.ScoresIdeal.main_arg1))
      (m ((c.tc : Thread Cert.ScoresIdeal.nD Cert.ScoresIdeal.τ).loc Cert.ScoresIdeal.main_arg3))
      (m ((c.tc : Thread Cert.ScoresIdeal.nD Cert.ScoresIdeal.τ).loc Cert.ScoresIdeal.main_arg4))
      (m ((c.tc : Thread Cert.ScoresIdeal.nD Cert.ScoresIdeal.τ).loc Cert.ScoresIdeal.main_arg5)),
    fun c => Cert.RefScoresIdeal.RefValue.resO (m ((c.tc : Thread Cert.ScoresIdeal.nD Cert.ScoresIdeal.τ).loc Cert.ScoresIdeal.main_arg0))
      (m ((c.tc : Thread Cert.ScoresIdeal.nD Cert.ScoresIdeal.τ).loc Cert.ScoresIdeal.main_arg1))
      (m ((c.tc : Thread Cert.ScoresIdeal.nD Cert.ScoresIdeal.τ).loc Cert.ScoresIdeal.main_arg2))
      (m ((c.tc : Thread Cert.ScoresIdeal.nD Cert.ScoresIdeal.τ).loc Cert.ScoresIdeal.main_arg3))
      (m ((c.tc : Thread Cert.ScoresIdeal.nD Cert.ScoresIdeal.τ).loc Cert.ScoresIdeal.main_arg4))
      (m ((c.tc : Thread Cert.ScoresIdeal.nD Cert.ScoresIdeal.τ).loc Cert.ScoresIdeal.main_arg5)),
    Cert.ScoresIdeal.RefValue.run m ρ trivial,
    (θ_run _ _ _).mono (fun _ h c => by
      obtain ⟨a0, a1, a2, a3, a4, a5⟩ := hag c
      obtain ⟨h0, h1, h2⟩ := h c
      refine ⟨h0.trans ?_, h1.trans ?_, h2⟩
      · rw [a0, a1, a3, a4, a5]
      · rw [a0, a1, a2, a3, a4, a5]) (Cert.RefScoresIdeal.RefValue.run m' ρ')⟩

/-- The output call ends with the reference's result. -/
theorem output_value : letI := Cert.OutputIdeal.Gen.facts; letI := Cert.RefOutputIdeal.Gen.facts;
    Cert.algebraic_OutputIdeal_RefOutputIdeal := fun m ρ m' ρ' _ hag =>
  ⟨fun c => Cert.OutputIdeal.RefValue.ref (m ((c.tc : Thread Cert.OutputIdeal.nD Cert.OutputIdeal.τ).loc Cert.OutputIdeal.main_arg0))
      (m ((c.tc : Thread Cert.OutputIdeal.nD Cert.OutputIdeal.τ).loc Cert.OutputIdeal.main_arg1))
      (m ((c.tc : Thread Cert.OutputIdeal.nD Cert.OutputIdeal.τ).loc Cert.OutputIdeal.main_arg2)),
    (θ_run _ _ _).mono (fun _ h c => ⟨(h c).1.trans (Cert.OutputIdeal.RefValue.final m c), (h c).2⟩)
      (Cert.OutputIdeal.Value.run_blocks m ρ),
    (θ_run _ _ _).mono (fun _ h c => by
      obtain ⟨a0, a1, a2⟩ := hag c
      obtain ⟨h0, h2⟩ := h c
      refine ⟨h0.trans ?_, h2⟩
      rw [a0, a1, a2]; rfl) (Cert.RefOutputIdeal.Value.run m' ρ')⟩

/-- The output call's reference: its arguments and every counter at the end. -/
theorem output_reference_frame : letI := Cert.RefOutputIdeal.Gen.facts; Cert.quiescent_RefOutputIdeal := fun m ρ _ =>
  (θ_run Cert.RefOutputIdeal.defs _ _).mono (fun r h => ⟨fun c => (h c).2, sem_eq_zero_of_no_sems (by decide) r.2⟩)
    (Cert.RefOutputIdeal.Value.run (F := Ideal) m ρ)

/-- Everything the certificate claims. -/
theorem claim : Cert.Claim := ⟨Cert.Scores.Gen.facts, Cert.ScoresIdeal.Gen.facts, Cert.RefScoresIdeal.Gen.facts,
  Cert.Output.Gen.facts, Cert.OutputIdeal.Gen.facts, Cert.RefOutputIdeal.Gen.facts,
  Cert.Hist.Gen.facts, Cert.HistIdeal.Gen.facts, Cert.RefBinsIdeal.Gen.facts, Cert.Pre_codes_and_lengths.Gen.facts, Cert.Pre_weights_of_cache.Gen.facts,
  fun m ρ _ => Cert.Scores.Gen.frame m ρ trivial, fun m ρ _ => Cert.ScoresIdeal.Gen.frame m ρ trivial,
  fun m ρ _ => Cert.RefScoresIdeal.Gen.frame m ρ,
  fun m ρ _ => Cert.Output.Gen.frame m ρ, fun m ρ _ => Cert.OutputIdeal.Gen.frame m ρ,
  output_reference_frame,
  Cert.Proof.Hist.frame, Cert.Proof.HistI.frame, Cert.Proof.HistI.frame', Cert.Proof.HistI.reference_frame, Cert.Proof.HistI.reference_frame',
  trivial, scores_value, trivial, output_value, trivial, Cert.Proof.HistI.value⟩

end Cert.Proof

end
